-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Reference (m : (ℓ : Loc Cert.Reference.nD Cert.Reference.τ Cert.Reference.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValReferenceIdeal (m : (ℓ : Loc Cert.ValReferenceIdeal.nD Cert.ValReferenceIdeal.τ Cert.ValReferenceIdeal.sig) → Buf (Elt Ideal) ℓ) : Prop :=
  True

def Pre_MemKey (m : (ℓ : Loc Cert.MemKey.nD Cert.MemKey.τ Cert.MemKey.sig) → Buf (Elt Bits) ℓ) : Prop :=
  True

def Pre_MemKeyIdeal (m : (ℓ : Loc Cert.MemKeyIdeal.nD Cert.MemKeyIdeal.τ Cert.MemKeyIdeal.sig) → Buf (Elt Ideal) ℓ) : Prop :=
  True

def Pre_MemKeyReferenceIdeal (m : (ℓ : Loc Cert.MemKeyReferenceIdeal.nD Cert.MemKeyReferenceIdeal.τ Cert.MemKeyReferenceIdeal.sig) → Buf (Elt Ideal) ℓ) : Prop :=
  True

def Pre_MemVal (m : (ℓ : Loc Cert.MemVal.nD Cert.MemVal.τ Cert.MemVal.sig) → Buf (Elt Bits) ℓ) : Prop :=
  True

def Pre_MemValIdeal (m : (ℓ : Loc Cert.MemValIdeal.nD Cert.MemValIdeal.τ Cert.MemValIdeal.sig) → Buf (Elt Ideal) ℓ) : Prop :=
  True

def Pre_MemValReferenceIdeal (m : (ℓ : Loc Cert.MemValReferenceIdeal.nD Cert.MemValReferenceIdeal.τ Cert.MemValReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_SampleKey (m : (ℓ : Loc Cert.SampleKey.nD Cert.SampleKey.τ Cert.SampleKey.sig) → Buf (Elt Bits) ℓ) : Prop :=
  True

def Pre_SampleKeyIdeal (m : (ℓ : Loc Cert.SampleKeyIdeal.nD Cert.SampleKeyIdeal.τ Cert.SampleKeyIdeal.sig) → Buf (Elt Ideal) ℓ) : Prop :=
  True

def Pre_SampleKeyReferenceIdeal (m : (ℓ : Loc Cert.SampleKeyReferenceIdeal.nD Cert.SampleKeyReferenceIdeal.τ Cert.SampleKeyReferenceIdeal.sig) → Buf (Elt Ideal) ℓ) : Prop :=
  True

def Pre_SampleVal (m : (ℓ : Loc Cert.SampleVal.nD Cert.SampleVal.τ Cert.SampleVal.sig) → Buf (Elt Bits) ℓ) : Prop :=
  True

def Pre_SampleValIdeal (m : (ℓ : Loc Cert.SampleValIdeal.nD Cert.SampleValIdeal.τ Cert.SampleValIdeal.sig) → Buf (Elt Ideal) ℓ) : Prop :=
  True

def Pre_SampleValReferenceIdeal (m : (ℓ : Loc Cert.SampleValReferenceIdeal.nD Cert.SampleValReferenceIdeal.τ Cert.SampleValReferenceIdeal.sig) → Buf (Elt Ideal) ℓ) : Prop :=
  True

def Pre_SampleConv (m : (ℓ : Loc Cert.SampleConv.nD Cert.SampleConv.τ Cert.SampleConv.sig) → Buf (Elt Bits) ℓ) : Prop :=
  True

def Pre_SampleConvIdeal (m : (ℓ : Loc Cert.SampleConvIdeal.nD Cert.SampleConvIdeal.τ Cert.SampleConvIdeal.sig) → Buf (Elt Ideal) ℓ) : Prop :=
  True

def Pre_SampleConvReferenceIdeal (m : (ℓ : Loc Cert.SampleConvReferenceIdeal.nD Cert.SampleConvReferenceIdeal.τ Cert.SampleConvReferenceIdeal.sig) → Buf (Elt Ideal) ℓ) : Prop :=
  True

def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnReferenceIdeal (m : (ℓ : Loc Cert.SampleFfnReferenceIdeal.nD Cert.SampleFfnReferenceIdeal.τ Cert.SampleFfnReferenceIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfReferenceIdeal (m : (ℓ : Loc Cert.HalfReferenceIdeal.nD Cert.HalfReferenceIdeal.τ Cert.HalfReferenceIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutReferenceIdeal (m : (ℓ : Loc Cert.SbOutReferenceIdeal.nD Cert.SbOutReferenceIdeal.τ Cert.SbOutReferenceIdeal.sig) → Buf (Elt Ideal) ℓ) : Prop :=
  True

def Pre_MemKeyLast (m : (ℓ : Loc Cert.MemKeyLast.nD Cert.MemKeyLast.τ Cert.MemKeyLast.sig) → Buf (Elt Bits) ℓ) : Prop :=
  True

def Pre_MemKeyLastIdeal (m : (ℓ : Loc Cert.MemKeyLastIdeal.nD Cert.MemKeyLastIdeal.τ Cert.MemKeyLastIdeal.sig) → Buf (Elt Ideal) ℓ) : Prop :=
  True

def Pre_MemKeyLastReferenceIdeal (m : (ℓ : Loc Cert.MemKeyLastReferenceIdeal.nD Cert.MemKeyLastReferenceIdeal.τ Cert.MemKeyLastReferenceIdeal.sig) → Buf (Elt Ideal) ℓ) : Prop :=
  True

def Pre_MemValLast (m : (ℓ : Loc Cert.MemValLast.nD Cert.MemValLast.τ Cert.MemValLast.sig) → Buf (Elt Bits) ℓ) : Prop :=
  True

def Pre_MemValLastIdeal (m : (ℓ : Loc Cert.MemValLastIdeal.nD Cert.MemValLastIdeal.τ Cert.MemValLastIdeal.sig) → Buf (Elt Ideal) ℓ) : Prop :=
  True

def Pre_MemValLastReferenceIdeal (m : (ℓ : Loc Cert.MemValLastReferenceIdeal.nD Cert.MemValLastReferenceIdeal.τ Cert.MemValLastReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_SsdMemQuery (m : (ℓ : Loc Cert.SsdMemQuery.nD Cert.SsdMemQuery.τ Cert.SsdMemQuery.sig) → Buf (Elt Bits) ℓ) : Prop :=
  True

def Pre_SsdMemQueryIdeal (m : (ℓ : Loc Cert.SsdMemQueryIdeal.nD Cert.SsdMemQueryIdeal.τ Cert.SsdMemQueryIdeal.sig) → Buf (Elt Ideal) ℓ) : Prop :=
  True

def Pre_SsdMemQueryReferenceIdeal (m : (ℓ : Loc Cert.SsdMemQueryReferenceIdeal.nD Cert.SsdMemQueryReferenceIdeal.τ Cert.SsdMemQueryReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_SbMemQuery (m : (ℓ : Loc Cert.SbMemQuery.nD Cert.SbMemQuery.τ Cert.SbMemQuery.sig) → Buf (Elt Bits) ℓ) : Prop :=
  True

def Pre_SbMemQueryIdeal (m : (ℓ : Loc Cert.SbMemQueryIdeal.nD Cert.SbMemQueryIdeal.τ Cert.SbMemQueryIdeal.sig) → Buf (Elt Ideal) ℓ) : Prop :=
  True

def Pre_SbMemQueryReferenceIdeal (m : (ℓ : Loc Cert.SbMemQueryReferenceIdeal.nD Cert.SbMemQueryReferenceIdeal.τ Cert.SbMemQueryReferenceIdeal.sig) → Buf (Elt Ideal) ℓ) : Prop :=
  True

def Pre_SampleOut (m : (ℓ : Loc Cert.SampleOut.nD Cert.SampleOut.τ Cert.SampleOut.sig) → Buf (Elt Bits) ℓ) : Prop :=
  True

def Pre_SampleOutIdeal (m : (ℓ : Loc Cert.SampleOutIdeal.nD Cert.SampleOutIdeal.τ Cert.SampleOutIdeal.sig) → Buf (Elt Ideal) ℓ) : Prop :=
  True

def Pre_SampleOutReferenceIdeal (m : (ℓ : Loc Cert.SampleOutReferenceIdeal.nD Cert.SampleOutReferenceIdeal.τ Cert.SampleOutReferenceIdeal.sig) → Buf (Elt Ideal) ℓ) : Prop :=
  True

def Pre_SampleSbOut (m : (ℓ : Loc Cert.SampleSbOut.nD Cert.SampleSbOut.τ Cert.SampleSbOut.sig) → Buf (Elt Bits) ℓ) : Prop :=
  True

def Pre_SampleSbOutIdeal (m : (ℓ : Loc Cert.SampleSbOutIdeal.nD Cert.SampleSbOutIdeal.τ Cert.SampleSbOutIdeal.sig) → Buf (Elt Ideal) ℓ) : Prop :=
  True

def Pre_SampleSbOutReferenceIdeal (m : (ℓ : Loc Cert.SampleSbOutReferenceIdeal.nD Cert.SampleSbOutReferenceIdeal.τ Cert.SampleSbOutReferenceIdeal.sig) → Buf (Elt Ideal) ℓ) : Prop :=
  True

def Pre_SampleHalf (m : (ℓ : Loc Cert.SampleHalf.nD Cert.SampleHalf.τ Cert.SampleHalf.sig) → Buf (Elt Bits) ℓ) : Prop :=
  True

def Pre_SampleHalfIdeal (m : (ℓ : Loc Cert.SampleHalfIdeal.nD Cert.SampleHalfIdeal.τ Cert.SampleHalfIdeal.sig) → Buf (Elt Ideal) ℓ) : Prop :=
  True

def Pre_SampleHalfReferenceIdeal (m : (ℓ : Loc Cert.SampleHalfReferenceIdeal.nD Cert.SampleHalfReferenceIdeal.τ Cert.SampleHalfReferenceIdeal.sig) → Buf (Elt Ideal) ℓ) : Prop :=
  True

def Pre_SampleGate (m : (ℓ : Loc Cert.SampleGate.nD Cert.SampleGate.τ Cert.SampleGate.sig) → Buf (Elt Bits) ℓ) : Prop :=
  True

def Pre_SampleGateIdeal (m : (ℓ : Loc Cert.SampleGateIdeal.nD Cert.SampleGateIdeal.τ Cert.SampleGateIdeal.sig) → Buf (Elt Ideal) ℓ) : Prop :=
  True

def Pre_SampleGateReferenceIdeal (m : (ℓ : Loc Cert.SampleGateReferenceIdeal.nD Cert.SampleGateReferenceIdeal.τ Cert.SampleGateReferenceIdeal.sig) → Buf (Elt Ideal) ℓ) : Prop :=
  True

def Pre_SampleStep (m : (ℓ : Loc Cert.SampleStep.nD Cert.SampleStep.τ Cert.SampleStep.sig) → Buf (Elt Bits) ℓ) : Prop :=
  True

def Pre_SampleStepIdeal (m : (ℓ : Loc Cert.SampleStepIdeal.nD Cert.SampleStepIdeal.τ Cert.SampleStepIdeal.sig) → Buf (Elt Ideal) ℓ) : Prop :=
  True

def Pre_SampleStepReferenceIdeal (m : (ℓ : Loc Cert.SampleStepReferenceIdeal.nD Cert.SampleStepReferenceIdeal.τ Cert.SampleStepReferenceIdeal.sig) → Buf (Elt Ideal) ℓ) : Prop :=
  True

def Pre_SampleSsdMemQuery (m : (ℓ : Loc Cert.SampleSsdMemQuery.nD Cert.SampleSsdMemQuery.τ Cert.SampleSsdMemQuery.sig) → Buf (Elt Bits) ℓ) : Prop :=
  True

def Pre_SampleSsdMemQueryIdeal (m : (ℓ : Loc Cert.SampleSsdMemQueryIdeal.nD Cert.SampleSsdMemQueryIdeal.τ Cert.SampleSsdMemQueryIdeal.sig) → Buf (Elt Ideal) ℓ) : Prop :=
  True

def Pre_SampleSsdMemQueryReferenceIdeal (m : (ℓ : Loc Cert.SampleSsdMemQueryReferenceIdeal.nD Cert.SampleSsdMemQueryReferenceIdeal.τ Cert.SampleSsdMemQueryReferenceIdeal.sig) → Buf (Elt Ideal) ℓ) : Prop :=
  True

def Pre_SampleQuery (m : (ℓ : Loc Cert.SampleQuery.nD Cert.SampleQuery.τ Cert.SampleQuery.sig) → Buf (Elt Bits) ℓ) : Prop :=
  True

def Pre_SampleQueryIdeal (m : (ℓ : Loc Cert.SampleQueryIdeal.nD Cert.SampleQueryIdeal.τ Cert.SampleQueryIdeal.sig) → Buf (Elt Ideal) ℓ) : Prop :=
  True

def Pre_SampleQueryReferenceIdeal (m : (ℓ : Loc Cert.SampleQueryReferenceIdeal.nD Cert.SampleQueryReferenceIdeal.τ Cert.SampleQueryReferenceIdeal.sig) → Buf (Elt Ideal) ℓ) : Prop :=
  True

def Pre_SampleSbMemQuery (m : (ℓ : Loc Cert.SampleSbMemQuery.nD Cert.SampleSbMemQuery.τ Cert.SampleSbMemQuery.sig) → Buf (Elt Bits) ℓ) : Prop :=
  True

def Pre_SampleSbMemQueryIdeal (m : (ℓ : Loc Cert.SampleSbMemQueryIdeal.nD Cert.SampleSbMemQueryIdeal.τ Cert.SampleSbMemQueryIdeal.sig) → Buf (Elt Ideal) ℓ) : Prop :=
  True

def Pre_SampleSbMemQueryReferenceIdeal (m : (ℓ : Loc Cert.SampleSbMemQueryReferenceIdeal.nD Cert.SampleSbMemQueryReferenceIdeal.τ Cert.SampleSbMemQueryReferenceIdeal.sig) → Buf (Elt Ideal) ℓ) : Prop :=
  True

def Pre_HalfLast (m : (ℓ : Loc Cert.HalfLast.nD Cert.HalfLast.τ Cert.HalfLast.sig) → Buf (Elt Bits) ℓ) : Prop :=
  True

def Pre_HalfLastIdeal (m : (ℓ : Loc Cert.HalfLastIdeal.nD Cert.HalfLastIdeal.τ Cert.HalfLastIdeal.sig) → Buf (Elt Ideal) ℓ) : Prop :=
  True

def Pre_HalfLastReferenceIdeal (m : (ℓ : Loc Cert.HalfLastReferenceIdeal.nD Cert.HalfLastReferenceIdeal.τ Cert.HalfLastReferenceIdeal.sig) → Buf (Elt Ideal) ℓ) : Prop :=
  True

def Pre_SampleHalfLast (m : (ℓ : Loc Cert.SampleHalfLast.nD Cert.SampleHalfLast.τ Cert.SampleHalfLast.sig) → Buf (Elt Bits) ℓ) : Prop :=
  True

def Pre_SampleHalfLastIdeal (m : (ℓ : Loc Cert.SampleHalfLastIdeal.nD Cert.SampleHalfLastIdeal.τ Cert.SampleHalfLastIdeal.sig) → Buf (Elt Ideal) ℓ) : Prop :=
  True

def Pre_SampleHalfLastReferenceIdeal (m : (ℓ : Loc Cert.SampleHalfLastReferenceIdeal.nD Cert.SampleHalfLastReferenceIdeal.τ Cert.SampleHalfLastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1)
      ∧ r.2.mem ((c.tc : Thread Cert.Val.nD Cert.Val.τ).loc Cert.Val.main_arg2) = m ((c.tc : Thread Cert.Val.nD Cert.Val.τ).loc Cert.Val.main_arg2))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ r.2.sem = fun _ => 0)

def quiescent_ValReferenceIdeal [hValReferenceIdeal : Cert.ValReferenceIdeal.Facts] : Prop :=
  ∀ (m : (ℓ : Loc Cert.ValReferenceIdeal.nD Cert.ValReferenceIdeal.τ Cert.ValReferenceIdeal.sig) → Buf (Elt Ideal) ℓ) (g : Dev Cert.ValReferenceIdeal.nD → PrngReg), Pre_ValReferenceIdeal m →
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1)
      ∧ r.2.mem ((c.tc : Thread Cert.ValReferenceIdeal.nD Cert.ValReferenceIdeal.τ).loc Cert.ValReferenceIdeal.main_arg2) = m ((c.tc : Thread Cert.ValReferenceIdeal.nD Cert.ValReferenceIdeal.τ).loc Cert.ValReferenceIdeal.main_arg2))
      ∧ r.2.sem = fun _ => 0)

def quiescent_MemKey [hMemKey : Cert.MemKey.Facts] : Prop :=
  ∀ (m : (ℓ : Loc Cert.MemKey.nD Cert.MemKey.τ Cert.MemKey.sig) → Buf (Elt Bits) ℓ) (g : Dev Cert.MemKey.nD → PrngReg), Pre_MemKey m →
    θ_run (Cert.MemKey.defs (F := Bits)) (onTc (τ := Cert.MemKey.τ) (Cert.MemKey.main (F := Bits))) ⟨m, fun _ => 0, g⟩ (fun r => (∀ c : Dev Cert.MemKey.nD,
      r.2.mem ((c.tc : Thread Cert.MemKey.nD Cert.MemKey.τ).loc Cert.MemKey.main_arg0) = m ((c.tc : Thread Cert.MemKey.nD Cert.MemKey.τ).loc Cert.MemKey.main_arg0)
      ∧ r.2.mem ((c.tc : Thread Cert.MemKey.nD Cert.MemKey.τ).loc Cert.MemKey.main_arg1) = m ((c.tc : Thread Cert.MemKey.nD Cert.MemKey.τ).loc Cert.MemKey.main_arg1)
      ∧ r.2.mem ((c.tc : Thread Cert.MemKey.nD Cert.MemKey.τ).loc Cert.MemKey.main_arg2) = m ((c.tc : Thread Cert.MemKey.nD Cert.MemKey.τ).loc Cert.MemKey.main_arg2))
      ∧ r.2.sem = fun _ => 0)

def quiescent_MemKeyIdeal [hMemKeyIdeal : Cert.MemKeyIdeal.Facts] : Prop :=
  ∀ (m : (ℓ : Loc Cert.MemKeyIdeal.nD Cert.MemKeyIdeal.τ Cert.MemKeyIdeal.sig) → Buf (Elt Ideal) ℓ) (g : Dev Cert.MemKeyIdeal.nD → PrngReg), Pre_MemKeyIdeal m →
    θ_run (Cert.MemKeyIdeal.defs (F := Ideal)) (onTc (τ := Cert.MemKeyIdeal.τ) (Cert.MemKeyIdeal.main (F := Ideal))) ⟨m, fun _ => 0, g⟩ (fun r => (∀ c : Dev Cert.MemKeyIdeal.nD,
      r.2.mem ((c.tc : Thread Cert.MemKeyIdeal.nD Cert.MemKeyIdeal.τ).loc Cert.MemKeyIdeal.main_arg0) = m ((c.tc : Thread Cert.MemKeyIdeal.nD Cert.MemKeyIdeal.τ).loc Cert.MemKeyIdeal.main_arg0)
      ∧ r.2.mem ((c.tc : Thread Cert.MemKeyIdeal.nD Cert.MemKeyIdeal.τ).loc Cert.MemKeyIdeal.main_arg1) = m ((c.tc : Thread Cert.MemKeyIdeal.nD Cert.MemKeyIdeal.τ).loc Cert.MemKeyIdeal.main_arg1)
      ∧ r.2.mem ((c.tc : Thread Cert.MemKeyIdeal.nD Cert.MemKeyIdeal.τ).loc Cert.MemKeyIdeal.main_arg2) = m ((c.tc : Thread Cert.MemKeyIdeal.nD Cert.MemKeyIdeal.τ).loc Cert.MemKeyIdeal.main_arg2))
      ∧ r.2.sem = fun _ => 0)

def quiescent_MemKeyReferenceIdeal [hMemKeyReferenceIdeal : Cert.MemKeyReferenceIdeal.Facts] : Prop :=
  ∀ (m : (ℓ : Loc Cert.MemKeyReferenceIdeal.nD Cert.MemKeyReferenceIdeal.τ Cert.MemKeyReferenceIdeal.sig) → Buf (Elt Ideal) ℓ) (g : Dev Cert.MemKeyReferenceIdeal.nD → PrngReg), Pre_MemKeyReferenceIdeal m →
    θ_run (Cert.MemKeyReferenceIdeal.defs (F := Ideal)) (onTc (τ := Cert.MemKeyReferenceIdeal.τ) (Cert.MemKeyReferenceIdeal.main (F := Ideal))) ⟨m, fun _ => 0, g⟩ (fun r => (∀ c : Dev Cert.MemKeyReferenceIdeal.nD,
      r.2.mem ((c.tc : Thread Cert.MemKeyReferenceIdeal.nD Cert.MemKeyReferenceIdeal.τ).loc Cert.MemKeyReferenceIdeal.main_arg0) = m ((c.tc : Thread Cert.MemKeyReferenceIdeal.nD Cert.MemKeyReferenceIdeal.τ).loc Cert.MemKeyReferenceIdeal.main_arg0)
      ∧ r.2.mem ((c.tc : Thread Cert.MemKeyReferenceIdeal.nD Cert.MemKeyReferenceIdeal.τ).loc Cert.MemKeyReferenceIdeal.main_arg1) = m ((c.tc : Thread Cert.MemKeyReferenceIdeal.nD Cert.MemKeyReferenceIdeal.τ).loc Cert.MemKeyReferenceIdeal.main_arg1)
      ∧ r.2.mem ((c.tc : Thread Cert.MemKeyReferenceIdeal.nD Cert.MemKeyReferenceIdeal.τ).loc Cert.MemKeyReferenceIdeal.main_arg2) = m ((c.tc : Thread Cert.MemKeyReferenceIdeal.nD Cert.MemKeyReferenceIdeal.τ).loc Cert.MemKeyReferenceIdeal.main_arg2))
      ∧ r.2.sem = fun _ => 0)

def quiescent_MemVal [hMemVal : Cert.MemVal.Facts] : Prop :=
  ∀ (m : (ℓ : Loc Cert.MemVal.nD Cert.MemVal.τ Cert.MemVal.sig) → Buf (Elt Bits) ℓ) (g : Dev Cert.MemVal.nD → PrngReg), Pre_MemVal m →
    θ_run (Cert.MemVal.defs (F := Bits)) (onTc (τ := Cert.MemVal.τ) (Cert.MemVal.main (F := Bits))) ⟨m, fun _ => 0, g⟩ (fun r => (∀ c : Dev Cert.MemVal.nD,
      r.2.mem ((c.tc : Thread Cert.MemVal.nD Cert.MemVal.τ).loc Cert.MemVal.main_arg0) = m ((c.tc : Thread Cert.MemVal.nD Cert.MemVal.τ).loc Cert.MemVal.main_arg0)
      ∧ r.2.mem ((c.tc : Thread Cert.MemVal.nD Cert.MemVal.τ).loc Cert.MemVal.main_arg1) = m ((c.tc : Thread Cert.MemVal.nD Cert.MemVal.τ).loc Cert.MemVal.main_arg1)
      ∧ r.2.mem ((c.tc : Thread Cert.MemVal.nD Cert.MemVal.τ).loc Cert.MemVal.main_arg2) = m ((c.tc : Thread Cert.MemVal.nD Cert.MemVal.τ).loc Cert.MemVal.main_arg2))
      ∧ r.2.sem = fun _ => 0)

def quiescent_MemValIdeal [hMemValIdeal : Cert.MemValIdeal.Facts] : Prop :=
  ∀ (m : (ℓ : Loc Cert.MemValIdeal.nD Cert.MemValIdeal.τ Cert.MemValIdeal.sig) → Buf (Elt Ideal) ℓ) (g : Dev Cert.MemValIdeal.nD → PrngReg), Pre_MemValIdeal m →
    θ_run (Cert.MemValIdeal.defs (F := Ideal)) (onTc (τ := Cert.MemValIdeal.τ) (Cert.MemValIdeal.main (F := Ideal))) ⟨m, fun _ => 0, g⟩ (fun r => (∀ c : Dev Cert.MemValIdeal.nD,
      r.2.mem ((c.tc : Thread Cert.MemValIdeal.nD Cert.MemValIdeal.τ).loc Cert.MemValIdeal.main_arg0) = m ((c.tc : Thread Cert.MemValIdeal.nD Cert.MemValIdeal.τ).loc Cert.MemValIdeal.main_arg0)
      ∧ r.2.mem ((c.tc : Thread Cert.MemValIdeal.nD Cert.MemValIdeal.τ).loc Cert.MemValIdeal.main_arg1) = m ((c.tc : Thread Cert.MemValIdeal.nD Cert.MemValIdeal.τ).loc Cert.MemValIdeal.main_arg1)
      ∧ r.2.mem ((c.tc : Thread Cert.MemValIdeal.nD Cert.MemValIdeal.τ).loc Cert.MemValIdeal.main_arg2) = m ((c.tc : Thread Cert.MemValIdeal.nD Cert.MemValIdeal.τ).loc Cert.MemValIdeal.main_arg2))
      ∧ r.2.sem = fun _ => 0)

def quiescent_MemValReferenceIdeal [hMemValReferenceIdeal : Cert.MemValReferenceIdeal.Facts] : Prop :=
  ∀ (m : (ℓ : Loc Cert.MemValReferenceIdeal.nD Cert.MemValReferenceIdeal.τ Cert.MemValReferenceIdeal.sig) → Buf (Elt Ideal) ℓ) (g : Dev Cert.MemValReferenceIdeal.nD → PrngReg), Pre_MemValReferenceIdeal m →
    θ_run (Cert.MemValReferenceIdeal.defs (F := Ideal)) (onTc (τ := Cert.MemValReferenceIdeal.τ) (Cert.MemValReferenceIdeal.main (F := Ideal))) ⟨m, fun _ => 0, g⟩ (fun r => (∀ c : Dev Cert.MemValReferenceIdeal.nD,
      r.2.mem ((c.tc : Thread Cert.MemValReferenceIdeal.nD Cert.MemValReferenceIdeal.τ).loc Cert.MemValReferenceIdeal.main_arg0) = m ((c.tc : Thread Cert.MemValReferenceIdeal.nD Cert.MemValReferenceIdeal.τ).loc Cert.MemValReferenceIdeal.main_arg0)
      ∧ r.2.mem ((c.tc : Thread Cert.MemValReferenceIdeal.nD Cert.MemValReferenceIdeal.τ).loc Cert.MemValReferenceIdeal.main_arg1) = m ((c.tc : Thread Cert.MemValReferenceIdeal.nD Cert.MemValReferenceIdeal.τ).loc Cert.MemValReferenceIdeal.main_arg1)
      ∧ r.2.mem ((c.tc : Thread Cert.MemValReferenceIdeal.nD Cert.MemValReferenceIdeal.τ).loc Cert.MemValReferenceIdeal.main_arg2) = m ((c.tc : Thread Cert.MemValReferenceIdeal.nD Cert.MemValReferenceIdeal.τ).loc Cert.MemValReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_SampleKey [hSampleKey : Cert.SampleKey.Facts] : Prop :=
  ∀ (m : (ℓ : Loc Cert.SampleKey.nD Cert.SampleKey.τ Cert.SampleKey.sig) → Buf (Elt Bits) ℓ) (g : Dev Cert.SampleKey.nD → PrngReg), Pre_SampleKey m →
    θ_run (Cert.SampleKey.defs (F := Bits)) (onTc (τ := Cert.SampleKey.τ) (Cert.SampleKey.main (F := Bits))) ⟨m, fun _ => 0, g⟩ (fun r => (∀ c : Dev Cert.SampleKey.nD,
      r.2.mem ((c.tc : Thread Cert.SampleKey.nD Cert.SampleKey.τ).loc Cert.SampleKey.main_arg0) = m ((c.tc : Thread Cert.SampleKey.nD Cert.SampleKey.τ).loc Cert.SampleKey.main_arg0)
      ∧ r.2.mem ((c.tc : Thread Cert.SampleKey.nD Cert.SampleKey.τ).loc Cert.SampleKey.main_arg1) = m ((c.tc : Thread Cert.SampleKey.nD Cert.SampleKey.τ).loc Cert.SampleKey.main_arg1)
      ∧ r.2.mem ((c.tc : Thread Cert.SampleKey.nD Cert.SampleKey.τ).loc Cert.SampleKey.main_arg2) = m ((c.tc : Thread Cert.SampleKey.nD Cert.SampleKey.τ).loc Cert.SampleKey.main_arg2))
      ∧ r.2.sem = fun _ => 0)

def quiescent_SampleKeyIdeal [hSampleKeyIdeal : Cert.SampleKeyIdeal.Facts] : Prop :=
  ∀ (m : (ℓ : Loc Cert.SampleKeyIdeal.nD Cert.SampleKeyIdeal.τ Cert.SampleKeyIdeal.sig) → Buf (Elt Ideal) ℓ) (g : Dev Cert.SampleKeyIdeal.nD → PrngReg), Pre_SampleKeyIdeal m →
    θ_run (Cert.SampleKeyIdeal.defs (F := Ideal)) (onTc (τ := Cert.SampleKeyIdeal.τ) (Cert.SampleKeyIdeal.main (F := Ideal))) ⟨m, fun _ => 0, g⟩ (fun r => (∀ c : Dev Cert.SampleKeyIdeal.nD,
      r.2.mem ((c.tc : Thread Cert.SampleKeyIdeal.nD Cert.SampleKeyIdeal.τ).loc Cert.SampleKeyIdeal.main_arg0) = m ((c.tc : Thread Cert.SampleKeyIdeal.nD Cert.SampleKeyIdeal.τ).loc Cert.SampleKeyIdeal.main_arg0)
      ∧ r.2.mem ((c.tc : Thread Cert.SampleKeyIdeal.nD Cert.SampleKeyIdeal.τ).loc Cert.SampleKeyIdeal.main_arg1) = m ((c.tc : Thread Cert.SampleKeyIdeal.nD Cert.SampleKeyIdeal.τ).loc Cert.SampleKeyIdeal.main_arg1)
      ∧ r.2.mem ((c.tc : Thread Cert.SampleKeyIdeal.nD Cert.SampleKeyIdeal.τ).loc Cert.SampleKeyIdeal.main_arg2) = m ((c.tc : Thread Cert.SampleKeyIdeal.nD Cert.SampleKeyIdeal.τ).loc Cert.SampleKeyIdeal.main_arg2))
      ∧ r.2.sem = fun _ => 0)

def quiescent_SampleKeyReferenceIdeal [hSampleKeyReferenceIdeal : Cert.SampleKeyReferenceIdeal.Facts] : Prop :=
  ∀ (m : (ℓ : Loc Cert.SampleKeyReferenceIdeal.nD Cert.SampleKeyReferenceIdeal.τ Cert.SampleKeyReferenceIdeal.sig) → Buf (Elt Ideal) ℓ) (g : Dev Cert.SampleKeyReferenceIdeal.nD → PrngReg), Pre_SampleKeyReferenceIdeal m →
    θ_run (Cert.SampleKeyReferenceIdeal.defs (F := Ideal)) (onTc (τ := Cert.SampleKeyReferenceIdeal.τ) (Cert.SampleKeyReferenceIdeal.main (F := Ideal))) ⟨m, fun _ => 0, g⟩ (fun r => (∀ c : Dev Cert.SampleKeyReferenceIdeal.nD,
      r.2.mem ((c.tc : Thread Cert.SampleKeyReferenceIdeal.nD Cert.SampleKeyReferenceIdeal.τ).loc Cert.SampleKeyReferenceIdeal.main_arg0) = m ((c.tc : Thread Cert.SampleKeyReferenceIdeal.nD Cert.SampleKeyReferenceIdeal.τ).loc Cert.SampleKeyReferenceIdeal.main_arg0)
      ∧ r.2.mem ((c.tc : Thread Cert.SampleKeyReferenceIdeal.nD Cert.SampleKeyReferenceIdeal.τ).loc Cert.SampleKeyReferenceIdeal.main_arg1) = m ((c.tc : Thread Cert.SampleKeyReferenceIdeal.nD Cert.SampleKeyReferenceIdeal.τ).loc Cert.SampleKeyReferenceIdeal.main_arg1)
      ∧ r.2.mem ((c.tc : Thread Cert.SampleKeyReferenceIdeal.nD Cert.SampleKeyReferenceIdeal.τ).loc Cert.SampleKeyReferenceIdeal.main_arg2) = m ((c.tc : Thread Cert.SampleKeyReferenceIdeal.nD Cert.SampleKeyReferenceIdeal.τ).loc Cert.SampleKeyReferenceIdeal.main_arg2))
      ∧ r.2.sem = fun _ => 0)

def quiescent_SampleVal [hSampleVal : Cert.SampleVal.Facts] : Prop :=
  ∀ (m : (ℓ : Loc Cert.SampleVal.nD Cert.SampleVal.τ Cert.SampleVal.sig) → Buf (Elt Bits) ℓ) (g : Dev Cert.SampleVal.nD → PrngReg), Pre_SampleVal m →
    θ_run (Cert.SampleVal.defs (F := Bits)) (onTc (τ := Cert.SampleVal.τ) (Cert.SampleVal.main (F := Bits))) ⟨m, fun _ => 0, g⟩ (fun r => (∀ c : Dev Cert.SampleVal.nD,
      r.2.mem ((c.tc : Thread Cert.SampleVal.nD Cert.SampleVal.τ).loc Cert.SampleVal.main_arg0) = m ((c.tc : Thread Cert.SampleVal.nD Cert.SampleVal.τ).loc Cert.SampleVal.main_arg0)
      ∧ r.2.mem ((c.tc : Thread Cert.SampleVal.nD Cert.SampleVal.τ).loc Cert.SampleVal.main_arg1) = m ((c.tc : Thread Cert.SampleVal.nD Cert.SampleVal.τ).loc Cert.SampleVal.main_arg1)
      ∧ r.2.mem ((c.tc : Thread Cert.SampleVal.nD Cert.SampleVal.τ).loc Cert.SampleVal.main_arg2) = m ((c.tc : Thread Cert.SampleVal.nD Cert.SampleVal.τ).loc Cert.SampleVal.main_arg2))
      ∧ r.2.sem = fun _ => 0)

def quiescent_SampleValIdeal [hSampleValIdeal : Cert.SampleValIdeal.Facts] : Prop :=
  ∀ (m : (ℓ : Loc Cert.SampleValIdeal.nD Cert.SampleValIdeal.τ Cert.SampleValIdeal.sig) → Buf (Elt Ideal) ℓ) (g : Dev Cert.SampleValIdeal.nD → PrngReg), Pre_SampleValIdeal m →
    θ_run (Cert.SampleValIdeal.defs (F := Ideal)) (onTc (τ := Cert.SampleValIdeal.τ) (Cert.SampleValIdeal.main (F := Ideal))) ⟨m, fun _ => 0, g⟩ (fun r => (∀ c : Dev Cert.SampleValIdeal.nD,
      r.2.mem ((c.tc : Thread Cert.SampleValIdeal.nD Cert.SampleValIdeal.τ).loc Cert.SampleValIdeal.main_arg0) = m ((c.tc : Thread Cert.SampleValIdeal.nD Cert.SampleValIdeal.τ).loc Cert.SampleValIdeal.main_arg0)
      ∧ r.2.mem ((c.tc : Thread Cert.SampleValIdeal.nD Cert.SampleValIdeal.τ).loc Cert.SampleValIdeal.main_arg1) = m ((c.tc : Thread Cert.SampleValIdeal.nD Cert.SampleValIdeal.τ).loc Cert.SampleValIdeal.main_arg1)
      ∧ r.2.mem ((c.tc : Thread Cert.SampleValIdeal.nD Cert.SampleValIdeal.τ).loc Cert.SampleValIdeal.main_arg2) = m ((c.tc : Thread Cert.SampleValIdeal.nD Cert.SampleValIdeal.τ).loc Cert.SampleValIdeal.main_arg2))
      ∧ r.2.sem = fun _ => 0)

def quiescent_SampleValReferenceIdeal [hSampleValReferenceIdeal : Cert.SampleValReferenceIdeal.Facts] : Prop :=
  ∀ (m : (ℓ : Loc Cert.SampleValReferenceIdeal.nD Cert.SampleValReferenceIdeal.τ Cert.SampleValReferenceIdeal.sig) → Buf (Elt Ideal) ℓ) (g : Dev Cert.SampleValReferenceIdeal.nD → PrngReg), Pre_SampleValReferenceIdeal m →
    θ_run (Cert.SampleValReferenceIdeal.defs (F := Ideal)) (onTc (τ := Cert.SampleValReferenceIdeal.τ) (Cert.SampleValReferenceIdeal.main (F := Ideal))) ⟨m, fun _ => 0, g⟩ (fun r => (∀ c : Dev Cert.SampleValReferenceIdeal.nD,
      r.2.mem ((c.tc : Thread Cert.SampleValReferenceIdeal.nD Cert.SampleValReferenceIdeal.τ).loc Cert.SampleValReferenceIdeal.main_arg0) = m ((c.tc : Thread Cert.SampleValReferenceIdeal.nD Cert.SampleValReferenceIdeal.τ).loc Cert.SampleValReferenceIdeal.main_arg0)
      ∧ r.2.mem ((c.tc : Thread Cert.SampleValReferenceIdeal.nD Cert.SampleValReferenceIdeal.τ).loc Cert.SampleValReferenceIdeal.main_arg1) = m ((c.tc : Thread Cert.SampleValReferenceIdeal.nD Cert.SampleValReferenceIdeal.τ).loc Cert.SampleValReferenceIdeal.main_arg1)
      ∧ r.2.mem ((c.tc : Thread Cert.SampleValReferenceIdeal.nD Cert.SampleValReferenceIdeal.τ).loc Cert.SampleValReferenceIdeal.main_arg2) = m ((c.tc : Thread Cert.SampleValReferenceIdeal.nD Cert.SampleValReferenceIdeal.τ).loc Cert.SampleValReferenceIdeal.main_arg2))
      ∧ r.2.sem = fun _ => 0)

def quiescent_SampleConv [hSampleConv : Cert.SampleConv.Facts] : Prop :=
  ∀ (m : (ℓ : Loc Cert.SampleConv.nD Cert.SampleConv.τ Cert.SampleConv.sig) → Buf (Elt Bits) ℓ) (g : Dev Cert.SampleConv.nD → PrngReg), Pre_SampleConv m →
    θ_run (Cert.SampleConv.defs (F := Bits)) (onTc (τ := Cert.SampleConv.τ) (Cert.SampleConv.main (F := Bits))) ⟨m, fun _ => 0, g⟩ (fun r => (∀ c : Dev Cert.SampleConv.nD,
      r.2.mem ((c.tc : Thread Cert.SampleConv.nD Cert.SampleConv.τ).loc Cert.SampleConv.main_arg0) = m ((c.tc : Thread Cert.SampleConv.nD Cert.SampleConv.τ).loc Cert.SampleConv.main_arg0)
      ∧ r.2.mem ((c.tc : Thread Cert.SampleConv.nD Cert.SampleConv.τ).loc Cert.SampleConv.main_arg1) = m ((c.tc : Thread Cert.SampleConv.nD Cert.SampleConv.τ).loc Cert.SampleConv.main_arg1)
      ∧ r.2.mem ((c.tc : Thread Cert.SampleConv.nD Cert.SampleConv.τ).loc Cert.SampleConv.main_arg2) = m ((c.tc : Thread Cert.SampleConv.nD Cert.SampleConv.τ).loc Cert.SampleConv.main_arg2))
      ∧ r.2.sem = fun _ => 0)

def quiescent_SampleConvIdeal [hSampleConvIdeal : Cert.SampleConvIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg), Pre_SampleConvIdeal m →
    θ_run (Cert.SampleConvIdeal.defs (F := Ideal)) (onTc (τ := Cert.SampleConvIdeal.τ) (Cert.SampleConvIdeal.main (F := Ideal))) ⟨m, fun _ => 0, g⟩ (fun r => (∀ c : Dev Cert.SampleConvIdeal.nD,
      r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
      ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
      ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2))
      ∧ r.2.sem = fun _ => 0)

def quiescent_SampleConvReferenceIdeal [hSampleConvReferenceIdeal : Cert.SampleConvReferenceIdeal.Facts] : Prop :=
  ∀ (m : (ℓ : Loc Cert.SampleConvReferenceIdeal.nD Cert.SampleConvReferenceIdeal.τ Cert.SampleConvReferenceIdeal.sig) → Buf (Elt Ideal) ℓ) (g : Dev Cert.SampleConvReferenceIdeal.nD → PrngReg), Pre_SampleConvReferenceIdeal m →
    θ_run (Cert.SampleConvReferenceIdeal.defs (F := Ideal)) (onTc (τ := Cert.SampleConvReferenceIdeal.τ) (Cert.SampleConvReferenceIdeal.main (F := Ideal))) ⟨m, fun _ => 0, g⟩ (fun r => (∀ c : Dev Cert.SampleConvReferenceIdeal.nD,
      r.2.mem ((c.tc : Thread Cert.SampleConvReferenceIdeal.nD Cert.SampleConvReferenceIdeal.τ).loc Cert.SampleConvReferenceIdeal.main_arg0) = m ((c.tc : Thread Cert.SampleConvReferenceIdeal.nD Cert.SampleConvReferenceIdeal.τ).loc Cert.SampleConvReferenceIdeal.main_arg0)
      ∧ r.2.mem ((c.tc : Thread Cert.SampleConvReferenceIdeal.nD Cert.SampleConvReferenceIdeal.τ).loc Cert.SampleConvReferenceIdeal.main_arg1) = m ((c.tc : Thread Cert.SampleConvReferenceIdeal.nD Cert.SampleConvReferenceIdeal.τ).loc Cert.SampleConvReferenceIdeal.main_arg1)
      ∧ r.2.mem ((c.tc : Thread Cert.SampleConvReferenceIdeal.nD Cert.SampleConvReferenceIdeal.τ).loc Cert.SampleConvReferenceIdeal.main_arg2) = m ((c.tc : Thread Cert.SampleConvReferenceIdeal.nD Cert.SampleConvReferenceIdeal.τ).loc Cert.SampleConvReferenceIdeal.main_arg2))
      ∧ r.2.sem = fun _ => 0)

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3)
      ∧ r.2.mem ((c.tc : Thread Cert.SampleFfn.nD Cert.SampleFfn.τ).loc Cert.SampleFfn.main_arg4) = m ((c.tc : Thread Cert.SampleFfn.nD Cert.SampleFfn.τ).loc Cert.SampleFfn.main_arg4))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
      ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4))
      ∧ r.2.sem = fun _ => 0)

def quiescent_SampleFfnReferenceIdeal [hSampleFfnReferenceIdeal : Cert.SampleFfnReferenceIdeal.Facts] : Prop :=
  ∀ (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg), Pre_SampleFfnReferenceIdeal m →
    θ_run (Cert.SampleFfnReferenceIdeal.defs (F := Ideal)) (onTc (τ := Cert.SampleFfnReferenceIdeal.τ) (Cert.SampleFfnReferenceIdeal.main (F := Ideal))) ⟨m, fun _ => 0, g⟩ (fun r => (∀ c : Dev Cert.SampleFfnReferenceIdeal.nD,
      r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
      ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
      ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
      ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3)
      ∧ r.2.mem ((c.tc : Thread Cert.SampleFfnReferenceIdeal.nD Cert.SampleFfnReferenceIdeal.τ).loc Cert.SampleFfnReferenceIdeal.main_arg4) = m ((c.tc : Thread Cert.SampleFfnReferenceIdeal.nD Cert.SampleFfnReferenceIdeal.τ).loc Cert.SampleFfnReferenceIdeal.main_arg4))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3))
      ∧ r.2.sem = fun _ => 0)

def quiescent_HalfReferenceIdeal [hHalfReferenceIdeal : Cert.HalfReferenceIdeal.Facts] : Prop :=
  ∀ (m : (ℓ : Loc Cert.HalfReferenceIdeal.nD Cert.HalfReferenceIdeal.τ Cert.HalfReferenceIdeal.sig) → Buf (Elt Ideal) ℓ) (g : Dev Cert.HalfReferenceIdeal.nD → PrngReg), Pre_HalfReferenceIdeal m →
    θ_run (Cert.HalfReferenceIdeal.defs (F := Ideal)) (onTc (τ := Cert.HalfReferenceIdeal.τ) (Cert.HalfReferenceIdeal.main (F := Ideal))) ⟨m, fun _ => 0, g⟩ (fun r => (∀ c : Dev Cert.HalfReferenceIdeal.nD,
      r.2.mem ((c.tc : Thread Cert.HalfReferenceIdeal.nD Cert.HalfReferenceIdeal.τ).loc Cert.HalfReferenceIdeal.main_arg0) = m ((c.tc : Thread Cert.HalfReferenceIdeal.nD Cert.HalfReferenceIdeal.τ).loc Cert.HalfReferenceIdeal.main_arg0)
      ∧ r.2.mem ((c.tc : Thread Cert.HalfReferenceIdeal.nD Cert.HalfReferenceIdeal.τ).loc Cert.HalfReferenceIdeal.main_arg1) = m ((c.tc : Thread Cert.HalfReferenceIdeal.nD Cert.HalfReferenceIdeal.τ).loc Cert.HalfReferenceIdeal.main_arg1)
      ∧ r.2.mem ((c.tc : Thread Cert.HalfReferenceIdeal.nD Cert.HalfReferenceIdeal.τ).loc Cert.HalfReferenceIdeal.main_arg2) = m ((c.tc : Thread Cert.HalfReferenceIdeal.nD Cert.HalfReferenceIdeal.τ).loc Cert.HalfReferenceIdeal.main_arg2)
      ∧ r.2.mem ((c.tc : Thread Cert.HalfReferenceIdeal.nD Cert.HalfReferenceIdeal.τ).loc Cert.HalfReferenceIdeal.main_arg3) = m ((c.tc : Thread Cert.HalfReferenceIdeal.nD Cert.HalfReferenceIdeal.τ).loc Cert.HalfReferenceIdeal.main_arg3))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1)
      ∧ r.2.mem ((c.tc : Thread Cert.SbOut.nD Cert.SbOut.τ).loc Cert.SbOut.main_arg2) = m ((c.tc : Thread Cert.SbOut.nD Cert.SbOut.τ).loc Cert.SbOut.main_arg2)
      ∧ r.2.mem ((c.tc : Thread Cert.SbOut.nD Cert.SbOut.τ).loc Cert.SbOut.main_arg3) = m ((c.tc : Thread Cert.SbOut.nD Cert.SbOut.τ).loc Cert.SbOut.main_arg3))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
      ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2)
      ∧ r.2.mem ((c.tc : Thread Cert.SbOutIdeal.nD Cert.SbOutIdeal.τ).loc Cert.SbOutIdeal.main_arg3) = m ((c.tc : Thread Cert.SbOutIdeal.nD Cert.SbOutIdeal.τ).loc Cert.SbOutIdeal.main_arg3))
      ∧ r.2.sem = fun _ => 0)

def quiescent_SbOutReferenceIdeal [hSbOutReferenceIdeal : Cert.SbOutReferenceIdeal.Facts] : Prop :=
  ∀ (m : (ℓ : Loc Cert.SbOutReferenceIdeal.nD Cert.SbOutReferenceIdeal.τ Cert.SbOutReferenceIdeal.sig) → Buf (Elt Ideal) ℓ) (g : Dev Cert.SbOutReferenceIdeal.nD → PrngReg), Pre_SbOutReferenceIdeal m →
    θ_run (Cert.SbOutReferenceIdeal.defs (F := Ideal)) (onTc (τ := Cert.SbOutReferenceIdeal.τ) (Cert.SbOutReferenceIdeal.main (F := Ideal))) ⟨m, fun _ => 0, g⟩ (fun r => (∀ c : Dev Cert.SbOutReferenceIdeal.nD,
      r.2.mem ((c.tc : Thread Cert.SbOutReferenceIdeal.nD Cert.SbOutReferenceIdeal.τ).loc Cert.SbOutReferenceIdeal.main_arg0) = m ((c.tc : Thread Cert.SbOutReferenceIdeal.nD Cert.SbOutReferenceIdeal.τ).loc Cert.SbOutReferenceIdeal.main_arg0)
      ∧ r.2.mem ((c.tc : Thread Cert.SbOutReferenceIdeal.nD Cert.SbOutReferenceIdeal.τ).loc Cert.SbOutReferenceIdeal.main_arg1) = m ((c.tc : Thread Cert.SbOutReferenceIdeal.nD Cert.SbOutReferenceIdeal.τ).loc Cert.SbOutReferenceIdeal.main_arg1)
      ∧ r.2.mem ((c.tc : Thread Cert.SbOutReferenceIdeal.nD Cert.SbOutReferenceIdeal.τ).loc Cert.SbOutReferenceIdeal.main_arg2) = m ((c.tc : Thread Cert.SbOutReferenceIdeal.nD Cert.SbOutReferenceIdeal.τ).loc Cert.SbOutReferenceIdeal.main_arg2)
      ∧ r.2.mem ((c.tc : Thread Cert.SbOutReferenceIdeal.nD Cert.SbOutReferenceIdeal.τ).loc Cert.SbOutReferenceIdeal.main_arg3) = m ((c.tc : Thread Cert.SbOutReferenceIdeal.nD Cert.SbOutReferenceIdeal.τ).loc Cert.SbOutReferenceIdeal.main_arg3))
      ∧ r.2.sem = fun _ => 0)

def quiescent_MemKeyLast [hMemKeyLast : Cert.MemKeyLast.Facts] : Prop :=
  ∀ (m : (ℓ : Loc Cert.MemKeyLast.nD Cert.MemKeyLast.τ Cert.MemKeyLast.sig) → Buf (Elt Bits) ℓ) (g : Dev Cert.MemKeyLast.nD → PrngReg), Pre_MemKeyLast m →
    θ_run (Cert.MemKeyLast.defs (F := Bits)) (onTc (τ := Cert.MemKeyLast.τ) (Cert.MemKeyLast.main (F := Bits))) ⟨m, fun _ => 0, g⟩ (fun r => (∀ c : Dev Cert.MemKeyLast.nD,
      r.2.mem ((c.tc : Thread Cert.MemKeyLast.nD Cert.MemKeyLast.τ).loc Cert.MemKeyLast.main_arg0) = m ((c.tc : Thread Cert.MemKeyLast.nD Cert.MemKeyLast.τ).loc Cert.MemKeyLast.main_arg0)
      ∧ r.2.mem ((c.tc : Thread Cert.MemKeyLast.nD Cert.MemKeyLast.τ).loc Cert.MemKeyLast.main_arg1) = m ((c.tc : Thread Cert.MemKeyLast.nD Cert.MemKeyLast.τ).loc Cert.MemKeyLast.main_arg1)
      ∧ r.2.mem ((c.tc : Thread Cert.MemKeyLast.nD Cert.MemKeyLast.τ).loc Cert.MemKeyLast.main_arg2) = m ((c.tc : Thread Cert.MemKeyLast.nD Cert.MemKeyLast.τ).loc Cert.MemKeyLast.main_arg2))
      ∧ r.2.sem = fun _ => 0)

def quiescent_MemKeyLastIdeal [hMemKeyLastIdeal : Cert.MemKeyLastIdeal.Facts] : Prop :=
  ∀ (m : (ℓ : Loc Cert.MemKeyLastIdeal.nD Cert.MemKeyLastIdeal.τ Cert.MemKeyLastIdeal.sig) → Buf (Elt Ideal) ℓ) (g : Dev Cert.MemKeyLastIdeal.nD → PrngReg), Pre_MemKeyLastIdeal m →
    θ_run (Cert.MemKeyLastIdeal.defs (F := Ideal)) (onTc (τ := Cert.MemKeyLastIdeal.τ) (Cert.MemKeyLastIdeal.main (F := Ideal))) ⟨m, fun _ => 0, g⟩ (fun r => (∀ c : Dev Cert.MemKeyLastIdeal.nD,
      r.2.mem ((c.tc : Thread Cert.MemKeyLastIdeal.nD Cert.MemKeyLastIdeal.τ).loc Cert.MemKeyLastIdeal.main_arg0) = m ((c.tc : Thread Cert.MemKeyLastIdeal.nD Cert.MemKeyLastIdeal.τ).loc Cert.MemKeyLastIdeal.main_arg0)
      ∧ r.2.mem ((c.tc : Thread Cert.MemKeyLastIdeal.nD Cert.MemKeyLastIdeal.τ).loc Cert.MemKeyLastIdeal.main_arg1) = m ((c.tc : Thread Cert.MemKeyLastIdeal.nD Cert.MemKeyLastIdeal.τ).loc Cert.MemKeyLastIdeal.main_arg1)
      ∧ r.2.mem ((c.tc : Thread Cert.MemKeyLastIdeal.nD Cert.MemKeyLastIdeal.τ).loc Cert.MemKeyLastIdeal.main_arg2) = m ((c.tc : Thread Cert.MemKeyLastIdeal.nD Cert.MemKeyLastIdeal.τ).loc Cert.MemKeyLastIdeal.main_arg2))
      ∧ r.2.sem = fun _ => 0)

def quiescent_MemKeyLastReferenceIdeal [hMemKeyLastReferenceIdeal : Cert.MemKeyLastReferenceIdeal.Facts] : Prop :=
  ∀ (m : (ℓ : Loc Cert.MemKeyLastReferenceIdeal.nD Cert.MemKeyLastReferenceIdeal.τ Cert.MemKeyLastReferenceIdeal.sig) → Buf (Elt Ideal) ℓ) (g : Dev Cert.MemKeyLastReferenceIdeal.nD → PrngReg), Pre_MemKeyLastReferenceIdeal m →
    θ_run (Cert.MemKeyLastReferenceIdeal.defs (F := Ideal)) (onTc (τ := Cert.MemKeyLastReferenceIdeal.τ) (Cert.MemKeyLastReferenceIdeal.main (F := Ideal))) ⟨m, fun _ => 0, g⟩ (fun r => (∀ c : Dev Cert.MemKeyLastReferenceIdeal.nD,
      r.2.mem ((c.tc : Thread Cert.MemKeyLastReferenceIdeal.nD Cert.MemKeyLastReferenceIdeal.τ).loc Cert.MemKeyLastReferenceIdeal.main_arg0) = m ((c.tc : Thread Cert.MemKeyLastReferenceIdeal.nD Cert.MemKeyLastReferenceIdeal.τ).loc Cert.MemKeyLastReferenceIdeal.main_arg0)
      ∧ r.2.mem ((c.tc : Thread Cert.MemKeyLastReferenceIdeal.nD Cert.MemKeyLastReferenceIdeal.τ).loc Cert.MemKeyLastReferenceIdeal.main_arg1) = m ((c.tc : Thread Cert.MemKeyLastReferenceIdeal.nD Cert.MemKeyLastReferenceIdeal.τ).loc Cert.MemKeyLastReferenceIdeal.main_arg1)
      ∧ r.2.mem ((c.tc : Thread Cert.MemKeyLastReferenceIdeal.nD Cert.MemKeyLastReferenceIdeal.τ).loc Cert.MemKeyLastReferenceIdeal.main_arg2) = m ((c.tc : Thread Cert.MemKeyLastReferenceIdeal.nD Cert.MemKeyLastReferenceIdeal.τ).loc Cert.MemKeyLastReferenceIdeal.main_arg2))
      ∧ r.2.sem = fun _ => 0)

def quiescent_MemValLast [hMemValLast : Cert.MemValLast.Facts] : Prop :=
  ∀ (m : (ℓ : Loc Cert.MemValLast.nD Cert.MemValLast.τ Cert.MemValLast.sig) → Buf (Elt Bits) ℓ) (g : Dev Cert.MemValLast.nD → PrngReg), Pre_MemValLast m →
    θ_run (Cert.MemValLast.defs (F := Bits)) (onTc (τ := Cert.MemValLast.τ) (Cert.MemValLast.main (F := Bits))) ⟨m, fun _ => 0, g⟩ (fun r => (∀ c : Dev Cert.MemValLast.nD,
      r.2.mem ((c.tc : Thread Cert.MemValLast.nD Cert.MemValLast.τ).loc Cert.MemValLast.main_arg0) = m ((c.tc : Thread Cert.MemValLast.nD Cert.MemValLast.τ).loc Cert.MemValLast.main_arg0)
      ∧ r.2.mem ((c.tc : Thread Cert.MemValLast.nD Cert.MemValLast.τ).loc Cert.MemValLast.main_arg1) = m ((c.tc : Thread Cert.MemValLast.nD Cert.MemValLast.τ).loc Cert.MemValLast.main_arg1)
      ∧ r.2.mem ((c.tc : Thread Cert.MemValLast.nD Cert.MemValLast.τ).loc Cert.MemValLast.main_arg2) = m ((c.tc : Thread Cert.MemValLast.nD Cert.MemValLast.τ).loc Cert.MemValLast.main_arg2))
      ∧ r.2.sem = fun _ => 0)

def quiescent_MemValLastIdeal [hMemValLastIdeal : Cert.MemValLastIdeal.Facts] : Prop :=
  ∀ (m : (ℓ : Loc Cert.MemValLastIdeal.nD Cert.MemValLastIdeal.τ Cert.MemValLastIdeal.sig) → Buf (Elt Ideal) ℓ) (g : Dev Cert.MemValLastIdeal.nD → PrngReg), Pre_MemValLastIdeal m →
    θ_run (Cert.MemValLastIdeal.defs (F := Ideal)) (onTc (τ := Cert.MemValLastIdeal.τ) (Cert.MemValLastIdeal.main (F := Ideal))) ⟨m, fun _ => 0, g⟩ (fun r => (∀ c : Dev Cert.MemValLastIdeal.nD,
      r.2.mem ((c.tc : Thread Cert.MemValLastIdeal.nD Cert.MemValLastIdeal.τ).loc Cert.MemValLastIdeal.main_arg0) = m ((c.tc : Thread Cert.MemValLastIdeal.nD Cert.MemValLastIdeal.τ).loc Cert.MemValLastIdeal.main_arg0)
      ∧ r.2.mem ((c.tc : Thread Cert.MemValLastIdeal.nD Cert.MemValLastIdeal.τ).loc Cert.MemValLastIdeal.main_arg1) = m ((c.tc : Thread Cert.MemValLastIdeal.nD Cert.MemValLastIdeal.τ).loc Cert.MemValLastIdeal.main_arg1)
      ∧ r.2.mem ((c.tc : Thread Cert.MemValLastIdeal.nD Cert.MemValLastIdeal.τ).loc Cert.MemValLastIdeal.main_arg2) = m ((c.tc : Thread Cert.MemValLastIdeal.nD Cert.MemValLastIdeal.τ).loc Cert.MemValLastIdeal.main_arg2))
      ∧ r.2.sem = fun _ => 0)

def quiescent_MemValLastReferenceIdeal [hMemValLastReferenceIdeal : Cert.MemValLastReferenceIdeal.Facts] : Prop :=
  ∀ (m : (ℓ : Loc Cert.MemValLastReferenceIdeal.nD Cert.MemValLastReferenceIdeal.τ Cert.MemValLastReferenceIdeal.sig) → Buf (Elt Ideal) ℓ) (g : Dev Cert.MemValLastReferenceIdeal.nD → PrngReg), Pre_MemValLastReferenceIdeal m →
    θ_run (Cert.MemValLastReferenceIdeal.defs (F := Ideal)) (onTc (τ := Cert.MemValLastReferenceIdeal.τ) (Cert.MemValLastReferenceIdeal.main (F := Ideal))) ⟨m, fun _ => 0, g⟩ (fun r => (∀ c : Dev Cert.MemValLastReferenceIdeal.nD,
      r.2.mem ((c.tc : Thread Cert.MemValLastReferenceIdeal.nD Cert.MemValLastReferenceIdeal.τ).loc Cert.MemValLastReferenceIdeal.main_arg0) = m ((c.tc : Thread Cert.MemValLastReferenceIdeal.nD Cert.MemValLastReferenceIdeal.τ).loc Cert.MemValLastReferenceIdeal.main_arg0)
      ∧ r.2.mem ((c.tc : Thread Cert.MemValLastReferenceIdeal.nD Cert.MemValLastReferenceIdeal.τ).loc Cert.MemValLastReferenceIdeal.main_arg1) = m ((c.tc : Thread Cert.MemValLastReferenceIdeal.nD Cert.MemValLastReferenceIdeal.τ).loc Cert.MemValLastReferenceIdeal.main_arg1)
      ∧ r.2.mem ((c.tc : Thread Cert.MemValLastReferenceIdeal.nD Cert.MemValLastReferenceIdeal.τ).loc Cert.MemValLastReferenceIdeal.main_arg2) = m ((c.tc : Thread Cert.MemValLastReferenceIdeal.nD Cert.MemValLastReferenceIdeal.τ).loc Cert.MemValLastReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2))
      ∧ r.2.sem = fun _ => 0)

def quiescent_SsdMemQuery [hSsdMemQuery : Cert.SsdMemQuery.Facts] : Prop :=
  ∀ (m : (ℓ : Loc Cert.SsdMemQuery.nD Cert.SsdMemQuery.τ Cert.SsdMemQuery.sig) → Buf (Elt Bits) ℓ) (g : Dev Cert.SsdMemQuery.nD → PrngReg), Pre_SsdMemQuery m →
    θ_run (Cert.SsdMemQuery.defs (F := Bits)) (onTc (τ := Cert.SsdMemQuery.τ) (Cert.SsdMemQuery.main (F := Bits))) ⟨m, fun _ => 0, g⟩ (fun r => (∀ c : Dev Cert.SsdMemQuery.nD,
      r.2.mem ((c.tc : Thread Cert.SsdMemQuery.nD Cert.SsdMemQuery.τ).loc Cert.SsdMemQuery.main_arg0) = m ((c.tc : Thread Cert.SsdMemQuery.nD Cert.SsdMemQuery.τ).loc Cert.SsdMemQuery.main_arg0)
      ∧ r.2.mem ((c.tc : Thread Cert.SsdMemQuery.nD Cert.SsdMemQuery.τ).loc Cert.SsdMemQuery.main_arg1) = m ((c.tc : Thread Cert.SsdMemQuery.nD Cert.SsdMemQuery.τ).loc Cert.SsdMemQuery.main_arg1)
      ∧ r.2.mem ((c.tc : Thread Cert.SsdMemQuery.nD Cert.SsdMemQuery.τ).loc Cert.SsdMemQuery.main_arg2) = m ((c.tc : Thread Cert.SsdMemQuery.nD Cert.SsdMemQuery.τ).loc Cert.SsdMemQuery.main_arg2))
      ∧ r.2.sem = fun _ => 0)

def quiescent_SsdMemQueryIdeal [hSsdMemQueryIdeal : Cert.SsdMemQueryIdeal.Facts] : Prop :=
  ∀ (m : (ℓ : Loc Cert.SsdMemQueryIdeal.nD Cert.SsdMemQueryIdeal.τ Cert.SsdMemQueryIdeal.sig) → Buf (Elt Ideal) ℓ) (g : Dev Cert.SsdMemQueryIdeal.nD → PrngReg), Pre_SsdMemQueryIdeal m →
    θ_run (Cert.SsdMemQueryIdeal.defs (F := Ideal)) (onTc (τ := Cert.SsdMemQueryIdeal.τ) (Cert.SsdMemQueryIdeal.main (F := Ideal))) ⟨m, fun _ => 0, g⟩ (fun r => (∀ c : Dev Cert.SsdMemQueryIdeal.nD,
      r.2.mem ((c.tc : Thread Cert.SsdMemQueryIdeal.nD Cert.SsdMemQueryIdeal.τ).loc Cert.SsdMemQueryIdeal.main_arg0) = m ((c.tc : Thread Cert.SsdMemQueryIdeal.nD Cert.SsdMemQueryIdeal.τ).loc Cert.SsdMemQueryIdeal.main_arg0)
      ∧ r.2.mem ((c.tc : Thread Cert.SsdMemQueryIdeal.nD Cert.SsdMemQueryIdeal.τ).loc Cert.SsdMemQueryIdeal.main_arg1) = m ((c.tc : Thread Cert.SsdMemQueryIdeal.nD Cert.SsdMemQueryIdeal.τ).loc Cert.SsdMemQueryIdeal.main_arg1)
      ∧ r.2.mem ((c.tc : Thread Cert.SsdMemQueryIdeal.nD Cert.SsdMemQueryIdeal.τ).loc Cert.SsdMemQueryIdeal.main_arg2) = m ((c.tc : Thread Cert.SsdMemQueryIdeal.nD Cert.SsdMemQueryIdeal.τ).loc Cert.SsdMemQueryIdeal.main_arg2))
      ∧ r.2.sem = fun _ => 0)

def quiescent_SsdMemQueryReferenceIdeal [hSsdMemQueryReferenceIdeal : Cert.SsdMemQueryReferenceIdeal.Facts] : Prop :=
  ∀ (m : (ℓ : Loc Cert.SsdMemQueryReferenceIdeal.nD Cert.SsdMemQueryReferenceIdeal.τ Cert.SsdMemQueryReferenceIdeal.sig) → Buf (Elt Ideal) ℓ) (g : Dev Cert.SsdMemQueryReferenceIdeal.nD → PrngReg), Pre_SsdMemQueryReferenceIdeal m →
    θ_run (Cert.SsdMemQueryReferenceIdeal.defs (F := Ideal)) (onTc (τ := Cert.SsdMemQueryReferenceIdeal.τ) (Cert.SsdMemQueryReferenceIdeal.main (F := Ideal))) ⟨m, fun _ => 0, g⟩ (fun r => (∀ c : Dev Cert.SsdMemQueryReferenceIdeal.nD,
      r.2.mem ((c.tc : Thread Cert.SsdMemQueryReferenceIdeal.nD Cert.SsdMemQueryReferenceIdeal.τ).loc Cert.SsdMemQueryReferenceIdeal.main_arg0) = m ((c.tc : Thread Cert.SsdMemQueryReferenceIdeal.nD Cert.SsdMemQueryReferenceIdeal.τ).loc Cert.SsdMemQueryReferenceIdeal.main_arg0)
      ∧ r.2.mem ((c.tc : Thread Cert.SsdMemQueryReferenceIdeal.nD Cert.SsdMemQueryReferenceIdeal.τ).loc Cert.SsdMemQueryReferenceIdeal.main_arg1) = m ((c.tc : Thread Cert.SsdMemQueryReferenceIdeal.nD Cert.SsdMemQueryReferenceIdeal.τ).loc Cert.SsdMemQueryReferenceIdeal.main_arg1)
      ∧ r.2.mem ((c.tc : Thread Cert.SsdMemQueryReferenceIdeal.nD Cert.SsdMemQueryReferenceIdeal.τ).loc Cert.SsdMemQueryReferenceIdeal.main_arg2) = m ((c.tc : Thread Cert.SsdMemQueryReferenceIdeal.nD Cert.SsdMemQueryReferenceIdeal.τ).loc Cert.SsdMemQueryReferenceIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def quiescent_SbMemQuery [hSbMemQuery : Cert.SbMemQuery.Facts] : Prop :=
  ∀ (m : (ℓ : Loc Cert.SbMemQuery.nD Cert.SbMemQuery.τ Cert.SbMemQuery.sig) → Buf (Elt Bits) ℓ) (g : Dev Cert.SbMemQuery.nD → PrngReg), Pre_SbMemQuery m →
    θ_run (Cert.SbMemQuery.defs (F := Bits)) (onTc (τ := Cert.SbMemQuery.τ) (Cert.SbMemQuery.main (F := Bits))) ⟨m, fun _ => 0, g⟩ (fun r => (∀ c : Dev Cert.SbMemQuery.nD,
      r.2.mem ((c.tc : Thread Cert.SbMemQuery.nD Cert.SbMemQuery.τ).loc Cert.SbMemQuery.main_arg0) = m ((c.tc : Thread Cert.SbMemQuery.nD Cert.SbMemQuery.τ).loc Cert.SbMemQuery.main_arg0)
      ∧ r.2.mem ((c.tc : Thread Cert.SbMemQuery.nD Cert.SbMemQuery.τ).loc Cert.SbMemQuery.main_arg1) = m ((c.tc : Thread Cert.SbMemQuery.nD Cert.SbMemQuery.τ).loc Cert.SbMemQuery.main_arg1)
      ∧ r.2.mem ((c.tc : Thread Cert.SbMemQuery.nD Cert.SbMemQuery.τ).loc Cert.SbMemQuery.main_arg2) = m ((c.tc : Thread Cert.SbMemQuery.nD Cert.SbMemQuery.τ).loc Cert.SbMemQuery.main_arg2))
      ∧ r.2.sem = fun _ => 0)

def quiescent_SbMemQueryIdeal [hSbMemQueryIdeal : Cert.SbMemQueryIdeal.Facts] : Prop :=
  ∀ (m : (ℓ : Loc Cert.SbMemQueryIdeal.nD Cert.SbMemQueryIdeal.τ Cert.SbMemQueryIdeal.sig) → Buf (Elt Ideal) ℓ) (g : Dev Cert.SbMemQueryIdeal.nD → PrngReg), Pre_SbMemQueryIdeal m →
    θ_run (Cert.SbMemQueryIdeal.defs (F := Ideal)) (onTc (τ := Cert.SbMemQueryIdeal.τ) (Cert.SbMemQueryIdeal.main (F := Ideal))) ⟨m, fun _ => 0, g⟩ (fun r => (∀ c : Dev Cert.SbMemQueryIdeal.nD,
      r.2.mem ((c.tc : Thread Cert.SbMemQueryIdeal.nD Cert.SbMemQueryIdeal.τ).loc Cert.SbMemQueryIdeal.main_arg0) = m ((c.tc : Thread Cert.SbMemQueryIdeal.nD Cert.SbMemQueryIdeal.τ).loc Cert.SbMemQueryIdeal.main_arg0)
      ∧ r.2.mem ((c.tc : Thread Cert.SbMemQueryIdeal.nD Cert.SbMemQueryIdeal.τ).loc Cert.SbMemQueryIdeal.main_arg1) = m ((c.tc : Thread Cert.SbMemQueryIdeal.nD Cert.SbMemQueryIdeal.τ).loc Cert.SbMemQueryIdeal.main_arg1)
      ∧ r.2.mem ((c.tc : Thread Cert.SbMemQueryIdeal.nD Cert.SbMemQueryIdeal.τ).loc Cert.SbMemQueryIdeal.main_arg2) = m ((c.tc : Thread Cert.SbMemQueryIdeal.nD Cert.SbMemQueryIdeal.τ).loc Cert.SbMemQueryIdeal.main_arg2))
      ∧ r.2.sem = fun _ => 0)

def quiescent_SbMemQueryReferenceIdeal [hSbMemQueryReferenceIdeal : Cert.SbMemQueryReferenceIdeal.Facts] : Prop :=
  ∀ (m : (ℓ : Loc Cert.SbMemQueryReferenceIdeal.nD Cert.SbMemQueryReferenceIdeal.τ Cert.SbMemQueryReferenceIdeal.sig) → Buf (Elt Ideal) ℓ) (g : Dev Cert.SbMemQueryReferenceIdeal.nD → PrngReg), Pre_SbMemQueryReferenceIdeal m →
    θ_run (Cert.SbMemQueryReferenceIdeal.defs (F := Ideal)) (onTc (τ := Cert.SbMemQueryReferenceIdeal.τ) (Cert.SbMemQueryReferenceIdeal.main (F := Ideal))) ⟨m, fun _ => 0, g⟩ (fun r => (∀ c : Dev Cert.SbMemQueryReferenceIdeal.nD,
      r.2.mem ((c.tc : Thread Cert.SbMemQueryReferenceIdeal.nD Cert.SbMemQueryReferenceIdeal.τ).loc Cert.SbMemQueryReferenceIdeal.main_arg0) = m ((c.tc : Thread Cert.SbMemQueryReferenceIdeal.nD Cert.SbMemQueryReferenceIdeal.τ).loc Cert.SbMemQueryReferenceIdeal.main_arg0)
      ∧ r.2.mem ((c.tc : Thread Cert.SbMemQueryReferenceIdeal.nD Cert.SbMemQueryReferenceIdeal.τ).loc Cert.SbMemQueryReferenceIdeal.main_arg1) = m ((c.tc : Thread Cert.SbMemQueryReferenceIdeal.nD Cert.SbMemQueryReferenceIdeal.τ).loc Cert.SbMemQueryReferenceIdeal.main_arg1)
      ∧ r.2.mem ((c.tc : Thread Cert.SbMemQueryReferenceIdeal.nD Cert.SbMemQueryReferenceIdeal.τ).loc Cert.SbMemQueryReferenceIdeal.main_arg2) = m ((c.tc : Thread Cert.SbMemQueryReferenceIdeal.nD Cert.SbMemQueryReferenceIdeal.τ).loc Cert.SbMemQueryReferenceIdeal.main_arg2))
      ∧ r.2.sem = fun _ => 0)

def quiescent_SampleOut [hSampleOut : Cert.SampleOut.Facts] : Prop :=
  ∀ (m : (ℓ : Loc Cert.SampleOut.nD Cert.SampleOut.τ Cert.SampleOut.sig) → Buf (Elt Bits) ℓ) (g : Dev Cert.SampleOut.nD → PrngReg), Pre_SampleOut m →
    θ_run (Cert.SampleOut.defs (F := Bits)) (onTc (τ := Cert.SampleOut.τ) (Cert.SampleOut.main (F := Bits))) ⟨m, fun _ => 0, g⟩ (fun r => (∀ c : Dev Cert.SampleOut.nD,
      r.2.mem ((c.tc : Thread Cert.SampleOut.nD Cert.SampleOut.τ).loc Cert.SampleOut.main_arg0) = m ((c.tc : Thread Cert.SampleOut.nD Cert.SampleOut.τ).loc Cert.SampleOut.main_arg0)
      ∧ r.2.mem ((c.tc : Thread Cert.SampleOut.nD Cert.SampleOut.τ).loc Cert.SampleOut.main_arg1) = m ((c.tc : Thread Cert.SampleOut.nD Cert.SampleOut.τ).loc Cert.SampleOut.main_arg1)
      ∧ r.2.mem ((c.tc : Thread Cert.SampleOut.nD Cert.SampleOut.τ).loc Cert.SampleOut.main_arg2) = m ((c.tc : Thread Cert.SampleOut.nD Cert.SampleOut.τ).loc Cert.SampleOut.main_arg2)
      ∧ r.2.mem ((c.tc : Thread Cert.SampleOut.nD Cert.SampleOut.τ).loc Cert.SampleOut.main_arg3) = m ((c.tc : Thread Cert.SampleOut.nD Cert.SampleOut.τ).loc Cert.SampleOut.main_arg3))
      ∧ r.2.sem = fun _ => 0)

def quiescent_SampleOutIdeal [hSampleOutIdeal : Cert.SampleOutIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg), Pre_SampleOutIdeal m →
    θ_run (Cert.SampleOutIdeal.defs (F := Ideal)) (onTc (τ := Cert.SampleOutIdeal.τ) (Cert.SampleOutIdeal.main (F := Ideal))) ⟨m, fun _ => 0, g⟩ (fun r => (∀ c : Dev Cert.SampleOutIdeal.nD,
      r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
      ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
      ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
      ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3))
      ∧ r.2.sem = fun _ => 0)

def quiescent_SampleOutReferenceIdeal [hSampleOutReferenceIdeal : Cert.SampleOutReferenceIdeal.Facts] : Prop :=
  ∀ (m : (ℓ : Loc Cert.SampleOutReferenceIdeal.nD Cert.SampleOutReferenceIdeal.τ Cert.SampleOutReferenceIdeal.sig) → Buf (Elt Ideal) ℓ) (g : Dev Cert.SampleOutReferenceIdeal.nD → PrngReg), Pre_SampleOutReferenceIdeal m →
    θ_run (Cert.SampleOutReferenceIdeal.defs (F := Ideal)) (onTc (τ := Cert.SampleOutReferenceIdeal.τ) (Cert.SampleOutReferenceIdeal.main (F := Ideal))) ⟨m, fun _ => 0, g⟩ (fun r => (∀ c : Dev Cert.SampleOutReferenceIdeal.nD,
      r.2.mem ((c.tc : Thread Cert.SampleOutReferenceIdeal.nD Cert.SampleOutReferenceIdeal.τ).loc Cert.SampleOutReferenceIdeal.main_arg0) = m ((c.tc : Thread Cert.SampleOutReferenceIdeal.nD Cert.SampleOutReferenceIdeal.τ).loc Cert.SampleOutReferenceIdeal.main_arg0)
      ∧ r.2.mem ((c.tc : Thread Cert.SampleOutReferenceIdeal.nD Cert.SampleOutReferenceIdeal.τ).loc Cert.SampleOutReferenceIdeal.main_arg1) = m ((c.tc : Thread Cert.SampleOutReferenceIdeal.nD Cert.SampleOutReferenceIdeal.τ).loc Cert.SampleOutReferenceIdeal.main_arg1)
      ∧ r.2.mem ((c.tc : Thread Cert.SampleOutReferenceIdeal.nD Cert.SampleOutReferenceIdeal.τ).loc Cert.SampleOutReferenceIdeal.main_arg2) = m ((c.tc : Thread Cert.SampleOutReferenceIdeal.nD Cert.SampleOutReferenceIdeal.τ).loc Cert.SampleOutReferenceIdeal.main_arg2)
      ∧ r.2.mem ((c.tc : Thread Cert.SampleOutReferenceIdeal.nD Cert.SampleOutReferenceIdeal.τ).loc Cert.SampleOutReferenceIdeal.main_arg3) = m ((c.tc : Thread Cert.SampleOutReferenceIdeal.nD Cert.SampleOutReferenceIdeal.τ).loc Cert.SampleOutReferenceIdeal.main_arg3))
      ∧ r.2.sem = fun _ => 0)

def quiescent_SampleSbOut [hSampleSbOut : Cert.SampleSbOut.Facts] : Prop :=
  ∀ (m : (ℓ : Loc Cert.SampleSbOut.nD Cert.SampleSbOut.τ Cert.SampleSbOut.sig) → Buf (Elt Bits) ℓ) (g : Dev Cert.SampleSbOut.nD → PrngReg), Pre_SampleSbOut m →
    θ_run (Cert.SampleSbOut.defs (F := Bits)) (onTc (τ := Cert.SampleSbOut.τ) (Cert.SampleSbOut.main (F := Bits))) ⟨m, fun _ => 0, g⟩ (fun r => (∀ c : Dev Cert.SampleSbOut.nD,
      r.2.mem ((c.tc : Thread Cert.SampleSbOut.nD Cert.SampleSbOut.τ).loc Cert.SampleSbOut.main_arg0) = m ((c.tc : Thread Cert.SampleSbOut.nD Cert.SampleSbOut.τ).loc Cert.SampleSbOut.main_arg0)
      ∧ r.2.mem ((c.tc : Thread Cert.SampleSbOut.nD Cert.SampleSbOut.τ).loc Cert.SampleSbOut.main_arg1) = m ((c.tc : Thread Cert.SampleSbOut.nD Cert.SampleSbOut.τ).loc Cert.SampleSbOut.main_arg1)
      ∧ r.2.mem ((c.tc : Thread Cert.SampleSbOut.nD Cert.SampleSbOut.τ).loc Cert.SampleSbOut.main_arg2) = m ((c.tc : Thread Cert.SampleSbOut.nD Cert.SampleSbOut.τ).loc Cert.SampleSbOut.main_arg2)
      ∧ r.2.mem ((c.tc : Thread Cert.SampleSbOut.nD Cert.SampleSbOut.τ).loc Cert.SampleSbOut.main_arg3) = m ((c.tc : Thread Cert.SampleSbOut.nD Cert.SampleSbOut.τ).loc Cert.SampleSbOut.main_arg3))
      ∧ r.2.sem = fun _ => 0)

def quiescent_SampleSbOutIdeal [hSampleSbOutIdeal : Cert.SampleSbOutIdeal.Facts] : Prop :=
  ∀ (m : (ℓ : Loc Cert.SampleSbOutIdeal.nD Cert.SampleSbOutIdeal.τ Cert.SampleSbOutIdeal.sig) → Buf (Elt Ideal) ℓ) (g : Dev Cert.SampleSbOutIdeal.nD → PrngReg), Pre_SampleSbOutIdeal m →
    θ_run (Cert.SampleSbOutIdeal.defs (F := Ideal)) (onTc (τ := Cert.SampleSbOutIdeal.τ) (Cert.SampleSbOutIdeal.main (F := Ideal))) ⟨m, fun _ => 0, g⟩ (fun r => (∀ c : Dev Cert.SampleSbOutIdeal.nD,
      r.2.mem ((c.tc : Thread Cert.SampleSbOutIdeal.nD Cert.SampleSbOutIdeal.τ).loc Cert.SampleSbOutIdeal.main_arg0) = m ((c.tc : Thread Cert.SampleSbOutIdeal.nD Cert.SampleSbOutIdeal.τ).loc Cert.SampleSbOutIdeal.main_arg0)
      ∧ r.2.mem ((c.tc : Thread Cert.SampleSbOutIdeal.nD Cert.SampleSbOutIdeal.τ).loc Cert.SampleSbOutIdeal.main_arg1) = m ((c.tc : Thread Cert.SampleSbOutIdeal.nD Cert.SampleSbOutIdeal.τ).loc Cert.SampleSbOutIdeal.main_arg1)
      ∧ r.2.mem ((c.tc : Thread Cert.SampleSbOutIdeal.nD Cert.SampleSbOutIdeal.τ).loc Cert.SampleSbOutIdeal.main_arg2) = m ((c.tc : Thread Cert.SampleSbOutIdeal.nD Cert.SampleSbOutIdeal.τ).loc Cert.SampleSbOutIdeal.main_arg2)
      ∧ r.2.mem ((c.tc : Thread Cert.SampleSbOutIdeal.nD Cert.SampleSbOutIdeal.τ).loc Cert.SampleSbOutIdeal.main_arg3) = m ((c.tc : Thread Cert.SampleSbOutIdeal.nD Cert.SampleSbOutIdeal.τ).loc Cert.SampleSbOutIdeal.main_arg3))
      ∧ r.2.sem = fun _ => 0)

def quiescent_SampleSbOutReferenceIdeal [hSampleSbOutReferenceIdeal : Cert.SampleSbOutReferenceIdeal.Facts] : Prop :=
  ∀ (m : (ℓ : Loc Cert.SampleSbOutReferenceIdeal.nD Cert.SampleSbOutReferenceIdeal.τ Cert.SampleSbOutReferenceIdeal.sig) → Buf (Elt Ideal) ℓ) (g : Dev Cert.SampleSbOutReferenceIdeal.nD → PrngReg), Pre_SampleSbOutReferenceIdeal m →
    θ_run (Cert.SampleSbOutReferenceIdeal.defs (F := Ideal)) (onTc (τ := Cert.SampleSbOutReferenceIdeal.τ) (Cert.SampleSbOutReferenceIdeal.main (F := Ideal))) ⟨m, fun _ => 0, g⟩ (fun r => (∀ c : Dev Cert.SampleSbOutReferenceIdeal.nD,
      r.2.mem ((c.tc : Thread Cert.SampleSbOutReferenceIdeal.nD Cert.SampleSbOutReferenceIdeal.τ).loc Cert.SampleSbOutReferenceIdeal.main_arg0) = m ((c.tc : Thread Cert.SampleSbOutReferenceIdeal.nD Cert.SampleSbOutReferenceIdeal.τ).loc Cert.SampleSbOutReferenceIdeal.main_arg0)
      ∧ r.2.mem ((c.tc : Thread Cert.SampleSbOutReferenceIdeal.nD Cert.SampleSbOutReferenceIdeal.τ).loc Cert.SampleSbOutReferenceIdeal.main_arg1) = m ((c.tc : Thread Cert.SampleSbOutReferenceIdeal.nD Cert.SampleSbOutReferenceIdeal.τ).loc Cert.SampleSbOutReferenceIdeal.main_arg1)
      ∧ r.2.mem ((c.tc : Thread Cert.SampleSbOutReferenceIdeal.nD Cert.SampleSbOutReferenceIdeal.τ).loc Cert.SampleSbOutReferenceIdeal.main_arg2) = m ((c.tc : Thread Cert.SampleSbOutReferenceIdeal.nD Cert.SampleSbOutReferenceIdeal.τ).loc Cert.SampleSbOutReferenceIdeal.main_arg2)
      ∧ r.2.mem ((c.tc : Thread Cert.SampleSbOutReferenceIdeal.nD Cert.SampleSbOutReferenceIdeal.τ).loc Cert.SampleSbOutReferenceIdeal.main_arg3) = m ((c.tc : Thread Cert.SampleSbOutReferenceIdeal.nD Cert.SampleSbOutReferenceIdeal.τ).loc Cert.SampleSbOutReferenceIdeal.main_arg3))
      ∧ r.2.sem = fun _ => 0)

def quiescent_SampleHalf [hSampleHalf : Cert.SampleHalf.Facts] : Prop :=
  ∀ (m : (ℓ : Loc Cert.SampleHalf.nD Cert.SampleHalf.τ Cert.SampleHalf.sig) → Buf (Elt Bits) ℓ) (g : Dev Cert.SampleHalf.nD → PrngReg), Pre_SampleHalf m →
    θ_run (Cert.SampleHalf.defs (F := Bits)) (onTc (τ := Cert.SampleHalf.τ) (Cert.SampleHalf.main (F := Bits))) ⟨m, fun _ => 0, g⟩ (fun r => (∀ c : Dev Cert.SampleHalf.nD,
      r.2.mem ((c.tc : Thread Cert.SampleHalf.nD Cert.SampleHalf.τ).loc Cert.SampleHalf.main_arg0) = m ((c.tc : Thread Cert.SampleHalf.nD Cert.SampleHalf.τ).loc Cert.SampleHalf.main_arg0)
      ∧ r.2.mem ((c.tc : Thread Cert.SampleHalf.nD Cert.SampleHalf.τ).loc Cert.SampleHalf.main_arg1) = m ((c.tc : Thread Cert.SampleHalf.nD Cert.SampleHalf.τ).loc Cert.SampleHalf.main_arg1)
      ∧ r.2.mem ((c.tc : Thread Cert.SampleHalf.nD Cert.SampleHalf.τ).loc Cert.SampleHalf.main_arg2) = m ((c.tc : Thread Cert.SampleHalf.nD Cert.SampleHalf.τ).loc Cert.SampleHalf.main_arg2)
      ∧ r.2.mem ((c.tc : Thread Cert.SampleHalf.nD Cert.SampleHalf.τ).loc Cert.SampleHalf.main_arg3) = m ((c.tc : Thread Cert.SampleHalf.nD Cert.SampleHalf.τ).loc Cert.SampleHalf.main_arg3))
      ∧ r.2.sem = fun _ => 0)

def quiescent_SampleHalfIdeal [hSampleHalfIdeal : Cert.SampleHalfIdeal.Facts] : Prop :=
  ∀ (m : (ℓ : Loc Cert.SampleHalfIdeal.nD Cert.SampleHalfIdeal.τ Cert.SampleHalfIdeal.sig) → Buf (Elt Ideal) ℓ) (g : Dev Cert.SampleHalfIdeal.nD → PrngReg), Pre_SampleHalfIdeal m →
    θ_run (Cert.SampleHalfIdeal.defs (F := Ideal)) (onTc (τ := Cert.SampleHalfIdeal.τ) (Cert.SampleHalfIdeal.main (F := Ideal))) ⟨m, fun _ => 0, g⟩ (fun r => (∀ c : Dev Cert.SampleHalfIdeal.nD,
      r.2.mem ((c.tc : Thread Cert.SampleHalfIdeal.nD Cert.SampleHalfIdeal.τ).loc Cert.SampleHalfIdeal.main_arg0) = m ((c.tc : Thread Cert.SampleHalfIdeal.nD Cert.SampleHalfIdeal.τ).loc Cert.SampleHalfIdeal.main_arg0)
      ∧ r.2.mem ((c.tc : Thread Cert.SampleHalfIdeal.nD Cert.SampleHalfIdeal.τ).loc Cert.SampleHalfIdeal.main_arg1) = m ((c.tc : Thread Cert.SampleHalfIdeal.nD Cert.SampleHalfIdeal.τ).loc Cert.SampleHalfIdeal.main_arg1)
      ∧ r.2.mem ((c.tc : Thread Cert.SampleHalfIdeal.nD Cert.SampleHalfIdeal.τ).loc Cert.SampleHalfIdeal.main_arg2) = m ((c.tc : Thread Cert.SampleHalfIdeal.nD Cert.SampleHalfIdeal.τ).loc Cert.SampleHalfIdeal.main_arg2)
      ∧ r.2.mem ((c.tc : Thread Cert.SampleHalfIdeal.nD Cert.SampleHalfIdeal.τ).loc Cert.SampleHalfIdeal.main_arg3) = m ((c.tc : Thread Cert.SampleHalfIdeal.nD Cert.SampleHalfIdeal.τ).loc Cert.SampleHalfIdeal.main_arg3))
      ∧ r.2.sem = fun _ => 0)

def quiescent_SampleHalfReferenceIdeal [hSampleHalfReferenceIdeal : Cert.SampleHalfReferenceIdeal.Facts] : Prop :=
  ∀ (m : (ℓ : Loc Cert.SampleHalfReferenceIdeal.nD Cert.SampleHalfReferenceIdeal.τ Cert.SampleHalfReferenceIdeal.sig) → Buf (Elt Ideal) ℓ) (g : Dev Cert.SampleHalfReferenceIdeal.nD → PrngReg), Pre_SampleHalfReferenceIdeal m →
    θ_run (Cert.SampleHalfReferenceIdeal.defs (F := Ideal)) (onTc (τ := Cert.SampleHalfReferenceIdeal.τ) (Cert.SampleHalfReferenceIdeal.main (F := Ideal))) ⟨m, fun _ => 0, g⟩ (fun r => (∀ c : Dev Cert.SampleHalfReferenceIdeal.nD,
      r.2.mem ((c.tc : Thread Cert.SampleHalfReferenceIdeal.nD Cert.SampleHalfReferenceIdeal.τ).loc Cert.SampleHalfReferenceIdeal.main_arg0) = m ((c.tc : Thread Cert.SampleHalfReferenceIdeal.nD Cert.SampleHalfReferenceIdeal.τ).loc Cert.SampleHalfReferenceIdeal.main_arg0)
      ∧ r.2.mem ((c.tc : Thread Cert.SampleHalfReferenceIdeal.nD Cert.SampleHalfReferenceIdeal.τ).loc Cert.SampleHalfReferenceIdeal.main_arg1) = m ((c.tc : Thread Cert.SampleHalfReferenceIdeal.nD Cert.SampleHalfReferenceIdeal.τ).loc Cert.SampleHalfReferenceIdeal.main_arg1)
      ∧ r.2.mem ((c.tc : Thread Cert.SampleHalfReferenceIdeal.nD Cert.SampleHalfReferenceIdeal.τ).loc Cert.SampleHalfReferenceIdeal.main_arg2) = m ((c.tc : Thread Cert.SampleHalfReferenceIdeal.nD Cert.SampleHalfReferenceIdeal.τ).loc Cert.SampleHalfReferenceIdeal.main_arg2)
      ∧ r.2.mem ((c.tc : Thread Cert.SampleHalfReferenceIdeal.nD Cert.SampleHalfReferenceIdeal.τ).loc Cert.SampleHalfReferenceIdeal.main_arg3) = m ((c.tc : Thread Cert.SampleHalfReferenceIdeal.nD Cert.SampleHalfReferenceIdeal.τ).loc Cert.SampleHalfReferenceIdeal.main_arg3))
      ∧ r.2.sem = fun _ => 0)

def quiescent_SampleGate [hSampleGate : Cert.SampleGate.Facts] : Prop :=
  ∀ (m : (ℓ : Loc Cert.SampleGate.nD Cert.SampleGate.τ Cert.SampleGate.sig) → Buf (Elt Bits) ℓ) (g : Dev Cert.SampleGate.nD → PrngReg), Pre_SampleGate m →
    θ_run (Cert.SampleGate.defs (F := Bits)) (onTc (τ := Cert.SampleGate.τ) (Cert.SampleGate.main (F := Bits))) ⟨m, fun _ => 0, g⟩ (fun r => (∀ c : Dev Cert.SampleGate.nD,
      r.2.mem ((c.tc : Thread Cert.SampleGate.nD Cert.SampleGate.τ).loc Cert.SampleGate.main_arg0) = m ((c.tc : Thread Cert.SampleGate.nD Cert.SampleGate.τ).loc Cert.SampleGate.main_arg0)
      ∧ r.2.mem ((c.tc : Thread Cert.SampleGate.nD Cert.SampleGate.τ).loc Cert.SampleGate.main_arg1) = m ((c.tc : Thread Cert.SampleGate.nD Cert.SampleGate.τ).loc Cert.SampleGate.main_arg1)
      ∧ r.2.mem ((c.tc : Thread Cert.SampleGate.nD Cert.SampleGate.τ).loc Cert.SampleGate.main_arg2) = m ((c.tc : Thread Cert.SampleGate.nD Cert.SampleGate.τ).loc Cert.SampleGate.main_arg2))
      ∧ r.2.sem = fun _ => 0)

def quiescent_SampleGateIdeal [hSampleGateIdeal : Cert.SampleGateIdeal.Facts] : Prop :=
  ∀ (m : (ℓ : Loc Cert.SampleGateIdeal.nD Cert.SampleGateIdeal.τ Cert.SampleGateIdeal.sig) → Buf (Elt Ideal) ℓ) (g : Dev Cert.SampleGateIdeal.nD → PrngReg), Pre_SampleGateIdeal m →
    θ_run (Cert.SampleGateIdeal.defs (F := Ideal)) (onTc (τ := Cert.SampleGateIdeal.τ) (Cert.SampleGateIdeal.main (F := Ideal))) ⟨m, fun _ => 0, g⟩ (fun r => (∀ c : Dev Cert.SampleGateIdeal.nD,
      r.2.mem ((c.tc : Thread Cert.SampleGateIdeal.nD Cert.SampleGateIdeal.τ).loc Cert.SampleGateIdeal.main_arg0) = m ((c.tc : Thread Cert.SampleGateIdeal.nD Cert.SampleGateIdeal.τ).loc Cert.SampleGateIdeal.main_arg0)
      ∧ r.2.mem ((c.tc : Thread Cert.SampleGateIdeal.nD Cert.SampleGateIdeal.τ).loc Cert.SampleGateIdeal.main_arg1) = m ((c.tc : Thread Cert.SampleGateIdeal.nD Cert.SampleGateIdeal.τ).loc Cert.SampleGateIdeal.main_arg1)
      ∧ r.2.mem ((c.tc : Thread Cert.SampleGateIdeal.nD Cert.SampleGateIdeal.τ).loc Cert.SampleGateIdeal.main_arg2) = m ((c.tc : Thread Cert.SampleGateIdeal.nD Cert.SampleGateIdeal.τ).loc Cert.SampleGateIdeal.main_arg2))
      ∧ r.2.sem = fun _ => 0)

def quiescent_SampleGateReferenceIdeal [hSampleGateReferenceIdeal : Cert.SampleGateReferenceIdeal.Facts] : Prop :=
  ∀ (m : (ℓ : Loc Cert.SampleGateReferenceIdeal.nD Cert.SampleGateReferenceIdeal.τ Cert.SampleGateReferenceIdeal.sig) → Buf (Elt Ideal) ℓ) (g : Dev Cert.SampleGateReferenceIdeal.nD → PrngReg), Pre_SampleGateReferenceIdeal m →
    θ_run (Cert.SampleGateReferenceIdeal.defs (F := Ideal)) (onTc (τ := Cert.SampleGateReferenceIdeal.τ) (Cert.SampleGateReferenceIdeal.main (F := Ideal))) ⟨m, fun _ => 0, g⟩ (fun r => (∀ c : Dev Cert.SampleGateReferenceIdeal.nD,
      r.2.mem ((c.tc : Thread Cert.SampleGateReferenceIdeal.nD Cert.SampleGateReferenceIdeal.τ).loc Cert.SampleGateReferenceIdeal.main_arg0) = m ((c.tc : Thread Cert.SampleGateReferenceIdeal.nD Cert.SampleGateReferenceIdeal.τ).loc Cert.SampleGateReferenceIdeal.main_arg0)
      ∧ r.2.mem ((c.tc : Thread Cert.SampleGateReferenceIdeal.nD Cert.SampleGateReferenceIdeal.τ).loc Cert.SampleGateReferenceIdeal.main_arg1) = m ((c.tc : Thread Cert.SampleGateReferenceIdeal.nD Cert.SampleGateReferenceIdeal.τ).loc Cert.SampleGateReferenceIdeal.main_arg1)
      ∧ r.2.mem ((c.tc : Thread Cert.SampleGateReferenceIdeal.nD Cert.SampleGateReferenceIdeal.τ).loc Cert.SampleGateReferenceIdeal.main_arg2) = m ((c.tc : Thread Cert.SampleGateReferenceIdeal.nD Cert.SampleGateReferenceIdeal.τ).loc Cert.SampleGateReferenceIdeal.main_arg2))
      ∧ r.2.sem = fun _ => 0)

def quiescent_SampleStep [hSampleStep : Cert.SampleStep.Facts] : Prop :=
  ∀ (m : (ℓ : Loc Cert.SampleStep.nD Cert.SampleStep.τ Cert.SampleStep.sig) → Buf (Elt Bits) ℓ) (g : Dev Cert.SampleStep.nD → PrngReg), Pre_SampleStep m →
    θ_run (Cert.SampleStep.defs (F := Bits)) (onTc (τ := Cert.SampleStep.τ) (Cert.SampleStep.main (F := Bits))) ⟨m, fun _ => 0, g⟩ (fun r => (∀ c : Dev Cert.SampleStep.nD,
      r.2.mem ((c.tc : Thread Cert.SampleStep.nD Cert.SampleStep.τ).loc Cert.SampleStep.main_arg0) = m ((c.tc : Thread Cert.SampleStep.nD Cert.SampleStep.τ).loc Cert.SampleStep.main_arg0)
      ∧ r.2.mem ((c.tc : Thread Cert.SampleStep.nD Cert.SampleStep.τ).loc Cert.SampleStep.main_arg1) = m ((c.tc : Thread Cert.SampleStep.nD Cert.SampleStep.τ).loc Cert.SampleStep.main_arg1)
      ∧ r.2.mem ((c.tc : Thread Cert.SampleStep.nD Cert.SampleStep.τ).loc Cert.SampleStep.main_arg2) = m ((c.tc : Thread Cert.SampleStep.nD Cert.SampleStep.τ).loc Cert.SampleStep.main_arg2))
      ∧ r.2.sem = fun _ => 0)

def quiescent_SampleStepIdeal [hSampleStepIdeal : Cert.SampleStepIdeal.Facts] : Prop :=
  ∀ (m : (ℓ : Loc Cert.SampleStepIdeal.nD Cert.SampleStepIdeal.τ Cert.SampleStepIdeal.sig) → Buf (Elt Ideal) ℓ) (g : Dev Cert.SampleStepIdeal.nD → PrngReg), Pre_SampleStepIdeal m →
    θ_run (Cert.SampleStepIdeal.defs (F := Ideal)) (onTc (τ := Cert.SampleStepIdeal.τ) (Cert.SampleStepIdeal.main (F := Ideal))) ⟨m, fun _ => 0, g⟩ (fun r => (∀ c : Dev Cert.SampleStepIdeal.nD,
      r.2.mem ((c.tc : Thread Cert.SampleStepIdeal.nD Cert.SampleStepIdeal.τ).loc Cert.SampleStepIdeal.main_arg0) = m ((c.tc : Thread Cert.SampleStepIdeal.nD Cert.SampleStepIdeal.τ).loc Cert.SampleStepIdeal.main_arg0)
      ∧ r.2.mem ((c.tc : Thread Cert.SampleStepIdeal.nD Cert.SampleStepIdeal.τ).loc Cert.SampleStepIdeal.main_arg1) = m ((c.tc : Thread Cert.SampleStepIdeal.nD Cert.SampleStepIdeal.τ).loc Cert.SampleStepIdeal.main_arg1)
      ∧ r.2.mem ((c.tc : Thread Cert.SampleStepIdeal.nD Cert.SampleStepIdeal.τ).loc Cert.SampleStepIdeal.main_arg2) = m ((c.tc : Thread Cert.SampleStepIdeal.nD Cert.SampleStepIdeal.τ).loc Cert.SampleStepIdeal.main_arg2))
      ∧ r.2.sem = fun _ => 0)

def quiescent_SampleStepReferenceIdeal [hSampleStepReferenceIdeal : Cert.SampleStepReferenceIdeal.Facts] : Prop :=
  ∀ (m : (ℓ : Loc Cert.SampleStepReferenceIdeal.nD Cert.SampleStepReferenceIdeal.τ Cert.SampleStepReferenceIdeal.sig) → Buf (Elt Ideal) ℓ) (g : Dev Cert.SampleStepReferenceIdeal.nD → PrngReg), Pre_SampleStepReferenceIdeal m →
    θ_run (Cert.SampleStepReferenceIdeal.defs (F := Ideal)) (onTc (τ := Cert.SampleStepReferenceIdeal.τ) (Cert.SampleStepReferenceIdeal.main (F := Ideal))) ⟨m, fun _ => 0, g⟩ (fun r => (∀ c : Dev Cert.SampleStepReferenceIdeal.nD,
      r.2.mem ((c.tc : Thread Cert.SampleStepReferenceIdeal.nD Cert.SampleStepReferenceIdeal.τ).loc Cert.SampleStepReferenceIdeal.main_arg0) = m ((c.tc : Thread Cert.SampleStepReferenceIdeal.nD Cert.SampleStepReferenceIdeal.τ).loc Cert.SampleStepReferenceIdeal.main_arg0)
      ∧ r.2.mem ((c.tc : Thread Cert.SampleStepReferenceIdeal.nD Cert.SampleStepReferenceIdeal.τ).loc Cert.SampleStepReferenceIdeal.main_arg1) = m ((c.tc : Thread Cert.SampleStepReferenceIdeal.nD Cert.SampleStepReferenceIdeal.τ).loc Cert.SampleStepReferenceIdeal.main_arg1)
      ∧ r.2.mem ((c.tc : Thread Cert.SampleStepReferenceIdeal.nD Cert.SampleStepReferenceIdeal.τ).loc Cert.SampleStepReferenceIdeal.main_arg2) = m ((c.tc : Thread Cert.SampleStepReferenceIdeal.nD Cert.SampleStepReferenceIdeal.τ).loc Cert.SampleStepReferenceIdeal.main_arg2))
      ∧ r.2.sem = fun _ => 0)

def quiescent_SampleSsdMemQuery [hSampleSsdMemQuery : Cert.SampleSsdMemQuery.Facts] : Prop :=
  ∀ (m : (ℓ : Loc Cert.SampleSsdMemQuery.nD Cert.SampleSsdMemQuery.τ Cert.SampleSsdMemQuery.sig) → Buf (Elt Bits) ℓ) (g : Dev Cert.SampleSsdMemQuery.nD → PrngReg), Pre_SampleSsdMemQuery m →
    θ_run (Cert.SampleSsdMemQuery.defs (F := Bits)) (onTc (τ := Cert.SampleSsdMemQuery.τ) (Cert.SampleSsdMemQuery.main (F := Bits))) ⟨m, fun _ => 0, g⟩ (fun r => (∀ c : Dev Cert.SampleSsdMemQuery.nD,
      r.2.mem ((c.tc : Thread Cert.SampleSsdMemQuery.nD Cert.SampleSsdMemQuery.τ).loc Cert.SampleSsdMemQuery.main_arg0) = m ((c.tc : Thread Cert.SampleSsdMemQuery.nD Cert.SampleSsdMemQuery.τ).loc Cert.SampleSsdMemQuery.main_arg0)
      ∧ r.2.mem ((c.tc : Thread Cert.SampleSsdMemQuery.nD Cert.SampleSsdMemQuery.τ).loc Cert.SampleSsdMemQuery.main_arg1) = m ((c.tc : Thread Cert.SampleSsdMemQuery.nD Cert.SampleSsdMemQuery.τ).loc Cert.SampleSsdMemQuery.main_arg1)
      ∧ r.2.mem ((c.tc : Thread Cert.SampleSsdMemQuery.nD Cert.SampleSsdMemQuery.τ).loc Cert.SampleSsdMemQuery.main_arg2) = m ((c.tc : Thread Cert.SampleSsdMemQuery.nD Cert.SampleSsdMemQuery.τ).loc Cert.SampleSsdMemQuery.main_arg2))
      ∧ r.2.sem = fun _ => 0)

def quiescent_SampleSsdMemQueryIdeal [hSampleSsdMemQueryIdeal : Cert.SampleSsdMemQueryIdeal.Facts] : Prop :=
  ∀ (m : (ℓ : Loc Cert.SampleSsdMemQueryIdeal.nD Cert.SampleSsdMemQueryIdeal.τ Cert.SampleSsdMemQueryIdeal.sig) → Buf (Elt Ideal) ℓ) (g : Dev Cert.SampleSsdMemQueryIdeal.nD → PrngReg), Pre_SampleSsdMemQueryIdeal m →
    θ_run (Cert.SampleSsdMemQueryIdeal.defs (F := Ideal)) (onTc (τ := Cert.SampleSsdMemQueryIdeal.τ) (Cert.SampleSsdMemQueryIdeal.main (F := Ideal))) ⟨m, fun _ => 0, g⟩ (fun r => (∀ c : Dev Cert.SampleSsdMemQueryIdeal.nD,
      r.2.mem ((c.tc : Thread Cert.SampleSsdMemQueryIdeal.nD Cert.SampleSsdMemQueryIdeal.τ).loc Cert.SampleSsdMemQueryIdeal.main_arg0) = m ((c.tc : Thread Cert.SampleSsdMemQueryIdeal.nD Cert.SampleSsdMemQueryIdeal.τ).loc Cert.SampleSsdMemQueryIdeal.main_arg0)
      ∧ r.2.mem ((c.tc : Thread Cert.SampleSsdMemQueryIdeal.nD Cert.SampleSsdMemQueryIdeal.τ).loc Cert.SampleSsdMemQueryIdeal.main_arg1) = m ((c.tc : Thread Cert.SampleSsdMemQueryIdeal.nD Cert.SampleSsdMemQueryIdeal.τ).loc Cert.SampleSsdMemQueryIdeal.main_arg1)
      ∧ r.2.mem ((c.tc : Thread Cert.SampleSsdMemQueryIdeal.nD Cert.SampleSsdMemQueryIdeal.τ).loc Cert.SampleSsdMemQueryIdeal.main_arg2) = m ((c.tc : Thread Cert.SampleSsdMemQueryIdeal.nD Cert.SampleSsdMemQueryIdeal.τ).loc Cert.SampleSsdMemQueryIdeal.main_arg2))
      ∧ r.2.sem = fun _ => 0)

def quiescent_SampleSsdMemQueryReferenceIdeal [hSampleSsdMemQueryReferenceIdeal : Cert.SampleSsdMemQueryReferenceIdeal.Facts] : Prop :=
  ∀ (m : (ℓ : Loc Cert.SampleSsdMemQueryReferenceIdeal.nD Cert.SampleSsdMemQueryReferenceIdeal.τ Cert.SampleSsdMemQueryReferenceIdeal.sig) → Buf (Elt Ideal) ℓ) (g : Dev Cert.SampleSsdMemQueryReferenceIdeal.nD → PrngReg), Pre_SampleSsdMemQueryReferenceIdeal m →
    θ_run (Cert.SampleSsdMemQueryReferenceIdeal.defs (F := Ideal)) (onTc (τ := Cert.SampleSsdMemQueryReferenceIdeal.τ) (Cert.SampleSsdMemQueryReferenceIdeal.main (F := Ideal))) ⟨m, fun _ => 0, g⟩ (fun r => (∀ c : Dev Cert.SampleSsdMemQueryReferenceIdeal.nD,
      r.2.mem ((c.tc : Thread Cert.SampleSsdMemQueryReferenceIdeal.nD Cert.SampleSsdMemQueryReferenceIdeal.τ).loc Cert.SampleSsdMemQueryReferenceIdeal.main_arg0) = m ((c.tc : Thread Cert.SampleSsdMemQueryReferenceIdeal.nD Cert.SampleSsdMemQueryReferenceIdeal.τ).loc Cert.SampleSsdMemQueryReferenceIdeal.main_arg0)
      ∧ r.2.mem ((c.tc : Thread Cert.SampleSsdMemQueryReferenceIdeal.nD Cert.SampleSsdMemQueryReferenceIdeal.τ).loc Cert.SampleSsdMemQueryReferenceIdeal.main_arg1) = m ((c.tc : Thread Cert.SampleSsdMemQueryReferenceIdeal.nD Cert.SampleSsdMemQueryReferenceIdeal.τ).loc Cert.SampleSsdMemQueryReferenceIdeal.main_arg1)
      ∧ r.2.mem ((c.tc : Thread Cert.SampleSsdMemQueryReferenceIdeal.nD Cert.SampleSsdMemQueryReferenceIdeal.τ).loc Cert.SampleSsdMemQueryReferenceIdeal.main_arg2) = m ((c.tc : Thread Cert.SampleSsdMemQueryReferenceIdeal.nD Cert.SampleSsdMemQueryReferenceIdeal.τ).loc Cert.SampleSsdMemQueryReferenceIdeal.main_arg2))
      ∧ r.2.sem = fun _ => 0)

def quiescent_SampleQuery [hSampleQuery : Cert.SampleQuery.Facts] : Prop :=
  ∀ (m : (ℓ : Loc Cert.SampleQuery.nD Cert.SampleQuery.τ Cert.SampleQuery.sig) → Buf (Elt Bits) ℓ) (g : Dev Cert.SampleQuery.nD → PrngReg), Pre_SampleQuery m →
    θ_run (Cert.SampleQuery.defs (F := Bits)) (onTc (τ := Cert.SampleQuery.τ) (Cert.SampleQuery.main (F := Bits))) ⟨m, fun _ => 0, g⟩ (fun r => (∀ c : Dev Cert.SampleQuery.nD,
      r.2.mem ((c.tc : Thread Cert.SampleQuery.nD Cert.SampleQuery.τ).loc Cert.SampleQuery.main_arg0) = m ((c.tc : Thread Cert.SampleQuery.nD Cert.SampleQuery.τ).loc Cert.SampleQuery.main_arg0)
      ∧ r.2.mem ((c.tc : Thread Cert.SampleQuery.nD Cert.SampleQuery.τ).loc Cert.SampleQuery.main_arg1) = m ((c.tc : Thread Cert.SampleQuery.nD Cert.SampleQuery.τ).loc Cert.SampleQuery.main_arg1)
      ∧ r.2.mem ((c.tc : Thread Cert.SampleQuery.nD Cert.SampleQuery.τ).loc Cert.SampleQuery.main_arg2) = m ((c.tc : Thread Cert.SampleQuery.nD Cert.SampleQuery.τ).loc Cert.SampleQuery.main_arg2))
      ∧ r.2.sem = fun _ => 0)

def quiescent_SampleQueryIdeal [hSampleQueryIdeal : Cert.SampleQueryIdeal.Facts] : Prop :=
  ∀ (m : (ℓ : Loc Cert.SampleQueryIdeal.nD Cert.SampleQueryIdeal.τ Cert.SampleQueryIdeal.sig) → Buf (Elt Ideal) ℓ) (g : Dev Cert.SampleQueryIdeal.nD → PrngReg), Pre_SampleQueryIdeal m →
    θ_run (Cert.SampleQueryIdeal.defs (F := Ideal)) (onTc (τ := Cert.SampleQueryIdeal.τ) (Cert.SampleQueryIdeal.main (F := Ideal))) ⟨m, fun _ => 0, g⟩ (fun r => (∀ c : Dev Cert.SampleQueryIdeal.nD,
      r.2.mem ((c.tc : Thread Cert.SampleQueryIdeal.nD Cert.SampleQueryIdeal.τ).loc Cert.SampleQueryIdeal.main_arg0) = m ((c.tc : Thread Cert.SampleQueryIdeal.nD Cert.SampleQueryIdeal.τ).loc Cert.SampleQueryIdeal.main_arg0)
      ∧ r.2.mem ((c.tc : Thread Cert.SampleQueryIdeal.nD Cert.SampleQueryIdeal.τ).loc Cert.SampleQueryIdeal.main_arg1) = m ((c.tc : Thread Cert.SampleQueryIdeal.nD Cert.SampleQueryIdeal.τ).loc Cert.SampleQueryIdeal.main_arg1)
      ∧ r.2.mem ((c.tc : Thread Cert.SampleQueryIdeal.nD Cert.SampleQueryIdeal.τ).loc Cert.SampleQueryIdeal.main_arg2) = m ((c.tc : Thread Cert.SampleQueryIdeal.nD Cert.SampleQueryIdeal.τ).loc Cert.SampleQueryIdeal.main_arg2))
      ∧ r.2.sem = fun _ => 0)

def quiescent_SampleQueryReferenceIdeal [hSampleQueryReferenceIdeal : Cert.SampleQueryReferenceIdeal.Facts] : Prop :=
  ∀ (m : (ℓ : Loc Cert.SampleQueryReferenceIdeal.nD Cert.SampleQueryReferenceIdeal.τ Cert.SampleQueryReferenceIdeal.sig) → Buf (Elt Ideal) ℓ) (g : Dev Cert.SampleQueryReferenceIdeal.nD → PrngReg), Pre_SampleQueryReferenceIdeal m →
    θ_run (Cert.SampleQueryReferenceIdeal.defs (F := Ideal)) (onTc (τ := Cert.SampleQueryReferenceIdeal.τ) (Cert.SampleQueryReferenceIdeal.main (F := Ideal))) ⟨m, fun _ => 0, g⟩ (fun r => (∀ c : Dev Cert.SampleQueryReferenceIdeal.nD,
      r.2.mem ((c.tc : Thread Cert.SampleQueryReferenceIdeal.nD Cert.SampleQueryReferenceIdeal.τ).loc Cert.SampleQueryReferenceIdeal.main_arg0) = m ((c.tc : Thread Cert.SampleQueryReferenceIdeal.nD Cert.SampleQueryReferenceIdeal.τ).loc Cert.SampleQueryReferenceIdeal.main_arg0)
      ∧ r.2.mem ((c.tc : Thread Cert.SampleQueryReferenceIdeal.nD Cert.SampleQueryReferenceIdeal.τ).loc Cert.SampleQueryReferenceIdeal.main_arg1) = m ((c.tc : Thread Cert.SampleQueryReferenceIdeal.nD Cert.SampleQueryReferenceIdeal.τ).loc Cert.SampleQueryReferenceIdeal.main_arg1)
      ∧ r.2.mem ((c.tc : Thread Cert.SampleQueryReferenceIdeal.nD Cert.SampleQueryReferenceIdeal.τ).loc Cert.SampleQueryReferenceIdeal.main_arg2) = m ((c.tc : Thread Cert.SampleQueryReferenceIdeal.nD Cert.SampleQueryReferenceIdeal.τ).loc Cert.SampleQueryReferenceIdeal.main_arg2))
      ∧ r.2.sem = fun _ => 0)

def quiescent_SampleSbMemQuery [hSampleSbMemQuery : Cert.SampleSbMemQuery.Facts] : Prop :=
  ∀ (m : (ℓ : Loc Cert.SampleSbMemQuery.nD Cert.SampleSbMemQuery.τ Cert.SampleSbMemQuery.sig) → Buf (Elt Bits) ℓ) (g : Dev Cert.SampleSbMemQuery.nD → PrngReg), Pre_SampleSbMemQuery m →
    θ_run (Cert.SampleSbMemQuery.defs (F := Bits)) (onTc (τ := Cert.SampleSbMemQuery.τ) (Cert.SampleSbMemQuery.main (F := Bits))) ⟨m, fun _ => 0, g⟩ (fun r => (∀ c : Dev Cert.SampleSbMemQuery.nD,
      r.2.mem ((c.tc : Thread Cert.SampleSbMemQuery.nD Cert.SampleSbMemQuery.τ).loc Cert.SampleSbMemQuery.main_arg0) = m ((c.tc : Thread Cert.SampleSbMemQuery.nD Cert.SampleSbMemQuery.τ).loc Cert.SampleSbMemQuery.main_arg0)
      ∧ r.2.mem ((c.tc : Thread Cert.SampleSbMemQuery.nD Cert.SampleSbMemQuery.τ).loc Cert.SampleSbMemQuery.main_arg1) = m ((c.tc : Thread Cert.SampleSbMemQuery.nD Cert.SampleSbMemQuery.τ).loc Cert.SampleSbMemQuery.main_arg1)
      ∧ r.2.mem ((c.tc : Thread Cert.SampleSbMemQuery.nD Cert.SampleSbMemQuery.τ).loc Cert.SampleSbMemQuery.main_arg2) = m ((c.tc : Thread Cert.SampleSbMemQuery.nD Cert.SampleSbMemQuery.τ).loc Cert.SampleSbMemQuery.main_arg2))
      ∧ r.2.sem = fun _ => 0)

def quiescent_SampleSbMemQueryIdeal [hSampleSbMemQueryIdeal : Cert.SampleSbMemQueryIdeal.Facts] : Prop :=
  ∀ (m : (ℓ : Loc Cert.SampleSbMemQueryIdeal.nD Cert.SampleSbMemQueryIdeal.τ Cert.SampleSbMemQueryIdeal.sig) → Buf (Elt Ideal) ℓ) (g : Dev Cert.SampleSbMemQueryIdeal.nD → PrngReg), Pre_SampleSbMemQueryIdeal m →
    θ_run (Cert.SampleSbMemQueryIdeal.defs (F := Ideal)) (onTc (τ := Cert.SampleSbMemQueryIdeal.τ) (Cert.SampleSbMemQueryIdeal.main (F := Ideal))) ⟨m, fun _ => 0, g⟩ (fun r => (∀ c : Dev Cert.SampleSbMemQueryIdeal.nD,
      r.2.mem ((c.tc : Thread Cert.SampleSbMemQueryIdeal.nD Cert.SampleSbMemQueryIdeal.τ).loc Cert.SampleSbMemQueryIdeal.main_arg0) = m ((c.tc : Thread Cert.SampleSbMemQueryIdeal.nD Cert.SampleSbMemQueryIdeal.τ).loc Cert.SampleSbMemQueryIdeal.main_arg0)
      ∧ r.2.mem ((c.tc : Thread Cert.SampleSbMemQueryIdeal.nD Cert.SampleSbMemQueryIdeal.τ).loc Cert.SampleSbMemQueryIdeal.main_arg1) = m ((c.tc : Thread Cert.SampleSbMemQueryIdeal.nD Cert.SampleSbMemQueryIdeal.τ).loc Cert.SampleSbMemQueryIdeal.main_arg1)
      ∧ r.2.mem ((c.tc : Thread Cert.SampleSbMemQueryIdeal.nD Cert.SampleSbMemQueryIdeal.τ).loc Cert.SampleSbMemQueryIdeal.main_arg2) = m ((c.tc : Thread Cert.SampleSbMemQueryIdeal.nD Cert.SampleSbMemQueryIdeal.τ).loc Cert.SampleSbMemQueryIdeal.main_arg2))
      ∧ r.2.sem = fun _ => 0)

def quiescent_SampleSbMemQueryReferenceIdeal [hSampleSbMemQueryReferenceIdeal : Cert.SampleSbMemQueryReferenceIdeal.Facts] : Prop :=
  ∀ (m : (ℓ : Loc Cert.SampleSbMemQueryReferenceIdeal.nD Cert.SampleSbMemQueryReferenceIdeal.τ Cert.SampleSbMemQueryReferenceIdeal.sig) → Buf (Elt Ideal) ℓ) (g : Dev Cert.SampleSbMemQueryReferenceIdeal.nD → PrngReg), Pre_SampleSbMemQueryReferenceIdeal m →
    θ_run (Cert.SampleSbMemQueryReferenceIdeal.defs (F := Ideal)) (onTc (τ := Cert.SampleSbMemQueryReferenceIdeal.τ) (Cert.SampleSbMemQueryReferenceIdeal.main (F := Ideal))) ⟨m, fun _ => 0, g⟩ (fun r => (∀ c : Dev Cert.SampleSbMemQueryReferenceIdeal.nD,
      r.2.mem ((c.tc : Thread Cert.SampleSbMemQueryReferenceIdeal.nD Cert.SampleSbMemQueryReferenceIdeal.τ).loc Cert.SampleSbMemQueryReferenceIdeal.main_arg0) = m ((c.tc : Thread Cert.SampleSbMemQueryReferenceIdeal.nD Cert.SampleSbMemQueryReferenceIdeal.τ).loc Cert.SampleSbMemQueryReferenceIdeal.main_arg0)
      ∧ r.2.mem ((c.tc : Thread Cert.SampleSbMemQueryReferenceIdeal.nD Cert.SampleSbMemQueryReferenceIdeal.τ).loc Cert.SampleSbMemQueryReferenceIdeal.main_arg1) = m ((c.tc : Thread Cert.SampleSbMemQueryReferenceIdeal.nD Cert.SampleSbMemQueryReferenceIdeal.τ).loc Cert.SampleSbMemQueryReferenceIdeal.main_arg1)
      ∧ r.2.mem ((c.tc : Thread Cert.SampleSbMemQueryReferenceIdeal.nD Cert.SampleSbMemQueryReferenceIdeal.τ).loc Cert.SampleSbMemQueryReferenceIdeal.main_arg2) = m ((c.tc : Thread Cert.SampleSbMemQueryReferenceIdeal.nD Cert.SampleSbMemQueryReferenceIdeal.τ).loc Cert.SampleSbMemQueryReferenceIdeal.main_arg2))
      ∧ r.2.sem = fun _ => 0)

def quiescent_HalfLast [hHalfLast : Cert.HalfLast.Facts] : Prop :=
  ∀ (m : (ℓ : Loc Cert.HalfLast.nD Cert.HalfLast.τ Cert.HalfLast.sig) → Buf (Elt Bits) ℓ) (g : Dev Cert.HalfLast.nD → PrngReg), Pre_HalfLast m →
    θ_run (Cert.HalfLast.defs (F := Bits)) (onTc (τ := Cert.HalfLast.τ) (Cert.HalfLast.main (F := Bits))) ⟨m, fun _ => 0, g⟩ (fun r => (∀ c : Dev Cert.HalfLast.nD,
      r.2.mem ((c.tc : Thread Cert.HalfLast.nD Cert.HalfLast.τ).loc Cert.HalfLast.main_arg0) = m ((c.tc : Thread Cert.HalfLast.nD Cert.HalfLast.τ).loc Cert.HalfLast.main_arg0)
      ∧ r.2.mem ((c.tc : Thread Cert.HalfLast.nD Cert.HalfLast.τ).loc Cert.HalfLast.main_arg1) = m ((c.tc : Thread Cert.HalfLast.nD Cert.HalfLast.τ).loc Cert.HalfLast.main_arg1)
      ∧ r.2.mem ((c.tc : Thread Cert.HalfLast.nD Cert.HalfLast.τ).loc Cert.HalfLast.main_arg2) = m ((c.tc : Thread Cert.HalfLast.nD Cert.HalfLast.τ).loc Cert.HalfLast.main_arg2)
      ∧ r.2.mem ((c.tc : Thread Cert.HalfLast.nD Cert.HalfLast.τ).loc Cert.HalfLast.main_arg3) = m ((c.tc : Thread Cert.HalfLast.nD Cert.HalfLast.τ).loc Cert.HalfLast.main_arg3))
      ∧ r.2.sem = fun _ => 0)

def quiescent_HalfLastIdeal [hHalfLastIdeal : Cert.HalfLastIdeal.Facts] : Prop :=
  ∀ (m : (ℓ : Loc Cert.HalfLastIdeal.nD Cert.HalfLastIdeal.τ Cert.HalfLastIdeal.sig) → Buf (Elt Ideal) ℓ) (g : Dev Cert.HalfLastIdeal.nD → PrngReg), Pre_HalfLastIdeal m →
    θ_run (Cert.HalfLastIdeal.defs (F := Ideal)) (onTc (τ := Cert.HalfLastIdeal.τ) (Cert.HalfLastIdeal.main (F := Ideal))) ⟨m, fun _ => 0, g⟩ (fun r => (∀ c : Dev Cert.HalfLastIdeal.nD,
      r.2.mem ((c.tc : Thread Cert.HalfLastIdeal.nD Cert.HalfLastIdeal.τ).loc Cert.HalfLastIdeal.main_arg0) = m ((c.tc : Thread Cert.HalfLastIdeal.nD Cert.HalfLastIdeal.τ).loc Cert.HalfLastIdeal.main_arg0)
      ∧ r.2.mem ((c.tc : Thread Cert.HalfLastIdeal.nD Cert.HalfLastIdeal.τ).loc Cert.HalfLastIdeal.main_arg1) = m ((c.tc : Thread Cert.HalfLastIdeal.nD Cert.HalfLastIdeal.τ).loc Cert.HalfLastIdeal.main_arg1)
      ∧ r.2.mem ((c.tc : Thread Cert.HalfLastIdeal.nD Cert.HalfLastIdeal.τ).loc Cert.HalfLastIdeal.main_arg2) = m ((c.tc : Thread Cert.HalfLastIdeal.nD Cert.HalfLastIdeal.τ).loc Cert.HalfLastIdeal.main_arg2)
      ∧ r.2.mem ((c.tc : Thread Cert.HalfLastIdeal.nD Cert.HalfLastIdeal.τ).loc Cert.HalfLastIdeal.main_arg3) = m ((c.tc : Thread Cert.HalfLastIdeal.nD Cert.HalfLastIdeal.τ).loc Cert.HalfLastIdeal.main_arg3))
      ∧ r.2.sem = fun _ => 0)

def quiescent_HalfLastReferenceIdeal [hHalfLastReferenceIdeal : Cert.HalfLastReferenceIdeal.Facts] : Prop :=
  ∀ (m : (ℓ : Loc Cert.HalfLastReferenceIdeal.nD Cert.HalfLastReferenceIdeal.τ Cert.HalfLastReferenceIdeal.sig) → Buf (Elt Ideal) ℓ) (g : Dev Cert.HalfLastReferenceIdeal.nD → PrngReg), Pre_HalfLastReferenceIdeal m →
    θ_run (Cert.HalfLastReferenceIdeal.defs (F := Ideal)) (onTc (τ := Cert.HalfLastReferenceIdeal.τ) (Cert.HalfLastReferenceIdeal.main (F := Ideal))) ⟨m, fun _ => 0, g⟩ (fun r => (∀ c : Dev Cert.HalfLastReferenceIdeal.nD,
      r.2.mem ((c.tc : Thread Cert.HalfLastReferenceIdeal.nD Cert.HalfLastReferenceIdeal.τ).loc Cert.HalfLastReferenceIdeal.main_arg0) = m ((c.tc : Thread Cert.HalfLastReferenceIdeal.nD Cert.HalfLastReferenceIdeal.τ).loc Cert.HalfLastReferenceIdeal.main_arg0)
      ∧ r.2.mem ((c.tc : Thread Cert.HalfLastReferenceIdeal.nD Cert.HalfLastReferenceIdeal.τ).loc Cert.HalfLastReferenceIdeal.main_arg1) = m ((c.tc : Thread Cert.HalfLastReferenceIdeal.nD Cert.HalfLastReferenceIdeal.τ).loc Cert.HalfLastReferenceIdeal.main_arg1)
      ∧ r.2.mem ((c.tc : Thread Cert.HalfLastReferenceIdeal.nD Cert.HalfLastReferenceIdeal.τ).loc Cert.HalfLastReferenceIdeal.main_arg2) = m ((c.tc : Thread Cert.HalfLastReferenceIdeal.nD Cert.HalfLastReferenceIdeal.τ).loc Cert.HalfLastReferenceIdeal.main_arg2)
      ∧ r.2.mem ((c.tc : Thread Cert.HalfLastReferenceIdeal.nD Cert.HalfLastReferenceIdeal.τ).loc Cert.HalfLastReferenceIdeal.main_arg3) = m ((c.tc : Thread Cert.HalfLastReferenceIdeal.nD Cert.HalfLastReferenceIdeal.τ).loc Cert.HalfLastReferenceIdeal.main_arg3))
      ∧ r.2.sem = fun _ => 0)

def quiescent_SampleHalfLast [hSampleHalfLast : Cert.SampleHalfLast.Facts] : Prop :=
  ∀ (m : (ℓ : Loc Cert.SampleHalfLast.nD Cert.SampleHalfLast.τ Cert.SampleHalfLast.sig) → Buf (Elt Bits) ℓ) (g : Dev Cert.SampleHalfLast.nD → PrngReg), Pre_SampleHalfLast m →
    θ_run (Cert.SampleHalfLast.defs (F := Bits)) (onTc (τ := Cert.SampleHalfLast.τ) (Cert.SampleHalfLast.main (F := Bits))) ⟨m, fun _ => 0, g⟩ (fun r => (∀ c : Dev Cert.SampleHalfLast.nD,
      r.2.mem ((c.tc : Thread Cert.SampleHalfLast.nD Cert.SampleHalfLast.τ).loc Cert.SampleHalfLast.main_arg0) = m ((c.tc : Thread Cert.SampleHalfLast.nD Cert.SampleHalfLast.τ).loc Cert.SampleHalfLast.main_arg0)
      ∧ r.2.mem ((c.tc : Thread Cert.SampleHalfLast.nD Cert.SampleHalfLast.τ).loc Cert.SampleHalfLast.main_arg1) = m ((c.tc : Thread Cert.SampleHalfLast.nD Cert.SampleHalfLast.τ).loc Cert.SampleHalfLast.main_arg1)
      ∧ r.2.mem ((c.tc : Thread Cert.SampleHalfLast.nD Cert.SampleHalfLast.τ).loc Cert.SampleHalfLast.main_arg2) = m ((c.tc : Thread Cert.SampleHalfLast.nD Cert.SampleHalfLast.τ).loc Cert.SampleHalfLast.main_arg2)
      ∧ r.2.mem ((c.tc : Thread Cert.SampleHalfLast.nD Cert.SampleHalfLast.τ).loc Cert.SampleHalfLast.main_arg3) = m ((c.tc : Thread Cert.SampleHalfLast.nD Cert.SampleHalfLast.τ).loc Cert.SampleHalfLast.main_arg3))
      ∧ r.2.sem = fun _ => 0)

def quiescent_SampleHalfLastIdeal [hSampleHalfLastIdeal : Cert.SampleHalfLastIdeal.Facts] : Prop :=
  ∀ (m : (ℓ : Loc Cert.SampleHalfLastIdeal.nD Cert.SampleHalfLastIdeal.τ Cert.SampleHalfLastIdeal.sig) → Buf (Elt Ideal) ℓ) (g : Dev Cert.SampleHalfLastIdeal.nD → PrngReg), Pre_SampleHalfLastIdeal m →
    θ_run (Cert.SampleHalfLastIdeal.defs (F := Ideal)) (onTc (τ := Cert.SampleHalfLastIdeal.τ) (Cert.SampleHalfLastIdeal.main (F := Ideal))) ⟨m, fun _ => 0, g⟩ (fun r => (∀ c : Dev Cert.SampleHalfLastIdeal.nD,
      r.2.mem ((c.tc : Thread Cert.SampleHalfLastIdeal.nD Cert.SampleHalfLastIdeal.τ).loc Cert.SampleHalfLastIdeal.main_arg0) = m ((c.tc : Thread Cert.SampleHalfLastIdeal.nD Cert.SampleHalfLastIdeal.τ).loc Cert.SampleHalfLastIdeal.main_arg0)
      ∧ r.2.mem ((c.tc : Thread Cert.SampleHalfLastIdeal.nD Cert.SampleHalfLastIdeal.τ).loc Cert.SampleHalfLastIdeal.main_arg1) = m ((c.tc : Thread Cert.SampleHalfLastIdeal.nD Cert.SampleHalfLastIdeal.τ).loc Cert.SampleHalfLastIdeal.main_arg1)
      ∧ r.2.mem ((c.tc : Thread Cert.SampleHalfLastIdeal.nD Cert.SampleHalfLastIdeal.τ).loc Cert.SampleHalfLastIdeal.main_arg2) = m ((c.tc : Thread Cert.SampleHalfLastIdeal.nD Cert.SampleHalfLastIdeal.τ).loc Cert.SampleHalfLastIdeal.main_arg2)
      ∧ r.2.mem ((c.tc : Thread Cert.SampleHalfLastIdeal.nD Cert.SampleHalfLastIdeal.τ).loc Cert.SampleHalfLastIdeal.main_arg3) = m ((c.tc : Thread Cert.SampleHalfLastIdeal.nD Cert.SampleHalfLastIdeal.τ).loc Cert.SampleHalfLastIdeal.main_arg3))
      ∧ r.2.sem = fun _ => 0)

def quiescent_SampleHalfLastReferenceIdeal [hSampleHalfLastReferenceIdeal : Cert.SampleHalfLastReferenceIdeal.Facts] : Prop :=
  ∀ (m : (ℓ : Loc Cert.SampleHalfLastReferenceIdeal.nD Cert.SampleHalfLastReferenceIdeal.τ Cert.SampleHalfLastReferenceIdeal.sig) → Buf (Elt Ideal) ℓ) (g : Dev Cert.SampleHalfLastReferenceIdeal.nD → PrngReg), Pre_SampleHalfLastReferenceIdeal m →
    θ_run (Cert.SampleHalfLastReferenceIdeal.defs (F := Ideal)) (onTc (τ := Cert.SampleHalfLastReferenceIdeal.τ) (Cert.SampleHalfLastReferenceIdeal.main (F := Ideal))) ⟨m, fun _ => 0, g⟩ (fun r => (∀ c : Dev Cert.SampleHalfLastReferenceIdeal.nD,
      r.2.mem ((c.tc : Thread Cert.SampleHalfLastReferenceIdeal.nD Cert.SampleHalfLastReferenceIdeal.τ).loc Cert.SampleHalfLastReferenceIdeal.main_arg0) = m ((c.tc : Thread Cert.SampleHalfLastReferenceIdeal.nD Cert.SampleHalfLastReferenceIdeal.τ).loc Cert.SampleHalfLastReferenceIdeal.main_arg0)
      ∧ r.2.mem ((c.tc : Thread Cert.SampleHalfLastReferenceIdeal.nD Cert.SampleHalfLastReferenceIdeal.τ).loc Cert.SampleHalfLastReferenceIdeal.main_arg1) = m ((c.tc : Thread Cert.SampleHalfLastReferenceIdeal.nD Cert.SampleHalfLastReferenceIdeal.τ).loc Cert.SampleHalfLastReferenceIdeal.main_arg1)
      ∧ r.2.mem ((c.tc : Thread Cert.SampleHalfLastReferenceIdeal.nD Cert.SampleHalfLastReferenceIdeal.τ).loc Cert.SampleHalfLastReferenceIdeal.main_arg2) = m ((c.tc : Thread Cert.SampleHalfLastReferenceIdeal.nD Cert.SampleHalfLastReferenceIdeal.τ).loc Cert.SampleHalfLastReferenceIdeal.main_arg2)
      ∧ r.2.mem ((c.tc : Thread Cert.SampleHalfLastReferenceIdeal.nD Cert.SampleHalfLastReferenceIdeal.τ).loc Cert.SampleHalfLastReferenceIdeal.main_arg3) = m ((c.tc : Thread Cert.SampleHalfLastReferenceIdeal.nD Cert.SampleHalfLastReferenceIdeal.τ).loc Cert.SampleHalfLastReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sb_scale2" .f32 0x3E0293EE#32 (((11863283 / 134217728) * (Real.log 2)⁻¹ : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v38) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v0)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v21) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_Val_ValIdeal : Prop :=
  True

def algebraic_ValIdeal_ValReferenceIdeal [hValIdeal : Cert.ValIdeal.Facts] [hValReferenceIdeal : Cert.ValReferenceIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValReferenceIdeal.nD Cert.ValReferenceIdeal.τ Cert.ValReferenceIdeal.sig) → Buf (Elt Ideal) ℓ) (g' : Dev Cert.ValReferenceIdeal.nD → PrngReg), Pre_ValIdeal m →
    (∀ c : Dev Cert.ValIdeal.nD,
      m' ((c.tc : Thread Cert.ValReferenceIdeal.nD Cert.ValReferenceIdeal.τ).loc Cert.ValReferenceIdeal.main_arg0) = m ((c.tc : Thread Cert.ValIdeal.nD Cert.ValIdeal.τ).loc Cert.ValIdeal.main_arg0)
      ∧ m' ((c.tc : Thread Cert.ValReferenceIdeal.nD Cert.ValReferenceIdeal.τ).loc Cert.ValReferenceIdeal.main_arg1) = m ((c.tc : Thread Cert.ValIdeal.nD Cert.ValIdeal.τ).loc Cert.ValIdeal.main_arg1)
      ∧ m' ((c.tc : Thread Cert.ValReferenceIdeal.nD Cert.ValReferenceIdeal.τ).loc Cert.ValReferenceIdeal.main_arg2) = m ((c.tc : Thread Cert.ValIdeal.nD Cert.ValIdeal.τ).loc Cert.ValIdeal.main_arg2)) →
    ∃ (v0 : (c : Dev Cert.ValIdeal.nD) → Buf (Elt Ideal) ((c.tc : Thread Cert.ValIdeal.nD Cert.ValIdeal.τ).loc Cert.ValIdeal.main_v1)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v1) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
          ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ θ_run (Cert.ValReferenceIdeal.defs (F := Ideal)) (onTc (τ := Cert.ValReferenceIdeal.τ) (Cert.ValReferenceIdeal.main (F := Ideal))) ⟨m', fun _ => 0, g'⟩ (fun r => ∀ c : Dev Cert.ValReferenceIdeal.nD,
          r.2.mem ((c.tc : Thread Cert.ValReferenceIdeal.nD Cert.ValReferenceIdeal.τ).loc Cert.ValReferenceIdeal.main_v15) = v0 c
          ∧ r.2.mem ((c.tc : Thread Cert.ValReferenceIdeal.nD Cert.ValReferenceIdeal.τ).loc Cert.ValReferenceIdeal.main_arg0) = m' ((c.tc : Thread Cert.ValReferenceIdeal.nD Cert.ValReferenceIdeal.τ).loc Cert.ValReferenceIdeal.main_arg0)
          ∧ r.2.mem ((c.tc : Thread Cert.ValReferenceIdeal.nD Cert.ValReferenceIdeal.τ).loc Cert.ValReferenceIdeal.main_arg1) = m' ((c.tc : Thread Cert.ValReferenceIdeal.nD Cert.ValReferenceIdeal.τ).loc Cert.ValReferenceIdeal.main_arg1)
          ∧ r.2.mem ((c.tc : Thread Cert.ValReferenceIdeal.nD Cert.ValReferenceIdeal.τ).loc Cert.ValReferenceIdeal.main_arg2) = m' ((c.tc : Thread Cert.ValReferenceIdeal.nD Cert.ValReferenceIdeal.τ).loc Cert.ValReferenceIdeal.main_arg2))

def preserves_MemKey_MemKeyIdeal : Prop :=
  True

def algebraic_MemKeyIdeal_MemKeyReferenceIdeal [hMemKeyIdeal : Cert.MemKeyIdeal.Facts] [hMemKeyReferenceIdeal : Cert.MemKeyReferenceIdeal.Facts] : Prop :=
  ∀ (m : (ℓ : Loc Cert.MemKeyIdeal.nD Cert.MemKeyIdeal.τ Cert.MemKeyIdeal.sig) → Buf (Elt Ideal) ℓ) (g : Dev Cert.MemKeyIdeal.nD → PrngReg)
    (m' : (ℓ : Loc Cert.MemKeyReferenceIdeal.nD Cert.MemKeyReferenceIdeal.τ Cert.MemKeyReferenceIdeal.sig) → Buf (Elt Ideal) ℓ) (g' : Dev Cert.MemKeyReferenceIdeal.nD → PrngReg), Pre_MemKeyIdeal m →
    (∀ c : Dev Cert.MemKeyIdeal.nD,
      m' ((c.tc : Thread Cert.MemKeyReferenceIdeal.nD Cert.MemKeyReferenceIdeal.τ).loc Cert.MemKeyReferenceIdeal.main_arg0) = m ((c.tc : Thread Cert.MemKeyIdeal.nD Cert.MemKeyIdeal.τ).loc Cert.MemKeyIdeal.main_arg0)
      ∧ m' ((c.tc : Thread Cert.MemKeyReferenceIdeal.nD Cert.MemKeyReferenceIdeal.τ).loc Cert.MemKeyReferenceIdeal.main_arg1) = m ((c.tc : Thread Cert.MemKeyIdeal.nD Cert.MemKeyIdeal.τ).loc Cert.MemKeyIdeal.main_arg1)
      ∧ m' ((c.tc : Thread Cert.MemKeyReferenceIdeal.nD Cert.MemKeyReferenceIdeal.τ).loc Cert.MemKeyReferenceIdeal.main_arg2) = m ((c.tc : Thread Cert.MemKeyIdeal.nD Cert.MemKeyIdeal.τ).loc Cert.MemKeyIdeal.main_arg2)) →
    ∃ (v0 : (c : Dev Cert.MemKeyIdeal.nD) → Buf (Elt Ideal) ((c.tc : Thread Cert.MemKeyIdeal.nD Cert.MemKeyIdeal.τ).loc Cert.MemKeyIdeal.main_v1)),
      θ_run (Cert.MemKeyIdeal.defs (F := Ideal)) (onTc (τ := Cert.MemKeyIdeal.τ) (Cert.MemKeyIdeal.main (F := Ideal))) ⟨m, fun _ => 0, g⟩ (fun r => ∀ c : Dev Cert.MemKeyIdeal.nD,
          r.2.mem ((c.tc : Thread Cert.MemKeyIdeal.nD Cert.MemKeyIdeal.τ).loc Cert.MemKeyIdeal.main_v1) = v0 c
          ∧ r.2.mem ((c.tc : Thread Cert.MemKeyIdeal.nD Cert.MemKeyIdeal.τ).loc Cert.MemKeyIdeal.main_arg0) = m ((c.tc : Thread Cert.MemKeyIdeal.nD Cert.MemKeyIdeal.τ).loc Cert.MemKeyIdeal.main_arg0)
          ∧ r.2.mem ((c.tc : Thread Cert.MemKeyIdeal.nD Cert.MemKeyIdeal.τ).loc Cert.MemKeyIdeal.main_arg1) = m ((c.tc : Thread Cert.MemKeyIdeal.nD Cert.MemKeyIdeal.τ).loc Cert.MemKeyIdeal.main_arg1)
          ∧ r.2.mem ((c.tc : Thread Cert.MemKeyIdeal.nD Cert.MemKeyIdeal.τ).loc Cert.MemKeyIdeal.main_arg2) = m ((c.tc : Thread Cert.MemKeyIdeal.nD Cert.MemKeyIdeal.τ).loc Cert.MemKeyIdeal.main_arg2))
      ∧ θ_run (Cert.MemKeyReferenceIdeal.defs (F := Ideal)) (onTc (τ := Cert.MemKeyReferenceIdeal.τ) (Cert.MemKeyReferenceIdeal.main (F := Ideal))) ⟨m', fun _ => 0, g'⟩ (fun r => ∀ c : Dev Cert.MemKeyReferenceIdeal.nD,
          r.2.mem ((c.tc : Thread Cert.MemKeyReferenceIdeal.nD Cert.MemKeyReferenceIdeal.τ).loc Cert.MemKeyReferenceIdeal.main_v15) = v0 c
          ∧ r.2.mem ((c.tc : Thread Cert.MemKeyReferenceIdeal.nD Cert.MemKeyReferenceIdeal.τ).loc Cert.MemKeyReferenceIdeal.main_arg0) = m' ((c.tc : Thread Cert.MemKeyReferenceIdeal.nD Cert.MemKeyReferenceIdeal.τ).loc Cert.MemKeyReferenceIdeal.main_arg0)
          ∧ r.2.mem ((c.tc : Thread Cert.MemKeyReferenceIdeal.nD Cert.MemKeyReferenceIdeal.τ).loc Cert.MemKeyReferenceIdeal.main_arg1) = m' ((c.tc : Thread Cert.MemKeyReferenceIdeal.nD Cert.MemKeyReferenceIdeal.τ).loc Cert.MemKeyReferenceIdeal.main_arg1)
          ∧ r.2.mem ((c.tc : Thread Cert.MemKeyReferenceIdeal.nD Cert.MemKeyReferenceIdeal.τ).loc Cert.MemKeyReferenceIdeal.main_arg2) = m' ((c.tc : Thread Cert.MemKeyReferenceIdeal.nD Cert.MemKeyReferenceIdeal.τ).loc Cert.MemKeyReferenceIdeal.main_arg2))

def preserves_MemVal_MemValIdeal : Prop :=
  True

def algebraic_MemValIdeal_MemValReferenceIdeal [hMemValIdeal : Cert.MemValIdeal.Facts] [hMemValReferenceIdeal : Cert.MemValReferenceIdeal.Facts] : Prop :=
  ∀ (m : (ℓ : Loc Cert.MemValIdeal.nD Cert.MemValIdeal.τ Cert.MemValIdeal.sig) → Buf (Elt Ideal) ℓ) (g : Dev Cert.MemValIdeal.nD → PrngReg)
    (m' : (ℓ : Loc Cert.MemValReferenceIdeal.nD Cert.MemValReferenceIdeal.τ Cert.MemValReferenceIdeal.sig) → Buf (Elt Ideal) ℓ) (g' : Dev Cert.MemValReferenceIdeal.nD → PrngReg), Pre_MemValIdeal m →
    (∀ c : Dev Cert.MemValIdeal.nD,
      m' ((c.tc : Thread Cert.MemValReferenceIdeal.nD Cert.MemValReferenceIdeal.τ).loc Cert.MemValReferenceIdeal.main_arg0) = m ((c.tc : Thread Cert.MemValIdeal.nD Cert.MemValIdeal.τ).loc Cert.MemValIdeal.main_arg0)
      ∧ m' ((c.tc : Thread Cert.MemValReferenceIdeal.nD Cert.MemValReferenceIdeal.τ).loc Cert.MemValReferenceIdeal.main_arg1) = m ((c.tc : Thread Cert.MemValIdeal.nD Cert.MemValIdeal.τ).loc Cert.MemValIdeal.main_arg1)
      ∧ m' ((c.tc : Thread Cert.MemValReferenceIdeal.nD Cert.MemValReferenceIdeal.τ).loc Cert.MemValReferenceIdeal.main_arg2) = m ((c.tc : Thread Cert.MemValIdeal.nD Cert.MemValIdeal.τ).loc Cert.MemValIdeal.main_arg2)) →
    ∃ (v0 : (c : Dev Cert.MemValIdeal.nD) → Buf (Elt Ideal) ((c.tc : Thread Cert.MemValIdeal.nD Cert.MemValIdeal.τ).loc Cert.MemValIdeal.main_v1)),
      θ_run (Cert.MemValIdeal.defs (F := Ideal)) (onTc (τ := Cert.MemValIdeal.τ) (Cert.MemValIdeal.main (F := Ideal))) ⟨m, fun _ => 0, g⟩ (fun r => ∀ c : Dev Cert.MemValIdeal.nD,
          r.2.mem ((c.tc : Thread Cert.MemValIdeal.nD Cert.MemValIdeal.τ).loc Cert.MemValIdeal.main_v1) = v0 c
          ∧ r.2.mem ((c.tc : Thread Cert.MemValIdeal.nD Cert.MemValIdeal.τ).loc Cert.MemValIdeal.main_arg0) = m ((c.tc : Thread Cert.MemValIdeal.nD Cert.MemValIdeal.τ).loc Cert.MemValIdeal.main_arg0)
          ∧ r.2.mem ((c.tc : Thread Cert.MemValIdeal.nD Cert.MemValIdeal.τ).loc Cert.MemValIdeal.main_arg1) = m ((c.tc : Thread Cert.MemValIdeal.nD Cert.MemValIdeal.τ).loc Cert.MemValIdeal.main_arg1)
          ∧ r.2.mem ((c.tc : Thread Cert.MemValIdeal.nD Cert.MemValIdeal.τ).loc Cert.MemValIdeal.main_arg2) = m ((c.tc : Thread Cert.MemValIdeal.nD Cert.MemValIdeal.τ).loc Cert.MemValIdeal.main_arg2))
      ∧ θ_run (Cert.MemValReferenceIdeal.defs (F := Ideal)) (onTc (τ := Cert.MemValReferenceIdeal.τ) (Cert.MemValReferenceIdeal.main (F := Ideal))) ⟨m', fun _ => 0, g'⟩ (fun r => ∀ c : Dev Cert.MemValReferenceIdeal.nD,
          r.2.mem ((c.tc : Thread Cert.MemValReferenceIdeal.nD Cert.MemValReferenceIdeal.τ).loc Cert.MemValReferenceIdeal.main_v15) = v0 c
          ∧ r.2.mem ((c.tc : Thread Cert.MemValReferenceIdeal.nD Cert.MemValReferenceIdeal.τ).loc Cert.MemValReferenceIdeal.main_arg0) = m' ((c.tc : Thread Cert.MemValReferenceIdeal.nD Cert.MemValReferenceIdeal.τ).loc Cert.MemValReferenceIdeal.main_arg0)
          ∧ r.2.mem ((c.tc : Thread Cert.MemValReferenceIdeal.nD Cert.MemValReferenceIdeal.τ).loc Cert.MemValReferenceIdeal.main_arg1) = m' ((c.tc : Thread Cert.MemValReferenceIdeal.nD Cert.MemValReferenceIdeal.τ).loc Cert.MemValReferenceIdeal.main_arg1)
          ∧ r.2.mem ((c.tc : Thread Cert.MemValReferenceIdeal.nD Cert.MemValReferenceIdeal.τ).loc Cert.MemValReferenceIdeal.main_arg2) = m' ((c.tc : Thread Cert.MemValReferenceIdeal.nD Cert.MemValReferenceIdeal.τ).loc Cert.MemValReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v15) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_SampleKey_SampleKeyIdeal : Prop :=
  True

def algebraic_SampleKeyIdeal_SampleKeyReferenceIdeal [hSampleKeyIdeal : Cert.SampleKeyIdeal.Facts] [hSampleKeyReferenceIdeal : Cert.SampleKeyReferenceIdeal.Facts] : Prop :=
  ∀ (m : (ℓ : Loc Cert.SampleKeyIdeal.nD Cert.SampleKeyIdeal.τ Cert.SampleKeyIdeal.sig) → Buf (Elt Ideal) ℓ) (g : Dev Cert.SampleKeyIdeal.nD → PrngReg)
    (m' : (ℓ : Loc Cert.SampleKeyReferenceIdeal.nD Cert.SampleKeyReferenceIdeal.τ Cert.SampleKeyReferenceIdeal.sig) → Buf (Elt Ideal) ℓ) (g' : Dev Cert.SampleKeyReferenceIdeal.nD → PrngReg), Pre_SampleKeyIdeal m →
    (∀ c : Dev Cert.SampleKeyIdeal.nD,
      m' ((c.tc : Thread Cert.SampleKeyReferenceIdeal.nD Cert.SampleKeyReferenceIdeal.τ).loc Cert.SampleKeyReferenceIdeal.main_arg0) = m ((c.tc : Thread Cert.SampleKeyIdeal.nD Cert.SampleKeyIdeal.τ).loc Cert.SampleKeyIdeal.main_arg0)
      ∧ m' ((c.tc : Thread Cert.SampleKeyReferenceIdeal.nD Cert.SampleKeyReferenceIdeal.τ).loc Cert.SampleKeyReferenceIdeal.main_arg1) = m ((c.tc : Thread Cert.SampleKeyIdeal.nD Cert.SampleKeyIdeal.τ).loc Cert.SampleKeyIdeal.main_arg1)
      ∧ m' ((c.tc : Thread Cert.SampleKeyReferenceIdeal.nD Cert.SampleKeyReferenceIdeal.τ).loc Cert.SampleKeyReferenceIdeal.main_arg2) = m ((c.tc : Thread Cert.SampleKeyIdeal.nD Cert.SampleKeyIdeal.τ).loc Cert.SampleKeyIdeal.main_arg2)) →
    ∃ (v0 : (c : Dev Cert.SampleKeyIdeal.nD) → Buf (Elt Ideal) ((c.tc : Thread Cert.SampleKeyIdeal.nD Cert.SampleKeyIdeal.τ).loc Cert.SampleKeyIdeal.main_v1)),
      θ_run (Cert.SampleKeyIdeal.defs (F := Ideal)) (onTc (τ := Cert.SampleKeyIdeal.τ) (Cert.SampleKeyIdeal.main (F := Ideal))) ⟨m, fun _ => 0, g⟩ (fun r => ∀ c : Dev Cert.SampleKeyIdeal.nD,
          r.2.mem ((c.tc : Thread Cert.SampleKeyIdeal.nD Cert.SampleKeyIdeal.τ).loc Cert.SampleKeyIdeal.main_v1) = v0 c
          ∧ r.2.mem ((c.tc : Thread Cert.SampleKeyIdeal.nD Cert.SampleKeyIdeal.τ).loc Cert.SampleKeyIdeal.main_arg0) = m ((c.tc : Thread Cert.SampleKeyIdeal.nD Cert.SampleKeyIdeal.τ).loc Cert.SampleKeyIdeal.main_arg0)
          ∧ r.2.mem ((c.tc : Thread Cert.SampleKeyIdeal.nD Cert.SampleKeyIdeal.τ).loc Cert.SampleKeyIdeal.main_arg1) = m ((c.tc : Thread Cert.SampleKeyIdeal.nD Cert.SampleKeyIdeal.τ).loc Cert.SampleKeyIdeal.main_arg1)
          ∧ r.2.mem ((c.tc : Thread Cert.SampleKeyIdeal.nD Cert.SampleKeyIdeal.τ).loc Cert.SampleKeyIdeal.main_arg2) = m ((c.tc : Thread Cert.SampleKeyIdeal.nD Cert.SampleKeyIdeal.τ).loc Cert.SampleKeyIdeal.main_arg2))
      ∧ θ_run (Cert.SampleKeyReferenceIdeal.defs (F := Ideal)) (onTc (τ := Cert.SampleKeyReferenceIdeal.τ) (Cert.SampleKeyReferenceIdeal.main (F := Ideal))) ⟨m', fun _ => 0, g'⟩ (fun r => ∀ c : Dev Cert.SampleKeyReferenceIdeal.nD,
          r.2.mem ((c.tc : Thread Cert.SampleKeyReferenceIdeal.nD Cert.SampleKeyReferenceIdeal.τ).loc Cert.SampleKeyReferenceIdeal.main_v15) = v0 c
          ∧ r.2.mem ((c.tc : Thread Cert.SampleKeyReferenceIdeal.nD Cert.SampleKeyReferenceIdeal.τ).loc Cert.SampleKeyReferenceIdeal.main_arg0) = m' ((c.tc : Thread Cert.SampleKeyReferenceIdeal.nD Cert.SampleKeyReferenceIdeal.τ).loc Cert.SampleKeyReferenceIdeal.main_arg0)
          ∧ r.2.mem ((c.tc : Thread Cert.SampleKeyReferenceIdeal.nD Cert.SampleKeyReferenceIdeal.τ).loc Cert.SampleKeyReferenceIdeal.main_arg1) = m' ((c.tc : Thread Cert.SampleKeyReferenceIdeal.nD Cert.SampleKeyReferenceIdeal.τ).loc Cert.SampleKeyReferenceIdeal.main_arg1)
          ∧ r.2.mem ((c.tc : Thread Cert.SampleKeyReferenceIdeal.nD Cert.SampleKeyReferenceIdeal.τ).loc Cert.SampleKeyReferenceIdeal.main_arg2) = m' ((c.tc : Thread Cert.SampleKeyReferenceIdeal.nD Cert.SampleKeyReferenceIdeal.τ).loc Cert.SampleKeyReferenceIdeal.main_arg2))

def preserves_SampleVal_SampleValIdeal : Prop :=
  True

def algebraic_SampleValIdeal_SampleValReferenceIdeal [hSampleValIdeal : Cert.SampleValIdeal.Facts] [hSampleValReferenceIdeal : Cert.SampleValReferenceIdeal.Facts] : Prop :=
  ∀ (m : (ℓ : Loc Cert.SampleValIdeal.nD Cert.SampleValIdeal.τ Cert.SampleValIdeal.sig) → Buf (Elt Ideal) ℓ) (g : Dev Cert.SampleValIdeal.nD → PrngReg)
    (m' : (ℓ : Loc Cert.SampleValReferenceIdeal.nD Cert.SampleValReferenceIdeal.τ Cert.SampleValReferenceIdeal.sig) → Buf (Elt Ideal) ℓ) (g' : Dev Cert.SampleValReferenceIdeal.nD → PrngReg), Pre_SampleValIdeal m →
    (∀ c : Dev Cert.SampleValIdeal.nD,
      m' ((c.tc : Thread Cert.SampleValReferenceIdeal.nD Cert.SampleValReferenceIdeal.τ).loc Cert.SampleValReferenceIdeal.main_arg0) = m ((c.tc : Thread Cert.SampleValIdeal.nD Cert.SampleValIdeal.τ).loc Cert.SampleValIdeal.main_arg0)
      ∧ m' ((c.tc : Thread Cert.SampleValReferenceIdeal.nD Cert.SampleValReferenceIdeal.τ).loc Cert.SampleValReferenceIdeal.main_arg1) = m ((c.tc : Thread Cert.SampleValIdeal.nD Cert.SampleValIdeal.τ).loc Cert.SampleValIdeal.main_arg1)
      ∧ m' ((c.tc : Thread Cert.SampleValReferenceIdeal.nD Cert.SampleValReferenceIdeal.τ).loc Cert.SampleValReferenceIdeal.main_arg2) = m ((c.tc : Thread Cert.SampleValIdeal.nD Cert.SampleValIdeal.τ).loc Cert.SampleValIdeal.main_arg2)) →
    ∃ (v0 : (c : Dev Cert.SampleValIdeal.nD) → Buf (Elt Ideal) ((c.tc : Thread Cert.SampleValIdeal.nD Cert.SampleValIdeal.τ).loc Cert.SampleValIdeal.main_v1)),
      θ_run (Cert.SampleValIdeal.defs (F := Ideal)) (onTc (τ := Cert.SampleValIdeal.τ) (Cert.SampleValIdeal.main (F := Ideal))) ⟨m, fun _ => 0, g⟩ (fun r => ∀ c : Dev Cert.SampleValIdeal.nD,
          r.2.mem ((c.tc : Thread Cert.SampleValIdeal.nD Cert.SampleValIdeal.τ).loc Cert.SampleValIdeal.main_v1) = v0 c
          ∧ r.2.mem ((c.tc : Thread Cert.SampleValIdeal.nD Cert.SampleValIdeal.τ).loc Cert.SampleValIdeal.main_arg0) = m ((c.tc : Thread Cert.SampleValIdeal.nD Cert.SampleValIdeal.τ).loc Cert.SampleValIdeal.main_arg0)
          ∧ r.2.mem ((c.tc : Thread Cert.SampleValIdeal.nD Cert.SampleValIdeal.τ).loc Cert.SampleValIdeal.main_arg1) = m ((c.tc : Thread Cert.SampleValIdeal.nD Cert.SampleValIdeal.τ).loc Cert.SampleValIdeal.main_arg1)
          ∧ r.2.mem ((c.tc : Thread Cert.SampleValIdeal.nD Cert.SampleValIdeal.τ).loc Cert.SampleValIdeal.main_arg2) = m ((c.tc : Thread Cert.SampleValIdeal.nD Cert.SampleValIdeal.τ).loc Cert.SampleValIdeal.main_arg2))
      ∧ θ_run (Cert.SampleValReferenceIdeal.defs (F := Ideal)) (onTc (τ := Cert.SampleValReferenceIdeal.τ) (Cert.SampleValReferenceIdeal.main (F := Ideal))) ⟨m', fun _ => 0, g'⟩ (fun r => ∀ c : Dev Cert.SampleValReferenceIdeal.nD,
          r.2.mem ((c.tc : Thread Cert.SampleValReferenceIdeal.nD Cert.SampleValReferenceIdeal.τ).loc Cert.SampleValReferenceIdeal.main_v15) = v0 c
          ∧ r.2.mem ((c.tc : Thread Cert.SampleValReferenceIdeal.nD Cert.SampleValReferenceIdeal.τ).loc Cert.SampleValReferenceIdeal.main_arg0) = m' ((c.tc : Thread Cert.SampleValReferenceIdeal.nD Cert.SampleValReferenceIdeal.τ).loc Cert.SampleValReferenceIdeal.main_arg0)
          ∧ r.2.mem ((c.tc : Thread Cert.SampleValReferenceIdeal.nD Cert.SampleValReferenceIdeal.τ).loc Cert.SampleValReferenceIdeal.main_arg1) = m' ((c.tc : Thread Cert.SampleValReferenceIdeal.nD Cert.SampleValReferenceIdeal.τ).loc Cert.SampleValReferenceIdeal.main_arg1)
          ∧ r.2.mem ((c.tc : Thread Cert.SampleValReferenceIdeal.nD Cert.SampleValReferenceIdeal.τ).loc Cert.SampleValReferenceIdeal.main_arg2) = m' ((c.tc : Thread Cert.SampleValReferenceIdeal.nD Cert.SampleValReferenceIdeal.τ).loc Cert.SampleValReferenceIdeal.main_arg2))

def preserves_SampleConv_SampleConvIdeal : Prop :=
  True

def algebraic_SampleConvIdeal_SampleConvReferenceIdeal [hSampleConvIdeal : Cert.SampleConvIdeal.Facts] [hSampleConvReferenceIdeal : Cert.SampleConvReferenceIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg)
    (m' : (ℓ : Loc Cert.SampleConvReferenceIdeal.nD Cert.SampleConvReferenceIdeal.τ Cert.SampleConvReferenceIdeal.sig) → Buf (Elt Ideal) ℓ) (g' : Dev Cert.SampleConvReferenceIdeal.nD → PrngReg), Pre_SampleConvIdeal m →
    (∀ c : Dev Cert.SampleConvIdeal.nD,
      m' ((c.tc : Thread Cert.SampleConvReferenceIdeal.nD Cert.SampleConvReferenceIdeal.τ).loc Cert.SampleConvReferenceIdeal.main_arg0) = m ((c.tc : Thread Cert.SampleConvIdeal.nD Cert.SampleConvIdeal.τ).loc Cert.SampleConvIdeal.main_arg0)
      ∧ m' ((c.tc : Thread Cert.SampleConvReferenceIdeal.nD Cert.SampleConvReferenceIdeal.τ).loc Cert.SampleConvReferenceIdeal.main_arg1) = m ((c.tc : Thread Cert.SampleConvIdeal.nD Cert.SampleConvIdeal.τ).loc Cert.SampleConvIdeal.main_arg1)
      ∧ m' ((c.tc : Thread Cert.SampleConvReferenceIdeal.nD Cert.SampleConvReferenceIdeal.τ).loc Cert.SampleConvReferenceIdeal.main_arg2) = m ((c.tc : Thread Cert.SampleConvIdeal.nD Cert.SampleConvIdeal.τ).loc Cert.SampleConvIdeal.main_arg2)) →
    ∃ (v0 : (c : Dev Cert.SampleConvIdeal.nD) → Buf (Elt Ideal) ((c.tc : Thread Cert.SampleConvIdeal.nD Cert.SampleConvIdeal.τ).loc Cert.SampleConvIdeal.main_v1)),
      θ_run (Cert.SampleConvIdeal.defs (F := Ideal)) (onTc (τ := Cert.SampleConvIdeal.τ) (Cert.SampleConvIdeal.main (F := Ideal))) ⟨m, fun _ => 0, g⟩ (fun r => ∀ c : Dev Cert.SampleConvIdeal.nD,
          r.2.mem ((c.tc : Thread Cert.SampleConvIdeal.nD Cert.SampleConvIdeal.τ).loc Cert.SampleConvIdeal.main_v1) = v0 c
          ∧ r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
          ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
          ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2))
      ∧ θ_run (Cert.SampleConvReferenceIdeal.defs (F := Ideal)) (onTc (τ := Cert.SampleConvReferenceIdeal.τ) (Cert.SampleConvReferenceIdeal.main (F := Ideal))) ⟨m', fun _ => 0, g'⟩ (fun r => ∀ c : Dev Cert.SampleConvReferenceIdeal.nD,
          r.2.mem ((c.tc : Thread Cert.SampleConvReferenceIdeal.nD Cert.SampleConvReferenceIdeal.τ).loc Cert.SampleConvReferenceIdeal.main_v15) = v0 c
          ∧ r.2.mem ((c.tc : Thread Cert.SampleConvReferenceIdeal.nD Cert.SampleConvReferenceIdeal.τ).loc Cert.SampleConvReferenceIdeal.main_arg0) = m' ((c.tc : Thread Cert.SampleConvReferenceIdeal.nD Cert.SampleConvReferenceIdeal.τ).loc Cert.SampleConvReferenceIdeal.main_arg0)
          ∧ r.2.mem ((c.tc : Thread Cert.SampleConvReferenceIdeal.nD Cert.SampleConvReferenceIdeal.τ).loc Cert.SampleConvReferenceIdeal.main_arg1) = m' ((c.tc : Thread Cert.SampleConvReferenceIdeal.nD Cert.SampleConvReferenceIdeal.τ).loc Cert.SampleConvReferenceIdeal.main_arg1)
          ∧ r.2.mem ((c.tc : Thread Cert.SampleConvReferenceIdeal.nD Cert.SampleConvReferenceIdeal.τ).loc Cert.SampleConvReferenceIdeal.main_arg2) = m' ((c.tc : Thread Cert.SampleConvReferenceIdeal.nD Cert.SampleConvReferenceIdeal.τ).loc Cert.SampleConvReferenceIdeal.main_arg2))

def preserves_SampleFfn_SampleFfnIdeal : Prop :=
  True

def algebraic_SampleFfnIdeal_SampleFfnReferenceIdeal [hSampleFfnIdeal : Cert.SampleFfnIdeal.Facts] [hSampleFfnReferenceIdeal : Cert.SampleFfnReferenceIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnReferenceIdeal.nD Cert.SampleFfnReferenceIdeal.τ Cert.SampleFfnReferenceIdeal.sig) → Buf (Elt Ideal) ℓ) (g' : Dev Cert.SampleFfnReferenceIdeal.nD → PrngReg), Pre_SampleFfnIdeal m →
    (∀ c : Dev Cert.SampleFfnIdeal.nD,
      m' ((c.tc : Thread Cert.SampleFfnReferenceIdeal.nD Cert.SampleFfnReferenceIdeal.τ).loc Cert.SampleFfnReferenceIdeal.main_arg0) = m ((c.tc : Thread Cert.SampleFfnIdeal.nD Cert.SampleFfnIdeal.τ).loc Cert.SampleFfnIdeal.main_arg0)
      ∧ m' ((c.tc : Thread Cert.SampleFfnReferenceIdeal.nD Cert.SampleFfnReferenceIdeal.τ).loc Cert.SampleFfnReferenceIdeal.main_arg1) = m ((c.tc : Thread Cert.SampleFfnIdeal.nD Cert.SampleFfnIdeal.τ).loc Cert.SampleFfnIdeal.main_arg1)
      ∧ m' ((c.tc : Thread Cert.SampleFfnReferenceIdeal.nD Cert.SampleFfnReferenceIdeal.τ).loc Cert.SampleFfnReferenceIdeal.main_arg2) = m ((c.tc : Thread Cert.SampleFfnIdeal.nD Cert.SampleFfnIdeal.τ).loc Cert.SampleFfnIdeal.main_arg2)
      ∧ m' ((c.tc : Thread Cert.SampleFfnReferenceIdeal.nD Cert.SampleFfnReferenceIdeal.τ).loc Cert.SampleFfnReferenceIdeal.main_arg3) = m ((c.tc : Thread Cert.SampleFfnIdeal.nD Cert.SampleFfnIdeal.τ).loc Cert.SampleFfnIdeal.main_arg3)
      ∧ m' ((c.tc : Thread Cert.SampleFfnReferenceIdeal.nD Cert.SampleFfnReferenceIdeal.τ).loc Cert.SampleFfnReferenceIdeal.main_arg4) = m ((c.tc : Thread Cert.SampleFfnIdeal.nD Cert.SampleFfnIdeal.τ).loc Cert.SampleFfnIdeal.main_arg4)) →
    ∃ (v0 : (c : Dev Cert.SampleFfnIdeal.nD) → Buf (Elt Ideal) ((c.tc : Thread Cert.SampleFfnIdeal.nD Cert.SampleFfnIdeal.τ).loc Cert.SampleFfnIdeal.main_v2)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v2) = v0 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
          ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4))
      ∧ θ_run (Cert.SampleFfnReferenceIdeal.defs (F := Ideal)) (onTc (τ := Cert.SampleFfnReferenceIdeal.τ) (Cert.SampleFfnReferenceIdeal.main (F := Ideal))) ⟨m', fun _ => 0, g'⟩ (fun r => ∀ c : Dev Cert.SampleFfnReferenceIdeal.nD,
          r.2.mem ((c.tc : Thread Cert.SampleFfnReferenceIdeal.nD Cert.SampleFfnReferenceIdeal.τ).loc Cert.SampleFfnReferenceIdeal.main_v38) = v0 c
          ∧ r.2.mem ((c.tc : Thread Cert.SampleFfnReferenceIdeal.nD Cert.SampleFfnReferenceIdeal.τ).loc Cert.SampleFfnReferenceIdeal.main_arg0) = m' ((c.tc : Thread Cert.SampleFfnReferenceIdeal.nD Cert.SampleFfnReferenceIdeal.τ).loc Cert.SampleFfnReferenceIdeal.main_arg0)
          ∧ r.2.mem ((c.tc : Thread Cert.SampleFfnReferenceIdeal.nD Cert.SampleFfnReferenceIdeal.τ).loc Cert.SampleFfnReferenceIdeal.main_arg1) = m' ((c.tc : Thread Cert.SampleFfnReferenceIdeal.nD Cert.SampleFfnReferenceIdeal.τ).loc Cert.SampleFfnReferenceIdeal.main_arg1)
          ∧ r.2.mem ((c.tc : Thread Cert.SampleFfnReferenceIdeal.nD Cert.SampleFfnReferenceIdeal.τ).loc Cert.SampleFfnReferenceIdeal.main_arg2) = m' ((c.tc : Thread Cert.SampleFfnReferenceIdeal.nD Cert.SampleFfnReferenceIdeal.τ).loc Cert.SampleFfnReferenceIdeal.main_arg2)
          ∧ r.2.mem ((c.tc : Thread Cert.SampleFfnReferenceIdeal.nD Cert.SampleFfnReferenceIdeal.τ).loc Cert.SampleFfnReferenceIdeal.main_arg3) = m' ((c.tc : Thread Cert.SampleFfnReferenceIdeal.nD Cert.SampleFfnReferenceIdeal.τ).loc Cert.SampleFfnReferenceIdeal.main_arg3)
          ∧ r.2.mem ((c.tc : Thread Cert.SampleFfnReferenceIdeal.nD Cert.SampleFfnReferenceIdeal.τ).loc Cert.SampleFfnReferenceIdeal.main_arg4) = m' ((c.tc : Thread Cert.SampleFfnReferenceIdeal.nD Cert.SampleFfnReferenceIdeal.τ).loc Cert.SampleFfnReferenceIdeal.main_arg4))

def preserves_Half_HalfIdeal : Prop :=
  True

def algebraic_HalfIdeal_HalfReferenceIdeal [hHalfIdeal : Cert.HalfIdeal.Facts] [hHalfReferenceIdeal : Cert.HalfReferenceIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfReferenceIdeal.nD Cert.HalfReferenceIdeal.τ Cert.HalfReferenceIdeal.sig) → Buf (Elt Ideal) ℓ) (g' : Dev Cert.HalfReferenceIdeal.nD → PrngReg), Pre_HalfIdeal m →
    (∀ c : Dev Cert.HalfIdeal.nD,
      m' ((c.tc : Thread Cert.HalfReferenceIdeal.nD Cert.HalfReferenceIdeal.τ).loc Cert.HalfReferenceIdeal.main_arg0) = m ((c.tc : Thread Cert.HalfIdeal.nD Cert.HalfIdeal.τ).loc Cert.HalfIdeal.main_arg0)
      ∧ m' ((c.tc : Thread Cert.HalfReferenceIdeal.nD Cert.HalfReferenceIdeal.τ).loc Cert.HalfReferenceIdeal.main_arg1) = m ((c.tc : Thread Cert.HalfIdeal.nD Cert.HalfIdeal.τ).loc Cert.HalfIdeal.main_arg1)
      ∧ m' ((c.tc : Thread Cert.HalfReferenceIdeal.nD Cert.HalfReferenceIdeal.τ).loc Cert.HalfReferenceIdeal.main_arg2) = m ((c.tc : Thread Cert.HalfIdeal.nD Cert.HalfIdeal.τ).loc Cert.HalfIdeal.main_arg2)
      ∧ m' ((c.tc : Thread Cert.HalfReferenceIdeal.nD Cert.HalfReferenceIdeal.τ).loc Cert.HalfReferenceIdeal.main_arg3) = m ((c.tc : Thread Cert.HalfIdeal.nD Cert.HalfIdeal.τ).loc Cert.HalfIdeal.main_arg3)) →
    ∃ (v0 : (c : Dev Cert.HalfIdeal.nD) → Buf (Elt Ideal) ((c.tc : Thread Cert.HalfIdeal.nD Cert.HalfIdeal.τ).loc Cert.HalfIdeal.main_v2)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v2) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3))
      ∧ θ_run (Cert.HalfReferenceIdeal.defs (F := Ideal)) (onTc (τ := Cert.HalfReferenceIdeal.τ) (Cert.HalfReferenceIdeal.main (F := Ideal))) ⟨m', fun _ => 0, g'⟩ (fun r => ∀ c : Dev Cert.HalfReferenceIdeal.nD,
          r.2.mem ((c.tc : Thread Cert.HalfReferenceIdeal.nD Cert.HalfReferenceIdeal.τ).loc Cert.HalfReferenceIdeal.main_v25) = v0 c
          ∧ r.2.mem ((c.tc : Thread Cert.HalfReferenceIdeal.nD Cert.HalfReferenceIdeal.τ).loc Cert.HalfReferenceIdeal.main_arg0) = m' ((c.tc : Thread Cert.HalfReferenceIdeal.nD Cert.HalfReferenceIdeal.τ).loc Cert.HalfReferenceIdeal.main_arg0)
          ∧ r.2.mem ((c.tc : Thread Cert.HalfReferenceIdeal.nD Cert.HalfReferenceIdeal.τ).loc Cert.HalfReferenceIdeal.main_arg1) = m' ((c.tc : Thread Cert.HalfReferenceIdeal.nD Cert.HalfReferenceIdeal.τ).loc Cert.HalfReferenceIdeal.main_arg1)
          ∧ r.2.mem ((c.tc : Thread Cert.HalfReferenceIdeal.nD Cert.HalfReferenceIdeal.τ).loc Cert.HalfReferenceIdeal.main_arg2) = m' ((c.tc : Thread Cert.HalfReferenceIdeal.nD Cert.HalfReferenceIdeal.τ).loc Cert.HalfReferenceIdeal.main_arg2)
          ∧ r.2.mem ((c.tc : Thread Cert.HalfReferenceIdeal.nD Cert.HalfReferenceIdeal.τ).loc Cert.HalfReferenceIdeal.main_arg3) = m' ((c.tc : Thread Cert.HalfReferenceIdeal.nD Cert.HalfReferenceIdeal.τ).loc Cert.HalfReferenceIdeal.main_arg3))

def preserves_SbOut_SbOutIdeal : Prop :=
  True

def algebraic_SbOutIdeal_SbOutReferenceIdeal [hSbOutIdeal : Cert.SbOutIdeal.Facts] [hSbOutReferenceIdeal : Cert.SbOutReferenceIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutReferenceIdeal.nD Cert.SbOutReferenceIdeal.τ Cert.SbOutReferenceIdeal.sig) → Buf (Elt Ideal) ℓ) (g' : Dev Cert.SbOutReferenceIdeal.nD → PrngReg), Pre_SbOutIdeal m →
    (∀ c : Dev Cert.SbOutIdeal.nD,
      m' ((c.tc : Thread Cert.SbOutReferenceIdeal.nD Cert.SbOutReferenceIdeal.τ).loc Cert.SbOutReferenceIdeal.main_arg0) = m ((c.tc : Thread Cert.SbOutIdeal.nD Cert.SbOutIdeal.τ).loc Cert.SbOutIdeal.main_arg0)
      ∧ m' ((c.tc : Thread Cert.SbOutReferenceIdeal.nD Cert.SbOutReferenceIdeal.τ).loc Cert.SbOutReferenceIdeal.main_arg1) = m ((c.tc : Thread Cert.SbOutIdeal.nD Cert.SbOutIdeal.τ).loc Cert.SbOutIdeal.main_arg1)
      ∧ m' ((c.tc : Thread Cert.SbOutReferenceIdeal.nD Cert.SbOutReferenceIdeal.τ).loc Cert.SbOutReferenceIdeal.main_arg2) = m ((c.tc : Thread Cert.SbOutIdeal.nD Cert.SbOutIdeal.τ).loc Cert.SbOutIdeal.main_arg2)
      ∧ m' ((c.tc : Thread Cert.SbOutReferenceIdeal.nD Cert.SbOutReferenceIdeal.τ).loc Cert.SbOutReferenceIdeal.main_arg3) = m ((c.tc : Thread Cert.SbOutIdeal.nD Cert.SbOutIdeal.τ).loc Cert.SbOutIdeal.main_arg3)) →
    ∃ (v0 : (c : Dev Cert.SbOutIdeal.nD) → Buf (Elt Ideal) ((c.tc : Thread Cert.SbOutIdeal.nD Cert.SbOutIdeal.τ).loc Cert.SbOutIdeal.main_v0)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v0) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
          ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2)
          ∧ r.2.mem ((c.tc : Thread Cert.SbOutIdeal.nD Cert.SbOutIdeal.τ).loc Cert.SbOutIdeal.main_arg3) = m ((c.tc : Thread Cert.SbOutIdeal.nD Cert.SbOutIdeal.τ).loc Cert.SbOutIdeal.main_arg3))
      ∧ θ_run (Cert.SbOutReferenceIdeal.defs (F := Ideal)) (onTc (τ := Cert.SbOutReferenceIdeal.τ) (Cert.SbOutReferenceIdeal.main (F := Ideal))) ⟨m', fun _ => 0, g'⟩ (fun r => ∀ c : Dev Cert.SbOutReferenceIdeal.nD,
          r.2.mem ((c.tc : Thread Cert.SbOutReferenceIdeal.nD Cert.SbOutReferenceIdeal.τ).loc Cert.SbOutReferenceIdeal.main_v5) = v0 c
          ∧ r.2.mem ((c.tc : Thread Cert.SbOutReferenceIdeal.nD Cert.SbOutReferenceIdeal.τ).loc Cert.SbOutReferenceIdeal.main_arg0) = m' ((c.tc : Thread Cert.SbOutReferenceIdeal.nD Cert.SbOutReferenceIdeal.τ).loc Cert.SbOutReferenceIdeal.main_arg0)
          ∧ r.2.mem ((c.tc : Thread Cert.SbOutReferenceIdeal.nD Cert.SbOutReferenceIdeal.τ).loc Cert.SbOutReferenceIdeal.main_arg1) = m' ((c.tc : Thread Cert.SbOutReferenceIdeal.nD Cert.SbOutReferenceIdeal.τ).loc Cert.SbOutReferenceIdeal.main_arg1)
          ∧ r.2.mem ((c.tc : Thread Cert.SbOutReferenceIdeal.nD Cert.SbOutReferenceIdeal.τ).loc Cert.SbOutReferenceIdeal.main_arg2) = m' ((c.tc : Thread Cert.SbOutReferenceIdeal.nD Cert.SbOutReferenceIdeal.τ).loc Cert.SbOutReferenceIdeal.main_arg2)
          ∧ r.2.mem ((c.tc : Thread Cert.SbOutReferenceIdeal.nD Cert.SbOutReferenceIdeal.τ).loc Cert.SbOutReferenceIdeal.main_arg3) = m' ((c.tc : Thread Cert.SbOutReferenceIdeal.nD Cert.SbOutReferenceIdeal.τ).loc Cert.SbOutReferenceIdeal.main_arg3))

def preserves_MemKeyLast_MemKeyLastIdeal : Prop :=
  True

def algebraic_MemKeyLastIdeal_MemKeyLastReferenceIdeal [hMemKeyLastIdeal : Cert.MemKeyLastIdeal.Facts] [hMemKeyLastReferenceIdeal : Cert.MemKeyLastReferenceIdeal.Facts] : Prop :=
  ∀ (m : (ℓ : Loc Cert.MemKeyLastIdeal.nD Cert.MemKeyLastIdeal.τ Cert.MemKeyLastIdeal.sig) → Buf (Elt Ideal) ℓ) (g : Dev Cert.MemKeyLastIdeal.nD → PrngReg)
    (m' : (ℓ : Loc Cert.MemKeyLastReferenceIdeal.nD Cert.MemKeyLastReferenceIdeal.τ Cert.MemKeyLastReferenceIdeal.sig) → Buf (Elt Ideal) ℓ) (g' : Dev Cert.MemKeyLastReferenceIdeal.nD → PrngReg), Pre_MemKeyLastIdeal m →
    (∀ c : Dev Cert.MemKeyLastIdeal.nD,
      m' ((c.tc : Thread Cert.MemKeyLastReferenceIdeal.nD Cert.MemKeyLastReferenceIdeal.τ).loc Cert.MemKeyLastReferenceIdeal.main_arg0) = m ((c.tc : Thread Cert.MemKeyLastIdeal.nD Cert.MemKeyLastIdeal.τ).loc Cert.MemKeyLastIdeal.main_arg0)
      ∧ m' ((c.tc : Thread Cert.MemKeyLastReferenceIdeal.nD Cert.MemKeyLastReferenceIdeal.τ).loc Cert.MemKeyLastReferenceIdeal.main_arg1) = m ((c.tc : Thread Cert.MemKeyLastIdeal.nD Cert.MemKeyLastIdeal.τ).loc Cert.MemKeyLastIdeal.main_arg1)
      ∧ m' ((c.tc : Thread Cert.MemKeyLastReferenceIdeal.nD Cert.MemKeyLastReferenceIdeal.τ).loc Cert.MemKeyLastReferenceIdeal.main_arg2) = m ((c.tc : Thread Cert.MemKeyLastIdeal.nD Cert.MemKeyLastIdeal.τ).loc Cert.MemKeyLastIdeal.main_arg2)) →
    ∃ (v0 : (c : Dev Cert.MemKeyLastIdeal.nD) → Buf (Elt Ideal) ((c.tc : Thread Cert.MemKeyLastIdeal.nD Cert.MemKeyLastIdeal.τ).loc Cert.MemKeyLastIdeal.main_v1)),
      θ_run (Cert.MemKeyLastIdeal.defs (F := Ideal)) (onTc (τ := Cert.MemKeyLastIdeal.τ) (Cert.MemKeyLastIdeal.main (F := Ideal))) ⟨m, fun _ => 0, g⟩ (fun r => ∀ c : Dev Cert.MemKeyLastIdeal.nD,
          r.2.mem ((c.tc : Thread Cert.MemKeyLastIdeal.nD Cert.MemKeyLastIdeal.τ).loc Cert.MemKeyLastIdeal.main_v1) = v0 c
          ∧ r.2.mem ((c.tc : Thread Cert.MemKeyLastIdeal.nD Cert.MemKeyLastIdeal.τ).loc Cert.MemKeyLastIdeal.main_arg0) = m ((c.tc : Thread Cert.MemKeyLastIdeal.nD Cert.MemKeyLastIdeal.τ).loc Cert.MemKeyLastIdeal.main_arg0)
          ∧ r.2.mem ((c.tc : Thread Cert.MemKeyLastIdeal.nD Cert.MemKeyLastIdeal.τ).loc Cert.MemKeyLastIdeal.main_arg1) = m ((c.tc : Thread Cert.MemKeyLastIdeal.nD Cert.MemKeyLastIdeal.τ).loc Cert.MemKeyLastIdeal.main_arg1)
          ∧ r.2.mem ((c.tc : Thread Cert.MemKeyLastIdeal.nD Cert.MemKeyLastIdeal.τ).loc Cert.MemKeyLastIdeal.main_arg2) = m ((c.tc : Thread Cert.MemKeyLastIdeal.nD Cert.MemKeyLastIdeal.τ).loc Cert.MemKeyLastIdeal.main_arg2))
      ∧ θ_run (Cert.MemKeyLastReferenceIdeal.defs (F := Ideal)) (onTc (τ := Cert.MemKeyLastReferenceIdeal.τ) (Cert.MemKeyLastReferenceIdeal.main (F := Ideal))) ⟨m', fun _ => 0, g'⟩ (fun r => ∀ c : Dev Cert.MemKeyLastReferenceIdeal.nD,
          r.2.mem ((c.tc : Thread Cert.MemKeyLastReferenceIdeal.nD Cert.MemKeyLastReferenceIdeal.τ).loc Cert.MemKeyLastReferenceIdeal.main_v15) = v0 c
          ∧ r.2.mem ((c.tc : Thread Cert.MemKeyLastReferenceIdeal.nD Cert.MemKeyLastReferenceIdeal.τ).loc Cert.MemKeyLastReferenceIdeal.main_arg0) = m' ((c.tc : Thread Cert.MemKeyLastReferenceIdeal.nD Cert.MemKeyLastReferenceIdeal.τ).loc Cert.MemKeyLastReferenceIdeal.main_arg0)
          ∧ r.2.mem ((c.tc : Thread Cert.MemKeyLastReferenceIdeal.nD Cert.MemKeyLastReferenceIdeal.τ).loc Cert.MemKeyLastReferenceIdeal.main_arg1) = m' ((c.tc : Thread Cert.MemKeyLastReferenceIdeal.nD Cert.MemKeyLastReferenceIdeal.τ).loc Cert.MemKeyLastReferenceIdeal.main_arg1)
          ∧ r.2.mem ((c.tc : Thread Cert.MemKeyLastReferenceIdeal.nD Cert.MemKeyLastReferenceIdeal.τ).loc Cert.MemKeyLastReferenceIdeal.main_arg2) = m' ((c.tc : Thread Cert.MemKeyLastReferenceIdeal.nD Cert.MemKeyLastReferenceIdeal.τ).loc Cert.MemKeyLastReferenceIdeal.main_arg2))

def preserves_MemValLast_MemValLastIdeal : Prop :=
  True

def algebraic_MemValLastIdeal_MemValLastReferenceIdeal [hMemValLastIdeal : Cert.MemValLastIdeal.Facts] [hMemValLastReferenceIdeal : Cert.MemValLastReferenceIdeal.Facts] : Prop :=
  ∀ (m : (ℓ : Loc Cert.MemValLastIdeal.nD Cert.MemValLastIdeal.τ Cert.MemValLastIdeal.sig) → Buf (Elt Ideal) ℓ) (g : Dev Cert.MemValLastIdeal.nD → PrngReg)
    (m' : (ℓ : Loc Cert.MemValLastReferenceIdeal.nD Cert.MemValLastReferenceIdeal.τ Cert.MemValLastReferenceIdeal.sig) → Buf (Elt Ideal) ℓ) (g' : Dev Cert.MemValLastReferenceIdeal.nD → PrngReg), Pre_MemValLastIdeal m →
    (∀ c : Dev Cert.MemValLastIdeal.nD,
      m' ((c.tc : Thread Cert.MemValLastReferenceIdeal.nD Cert.MemValLastReferenceIdeal.τ).loc Cert.MemValLastReferenceIdeal.main_arg0) = m ((c.tc : Thread Cert.MemValLastIdeal.nD Cert.MemValLastIdeal.τ).loc Cert.MemValLastIdeal.main_arg0)
      ∧ m' ((c.tc : Thread Cert.MemValLastReferenceIdeal.nD Cert.MemValLastReferenceIdeal.τ).loc Cert.MemValLastReferenceIdeal.main_arg1) = m ((c.tc : Thread Cert.MemValLastIdeal.nD Cert.MemValLastIdeal.τ).loc Cert.MemValLastIdeal.main_arg1)
      ∧ m' ((c.tc : Thread Cert.MemValLastReferenceIdeal.nD Cert.MemValLastReferenceIdeal.τ).loc Cert.MemValLastReferenceIdeal.main_arg2) = m ((c.tc : Thread Cert.MemValLastIdeal.nD Cert.MemValLastIdeal.τ).loc Cert.MemValLastIdeal.main_arg2)) →
    ∃ (v0 : (c : Dev Cert.MemValLastIdeal.nD) → Buf (Elt Ideal) ((c.tc : Thread Cert.MemValLastIdeal.nD Cert.MemValLastIdeal.τ).loc Cert.MemValLastIdeal.main_v1)),
      θ_run (Cert.MemValLastIdeal.defs (F := Ideal)) (onTc (τ := Cert.MemValLastIdeal.τ) (Cert.MemValLastIdeal.main (F := Ideal))) ⟨m, fun _ => 0, g⟩ (fun r => ∀ c : Dev Cert.MemValLastIdeal.nD,
          r.2.mem ((c.tc : Thread Cert.MemValLastIdeal.nD Cert.MemValLastIdeal.τ).loc Cert.MemValLastIdeal.main_v1) = v0 c
          ∧ r.2.mem ((c.tc : Thread Cert.MemValLastIdeal.nD Cert.MemValLastIdeal.τ).loc Cert.MemValLastIdeal.main_arg0) = m ((c.tc : Thread Cert.MemValLastIdeal.nD Cert.MemValLastIdeal.τ).loc Cert.MemValLastIdeal.main_arg0)
          ∧ r.2.mem ((c.tc : Thread Cert.MemValLastIdeal.nD Cert.MemValLastIdeal.τ).loc Cert.MemValLastIdeal.main_arg1) = m ((c.tc : Thread Cert.MemValLastIdeal.nD Cert.MemValLastIdeal.τ).loc Cert.MemValLastIdeal.main_arg1)
          ∧ r.2.mem ((c.tc : Thread Cert.MemValLastIdeal.nD Cert.MemValLastIdeal.τ).loc Cert.MemValLastIdeal.main_arg2) = m ((c.tc : Thread Cert.MemValLastIdeal.nD Cert.MemValLastIdeal.τ).loc Cert.MemValLastIdeal.main_arg2))
      ∧ θ_run (Cert.MemValLastReferenceIdeal.defs (F := Ideal)) (onTc (τ := Cert.MemValLastReferenceIdeal.τ) (Cert.MemValLastReferenceIdeal.main (F := Ideal))) ⟨m', fun _ => 0, g'⟩ (fun r => ∀ c : Dev Cert.MemValLastReferenceIdeal.nD,
          r.2.mem ((c.tc : Thread Cert.MemValLastReferenceIdeal.nD Cert.MemValLastReferenceIdeal.τ).loc Cert.MemValLastReferenceIdeal.main_v15) = v0 c
          ∧ r.2.mem ((c.tc : Thread Cert.MemValLastReferenceIdeal.nD Cert.MemValLastReferenceIdeal.τ).loc Cert.MemValLastReferenceIdeal.main_arg0) = m' ((c.tc : Thread Cert.MemValLastReferenceIdeal.nD Cert.MemValLastReferenceIdeal.τ).loc Cert.MemValLastReferenceIdeal.main_arg0)
          ∧ r.2.mem ((c.tc : Thread Cert.MemValLastReferenceIdeal.nD Cert.MemValLastReferenceIdeal.τ).loc Cert.MemValLastReferenceIdeal.main_arg1) = m' ((c.tc : Thread Cert.MemValLastReferenceIdeal.nD Cert.MemValLastReferenceIdeal.τ).loc Cert.MemValLastReferenceIdeal.main_arg1)
          ∧ r.2.mem ((c.tc : Thread Cert.MemValLastReferenceIdeal.nD Cert.MemValLastReferenceIdeal.τ).loc Cert.MemValLastReferenceIdeal.main_arg2) = m' ((c.tc : Thread Cert.MemValLastReferenceIdeal.nD Cert.MemValLastReferenceIdeal.τ).loc Cert.MemValLastReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v15) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)) →
    ∃ (v0 : (c : Dev Cert.StepIdeal.nD) → Buf (Elt Ideal) ((c.tc : Thread Cert.StepIdeal.nD Cert.StepIdeal.τ).loc Cert.StepIdeal.main_v2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v2) = v0 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v15) = v0 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2))

def preserves_SsdMemQuery_SsdMemQueryIdeal : Prop :=
  True

def algebraic_SsdMemQueryIdeal_SsdMemQueryReferenceIdeal [hSsdMemQueryIdeal : Cert.SsdMemQueryIdeal.Facts] [hSsdMemQueryReferenceIdeal : Cert.SsdMemQueryReferenceIdeal.Facts] : Prop :=
  ∀ (m : (ℓ : Loc Cert.SsdMemQueryIdeal.nD Cert.SsdMemQueryIdeal.τ Cert.SsdMemQueryIdeal.sig) → Buf (Elt Ideal) ℓ) (g : Dev Cert.SsdMemQueryIdeal.nD → PrngReg)
    (m' : (ℓ : Loc Cert.SsdMemQueryReferenceIdeal.nD Cert.SsdMemQueryReferenceIdeal.τ Cert.SsdMemQueryReferenceIdeal.sig) → Buf (Elt Ideal) ℓ) (g' : Dev Cert.SsdMemQueryReferenceIdeal.nD → PrngReg), Pre_SsdMemQueryIdeal m →
    (∀ c : Dev Cert.SsdMemQueryIdeal.nD,
      m' ((c.tc : Thread Cert.SsdMemQueryReferenceIdeal.nD Cert.SsdMemQueryReferenceIdeal.τ).loc Cert.SsdMemQueryReferenceIdeal.main_arg0) = m ((c.tc : Thread Cert.SsdMemQueryIdeal.nD Cert.SsdMemQueryIdeal.τ).loc Cert.SsdMemQueryIdeal.main_arg0)
      ∧ m' ((c.tc : Thread Cert.SsdMemQueryReferenceIdeal.nD Cert.SsdMemQueryReferenceIdeal.τ).loc Cert.SsdMemQueryReferenceIdeal.main_arg1) = m ((c.tc : Thread Cert.SsdMemQueryIdeal.nD Cert.SsdMemQueryIdeal.τ).loc Cert.SsdMemQueryIdeal.main_arg1)
      ∧ m' ((c.tc : Thread Cert.SsdMemQueryReferenceIdeal.nD Cert.SsdMemQueryReferenceIdeal.τ).loc Cert.SsdMemQueryReferenceIdeal.main_arg2) = m ((c.tc : Thread Cert.SsdMemQueryIdeal.nD Cert.SsdMemQueryIdeal.τ).loc Cert.SsdMemQueryIdeal.main_arg2)) →
    ∃ (v0 : (c : Dev Cert.SsdMemQueryIdeal.nD) → Buf (Elt Ideal) ((c.tc : Thread Cert.SsdMemQueryIdeal.nD Cert.SsdMemQueryIdeal.τ).loc Cert.SsdMemQueryIdeal.main_v2)),
      θ_run (Cert.SsdMemQueryIdeal.defs (F := Ideal)) (onTc (τ := Cert.SsdMemQueryIdeal.τ) (Cert.SsdMemQueryIdeal.main (F := Ideal))) ⟨m, fun _ => 0, g⟩ (fun r => ∀ c : Dev Cert.SsdMemQueryIdeal.nD,
          r.2.mem ((c.tc : Thread Cert.SsdMemQueryIdeal.nD Cert.SsdMemQueryIdeal.τ).loc Cert.SsdMemQueryIdeal.main_v2) = v0 c
          ∧ r.2.mem ((c.tc : Thread Cert.SsdMemQueryIdeal.nD Cert.SsdMemQueryIdeal.τ).loc Cert.SsdMemQueryIdeal.main_arg0) = m ((c.tc : Thread Cert.SsdMemQueryIdeal.nD Cert.SsdMemQueryIdeal.τ).loc Cert.SsdMemQueryIdeal.main_arg0)
          ∧ r.2.mem ((c.tc : Thread Cert.SsdMemQueryIdeal.nD Cert.SsdMemQueryIdeal.τ).loc Cert.SsdMemQueryIdeal.main_arg1) = m ((c.tc : Thread Cert.SsdMemQueryIdeal.nD Cert.SsdMemQueryIdeal.τ).loc Cert.SsdMemQueryIdeal.main_arg1)
          ∧ r.2.mem ((c.tc : Thread Cert.SsdMemQueryIdeal.nD Cert.SsdMemQueryIdeal.τ).loc Cert.SsdMemQueryIdeal.main_arg2) = m ((c.tc : Thread Cert.SsdMemQueryIdeal.nD Cert.SsdMemQueryIdeal.τ).loc Cert.SsdMemQueryIdeal.main_arg2))
      ∧ θ_run (Cert.SsdMemQueryReferenceIdeal.defs (F := Ideal)) (onTc (τ := Cert.SsdMemQueryReferenceIdeal.τ) (Cert.SsdMemQueryReferenceIdeal.main (F := Ideal))) ⟨m', fun _ => 0, g'⟩ (fun r => ∀ c : Dev Cert.SsdMemQueryReferenceIdeal.nD,
          r.2.mem ((c.tc : Thread Cert.SsdMemQueryReferenceIdeal.nD Cert.SsdMemQueryReferenceIdeal.τ).loc Cert.SsdMemQueryReferenceIdeal.main_v16) = v0 c
          ∧ r.2.mem ((c.tc : Thread Cert.SsdMemQueryReferenceIdeal.nD Cert.SsdMemQueryReferenceIdeal.τ).loc Cert.SsdMemQueryReferenceIdeal.main_arg0) = m' ((c.tc : Thread Cert.SsdMemQueryReferenceIdeal.nD Cert.SsdMemQueryReferenceIdeal.τ).loc Cert.SsdMemQueryReferenceIdeal.main_arg0)
          ∧ r.2.mem ((c.tc : Thread Cert.SsdMemQueryReferenceIdeal.nD Cert.SsdMemQueryReferenceIdeal.τ).loc Cert.SsdMemQueryReferenceIdeal.main_arg1) = m' ((c.tc : Thread Cert.SsdMemQueryReferenceIdeal.nD Cert.SsdMemQueryReferenceIdeal.τ).loc Cert.SsdMemQueryReferenceIdeal.main_arg1)
          ∧ r.2.mem ((c.tc : Thread Cert.SsdMemQueryReferenceIdeal.nD Cert.SsdMemQueryReferenceIdeal.τ).loc Cert.SsdMemQueryReferenceIdeal.main_arg2) = m' ((c.tc : Thread Cert.SsdMemQueryReferenceIdeal.nD Cert.SsdMemQueryReferenceIdeal.τ).loc Cert.SsdMemQueryReferenceIdeal.main_arg2))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v16) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def preserves_SbMemQuery_SbMemQueryIdeal : Prop :=
  True

def algebraic_SbMemQueryIdeal_SbMemQueryReferenceIdeal [hSbMemQueryIdeal : Cert.SbMemQueryIdeal.Facts] [hSbMemQueryReferenceIdeal : Cert.SbMemQueryReferenceIdeal.Facts] : Prop :=
  ∀ (m : (ℓ : Loc Cert.SbMemQueryIdeal.nD Cert.SbMemQueryIdeal.τ Cert.SbMemQueryIdeal.sig) → Buf (Elt Ideal) ℓ) (g : Dev Cert.SbMemQueryIdeal.nD → PrngReg)
    (m' : (ℓ : Loc Cert.SbMemQueryReferenceIdeal.nD Cert.SbMemQueryReferenceIdeal.τ Cert.SbMemQueryReferenceIdeal.sig) → Buf (Elt Ideal) ℓ) (g' : Dev Cert.SbMemQueryReferenceIdeal.nD → PrngReg), Pre_SbMemQueryIdeal m →
    (∀ c : Dev Cert.SbMemQueryIdeal.nD,
      m' ((c.tc : Thread Cert.SbMemQueryReferenceIdeal.nD Cert.SbMemQueryReferenceIdeal.τ).loc Cert.SbMemQueryReferenceIdeal.main_arg0) = m ((c.tc : Thread Cert.SbMemQueryIdeal.nD Cert.SbMemQueryIdeal.τ).loc Cert.SbMemQueryIdeal.main_arg0)
      ∧ m' ((c.tc : Thread Cert.SbMemQueryReferenceIdeal.nD Cert.SbMemQueryReferenceIdeal.τ).loc Cert.SbMemQueryReferenceIdeal.main_arg1) = m ((c.tc : Thread Cert.SbMemQueryIdeal.nD Cert.SbMemQueryIdeal.τ).loc Cert.SbMemQueryIdeal.main_arg1)
      ∧ m' ((c.tc : Thread Cert.SbMemQueryReferenceIdeal.nD Cert.SbMemQueryReferenceIdeal.τ).loc Cert.SbMemQueryReferenceIdeal.main_arg2) = m ((c.tc : Thread Cert.SbMemQueryIdeal.nD Cert.SbMemQueryIdeal.τ).loc Cert.SbMemQueryIdeal.main_arg2)) →
    ∃ (v0 : (c : Dev Cert.SbMemQueryIdeal.nD) → Buf (Elt Ideal) ((c.tc : Thread Cert.SbMemQueryIdeal.nD Cert.SbMemQueryIdeal.τ).loc Cert.SbMemQueryIdeal.main_v1)),
      θ_run (Cert.SbMemQueryIdeal.defs (F := Ideal)) (onTc (τ := Cert.SbMemQueryIdeal.τ) (Cert.SbMemQueryIdeal.main (F := Ideal))) ⟨m, fun _ => 0, g⟩ (fun r => ∀ c : Dev Cert.SbMemQueryIdeal.nD,
          r.2.mem ((c.tc : Thread Cert.SbMemQueryIdeal.nD Cert.SbMemQueryIdeal.τ).loc Cert.SbMemQueryIdeal.main_v1) = v0 c
          ∧ r.2.mem ((c.tc : Thread Cert.SbMemQueryIdeal.nD Cert.SbMemQueryIdeal.τ).loc Cert.SbMemQueryIdeal.main_arg0) = m ((c.tc : Thread Cert.SbMemQueryIdeal.nD Cert.SbMemQueryIdeal.τ).loc Cert.SbMemQueryIdeal.main_arg0)
          ∧ r.2.mem ((c.tc : Thread Cert.SbMemQueryIdeal.nD Cert.SbMemQueryIdeal.τ).loc Cert.SbMemQueryIdeal.main_arg1) = m ((c.tc : Thread Cert.SbMemQueryIdeal.nD Cert.SbMemQueryIdeal.τ).loc Cert.SbMemQueryIdeal.main_arg1)
          ∧ r.2.mem ((c.tc : Thread Cert.SbMemQueryIdeal.nD Cert.SbMemQueryIdeal.τ).loc Cert.SbMemQueryIdeal.main_arg2) = m ((c.tc : Thread Cert.SbMemQueryIdeal.nD Cert.SbMemQueryIdeal.τ).loc Cert.SbMemQueryIdeal.main_arg2))
      ∧ θ_run (Cert.SbMemQueryReferenceIdeal.defs (F := Ideal)) (onTc (τ := Cert.SbMemQueryReferenceIdeal.τ) (Cert.SbMemQueryReferenceIdeal.main (F := Ideal))) ⟨m', fun _ => 0, g'⟩ (fun r => ∀ c : Dev Cert.SbMemQueryReferenceIdeal.nD,
          r.2.mem ((c.tc : Thread Cert.SbMemQueryReferenceIdeal.nD Cert.SbMemQueryReferenceIdeal.τ).loc Cert.SbMemQueryReferenceIdeal.main_v16) = v0 c
          ∧ r.2.mem ((c.tc : Thread Cert.SbMemQueryReferenceIdeal.nD Cert.SbMemQueryReferenceIdeal.τ).loc Cert.SbMemQueryReferenceIdeal.main_arg0) = m' ((c.tc : Thread Cert.SbMemQueryReferenceIdeal.nD Cert.SbMemQueryReferenceIdeal.τ).loc Cert.SbMemQueryReferenceIdeal.main_arg0)
          ∧ r.2.mem ((c.tc : Thread Cert.SbMemQueryReferenceIdeal.nD Cert.SbMemQueryReferenceIdeal.τ).loc Cert.SbMemQueryReferenceIdeal.main_arg1) = m' ((c.tc : Thread Cert.SbMemQueryReferenceIdeal.nD Cert.SbMemQueryReferenceIdeal.τ).loc Cert.SbMemQueryReferenceIdeal.main_arg1)
          ∧ r.2.mem ((c.tc : Thread Cert.SbMemQueryReferenceIdeal.nD Cert.SbMemQueryReferenceIdeal.τ).loc Cert.SbMemQueryReferenceIdeal.main_arg2) = m' ((c.tc : Thread Cert.SbMemQueryReferenceIdeal.nD Cert.SbMemQueryReferenceIdeal.τ).loc Cert.SbMemQueryReferenceIdeal.main_arg2))

def preserves_SampleOut_SampleOutIdeal : Prop :=
  True

def algebraic_SampleOutIdeal_SampleOutReferenceIdeal [hSampleOutIdeal : Cert.SampleOutIdeal.Facts] [hSampleOutReferenceIdeal : Cert.SampleOutReferenceIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg)
    (m' : (ℓ : Loc Cert.SampleOutReferenceIdeal.nD Cert.SampleOutReferenceIdeal.τ Cert.SampleOutReferenceIdeal.sig) → Buf (Elt Ideal) ℓ) (g' : Dev Cert.SampleOutReferenceIdeal.nD → PrngReg), Pre_SampleOutIdeal m →
    (∀ c : Dev Cert.SampleOutIdeal.nD,
      m' ((c.tc : Thread Cert.SampleOutReferenceIdeal.nD Cert.SampleOutReferenceIdeal.τ).loc Cert.SampleOutReferenceIdeal.main_arg0) = m ((c.tc : Thread Cert.SampleOutIdeal.nD Cert.SampleOutIdeal.τ).loc Cert.SampleOutIdeal.main_arg0)
      ∧ m' ((c.tc : Thread Cert.SampleOutReferenceIdeal.nD Cert.SampleOutReferenceIdeal.τ).loc Cert.SampleOutReferenceIdeal.main_arg1) = m ((c.tc : Thread Cert.SampleOutIdeal.nD Cert.SampleOutIdeal.τ).loc Cert.SampleOutIdeal.main_arg1)
      ∧ m' ((c.tc : Thread Cert.SampleOutReferenceIdeal.nD Cert.SampleOutReferenceIdeal.τ).loc Cert.SampleOutReferenceIdeal.main_arg2) = m ((c.tc : Thread Cert.SampleOutIdeal.nD Cert.SampleOutIdeal.τ).loc Cert.SampleOutIdeal.main_arg2)
      ∧ m' ((c.tc : Thread Cert.SampleOutReferenceIdeal.nD Cert.SampleOutReferenceIdeal.τ).loc Cert.SampleOutReferenceIdeal.main_arg3) = m ((c.tc : Thread Cert.SampleOutIdeal.nD Cert.SampleOutIdeal.τ).loc Cert.SampleOutIdeal.main_arg3)) →
    ∃ (v0 : (c : Dev Cert.SampleOutIdeal.nD) → Buf (Elt Ideal) ((c.tc : Thread Cert.SampleOutIdeal.nD Cert.SampleOutIdeal.τ).loc Cert.SampleOutIdeal.main_v0)),
      θ_run (Cert.SampleOutIdeal.defs (F := Ideal)) (onTc (τ := Cert.SampleOutIdeal.τ) (Cert.SampleOutIdeal.main (F := Ideal))) ⟨m, fun _ => 0, g⟩ (fun r => ∀ c : Dev Cert.SampleOutIdeal.nD,
          r.2.mem ((c.tc : Thread Cert.SampleOutIdeal.nD Cert.SampleOutIdeal.τ).loc Cert.SampleOutIdeal.main_v0) = v0 c
          ∧ r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
          ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
          ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
          ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3))
      ∧ θ_run (Cert.SampleOutReferenceIdeal.defs (F := Ideal)) (onTc (τ := Cert.SampleOutReferenceIdeal.τ) (Cert.SampleOutReferenceIdeal.main (F := Ideal))) ⟨m', fun _ => 0, g'⟩ (fun r => ∀ c : Dev Cert.SampleOutReferenceIdeal.nD,
          r.2.mem ((c.tc : Thread Cert.SampleOutReferenceIdeal.nD Cert.SampleOutReferenceIdeal.τ).loc Cert.SampleOutReferenceIdeal.main_v5) = v0 c
          ∧ r.2.mem ((c.tc : Thread Cert.SampleOutReferenceIdeal.nD Cert.SampleOutReferenceIdeal.τ).loc Cert.SampleOutReferenceIdeal.main_arg0) = m' ((c.tc : Thread Cert.SampleOutReferenceIdeal.nD Cert.SampleOutReferenceIdeal.τ).loc Cert.SampleOutReferenceIdeal.main_arg0)
          ∧ r.2.mem ((c.tc : Thread Cert.SampleOutReferenceIdeal.nD Cert.SampleOutReferenceIdeal.τ).loc Cert.SampleOutReferenceIdeal.main_arg1) = m' ((c.tc : Thread Cert.SampleOutReferenceIdeal.nD Cert.SampleOutReferenceIdeal.τ).loc Cert.SampleOutReferenceIdeal.main_arg1)
          ∧ r.2.mem ((c.tc : Thread Cert.SampleOutReferenceIdeal.nD Cert.SampleOutReferenceIdeal.τ).loc Cert.SampleOutReferenceIdeal.main_arg2) = m' ((c.tc : Thread Cert.SampleOutReferenceIdeal.nD Cert.SampleOutReferenceIdeal.τ).loc Cert.SampleOutReferenceIdeal.main_arg2)
          ∧ r.2.mem ((c.tc : Thread Cert.SampleOutReferenceIdeal.nD Cert.SampleOutReferenceIdeal.τ).loc Cert.SampleOutReferenceIdeal.main_arg3) = m' ((c.tc : Thread Cert.SampleOutReferenceIdeal.nD Cert.SampleOutReferenceIdeal.τ).loc Cert.SampleOutReferenceIdeal.main_arg3))

def preserves_SampleSbOut_SampleSbOutIdeal : Prop :=
  True

def algebraic_SampleSbOutIdeal_SampleSbOutReferenceIdeal [hSampleSbOutIdeal : Cert.SampleSbOutIdeal.Facts] [hSampleSbOutReferenceIdeal : Cert.SampleSbOutReferenceIdeal.Facts] : Prop :=
  ∀ (m : (ℓ : Loc Cert.SampleSbOutIdeal.nD Cert.SampleSbOutIdeal.τ Cert.SampleSbOutIdeal.sig) → Buf (Elt Ideal) ℓ) (g : Dev Cert.SampleSbOutIdeal.nD → PrngReg)
    (m' : (ℓ : Loc Cert.SampleSbOutReferenceIdeal.nD Cert.SampleSbOutReferenceIdeal.τ Cert.SampleSbOutReferenceIdeal.sig) → Buf (Elt Ideal) ℓ) (g' : Dev Cert.SampleSbOutReferenceIdeal.nD → PrngReg), Pre_SampleSbOutIdeal m →
    (∀ c : Dev Cert.SampleSbOutIdeal.nD,
      m' ((c.tc : Thread Cert.SampleSbOutReferenceIdeal.nD Cert.SampleSbOutReferenceIdeal.τ).loc Cert.SampleSbOutReferenceIdeal.main_arg0) = m ((c.tc : Thread Cert.SampleSbOutIdeal.nD Cert.SampleSbOutIdeal.τ).loc Cert.SampleSbOutIdeal.main_arg0)
      ∧ m' ((c.tc : Thread Cert.SampleSbOutReferenceIdeal.nD Cert.SampleSbOutReferenceIdeal.τ).loc Cert.SampleSbOutReferenceIdeal.main_arg1) = m ((c.tc : Thread Cert.SampleSbOutIdeal.nD Cert.SampleSbOutIdeal.τ).loc Cert.SampleSbOutIdeal.main_arg1)
      ∧ m' ((c.tc : Thread Cert.SampleSbOutReferenceIdeal.nD Cert.SampleSbOutReferenceIdeal.τ).loc Cert.SampleSbOutReferenceIdeal.main_arg2) = m ((c.tc : Thread Cert.SampleSbOutIdeal.nD Cert.SampleSbOutIdeal.τ).loc Cert.SampleSbOutIdeal.main_arg2)
      ∧ m' ((c.tc : Thread Cert.SampleSbOutReferenceIdeal.nD Cert.SampleSbOutReferenceIdeal.τ).loc Cert.SampleSbOutReferenceIdeal.main_arg3) = m ((c.tc : Thread Cert.SampleSbOutIdeal.nD Cert.SampleSbOutIdeal.τ).loc Cert.SampleSbOutIdeal.main_arg3)) →
    ∃ (v0 : (c : Dev Cert.SampleSbOutIdeal.nD) → Buf (Elt Ideal) ((c.tc : Thread Cert.SampleSbOutIdeal.nD Cert.SampleSbOutIdeal.τ).loc Cert.SampleSbOutIdeal.main_v0)),
      θ_run (Cert.SampleSbOutIdeal.defs (F := Ideal)) (onTc (τ := Cert.SampleSbOutIdeal.τ) (Cert.SampleSbOutIdeal.main (F := Ideal))) ⟨m, fun _ => 0, g⟩ (fun r => ∀ c : Dev Cert.SampleSbOutIdeal.nD,
          r.2.mem ((c.tc : Thread Cert.SampleSbOutIdeal.nD Cert.SampleSbOutIdeal.τ).loc Cert.SampleSbOutIdeal.main_v0) = v0 c
          ∧ r.2.mem ((c.tc : Thread Cert.SampleSbOutIdeal.nD Cert.SampleSbOutIdeal.τ).loc Cert.SampleSbOutIdeal.main_arg0) = m ((c.tc : Thread Cert.SampleSbOutIdeal.nD Cert.SampleSbOutIdeal.τ).loc Cert.SampleSbOutIdeal.main_arg0)
          ∧ r.2.mem ((c.tc : Thread Cert.SampleSbOutIdeal.nD Cert.SampleSbOutIdeal.τ).loc Cert.SampleSbOutIdeal.main_arg1) = m ((c.tc : Thread Cert.SampleSbOutIdeal.nD Cert.SampleSbOutIdeal.τ).loc Cert.SampleSbOutIdeal.main_arg1)
          ∧ r.2.mem ((c.tc : Thread Cert.SampleSbOutIdeal.nD Cert.SampleSbOutIdeal.τ).loc Cert.SampleSbOutIdeal.main_arg2) = m ((c.tc : Thread Cert.SampleSbOutIdeal.nD Cert.SampleSbOutIdeal.τ).loc Cert.SampleSbOutIdeal.main_arg2)
          ∧ r.2.mem ((c.tc : Thread Cert.SampleSbOutIdeal.nD Cert.SampleSbOutIdeal.τ).loc Cert.SampleSbOutIdeal.main_arg3) = m ((c.tc : Thread Cert.SampleSbOutIdeal.nD Cert.SampleSbOutIdeal.τ).loc Cert.SampleSbOutIdeal.main_arg3))
      ∧ θ_run (Cert.SampleSbOutReferenceIdeal.defs (F := Ideal)) (onTc (τ := Cert.SampleSbOutReferenceIdeal.τ) (Cert.SampleSbOutReferenceIdeal.main (F := Ideal))) ⟨m', fun _ => 0, g'⟩ (fun r => ∀ c : Dev Cert.SampleSbOutReferenceIdeal.nD,
          r.2.mem ((c.tc : Thread Cert.SampleSbOutReferenceIdeal.nD Cert.SampleSbOutReferenceIdeal.τ).loc Cert.SampleSbOutReferenceIdeal.main_v5) = v0 c
          ∧ r.2.mem ((c.tc : Thread Cert.SampleSbOutReferenceIdeal.nD Cert.SampleSbOutReferenceIdeal.τ).loc Cert.SampleSbOutReferenceIdeal.main_arg0) = m' ((c.tc : Thread Cert.SampleSbOutReferenceIdeal.nD Cert.SampleSbOutReferenceIdeal.τ).loc Cert.SampleSbOutReferenceIdeal.main_arg0)
          ∧ r.2.mem ((c.tc : Thread Cert.SampleSbOutReferenceIdeal.nD Cert.SampleSbOutReferenceIdeal.τ).loc Cert.SampleSbOutReferenceIdeal.main_arg1) = m' ((c.tc : Thread Cert.SampleSbOutReferenceIdeal.nD Cert.SampleSbOutReferenceIdeal.τ).loc Cert.SampleSbOutReferenceIdeal.main_arg1)
          ∧ r.2.mem ((c.tc : Thread Cert.SampleSbOutReferenceIdeal.nD Cert.SampleSbOutReferenceIdeal.τ).loc Cert.SampleSbOutReferenceIdeal.main_arg2) = m' ((c.tc : Thread Cert.SampleSbOutReferenceIdeal.nD Cert.SampleSbOutReferenceIdeal.τ).loc Cert.SampleSbOutReferenceIdeal.main_arg2)
          ∧ r.2.mem ((c.tc : Thread Cert.SampleSbOutReferenceIdeal.nD Cert.SampleSbOutReferenceIdeal.τ).loc Cert.SampleSbOutReferenceIdeal.main_arg3) = m' ((c.tc : Thread Cert.SampleSbOutReferenceIdeal.nD Cert.SampleSbOutReferenceIdeal.τ).loc Cert.SampleSbOutReferenceIdeal.main_arg3))

def preserves_SampleHalf_SampleHalfIdeal : Prop :=
  True

def algebraic_SampleHalfIdeal_SampleHalfReferenceIdeal [hSampleHalfIdeal : Cert.SampleHalfIdeal.Facts] [hSampleHalfReferenceIdeal : Cert.SampleHalfReferenceIdeal.Facts] : Prop :=
  ∀ (m : (ℓ : Loc Cert.SampleHalfIdeal.nD Cert.SampleHalfIdeal.τ Cert.SampleHalfIdeal.sig) → Buf (Elt Ideal) ℓ) (g : Dev Cert.SampleHalfIdeal.nD → PrngReg)
    (m' : (ℓ : Loc Cert.SampleHalfReferenceIdeal.nD Cert.SampleHalfReferenceIdeal.τ Cert.SampleHalfReferenceIdeal.sig) → Buf (Elt Ideal) ℓ) (g' : Dev Cert.SampleHalfReferenceIdeal.nD → PrngReg), Pre_SampleHalfIdeal m →
    (∀ c : Dev Cert.SampleHalfIdeal.nD,
      m' ((c.tc : Thread Cert.SampleHalfReferenceIdeal.nD Cert.SampleHalfReferenceIdeal.τ).loc Cert.SampleHalfReferenceIdeal.main_arg0) = m ((c.tc : Thread Cert.SampleHalfIdeal.nD Cert.SampleHalfIdeal.τ).loc Cert.SampleHalfIdeal.main_arg0)
      ∧ m' ((c.tc : Thread Cert.SampleHalfReferenceIdeal.nD Cert.SampleHalfReferenceIdeal.τ).loc Cert.SampleHalfReferenceIdeal.main_arg1) = m ((c.tc : Thread Cert.SampleHalfIdeal.nD Cert.SampleHalfIdeal.τ).loc Cert.SampleHalfIdeal.main_arg1)
      ∧ m' ((c.tc : Thread Cert.SampleHalfReferenceIdeal.nD Cert.SampleHalfReferenceIdeal.τ).loc Cert.SampleHalfReferenceIdeal.main_arg2) = m ((c.tc : Thread Cert.SampleHalfIdeal.nD Cert.SampleHalfIdeal.τ).loc Cert.SampleHalfIdeal.main_arg2)
      ∧ m' ((c.tc : Thread Cert.SampleHalfReferenceIdeal.nD Cert.SampleHalfReferenceIdeal.τ).loc Cert.SampleHalfReferenceIdeal.main_arg3) = m ((c.tc : Thread Cert.SampleHalfIdeal.nD Cert.SampleHalfIdeal.τ).loc Cert.SampleHalfIdeal.main_arg3)) →
    ∃ (v0 : (c : Dev Cert.SampleHalfIdeal.nD) → Buf (Elt Ideal) ((c.tc : Thread Cert.SampleHalfIdeal.nD Cert.SampleHalfIdeal.τ).loc Cert.SampleHalfIdeal.main_v2)),
      θ_run (Cert.SampleHalfIdeal.defs (F := Ideal)) (onTc (τ := Cert.SampleHalfIdeal.τ) (Cert.SampleHalfIdeal.main (F := Ideal))) ⟨m, fun _ => 0, g⟩ (fun r => ∀ c : Dev Cert.SampleHalfIdeal.nD,
          r.2.mem ((c.tc : Thread Cert.SampleHalfIdeal.nD Cert.SampleHalfIdeal.τ).loc Cert.SampleHalfIdeal.main_v2) = v0 c
          ∧ r.2.mem ((c.tc : Thread Cert.SampleHalfIdeal.nD Cert.SampleHalfIdeal.τ).loc Cert.SampleHalfIdeal.main_arg0) = m ((c.tc : Thread Cert.SampleHalfIdeal.nD Cert.SampleHalfIdeal.τ).loc Cert.SampleHalfIdeal.main_arg0)
          ∧ r.2.mem ((c.tc : Thread Cert.SampleHalfIdeal.nD Cert.SampleHalfIdeal.τ).loc Cert.SampleHalfIdeal.main_arg1) = m ((c.tc : Thread Cert.SampleHalfIdeal.nD Cert.SampleHalfIdeal.τ).loc Cert.SampleHalfIdeal.main_arg1)
          ∧ r.2.mem ((c.tc : Thread Cert.SampleHalfIdeal.nD Cert.SampleHalfIdeal.τ).loc Cert.SampleHalfIdeal.main_arg2) = m ((c.tc : Thread Cert.SampleHalfIdeal.nD Cert.SampleHalfIdeal.τ).loc Cert.SampleHalfIdeal.main_arg2)
          ∧ r.2.mem ((c.tc : Thread Cert.SampleHalfIdeal.nD Cert.SampleHalfIdeal.τ).loc Cert.SampleHalfIdeal.main_arg3) = m ((c.tc : Thread Cert.SampleHalfIdeal.nD Cert.SampleHalfIdeal.τ).loc Cert.SampleHalfIdeal.main_arg3))
      ∧ θ_run (Cert.SampleHalfReferenceIdeal.defs (F := Ideal)) (onTc (τ := Cert.SampleHalfReferenceIdeal.τ) (Cert.SampleHalfReferenceIdeal.main (F := Ideal))) ⟨m', fun _ => 0, g'⟩ (fun r => ∀ c : Dev Cert.SampleHalfReferenceIdeal.nD,
          r.2.mem ((c.tc : Thread Cert.SampleHalfReferenceIdeal.nD Cert.SampleHalfReferenceIdeal.τ).loc Cert.SampleHalfReferenceIdeal.main_v25) = v0 c
          ∧ r.2.mem ((c.tc : Thread Cert.SampleHalfReferenceIdeal.nD Cert.SampleHalfReferenceIdeal.τ).loc Cert.SampleHalfReferenceIdeal.main_arg0) = m' ((c.tc : Thread Cert.SampleHalfReferenceIdeal.nD Cert.SampleHalfReferenceIdeal.τ).loc Cert.SampleHalfReferenceIdeal.main_arg0)
          ∧ r.2.mem ((c.tc : Thread Cert.SampleHalfReferenceIdeal.nD Cert.SampleHalfReferenceIdeal.τ).loc Cert.SampleHalfReferenceIdeal.main_arg1) = m' ((c.tc : Thread Cert.SampleHalfReferenceIdeal.nD Cert.SampleHalfReferenceIdeal.τ).loc Cert.SampleHalfReferenceIdeal.main_arg1)
          ∧ r.2.mem ((c.tc : Thread Cert.SampleHalfReferenceIdeal.nD Cert.SampleHalfReferenceIdeal.τ).loc Cert.SampleHalfReferenceIdeal.main_arg2) = m' ((c.tc : Thread Cert.SampleHalfReferenceIdeal.nD Cert.SampleHalfReferenceIdeal.τ).loc Cert.SampleHalfReferenceIdeal.main_arg2)
          ∧ r.2.mem ((c.tc : Thread Cert.SampleHalfReferenceIdeal.nD Cert.SampleHalfReferenceIdeal.τ).loc Cert.SampleHalfReferenceIdeal.main_arg3) = m' ((c.tc : Thread Cert.SampleHalfReferenceIdeal.nD Cert.SampleHalfReferenceIdeal.τ).loc Cert.SampleHalfReferenceIdeal.main_arg3))

def preserves_SampleGate_SampleGateIdeal : Prop :=
  True

def algebraic_SampleGateIdeal_SampleGateReferenceIdeal [hSampleGateIdeal : Cert.SampleGateIdeal.Facts] [hSampleGateReferenceIdeal : Cert.SampleGateReferenceIdeal.Facts] : Prop :=
  ∀ (m : (ℓ : Loc Cert.SampleGateIdeal.nD Cert.SampleGateIdeal.τ Cert.SampleGateIdeal.sig) → Buf (Elt Ideal) ℓ) (g : Dev Cert.SampleGateIdeal.nD → PrngReg)
    (m' : (ℓ : Loc Cert.SampleGateReferenceIdeal.nD Cert.SampleGateReferenceIdeal.τ Cert.SampleGateReferenceIdeal.sig) → Buf (Elt Ideal) ℓ) (g' : Dev Cert.SampleGateReferenceIdeal.nD → PrngReg), Pre_SampleGateIdeal m →
    (∀ c : Dev Cert.SampleGateIdeal.nD,
      m' ((c.tc : Thread Cert.SampleGateReferenceIdeal.nD Cert.SampleGateReferenceIdeal.τ).loc Cert.SampleGateReferenceIdeal.main_arg0) = m ((c.tc : Thread Cert.SampleGateIdeal.nD Cert.SampleGateIdeal.τ).loc Cert.SampleGateIdeal.main_arg0)
      ∧ m' ((c.tc : Thread Cert.SampleGateReferenceIdeal.nD Cert.SampleGateReferenceIdeal.τ).loc Cert.SampleGateReferenceIdeal.main_arg1) = m ((c.tc : Thread Cert.SampleGateIdeal.nD Cert.SampleGateIdeal.τ).loc Cert.SampleGateIdeal.main_arg1)
      ∧ m' ((c.tc : Thread Cert.SampleGateReferenceIdeal.nD Cert.SampleGateReferenceIdeal.τ).loc Cert.SampleGateReferenceIdeal.main_arg2) = m ((c.tc : Thread Cert.SampleGateIdeal.nD Cert.SampleGateIdeal.τ).loc Cert.SampleGateIdeal.main_arg2)) →
    ∃ (v0 : (c : Dev Cert.SampleGateIdeal.nD) → Buf (Elt Ideal) ((c.tc : Thread Cert.SampleGateIdeal.nD Cert.SampleGateIdeal.τ).loc Cert.SampleGateIdeal.main_v1)),
      θ_run (Cert.SampleGateIdeal.defs (F := Ideal)) (onTc (τ := Cert.SampleGateIdeal.τ) (Cert.SampleGateIdeal.main (F := Ideal))) ⟨m, fun _ => 0, g⟩ (fun r => ∀ c : Dev Cert.SampleGateIdeal.nD,
          r.2.mem ((c.tc : Thread Cert.SampleGateIdeal.nD Cert.SampleGateIdeal.τ).loc Cert.SampleGateIdeal.main_v1) = v0 c
          ∧ r.2.mem ((c.tc : Thread Cert.SampleGateIdeal.nD Cert.SampleGateIdeal.τ).loc Cert.SampleGateIdeal.main_arg0) = m ((c.tc : Thread Cert.SampleGateIdeal.nD Cert.SampleGateIdeal.τ).loc Cert.SampleGateIdeal.main_arg0)
          ∧ r.2.mem ((c.tc : Thread Cert.SampleGateIdeal.nD Cert.SampleGateIdeal.τ).loc Cert.SampleGateIdeal.main_arg1) = m ((c.tc : Thread Cert.SampleGateIdeal.nD Cert.SampleGateIdeal.τ).loc Cert.SampleGateIdeal.main_arg1)
          ∧ r.2.mem ((c.tc : Thread Cert.SampleGateIdeal.nD Cert.SampleGateIdeal.τ).loc Cert.SampleGateIdeal.main_arg2) = m ((c.tc : Thread Cert.SampleGateIdeal.nD Cert.SampleGateIdeal.τ).loc Cert.SampleGateIdeal.main_arg2))
      ∧ θ_run (Cert.SampleGateReferenceIdeal.defs (F := Ideal)) (onTc (τ := Cert.SampleGateReferenceIdeal.τ) (Cert.SampleGateReferenceIdeal.main (F := Ideal))) ⟨m', fun _ => 0, g'⟩ (fun r => ∀ c : Dev Cert.SampleGateReferenceIdeal.nD,
          r.2.mem ((c.tc : Thread Cert.SampleGateReferenceIdeal.nD Cert.SampleGateReferenceIdeal.τ).loc Cert.SampleGateReferenceIdeal.main_v15) = v0 c
          ∧ r.2.mem ((c.tc : Thread Cert.SampleGateReferenceIdeal.nD Cert.SampleGateReferenceIdeal.τ).loc Cert.SampleGateReferenceIdeal.main_arg0) = m' ((c.tc : Thread Cert.SampleGateReferenceIdeal.nD Cert.SampleGateReferenceIdeal.τ).loc Cert.SampleGateReferenceIdeal.main_arg0)
          ∧ r.2.mem ((c.tc : Thread Cert.SampleGateReferenceIdeal.nD Cert.SampleGateReferenceIdeal.τ).loc Cert.SampleGateReferenceIdeal.main_arg1) = m' ((c.tc : Thread Cert.SampleGateReferenceIdeal.nD Cert.SampleGateReferenceIdeal.τ).loc Cert.SampleGateReferenceIdeal.main_arg1)
          ∧ r.2.mem ((c.tc : Thread Cert.SampleGateReferenceIdeal.nD Cert.SampleGateReferenceIdeal.τ).loc Cert.SampleGateReferenceIdeal.main_arg2) = m' ((c.tc : Thread Cert.SampleGateReferenceIdeal.nD Cert.SampleGateReferenceIdeal.τ).loc Cert.SampleGateReferenceIdeal.main_arg2))

def preserves_SampleStep_SampleStepIdeal : Prop :=
  True

def algebraic_SampleStepIdeal_SampleStepReferenceIdeal [hSampleStepIdeal : Cert.SampleStepIdeal.Facts] [hSampleStepReferenceIdeal : Cert.SampleStepReferenceIdeal.Facts] : Prop :=
  ∀ (m : (ℓ : Loc Cert.SampleStepIdeal.nD Cert.SampleStepIdeal.τ Cert.SampleStepIdeal.sig) → Buf (Elt Ideal) ℓ) (g : Dev Cert.SampleStepIdeal.nD → PrngReg)
    (m' : (ℓ : Loc Cert.SampleStepReferenceIdeal.nD Cert.SampleStepReferenceIdeal.τ Cert.SampleStepReferenceIdeal.sig) → Buf (Elt Ideal) ℓ) (g' : Dev Cert.SampleStepReferenceIdeal.nD → PrngReg), Pre_SampleStepIdeal m →
    (∀ c : Dev Cert.SampleStepIdeal.nD,
      m' ((c.tc : Thread Cert.SampleStepReferenceIdeal.nD Cert.SampleStepReferenceIdeal.τ).loc Cert.SampleStepReferenceIdeal.main_arg0) = m ((c.tc : Thread Cert.SampleStepIdeal.nD Cert.SampleStepIdeal.τ).loc Cert.SampleStepIdeal.main_arg0)
      ∧ m' ((c.tc : Thread Cert.SampleStepReferenceIdeal.nD Cert.SampleStepReferenceIdeal.τ).loc Cert.SampleStepReferenceIdeal.main_arg1) = m ((c.tc : Thread Cert.SampleStepIdeal.nD Cert.SampleStepIdeal.τ).loc Cert.SampleStepIdeal.main_arg1)
      ∧ m' ((c.tc : Thread Cert.SampleStepReferenceIdeal.nD Cert.SampleStepReferenceIdeal.τ).loc Cert.SampleStepReferenceIdeal.main_arg2) = m ((c.tc : Thread Cert.SampleStepIdeal.nD Cert.SampleStepIdeal.τ).loc Cert.SampleStepIdeal.main_arg2)) →
    ∃ (v0 : (c : Dev Cert.SampleStepIdeal.nD) → Buf (Elt Ideal) ((c.tc : Thread Cert.SampleStepIdeal.nD Cert.SampleStepIdeal.τ).loc Cert.SampleStepIdeal.main_v2)),
      θ_run (Cert.SampleStepIdeal.defs (F := Ideal)) (onTc (τ := Cert.SampleStepIdeal.τ) (Cert.SampleStepIdeal.main (F := Ideal))) ⟨m, fun _ => 0, g⟩ (fun r => ∀ c : Dev Cert.SampleStepIdeal.nD,
          r.2.mem ((c.tc : Thread Cert.SampleStepIdeal.nD Cert.SampleStepIdeal.τ).loc Cert.SampleStepIdeal.main_v2) = v0 c
          ∧ r.2.mem ((c.tc : Thread Cert.SampleStepIdeal.nD Cert.SampleStepIdeal.τ).loc Cert.SampleStepIdeal.main_arg0) = m ((c.tc : Thread Cert.SampleStepIdeal.nD Cert.SampleStepIdeal.τ).loc Cert.SampleStepIdeal.main_arg0)
          ∧ r.2.mem ((c.tc : Thread Cert.SampleStepIdeal.nD Cert.SampleStepIdeal.τ).loc Cert.SampleStepIdeal.main_arg1) = m ((c.tc : Thread Cert.SampleStepIdeal.nD Cert.SampleStepIdeal.τ).loc Cert.SampleStepIdeal.main_arg1)
          ∧ r.2.mem ((c.tc : Thread Cert.SampleStepIdeal.nD Cert.SampleStepIdeal.τ).loc Cert.SampleStepIdeal.main_arg2) = m ((c.tc : Thread Cert.SampleStepIdeal.nD Cert.SampleStepIdeal.τ).loc Cert.SampleStepIdeal.main_arg2))
      ∧ θ_run (Cert.SampleStepReferenceIdeal.defs (F := Ideal)) (onTc (τ := Cert.SampleStepReferenceIdeal.τ) (Cert.SampleStepReferenceIdeal.main (F := Ideal))) ⟨m', fun _ => 0, g'⟩ (fun r => ∀ c : Dev Cert.SampleStepReferenceIdeal.nD,
          r.2.mem ((c.tc : Thread Cert.SampleStepReferenceIdeal.nD Cert.SampleStepReferenceIdeal.τ).loc Cert.SampleStepReferenceIdeal.main_v15) = v0 c
          ∧ r.2.mem ((c.tc : Thread Cert.SampleStepReferenceIdeal.nD Cert.SampleStepReferenceIdeal.τ).loc Cert.SampleStepReferenceIdeal.main_arg0) = m' ((c.tc : Thread Cert.SampleStepReferenceIdeal.nD Cert.SampleStepReferenceIdeal.τ).loc Cert.SampleStepReferenceIdeal.main_arg0)
          ∧ r.2.mem ((c.tc : Thread Cert.SampleStepReferenceIdeal.nD Cert.SampleStepReferenceIdeal.τ).loc Cert.SampleStepReferenceIdeal.main_arg1) = m' ((c.tc : Thread Cert.SampleStepReferenceIdeal.nD Cert.SampleStepReferenceIdeal.τ).loc Cert.SampleStepReferenceIdeal.main_arg1)
          ∧ r.2.mem ((c.tc : Thread Cert.SampleStepReferenceIdeal.nD Cert.SampleStepReferenceIdeal.τ).loc Cert.SampleStepReferenceIdeal.main_arg2) = m' ((c.tc : Thread Cert.SampleStepReferenceIdeal.nD Cert.SampleStepReferenceIdeal.τ).loc Cert.SampleStepReferenceIdeal.main_arg2))

def preserves_SampleSsdMemQuery_SampleSsdMemQueryIdeal : Prop :=
  True

def algebraic_SampleSsdMemQueryIdeal_SampleSsdMemQueryReferenceIdeal [hSampleSsdMemQueryIdeal : Cert.SampleSsdMemQueryIdeal.Facts] [hSampleSsdMemQueryReferenceIdeal : Cert.SampleSsdMemQueryReferenceIdeal.Facts] : Prop :=
  ∀ (m : (ℓ : Loc Cert.SampleSsdMemQueryIdeal.nD Cert.SampleSsdMemQueryIdeal.τ Cert.SampleSsdMemQueryIdeal.sig) → Buf (Elt Ideal) ℓ) (g : Dev Cert.SampleSsdMemQueryIdeal.nD → PrngReg)
    (m' : (ℓ : Loc Cert.SampleSsdMemQueryReferenceIdeal.nD Cert.SampleSsdMemQueryReferenceIdeal.τ Cert.SampleSsdMemQueryReferenceIdeal.sig) → Buf (Elt Ideal) ℓ) (g' : Dev Cert.SampleSsdMemQueryReferenceIdeal.nD → PrngReg), Pre_SampleSsdMemQueryIdeal m →
    (∀ c : Dev Cert.SampleSsdMemQueryIdeal.nD,
      m' ((c.tc : Thread Cert.SampleSsdMemQueryReferenceIdeal.nD Cert.SampleSsdMemQueryReferenceIdeal.τ).loc Cert.SampleSsdMemQueryReferenceIdeal.main_arg0) = m ((c.tc : Thread Cert.SampleSsdMemQueryIdeal.nD Cert.SampleSsdMemQueryIdeal.τ).loc Cert.SampleSsdMemQueryIdeal.main_arg0)
      ∧ m' ((c.tc : Thread Cert.SampleSsdMemQueryReferenceIdeal.nD Cert.SampleSsdMemQueryReferenceIdeal.τ).loc Cert.SampleSsdMemQueryReferenceIdeal.main_arg1) = m ((c.tc : Thread Cert.SampleSsdMemQueryIdeal.nD Cert.SampleSsdMemQueryIdeal.τ).loc Cert.SampleSsdMemQueryIdeal.main_arg1)
      ∧ m' ((c.tc : Thread Cert.SampleSsdMemQueryReferenceIdeal.nD Cert.SampleSsdMemQueryReferenceIdeal.τ).loc Cert.SampleSsdMemQueryReferenceIdeal.main_arg2) = m ((c.tc : Thread Cert.SampleSsdMemQueryIdeal.nD Cert.SampleSsdMemQueryIdeal.τ).loc Cert.SampleSsdMemQueryIdeal.main_arg2)) →
    ∃ (v0 : (c : Dev Cert.SampleSsdMemQueryIdeal.nD) → Buf (Elt Ideal) ((c.tc : Thread Cert.SampleSsdMemQueryIdeal.nD Cert.SampleSsdMemQueryIdeal.τ).loc Cert.SampleSsdMemQueryIdeal.main_v2)),
      θ_run (Cert.SampleSsdMemQueryIdeal.defs (F := Ideal)) (onTc (τ := Cert.SampleSsdMemQueryIdeal.τ) (Cert.SampleSsdMemQueryIdeal.main (F := Ideal))) ⟨m, fun _ => 0, g⟩ (fun r => ∀ c : Dev Cert.SampleSsdMemQueryIdeal.nD,
          r.2.mem ((c.tc : Thread Cert.SampleSsdMemQueryIdeal.nD Cert.SampleSsdMemQueryIdeal.τ).loc Cert.SampleSsdMemQueryIdeal.main_v2) = v0 c
          ∧ r.2.mem ((c.tc : Thread Cert.SampleSsdMemQueryIdeal.nD Cert.SampleSsdMemQueryIdeal.τ).loc Cert.SampleSsdMemQueryIdeal.main_arg0) = m ((c.tc : Thread Cert.SampleSsdMemQueryIdeal.nD Cert.SampleSsdMemQueryIdeal.τ).loc Cert.SampleSsdMemQueryIdeal.main_arg0)
          ∧ r.2.mem ((c.tc : Thread Cert.SampleSsdMemQueryIdeal.nD Cert.SampleSsdMemQueryIdeal.τ).loc Cert.SampleSsdMemQueryIdeal.main_arg1) = m ((c.tc : Thread Cert.SampleSsdMemQueryIdeal.nD Cert.SampleSsdMemQueryIdeal.τ).loc Cert.SampleSsdMemQueryIdeal.main_arg1)
          ∧ r.2.mem ((c.tc : Thread Cert.SampleSsdMemQueryIdeal.nD Cert.SampleSsdMemQueryIdeal.τ).loc Cert.SampleSsdMemQueryIdeal.main_arg2) = m ((c.tc : Thread Cert.SampleSsdMemQueryIdeal.nD Cert.SampleSsdMemQueryIdeal.τ).loc Cert.SampleSsdMemQueryIdeal.main_arg2))
      ∧ θ_run (Cert.SampleSsdMemQueryReferenceIdeal.defs (F := Ideal)) (onTc (τ := Cert.SampleSsdMemQueryReferenceIdeal.τ) (Cert.SampleSsdMemQueryReferenceIdeal.main (F := Ideal))) ⟨m', fun _ => 0, g'⟩ (fun r => ∀ c : Dev Cert.SampleSsdMemQueryReferenceIdeal.nD,
          r.2.mem ((c.tc : Thread Cert.SampleSsdMemQueryReferenceIdeal.nD Cert.SampleSsdMemQueryReferenceIdeal.τ).loc Cert.SampleSsdMemQueryReferenceIdeal.main_v16) = v0 c
          ∧ r.2.mem ((c.tc : Thread Cert.SampleSsdMemQueryReferenceIdeal.nD Cert.SampleSsdMemQueryReferenceIdeal.τ).loc Cert.SampleSsdMemQueryReferenceIdeal.main_arg0) = m' ((c.tc : Thread Cert.SampleSsdMemQueryReferenceIdeal.nD Cert.SampleSsdMemQueryReferenceIdeal.τ).loc Cert.SampleSsdMemQueryReferenceIdeal.main_arg0)
          ∧ r.2.mem ((c.tc : Thread Cert.SampleSsdMemQueryReferenceIdeal.nD Cert.SampleSsdMemQueryReferenceIdeal.τ).loc Cert.SampleSsdMemQueryReferenceIdeal.main_arg1) = m' ((c.tc : Thread Cert.SampleSsdMemQueryReferenceIdeal.nD Cert.SampleSsdMemQueryReferenceIdeal.τ).loc Cert.SampleSsdMemQueryReferenceIdeal.main_arg1)
          ∧ r.2.mem ((c.tc : Thread Cert.SampleSsdMemQueryReferenceIdeal.nD Cert.SampleSsdMemQueryReferenceIdeal.τ).loc Cert.SampleSsdMemQueryReferenceIdeal.main_arg2) = m' ((c.tc : Thread Cert.SampleSsdMemQueryReferenceIdeal.nD Cert.SampleSsdMemQueryReferenceIdeal.τ).loc Cert.SampleSsdMemQueryReferenceIdeal.main_arg2))

def preserves_SampleQuery_SampleQueryIdeal : Prop :=
  True

def algebraic_SampleQueryIdeal_SampleQueryReferenceIdeal [hSampleQueryIdeal : Cert.SampleQueryIdeal.Facts] [hSampleQueryReferenceIdeal : Cert.SampleQueryReferenceIdeal.Facts] : Prop :=
  ∀ (m : (ℓ : Loc Cert.SampleQueryIdeal.nD Cert.SampleQueryIdeal.τ Cert.SampleQueryIdeal.sig) → Buf (Elt Ideal) ℓ) (g : Dev Cert.SampleQueryIdeal.nD → PrngReg)
    (m' : (ℓ : Loc Cert.SampleQueryReferenceIdeal.nD Cert.SampleQueryReferenceIdeal.τ Cert.SampleQueryReferenceIdeal.sig) → Buf (Elt Ideal) ℓ) (g' : Dev Cert.SampleQueryReferenceIdeal.nD → PrngReg), Pre_SampleQueryIdeal m →
    (∀ c : Dev Cert.SampleQueryIdeal.nD,
      m' ((c.tc : Thread Cert.SampleQueryReferenceIdeal.nD Cert.SampleQueryReferenceIdeal.τ).loc Cert.SampleQueryReferenceIdeal.main_arg0) = m ((c.tc : Thread Cert.SampleQueryIdeal.nD Cert.SampleQueryIdeal.τ).loc Cert.SampleQueryIdeal.main_arg0)
      ∧ m' ((c.tc : Thread Cert.SampleQueryReferenceIdeal.nD Cert.SampleQueryReferenceIdeal.τ).loc Cert.SampleQueryReferenceIdeal.main_arg1) = m ((c.tc : Thread Cert.SampleQueryIdeal.nD Cert.SampleQueryIdeal.τ).loc Cert.SampleQueryIdeal.main_arg1)
      ∧ m' ((c.tc : Thread Cert.SampleQueryReferenceIdeal.nD Cert.SampleQueryReferenceIdeal.τ).loc Cert.SampleQueryReferenceIdeal.main_arg2) = m ((c.tc : Thread Cert.SampleQueryIdeal.nD Cert.SampleQueryIdeal.τ).loc Cert.SampleQueryIdeal.main_arg2)) →
    ∃ (v0 : (c : Dev Cert.SampleQueryIdeal.nD) → Buf (Elt Ideal) ((c.tc : Thread Cert.SampleQueryIdeal.nD Cert.SampleQueryIdeal.τ).loc Cert.SampleQueryIdeal.main_v1)),
      θ_run (Cert.SampleQueryIdeal.defs (F := Ideal)) (onTc (τ := Cert.SampleQueryIdeal.τ) (Cert.SampleQueryIdeal.main (F := Ideal))) ⟨m, fun _ => 0, g⟩ (fun r => ∀ c : Dev Cert.SampleQueryIdeal.nD,
          r.2.mem ((c.tc : Thread Cert.SampleQueryIdeal.nD Cert.SampleQueryIdeal.τ).loc Cert.SampleQueryIdeal.main_v1) = v0 c
          ∧ r.2.mem ((c.tc : Thread Cert.SampleQueryIdeal.nD Cert.SampleQueryIdeal.τ).loc Cert.SampleQueryIdeal.main_arg0) = m ((c.tc : Thread Cert.SampleQueryIdeal.nD Cert.SampleQueryIdeal.τ).loc Cert.SampleQueryIdeal.main_arg0)
          ∧ r.2.mem ((c.tc : Thread Cert.SampleQueryIdeal.nD Cert.SampleQueryIdeal.τ).loc Cert.SampleQueryIdeal.main_arg1) = m ((c.tc : Thread Cert.SampleQueryIdeal.nD Cert.SampleQueryIdeal.τ).loc Cert.SampleQueryIdeal.main_arg1)
          ∧ r.2.mem ((c.tc : Thread Cert.SampleQueryIdeal.nD Cert.SampleQueryIdeal.τ).loc Cert.SampleQueryIdeal.main_arg2) = m ((c.tc : Thread Cert.SampleQueryIdeal.nD Cert.SampleQueryIdeal.τ).loc Cert.SampleQueryIdeal.main_arg2))
      ∧ θ_run (Cert.SampleQueryReferenceIdeal.defs (F := Ideal)) (onTc (τ := Cert.SampleQueryReferenceIdeal.τ) (Cert.SampleQueryReferenceIdeal.main (F := Ideal))) ⟨m', fun _ => 0, g'⟩ (fun r => ∀ c : Dev Cert.SampleQueryReferenceIdeal.nD,
          r.2.mem ((c.tc : Thread Cert.SampleQueryReferenceIdeal.nD Cert.SampleQueryReferenceIdeal.τ).loc Cert.SampleQueryReferenceIdeal.main_v16) = v0 c
          ∧ r.2.mem ((c.tc : Thread Cert.SampleQueryReferenceIdeal.nD Cert.SampleQueryReferenceIdeal.τ).loc Cert.SampleQueryReferenceIdeal.main_arg0) = m' ((c.tc : Thread Cert.SampleQueryReferenceIdeal.nD Cert.SampleQueryReferenceIdeal.τ).loc Cert.SampleQueryReferenceIdeal.main_arg0)
          ∧ r.2.mem ((c.tc : Thread Cert.SampleQueryReferenceIdeal.nD Cert.SampleQueryReferenceIdeal.τ).loc Cert.SampleQueryReferenceIdeal.main_arg1) = m' ((c.tc : Thread Cert.SampleQueryReferenceIdeal.nD Cert.SampleQueryReferenceIdeal.τ).loc Cert.SampleQueryReferenceIdeal.main_arg1)
          ∧ r.2.mem ((c.tc : Thread Cert.SampleQueryReferenceIdeal.nD Cert.SampleQueryReferenceIdeal.τ).loc Cert.SampleQueryReferenceIdeal.main_arg2) = m' ((c.tc : Thread Cert.SampleQueryReferenceIdeal.nD Cert.SampleQueryReferenceIdeal.τ).loc Cert.SampleQueryReferenceIdeal.main_arg2))

def preserves_SampleSbMemQuery_SampleSbMemQueryIdeal : Prop :=
  True

def algebraic_SampleSbMemQueryIdeal_SampleSbMemQueryReferenceIdeal [hSampleSbMemQueryIdeal : Cert.SampleSbMemQueryIdeal.Facts] [hSampleSbMemQueryReferenceIdeal : Cert.SampleSbMemQueryReferenceIdeal.Facts] : Prop :=
  ∀ (m : (ℓ : Loc Cert.SampleSbMemQueryIdeal.nD Cert.SampleSbMemQueryIdeal.τ Cert.SampleSbMemQueryIdeal.sig) → Buf (Elt Ideal) ℓ) (g : Dev Cert.SampleSbMemQueryIdeal.nD → PrngReg)
    (m' : (ℓ : Loc Cert.SampleSbMemQueryReferenceIdeal.nD Cert.SampleSbMemQueryReferenceIdeal.τ Cert.SampleSbMemQueryReferenceIdeal.sig) → Buf (Elt Ideal) ℓ) (g' : Dev Cert.SampleSbMemQueryReferenceIdeal.nD → PrngReg), Pre_SampleSbMemQueryIdeal m →
    (∀ c : Dev Cert.SampleSbMemQueryIdeal.nD,
      m' ((c.tc : Thread Cert.SampleSbMemQueryReferenceIdeal.nD Cert.SampleSbMemQueryReferenceIdeal.τ).loc Cert.SampleSbMemQueryReferenceIdeal.main_arg0) = m ((c.tc : Thread Cert.SampleSbMemQueryIdeal.nD Cert.SampleSbMemQueryIdeal.τ).loc Cert.SampleSbMemQueryIdeal.main_arg0)
      ∧ m' ((c.tc : Thread Cert.SampleSbMemQueryReferenceIdeal.nD Cert.SampleSbMemQueryReferenceIdeal.τ).loc Cert.SampleSbMemQueryReferenceIdeal.main_arg1) = m ((c.tc : Thread Cert.SampleSbMemQueryIdeal.nD Cert.SampleSbMemQueryIdeal.τ).loc Cert.SampleSbMemQueryIdeal.main_arg1)
      ∧ m' ((c.tc : Thread Cert.SampleSbMemQueryReferenceIdeal.nD Cert.SampleSbMemQueryReferenceIdeal.τ).loc Cert.SampleSbMemQueryReferenceIdeal.main_arg2) = m ((c.tc : Thread Cert.SampleSbMemQueryIdeal.nD Cert.SampleSbMemQueryIdeal.τ).loc Cert.SampleSbMemQueryIdeal.main_arg2)) →
    ∃ (v0 : (c : Dev Cert.SampleSbMemQueryIdeal.nD) → Buf (Elt Ideal) ((c.tc : Thread Cert.SampleSbMemQueryIdeal.nD Cert.SampleSbMemQueryIdeal.τ).loc Cert.SampleSbMemQueryIdeal.main_v1)),
      θ_run (Cert.SampleSbMemQueryIdeal.defs (F := Ideal)) (onTc (τ := Cert.SampleSbMemQueryIdeal.τ) (Cert.SampleSbMemQueryIdeal.main (F := Ideal))) ⟨m, fun _ => 0, g⟩ (fun r => ∀ c : Dev Cert.SampleSbMemQueryIdeal.nD,
          r.2.mem ((c.tc : Thread Cert.SampleSbMemQueryIdeal.nD Cert.SampleSbMemQueryIdeal.τ).loc Cert.SampleSbMemQueryIdeal.main_v1) = v0 c
          ∧ r.2.mem ((c.tc : Thread Cert.SampleSbMemQueryIdeal.nD Cert.SampleSbMemQueryIdeal.τ).loc Cert.SampleSbMemQueryIdeal.main_arg0) = m ((c.tc : Thread Cert.SampleSbMemQueryIdeal.nD Cert.SampleSbMemQueryIdeal.τ).loc Cert.SampleSbMemQueryIdeal.main_arg0)
          ∧ r.2.mem ((c.tc : Thread Cert.SampleSbMemQueryIdeal.nD Cert.SampleSbMemQueryIdeal.τ).loc Cert.SampleSbMemQueryIdeal.main_arg1) = m ((c.tc : Thread Cert.SampleSbMemQueryIdeal.nD Cert.SampleSbMemQueryIdeal.τ).loc Cert.SampleSbMemQueryIdeal.main_arg1)
          ∧ r.2.mem ((c.tc : Thread Cert.SampleSbMemQueryIdeal.nD Cert.SampleSbMemQueryIdeal.τ).loc Cert.SampleSbMemQueryIdeal.main_arg2) = m ((c.tc : Thread Cert.SampleSbMemQueryIdeal.nD Cert.SampleSbMemQueryIdeal.τ).loc Cert.SampleSbMemQueryIdeal.main_arg2))
      ∧ θ_run (Cert.SampleSbMemQueryReferenceIdeal.defs (F := Ideal)) (onTc (τ := Cert.SampleSbMemQueryReferenceIdeal.τ) (Cert.SampleSbMemQueryReferenceIdeal.main (F := Ideal))) ⟨m', fun _ => 0, g'⟩ (fun r => ∀ c : Dev Cert.SampleSbMemQueryReferenceIdeal.nD,
          r.2.mem ((c.tc : Thread Cert.SampleSbMemQueryReferenceIdeal.nD Cert.SampleSbMemQueryReferenceIdeal.τ).loc Cert.SampleSbMemQueryReferenceIdeal.main_v16) = v0 c
          ∧ r.2.mem ((c.tc : Thread Cert.SampleSbMemQueryReferenceIdeal.nD Cert.SampleSbMemQueryReferenceIdeal.τ).loc Cert.SampleSbMemQueryReferenceIdeal.main_arg0) = m' ((c.tc : Thread Cert.SampleSbMemQueryReferenceIdeal.nD Cert.SampleSbMemQueryReferenceIdeal.τ).loc Cert.SampleSbMemQueryReferenceIdeal.main_arg0)
          ∧ r.2.mem ((c.tc : Thread Cert.SampleSbMemQueryReferenceIdeal.nD Cert.SampleSbMemQueryReferenceIdeal.τ).loc Cert.SampleSbMemQueryReferenceIdeal.main_arg1) = m' ((c.tc : Thread Cert.SampleSbMemQueryReferenceIdeal.nD Cert.SampleSbMemQueryReferenceIdeal.τ).loc Cert.SampleSbMemQueryReferenceIdeal.main_arg1)
          ∧ r.2.mem ((c.tc : Thread Cert.SampleSbMemQueryReferenceIdeal.nD Cert.SampleSbMemQueryReferenceIdeal.τ).loc Cert.SampleSbMemQueryReferenceIdeal.main_arg2) = m' ((c.tc : Thread Cert.SampleSbMemQueryReferenceIdeal.nD Cert.SampleSbMemQueryReferenceIdeal.τ).loc Cert.SampleSbMemQueryReferenceIdeal.main_arg2))

def preserves_HalfLast_HalfLastIdeal : Prop :=
  True

def algebraic_HalfLastIdeal_HalfLastReferenceIdeal [hHalfLastIdeal : Cert.HalfLastIdeal.Facts] [hHalfLastReferenceIdeal : Cert.HalfLastReferenceIdeal.Facts] : Prop :=
  ∀ (m : (ℓ : Loc Cert.HalfLastIdeal.nD Cert.HalfLastIdeal.τ Cert.HalfLastIdeal.sig) → Buf (Elt Ideal) ℓ) (g : Dev Cert.HalfLastIdeal.nD → PrngReg)
    (m' : (ℓ : Loc Cert.HalfLastReferenceIdeal.nD Cert.HalfLastReferenceIdeal.τ Cert.HalfLastReferenceIdeal.sig) → Buf (Elt Ideal) ℓ) (g' : Dev Cert.HalfLastReferenceIdeal.nD → PrngReg), Pre_HalfLastIdeal m →
    (∀ c : Dev Cert.HalfLastIdeal.nD,
      m' ((c.tc : Thread Cert.HalfLastReferenceIdeal.nD Cert.HalfLastReferenceIdeal.τ).loc Cert.HalfLastReferenceIdeal.main_arg0) = m ((c.tc : Thread Cert.HalfLastIdeal.nD Cert.HalfLastIdeal.τ).loc Cert.HalfLastIdeal.main_arg0)
      ∧ m' ((c.tc : Thread Cert.HalfLastReferenceIdeal.nD Cert.HalfLastReferenceIdeal.τ).loc Cert.HalfLastReferenceIdeal.main_arg1) = m ((c.tc : Thread Cert.HalfLastIdeal.nD Cert.HalfLastIdeal.τ).loc Cert.HalfLastIdeal.main_arg1)
      ∧ m' ((c.tc : Thread Cert.HalfLastReferenceIdeal.nD Cert.HalfLastReferenceIdeal.τ).loc Cert.HalfLastReferenceIdeal.main_arg2) = m ((c.tc : Thread Cert.HalfLastIdeal.nD Cert.HalfLastIdeal.τ).loc Cert.HalfLastIdeal.main_arg2)
      ∧ m' ((c.tc : Thread Cert.HalfLastReferenceIdeal.nD Cert.HalfLastReferenceIdeal.τ).loc Cert.HalfLastReferenceIdeal.main_arg3) = m ((c.tc : Thread Cert.HalfLastIdeal.nD Cert.HalfLastIdeal.τ).loc Cert.HalfLastIdeal.main_arg3)) →
    ∃ (v0 : (c : Dev Cert.HalfLastIdeal.nD) → Buf (Elt Ideal) ((c.tc : Thread Cert.HalfLastIdeal.nD Cert.HalfLastIdeal.τ).loc Cert.HalfLastIdeal.main_v2)),
      θ_run (Cert.HalfLastIdeal.defs (F := Ideal)) (onTc (τ := Cert.HalfLastIdeal.τ) (Cert.HalfLastIdeal.main (F := Ideal))) ⟨m, fun _ => 0, g⟩ (fun r => ∀ c : Dev Cert.HalfLastIdeal.nD,
          r.2.mem ((c.tc : Thread Cert.HalfLastIdeal.nD Cert.HalfLastIdeal.τ).loc Cert.HalfLastIdeal.main_v2) = v0 c
          ∧ r.2.mem ((c.tc : Thread Cert.HalfLastIdeal.nD Cert.HalfLastIdeal.τ).loc Cert.HalfLastIdeal.main_arg0) = m ((c.tc : Thread Cert.HalfLastIdeal.nD Cert.HalfLastIdeal.τ).loc Cert.HalfLastIdeal.main_arg0)
          ∧ r.2.mem ((c.tc : Thread Cert.HalfLastIdeal.nD Cert.HalfLastIdeal.τ).loc Cert.HalfLastIdeal.main_arg1) = m ((c.tc : Thread Cert.HalfLastIdeal.nD Cert.HalfLastIdeal.τ).loc Cert.HalfLastIdeal.main_arg1)
          ∧ r.2.mem ((c.tc : Thread Cert.HalfLastIdeal.nD Cert.HalfLastIdeal.τ).loc Cert.HalfLastIdeal.main_arg2) = m ((c.tc : Thread Cert.HalfLastIdeal.nD Cert.HalfLastIdeal.τ).loc Cert.HalfLastIdeal.main_arg2)
          ∧ r.2.mem ((c.tc : Thread Cert.HalfLastIdeal.nD Cert.HalfLastIdeal.τ).loc Cert.HalfLastIdeal.main_arg3) = m ((c.tc : Thread Cert.HalfLastIdeal.nD Cert.HalfLastIdeal.τ).loc Cert.HalfLastIdeal.main_arg3))
      ∧ θ_run (Cert.HalfLastReferenceIdeal.defs (F := Ideal)) (onTc (τ := Cert.HalfLastReferenceIdeal.τ) (Cert.HalfLastReferenceIdeal.main (F := Ideal))) ⟨m', fun _ => 0, g'⟩ (fun r => ∀ c : Dev Cert.HalfLastReferenceIdeal.nD,
          r.2.mem ((c.tc : Thread Cert.HalfLastReferenceIdeal.nD Cert.HalfLastReferenceIdeal.τ).loc Cert.HalfLastReferenceIdeal.main_v25) = v0 c
          ∧ r.2.mem ((c.tc : Thread Cert.HalfLastReferenceIdeal.nD Cert.HalfLastReferenceIdeal.τ).loc Cert.HalfLastReferenceIdeal.main_arg0) = m' ((c.tc : Thread Cert.HalfLastReferenceIdeal.nD Cert.HalfLastReferenceIdeal.τ).loc Cert.HalfLastReferenceIdeal.main_arg0)
          ∧ r.2.mem ((c.tc : Thread Cert.HalfLastReferenceIdeal.nD Cert.HalfLastReferenceIdeal.τ).loc Cert.HalfLastReferenceIdeal.main_arg1) = m' ((c.tc : Thread Cert.HalfLastReferenceIdeal.nD Cert.HalfLastReferenceIdeal.τ).loc Cert.HalfLastReferenceIdeal.main_arg1)
          ∧ r.2.mem ((c.tc : Thread Cert.HalfLastReferenceIdeal.nD Cert.HalfLastReferenceIdeal.τ).loc Cert.HalfLastReferenceIdeal.main_arg2) = m' ((c.tc : Thread Cert.HalfLastReferenceIdeal.nD Cert.HalfLastReferenceIdeal.τ).loc Cert.HalfLastReferenceIdeal.main_arg2)
          ∧ r.2.mem ((c.tc : Thread Cert.HalfLastReferenceIdeal.nD Cert.HalfLastReferenceIdeal.τ).loc Cert.HalfLastReferenceIdeal.main_arg3) = m' ((c.tc : Thread Cert.HalfLastReferenceIdeal.nD Cert.HalfLastReferenceIdeal.τ).loc Cert.HalfLastReferenceIdeal.main_arg3))

def preserves_SampleHalfLast_SampleHalfLastIdeal : Prop :=
  True

def algebraic_SampleHalfLastIdeal_SampleHalfLastReferenceIdeal [hSampleHalfLastIdeal : Cert.SampleHalfLastIdeal.Facts] [hSampleHalfLastReferenceIdeal : Cert.SampleHalfLastReferenceIdeal.Facts] : Prop :=
  ∀ (m : (ℓ : Loc Cert.SampleHalfLastIdeal.nD Cert.SampleHalfLastIdeal.τ Cert.SampleHalfLastIdeal.sig) → Buf (Elt Ideal) ℓ) (g : Dev Cert.SampleHalfLastIdeal.nD → PrngReg)
    (m' : (ℓ : Loc Cert.SampleHalfLastReferenceIdeal.nD Cert.SampleHalfLastReferenceIdeal.τ Cert.SampleHalfLastReferenceIdeal.sig) → Buf (Elt Ideal) ℓ) (g' : Dev Cert.SampleHalfLastReferenceIdeal.nD → PrngReg), Pre_SampleHalfLastIdeal m →
    (∀ c : Dev Cert.SampleHalfLastIdeal.nD,
      m' ((c.tc : Thread Cert.SampleHalfLastReferenceIdeal.nD Cert.SampleHalfLastReferenceIdeal.τ).loc Cert.SampleHalfLastReferenceIdeal.main_arg0) = m ((c.tc : Thread Cert.SampleHalfLastIdeal.nD Cert.SampleHalfLastIdeal.τ).loc Cert.SampleHalfLastIdeal.main_arg0)
      ∧ m' ((c.tc : Thread Cert.SampleHalfLastReferenceIdeal.nD Cert.SampleHalfLastReferenceIdeal.τ).loc Cert.SampleHalfLastReferenceIdeal.main_arg1) = m ((c.tc : Thread Cert.SampleHalfLastIdeal.nD Cert.SampleHalfLastIdeal.τ).loc Cert.SampleHalfLastIdeal.main_arg1)
      ∧ m' ((c.tc : Thread Cert.SampleHalfLastReferenceIdeal.nD Cert.SampleHalfLastReferenceIdeal.τ).loc Cert.SampleHalfLastReferenceIdeal.main_arg2) = m ((c.tc : Thread Cert.SampleHalfLastIdeal.nD Cert.SampleHalfLastIdeal.τ).loc Cert.SampleHalfLastIdeal.main_arg2)
      ∧ m' ((c.tc : Thread Cert.SampleHalfLastReferenceIdeal.nD Cert.SampleHalfLastReferenceIdeal.τ).loc Cert.SampleHalfLastReferenceIdeal.main_arg3) = m ((c.tc : Thread Cert.SampleHalfLastIdeal.nD Cert.SampleHalfLastIdeal.τ).loc Cert.SampleHalfLastIdeal.main_arg3)) →
    ∃ (v0 : (c : Dev Cert.SampleHalfLastIdeal.nD) → Buf (Elt Ideal) ((c.tc : Thread Cert.SampleHalfLastIdeal.nD Cert.SampleHalfLastIdeal.τ).loc Cert.SampleHalfLastIdeal.main_v2)),
      θ_run (Cert.SampleHalfLastIdeal.defs (F := Ideal)) (onTc (τ := Cert.SampleHalfLastIdeal.τ) (Cert.SampleHalfLastIdeal.main (F := Ideal))) ⟨m, fun _ => 0, g⟩ (fun r => ∀ c : Dev Cert.SampleHalfLastIdeal.nD,
          r.2.mem ((c.tc : Thread Cert.SampleHalfLastIdeal.nD Cert.SampleHalfLastIdeal.τ).loc Cert.SampleHalfLastIdeal.main_v2) = v0 c
          ∧ r.2.mem ((c.tc : Thread Cert.SampleHalfLastIdeal.nD Cert.SampleHalfLastIdeal.τ).loc Cert.SampleHalfLastIdeal.main_arg0) = m ((c.tc : Thread Cert.SampleHalfLastIdeal.nD Cert.SampleHalfLastIdeal.τ).loc Cert.SampleHalfLastIdeal.main_arg0)
          ∧ r.2.mem ((c.tc : Thread Cert.SampleHalfLastIdeal.nD Cert.SampleHalfLastIdeal.τ).loc Cert.SampleHalfLastIdeal.main_arg1) = m ((c.tc : Thread Cert.SampleHalfLastIdeal.nD Cert.SampleHalfLastIdeal.τ).loc Cert.SampleHalfLastIdeal.main_arg1)
          ∧ r.2.mem ((c.tc : Thread Cert.SampleHalfLastIdeal.nD Cert.SampleHalfLastIdeal.τ).loc Cert.SampleHalfLastIdeal.main_arg2) = m ((c.tc : Thread Cert.SampleHalfLastIdeal.nD Cert.SampleHalfLastIdeal.τ).loc Cert.SampleHalfLastIdeal.main_arg2)
          ∧ r.2.mem ((c.tc : Thread Cert.SampleHalfLastIdeal.nD Cert.SampleHalfLastIdeal.τ).loc Cert.SampleHalfLastIdeal.main_arg3) = m ((c.tc : Thread Cert.SampleHalfLastIdeal.nD Cert.SampleHalfLastIdeal.τ).loc Cert.SampleHalfLastIdeal.main_arg3))
      ∧ θ_run (Cert.SampleHalfLastReferenceIdeal.defs (F := Ideal)) (onTc (τ := Cert.SampleHalfLastReferenceIdeal.τ) (Cert.SampleHalfLastReferenceIdeal.main (F := Ideal))) ⟨m', fun _ => 0, g'⟩ (fun r => ∀ c : Dev Cert.SampleHalfLastReferenceIdeal.nD,
          r.2.mem ((c.tc : Thread Cert.SampleHalfLastReferenceIdeal.nD Cert.SampleHalfLastReferenceIdeal.τ).loc Cert.SampleHalfLastReferenceIdeal.main_v25) = v0 c
          ∧ r.2.mem ((c.tc : Thread Cert.SampleHalfLastReferenceIdeal.nD Cert.SampleHalfLastReferenceIdeal.τ).loc Cert.SampleHalfLastReferenceIdeal.main_arg0) = m' ((c.tc : Thread Cert.SampleHalfLastReferenceIdeal.nD Cert.SampleHalfLastReferenceIdeal.τ).loc Cert.SampleHalfLastReferenceIdeal.main_arg0)
          ∧ r.2.mem ((c.tc : Thread Cert.SampleHalfLastReferenceIdeal.nD Cert.SampleHalfLastReferenceIdeal.τ).loc Cert.SampleHalfLastReferenceIdeal.main_arg1) = m' ((c.tc : Thread Cert.SampleHalfLastReferenceIdeal.nD Cert.SampleHalfLastReferenceIdeal.τ).loc Cert.SampleHalfLastReferenceIdeal.main_arg1)
          ∧ r.2.mem ((c.tc : Thread Cert.SampleHalfLastReferenceIdeal.nD Cert.SampleHalfLastReferenceIdeal.τ).loc Cert.SampleHalfLastReferenceIdeal.main_arg2) = m' ((c.tc : Thread Cert.SampleHalfLastReferenceIdeal.nD Cert.SampleHalfLastReferenceIdeal.τ).loc Cert.SampleHalfLastReferenceIdeal.main_arg2)
          ∧ r.2.mem ((c.tc : Thread Cert.SampleHalfLastReferenceIdeal.nD Cert.SampleHalfLastReferenceIdeal.τ).loc Cert.SampleHalfLastReferenceIdeal.main_arg3) = m' ((c.tc : Thread Cert.SampleHalfLastReferenceIdeal.nD Cert.SampleHalfLastReferenceIdeal.τ).loc Cert.SampleHalfLastReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts) (hMem : Cert.Mem.Facts) (hMemIdeal : Cert.MemIdeal.Facts) (hMemReferenceIdeal : Cert.MemReferenceIdeal.Facts) (hVal : Cert.Val.Facts) (hValIdeal : Cert.ValIdeal.Facts) (hValReferenceIdeal : Cert.ValReferenceIdeal.Facts) (hMemKey : Cert.MemKey.Facts) (hMemKeyIdeal : Cert.MemKeyIdeal.Facts) (hMemKeyReferenceIdeal : Cert.MemKeyReferenceIdeal.Facts) (hMemVal : Cert.MemVal.Facts) (hMemValIdeal : Cert.MemValIdeal.Facts) (hMemValReferenceIdeal : Cert.MemValReferenceIdeal.Facts) (hConv : Cert.Conv.Facts) (hConvIdeal : Cert.ConvIdeal.Facts) (hConvReferenceIdeal : Cert.ConvReferenceIdeal.Facts) (hSampleKey : Cert.SampleKey.Facts) (hSampleKeyIdeal : Cert.SampleKeyIdeal.Facts) (hSampleKeyReferenceIdeal : Cert.SampleKeyReferenceIdeal.Facts) (hSampleVal : Cert.SampleVal.Facts) (hSampleValIdeal : Cert.SampleValIdeal.Facts) (hSampleValReferenceIdeal : Cert.SampleValReferenceIdeal.Facts) (hSampleConv : Cert.SampleConv.Facts) (hSampleConvIdeal : Cert.SampleConvIdeal.Facts) (hSampleConvReferenceIdeal : Cert.SampleConvReferenceIdeal.Facts) (hSampleFfn : Cert.SampleFfn.Facts) (hSampleFfnIdeal : Cert.SampleFfnIdeal.Facts) (hSampleFfnReferenceIdeal : Cert.SampleFfnReferenceIdeal.Facts) (hHalf : Cert.Half.Facts) (hHalfIdeal : Cert.HalfIdeal.Facts) (hHalfReferenceIdeal : Cert.HalfReferenceIdeal.Facts) (hSbOut : Cert.SbOut.Facts) (hSbOutIdeal : Cert.SbOutIdeal.Facts) (hSbOutReferenceIdeal : Cert.SbOutReferenceIdeal.Facts) (hMemKeyLast : Cert.MemKeyLast.Facts) (hMemKeyLastIdeal : Cert.MemKeyLastIdeal.Facts) (hMemKeyLastReferenceIdeal : Cert.MemKeyLastReferenceIdeal.Facts) (hMemValLast : Cert.MemValLast.Facts) (hMemValLastIdeal : Cert.MemValLastIdeal.Facts) (hMemValLastReferenceIdeal : Cert.MemValLastReferenceIdeal.Facts) (hGate : Cert.Gate.Facts) (hGateIdeal : Cert.GateIdeal.Facts) (hGateReferenceIdeal : Cert.GateReferenceIdeal.Facts) (hStep : Cert.Step.Facts) (hStepIdeal : Cert.StepIdeal.Facts) (hStepReferenceIdeal : Cert.StepReferenceIdeal.Facts) (hSsdMemQuery : Cert.SsdMemQuery.Facts) (hSsdMemQueryIdeal : Cert.SsdMemQueryIdeal.Facts) (hSsdMemQueryReferenceIdeal : Cert.SsdMemQueryReferenceIdeal.Facts) (hQuery : Cert.Query.Facts) (hQueryIdeal : Cert.QueryIdeal.Facts) (hQueryReferenceIdeal : Cert.QueryReferenceIdeal.Facts) (hSbMemQuery : Cert.SbMemQuery.Facts) (hSbMemQueryIdeal : Cert.SbMemQueryIdeal.Facts) (hSbMemQueryReferenceIdeal : Cert.SbMemQueryReferenceIdeal.Facts) (hSampleOut : Cert.SampleOut.Facts) (hSampleOutIdeal : Cert.SampleOutIdeal.Facts) (hSampleOutReferenceIdeal : Cert.SampleOutReferenceIdeal.Facts) (hSampleSbOut : Cert.SampleSbOut.Facts) (hSampleSbOutIdeal : Cert.SampleSbOutIdeal.Facts) (hSampleSbOutReferenceIdeal : Cert.SampleSbOutReferenceIdeal.Facts) (hSampleHalf : Cert.SampleHalf.Facts) (hSampleHalfIdeal : Cert.SampleHalfIdeal.Facts) (hSampleHalfReferenceIdeal : Cert.SampleHalfReferenceIdeal.Facts) (hSampleGate : Cert.SampleGate.Facts) (hSampleGateIdeal : Cert.SampleGateIdeal.Facts) (hSampleGateReferenceIdeal : Cert.SampleGateReferenceIdeal.Facts) (hSampleStep : Cert.SampleStep.Facts) (hSampleStepIdeal : Cert.SampleStepIdeal.Facts) (hSampleStepReferenceIdeal : Cert.SampleStepReferenceIdeal.Facts) (hSampleSsdMemQuery : Cert.SampleSsdMemQuery.Facts) (hSampleSsdMemQueryIdeal : Cert.SampleSsdMemQueryIdeal.Facts) (hSampleSsdMemQueryReferenceIdeal : Cert.SampleSsdMemQueryReferenceIdeal.Facts) (hSampleQuery : Cert.SampleQuery.Facts) (hSampleQueryIdeal : Cert.SampleQueryIdeal.Facts) (hSampleQueryReferenceIdeal : Cert.SampleQueryReferenceIdeal.Facts) (hSampleSbMemQuery : Cert.SampleSbMemQuery.Facts) (hSampleSbMemQueryIdeal : Cert.SampleSbMemQueryIdeal.Facts) (hSampleSbMemQueryReferenceIdeal : Cert.SampleSbMemQueryReferenceIdeal.Facts) (hHalfLast : Cert.HalfLast.Facts) (hHalfLastIdeal : Cert.HalfLastIdeal.Facts) (hHalfLastReferenceIdeal : Cert.HalfLastReferenceIdeal.Facts) (hSampleHalfLast : Cert.SampleHalfLast.Facts) (hSampleHalfLastIdeal : Cert.SampleHalfLastIdeal.Facts) (hSampleHalfLastReferenceIdeal : Cert.SampleHalfLastReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Out (hOut := hOut)
    ∧ quiescent_OutIdeal (hOutIdeal := hOutIdeal)
    ∧ quiescent_OutReferenceIdeal (hOutReferenceIdeal := hOutReferenceIdeal)
    ∧ quiescent_Mem (hMem := hMem)
    ∧ quiescent_MemIdeal (hMemIdeal := hMemIdeal)
    ∧ quiescent_MemReferenceIdeal (hMemReferenceIdeal := hMemReferenceIdeal)
    ∧ quiescent_Val (hVal := hVal)
    ∧ quiescent_ValIdeal (hValIdeal := hValIdeal)
    ∧ quiescent_ValReferenceIdeal (hValReferenceIdeal := hValReferenceIdeal)
    ∧ quiescent_MemKey (hMemKey := hMemKey)
    ∧ quiescent_MemKeyIdeal (hMemKeyIdeal := hMemKeyIdeal)
    ∧ quiescent_MemKeyReferenceIdeal (hMemKeyReferenceIdeal := hMemKeyReferenceIdeal)
    ∧ quiescent_MemVal (hMemVal := hMemVal)
    ∧ quiescent_MemValIdeal (hMemValIdeal := hMemValIdeal)
    ∧ quiescent_MemValReferenceIdeal (hMemValReferenceIdeal := hMemValReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_SampleKey (hSampleKey := hSampleKey)
    ∧ quiescent_SampleKeyIdeal (hSampleKeyIdeal := hSampleKeyIdeal)
    ∧ quiescent_SampleKeyReferenceIdeal (hSampleKeyReferenceIdeal := hSampleKeyReferenceIdeal)
    ∧ quiescent_SampleVal (hSampleVal := hSampleVal)
    ∧ quiescent_SampleValIdeal (hSampleValIdeal := hSampleValIdeal)
    ∧ quiescent_SampleValReferenceIdeal (hSampleValReferenceIdeal := hSampleValReferenceIdeal)
    ∧ quiescent_SampleConv (hSampleConv := hSampleConv)
    ∧ quiescent_SampleConvIdeal (hSampleConvIdeal := hSampleConvIdeal)
    ∧ quiescent_SampleConvReferenceIdeal (hSampleConvReferenceIdeal := hSampleConvReferenceIdeal)
    ∧ quiescent_SampleFfn (hSampleFfn := hSampleFfn)
    ∧ quiescent_SampleFfnIdeal (hSampleFfnIdeal := hSampleFfnIdeal)
    ∧ quiescent_SampleFfnReferenceIdeal (hSampleFfnReferenceIdeal := hSampleFfnReferenceIdeal)
    ∧ quiescent_Half (hHalf := hHalf)
    ∧ quiescent_HalfIdeal (hHalfIdeal := hHalfIdeal)
    ∧ quiescent_HalfReferenceIdeal (hHalfReferenceIdeal := hHalfReferenceIdeal)
    ∧ quiescent_SbOut (hSbOut := hSbOut)
    ∧ quiescent_SbOutIdeal (hSbOutIdeal := hSbOutIdeal)
    ∧ quiescent_SbOutReferenceIdeal (hSbOutReferenceIdeal := hSbOutReferenceIdeal)
    ∧ quiescent_MemKeyLast (hMemKeyLast := hMemKeyLast)
    ∧ quiescent_MemKeyLastIdeal (hMemKeyLastIdeal := hMemKeyLastIdeal)
    ∧ quiescent_MemKeyLastReferenceIdeal (hMemKeyLastReferenceIdeal := hMemKeyLastReferenceIdeal)
    ∧ quiescent_MemValLast (hMemValLast := hMemValLast)
    ∧ quiescent_MemValLastIdeal (hMemValLastIdeal := hMemValLastIdeal)
    ∧ quiescent_MemValLastReferenceIdeal (hMemValLastReferenceIdeal := hMemValLastReferenceIdeal)
    ∧ quiescent_Gate (hGate := hGate)
    ∧ quiescent_GateIdeal (hGateIdeal := hGateIdeal)
    ∧ quiescent_GateReferenceIdeal (hGateReferenceIdeal := hGateReferenceIdeal)
    ∧ quiescent_Step (hStep := hStep)
    ∧ quiescent_StepIdeal (hStepIdeal := hStepIdeal)
    ∧ quiescent_StepReferenceIdeal (hStepReferenceIdeal := hStepReferenceIdeal)
    ∧ quiescent_SsdMemQuery (hSsdMemQuery := hSsdMemQuery)
    ∧ quiescent_SsdMemQueryIdeal (hSsdMemQueryIdeal := hSsdMemQueryIdeal)
    ∧ quiescent_SsdMemQueryReferenceIdeal (hSsdMemQueryReferenceIdeal := hSsdMemQueryReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_SbMemQuery (hSbMemQuery := hSbMemQuery)
    ∧ quiescent_SbMemQueryIdeal (hSbMemQueryIdeal := hSbMemQueryIdeal)
    ∧ quiescent_SbMemQueryReferenceIdeal (hSbMemQueryReferenceIdeal := hSbMemQueryReferenceIdeal)
    ∧ quiescent_SampleOut (hSampleOut := hSampleOut)
    ∧ quiescent_SampleOutIdeal (hSampleOutIdeal := hSampleOutIdeal)
    ∧ quiescent_SampleOutReferenceIdeal (hSampleOutReferenceIdeal := hSampleOutReferenceIdeal)
    ∧ quiescent_SampleSbOut (hSampleSbOut := hSampleSbOut)
    ∧ quiescent_SampleSbOutIdeal (hSampleSbOutIdeal := hSampleSbOutIdeal)
    ∧ quiescent_SampleSbOutReferenceIdeal (hSampleSbOutReferenceIdeal := hSampleSbOutReferenceIdeal)
    ∧ quiescent_SampleHalf (hSampleHalf := hSampleHalf)
    ∧ quiescent_SampleHalfIdeal (hSampleHalfIdeal := hSampleHalfIdeal)
    ∧ quiescent_SampleHalfReferenceIdeal (hSampleHalfReferenceIdeal := hSampleHalfReferenceIdeal)
    ∧ quiescent_SampleGate (hSampleGate := hSampleGate)
    ∧ quiescent_SampleGateIdeal (hSampleGateIdeal := hSampleGateIdeal)
    ∧ quiescent_SampleGateReferenceIdeal (hSampleGateReferenceIdeal := hSampleGateReferenceIdeal)
    ∧ quiescent_SampleStep (hSampleStep := hSampleStep)
    ∧ quiescent_SampleStepIdeal (hSampleStepIdeal := hSampleStepIdeal)
    ∧ quiescent_SampleStepReferenceIdeal (hSampleStepReferenceIdeal := hSampleStepReferenceIdeal)
    ∧ quiescent_SampleSsdMemQuery (hSampleSsdMemQuery := hSampleSsdMemQuery)
    ∧ quiescent_SampleSsdMemQueryIdeal (hSampleSsdMemQueryIdeal := hSampleSsdMemQueryIdeal)
    ∧ quiescent_SampleSsdMemQueryReferenceIdeal (hSampleSsdMemQueryReferenceIdeal := hSampleSsdMemQueryReferenceIdeal)
    ∧ quiescent_SampleQuery (hSampleQuery := hSampleQuery)
    ∧ quiescent_SampleQueryIdeal (hSampleQueryIdeal := hSampleQueryIdeal)
    ∧ quiescent_SampleQueryReferenceIdeal (hSampleQueryReferenceIdeal := hSampleQueryReferenceIdeal)
    ∧ quiescent_SampleSbMemQuery (hSampleSbMemQuery := hSampleSbMemQuery)
    ∧ quiescent_SampleSbMemQueryIdeal (hSampleSbMemQueryIdeal := hSampleSbMemQueryIdeal)
    ∧ quiescent_SampleSbMemQueryReferenceIdeal (hSampleSbMemQueryReferenceIdeal := hSampleSbMemQueryReferenceIdeal)
    ∧ quiescent_HalfLast (hHalfLast := hHalfLast)
    ∧ quiescent_HalfLastIdeal (hHalfLastIdeal := hHalfLastIdeal)
    ∧ quiescent_HalfLastReferenceIdeal (hHalfLastReferenceIdeal := hHalfLastReferenceIdeal)
    ∧ quiescent_SampleHalfLast (hSampleHalfLast := hSampleHalfLast)
    ∧ quiescent_SampleHalfLastIdeal (hSampleHalfLastIdeal := hSampleHalfLastIdeal)
    ∧ quiescent_SampleHalfLastReferenceIdeal (hSampleHalfLastReferenceIdeal := hSampleHalfLastReferenceIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Out_OutIdeal
    ∧ algebraic_OutIdeal_OutReferenceIdeal (hOutIdeal := hOutIdeal) (hOutReferenceIdeal := hOutReferenceIdeal)
    ∧ preserves_Mem_MemIdeal
    ∧ algebraic_MemIdeal_MemReferenceIdeal (hMemIdeal := hMemIdeal) (hMemReferenceIdeal := hMemReferenceIdeal)
    ∧ preserves_Val_ValIdeal
    ∧ algebraic_ValIdeal_ValReferenceIdeal (hValIdeal := hValIdeal) (hValReferenceIdeal := hValReferenceIdeal)
    ∧ preserves_MemKey_MemKeyIdeal
    ∧ algebraic_MemKeyIdeal_MemKeyReferenceIdeal (hMemKeyIdeal := hMemKeyIdeal) (hMemKeyReferenceIdeal := hMemKeyReferenceIdeal)
    ∧ preserves_MemVal_MemValIdeal
    ∧ algebraic_MemValIdeal_MemValReferenceIdeal (hMemValIdeal := hMemValIdeal) (hMemValReferenceIdeal := hMemValReferenceIdeal)
    ∧ preserves_Conv_ConvIdeal
    ∧ algebraic_ConvIdeal_ConvReferenceIdeal (hConvIdeal := hConvIdeal) (hConvReferenceIdeal := hConvReferenceIdeal)
    ∧ preserves_SampleKey_SampleKeyIdeal
    ∧ algebraic_SampleKeyIdeal_SampleKeyReferenceIdeal (hSampleKeyIdeal := hSampleKeyIdeal) (hSampleKeyReferenceIdeal := hSampleKeyReferenceIdeal)
    ∧ preserves_SampleVal_SampleValIdeal
    ∧ algebraic_SampleValIdeal_SampleValReferenceIdeal (hSampleValIdeal := hSampleValIdeal) (hSampleValReferenceIdeal := hSampleValReferenceIdeal)
    ∧ preserves_SampleConv_SampleConvIdeal
    ∧ algebraic_SampleConvIdeal_SampleConvReferenceIdeal (hSampleConvIdeal := hSampleConvIdeal) (hSampleConvReferenceIdeal := hSampleConvReferenceIdeal)
    ∧ preserves_SampleFfn_SampleFfnIdeal
    ∧ algebraic_SampleFfnIdeal_SampleFfnReferenceIdeal (hSampleFfnIdeal := hSampleFfnIdeal) (hSampleFfnReferenceIdeal := hSampleFfnReferenceIdeal)
    ∧ preserves_Half_HalfIdeal
    ∧ algebraic_HalfIdeal_HalfReferenceIdeal (hHalfIdeal := hHalfIdeal) (hHalfReferenceIdeal := hHalfReferenceIdeal)
    ∧ preserves_SbOut_SbOutIdeal
    ∧ algebraic_SbOutIdeal_SbOutReferenceIdeal (hSbOutIdeal := hSbOutIdeal) (hSbOutReferenceIdeal := hSbOutReferenceIdeal)
    ∧ preserves_MemKeyLast_MemKeyLastIdeal
    ∧ algebraic_MemKeyLastIdeal_MemKeyLastReferenceIdeal (hMemKeyLastIdeal := hMemKeyLastIdeal) (hMemKeyLastReferenceIdeal := hMemKeyLastReferenceIdeal)
    ∧ preserves_MemValLast_MemValLastIdeal
    ∧ algebraic_MemValLastIdeal_MemValLastReferenceIdeal (hMemValLastIdeal := hMemValLastIdeal) (hMemValLastReferenceIdeal := hMemValLastReferenceIdeal)
    ∧ preserves_Gate_GateIdeal
    ∧ algebraic_GateIdeal_GateReferenceIdeal (hGateIdeal := hGateIdeal) (hGateReferenceIdeal := hGateReferenceIdeal)
    ∧ preserves_Step_StepIdeal
    ∧ algebraic_StepIdeal_StepReferenceIdeal (hStepIdeal := hStepIdeal) (hStepReferenceIdeal := hStepReferenceIdeal)
    ∧ preserves_SsdMemQuery_SsdMemQueryIdeal
    ∧ algebraic_SsdMemQueryIdeal_SsdMemQueryReferenceIdeal (hSsdMemQueryIdeal := hSsdMemQueryIdeal) (hSsdMemQueryReferenceIdeal := hSsdMemQueryReferenceIdeal)
    ∧ preserves_Query_QueryIdeal
    ∧ algebraic_QueryIdeal_QueryReferenceIdeal (hQueryIdeal := hQueryIdeal) (hQueryReferenceIdeal := hQueryReferenceIdeal)
    ∧ preserves_SbMemQuery_SbMemQueryIdeal
    ∧ algebraic_SbMemQueryIdeal_SbMemQueryReferenceIdeal (hSbMemQueryIdeal := hSbMemQueryIdeal) (hSbMemQueryReferenceIdeal := hSbMemQueryReferenceIdeal)
    ∧ preserves_SampleOut_SampleOutIdeal
    ∧ algebraic_SampleOutIdeal_SampleOutReferenceIdeal (hSampleOutIdeal := hSampleOutIdeal) (hSampleOutReferenceIdeal := hSampleOutReferenceIdeal)
    ∧ preserves_SampleSbOut_SampleSbOutIdeal
    ∧ algebraic_SampleSbOutIdeal_SampleSbOutReferenceIdeal (hSampleSbOutIdeal := hSampleSbOutIdeal) (hSampleSbOutReferenceIdeal := hSampleSbOutReferenceIdeal)
    ∧ preserves_SampleHalf_SampleHalfIdeal
    ∧ algebraic_SampleHalfIdeal_SampleHalfReferenceIdeal (hSampleHalfIdeal := hSampleHalfIdeal) (hSampleHalfReferenceIdeal := hSampleHalfReferenceIdeal)
    ∧ preserves_SampleGate_SampleGateIdeal
    ∧ algebraic_SampleGateIdeal_SampleGateReferenceIdeal (hSampleGateIdeal := hSampleGateIdeal) (hSampleGateReferenceIdeal := hSampleGateReferenceIdeal)
    ∧ preserves_SampleStep_SampleStepIdeal
    ∧ algebraic_SampleStepIdeal_SampleStepReferenceIdeal (hSampleStepIdeal := hSampleStepIdeal) (hSampleStepReferenceIdeal := hSampleStepReferenceIdeal)
    ∧ preserves_SampleSsdMemQuery_SampleSsdMemQueryIdeal
    ∧ algebraic_SampleSsdMemQueryIdeal_SampleSsdMemQueryReferenceIdeal (hSampleSsdMemQueryIdeal := hSampleSsdMemQueryIdeal) (hSampleSsdMemQueryReferenceIdeal := hSampleSsdMemQueryReferenceIdeal)
    ∧ preserves_SampleQuery_SampleQueryIdeal
    ∧ algebraic_SampleQueryIdeal_SampleQueryReferenceIdeal (hSampleQueryIdeal := hSampleQueryIdeal) (hSampleQueryReferenceIdeal := hSampleQueryReferenceIdeal)
    ∧ preserves_SampleSbMemQuery_SampleSbMemQueryIdeal
    ∧ algebraic_SampleSbMemQueryIdeal_SampleSbMemQueryReferenceIdeal (hSampleSbMemQueryIdeal := hSampleSbMemQueryIdeal) (hSampleSbMemQueryReferenceIdeal := hSampleSbMemQueryReferenceIdeal)
    ∧ preserves_HalfLast_HalfLastIdeal
    ∧ algebraic_HalfLastIdeal_HalfLastReferenceIdeal (hHalfLastIdeal := hHalfLastIdeal) (hHalfLastReferenceIdeal := hHalfLastReferenceIdeal)
    ∧ preserves_SampleHalfLast_SampleHalfLastIdeal
    ∧ algebraic_SampleHalfLastIdeal_SampleHalfLastReferenceIdeal (hSampleHalfLastIdeal := hSampleHalfLastIdeal) (hSampleHalfLastReferenceIdeal := hSampleHalfLastReferenceIdeal)
-- ==== Pre_finite.lean ====
abbrev S2x4096x2048 : Shape := ⟨3, ![2, 4096, 2048]⟩
abbrev S16 : Shape := ⟨1, ![16]⟩
abbrev S_ : Shape := ⟨0, ![]⟩

class Facts : Prop where
  bcast_S_S2x4096x2048 : S_.BroadcastsInDim S2x4096x2048 (![] : Fin 0 → Fin S2x4096x2048.rank)
  bcast_S_S16 : S_.BroadcastsInDim S16 (![] : Fin 0 → Fin S16.rank)

variable [Facts]

def fn {F : FTy → Type} [FloatOps F] (main_arg0 : FVec F S2x4096x2048 .bf16) (main_arg1 : FVec F S2x4096x2048 .f32) (main_arg2 : FVec F S2x4096x2048 .f32) (main_arg3 : FVec F S16 .f32) : IVec S2x4096x2048 1 × IVec S2x4096x2048 1 × IVec S16 1 :=
  let main_v0 : FVec F S2x4096x2048 .bf16 := Host.absf main_arg0
  let main_cst : FVec F S_ .bf16 := constant S_ .bf16 0x7F80#16
  let main_v1 : FVec F S2x4096x2048 .bf16 := broadcastInDim S2x4096x2048 ![] bcast_S_S2x4096x2048 main_cst
  let main_v2 : IVec S2x4096x2048 1 := cmpf .olt main_v0 main_v1
  let main_v3 : FVec F S2x4096x2048 .f32 := Host.absf main_arg1
  let main_cst_0 : FVec F S_ .f32 := constant S_ .f32 0x7F800000#32
  let main_v4 : FVec F S2x4096x2048 .f32 := broadcastInDim S2x4096x2048 ![] bcast_S_S2x4096x2048 main_cst_0
  let main_v5 : IVec S2x4096x2048 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S2x4096x2048 : Shape := ⟨3, ![2, 4096, 2048]⟩
abbrev S16 : Shape := ⟨1, ![16]⟩
abbrev S1x256x1024 : Shape := ⟨3, ![1, 256, 1024]⟩
abbrev S1x4096x1024 : Shape := ⟨3, ![1, 4096, 1024]⟩
abbrev S1x256x128 : Shape := ⟨3, ![1, 256, 128]⟩
abbrev S256x128 : Shape := ⟨2, ![256, 128]⟩
abbrev S1 : Shape := ⟨1, ![1]⟩
abbrev S256x1 : Shape := ⟨2, ![256, 1]⟩
abbrev S2048x1 : Shape := ⟨2, ![2048, 1]⟩
abbrev S2048x256 : Shape := ⟨2, ![2048, 256]⟩
abbrev S256x256 : Shape := ⟨2, ![256, 256]⟩
abbrev S512x256 : Shape := ⟨2, ![512, 256]⟩
abbrev S2048x512 : Shape := ⟨2, ![2048, 512]⟩
abbrev S2048 : Shape := ⟨1, ![2048]⟩

abbrev nBuf : Space → Nat
  | .hbm => 5
  | .vmem => 6
  | .smem => 1
  | _ => 0

abbrev bufTy : (tb : Table) → Fin (tcTables nBuf tb) → BufTy
  | .hbm, ⟨0, _⟩ => ⟨S2x4096x2048, .bf16⟩
  | .hbm, ⟨1, _⟩ => ⟨S2x4096x2048, .f32⟩
  | .hbm, ⟨2, _⟩ => ⟨S2x4096x2048, .f32⟩
  | .hbm, ⟨3, _⟩ => ⟨S16, .f32⟩
  | .hbm, ⟨4, _⟩ => ⟨S2x4096x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .f32⟩
  | .local _ .vmem, ⟨3, _⟩ => ⟨S1x4096x1024, .f32⟩
  | .local _ .vmem, ⟨4, _⟩ => ⟨S1x256x1024, .bf16⟩
  | .local _ .vmem, ⟨5, _⟩ => ⟨S1x256x1024, .bf16⟩
  | .local _ .smem, ⟨0, _⟩ => ⟨S16, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 2, 16], ![false, false, false]⟩

def k0_off1 (i : grid0.Coords) (c0_i32 : BitVec 32) : Fin 1 → Nat :=
  let arg1 : BitVec 32 := BitVec.ofNat 32 (i 1).val
  let c8_i32 : BitVec 32 := 8#32
  let v16 : BitVec 32 := Scalar.muli arg1 c8_i32
  let v17 : BitVec 32 := Scalar.addi v16 c0_i32
  let v18 : Index := Scalar.indexCast v17
  ![v18.toNat]
def k0_mult1 (i : grid0.Coords) : BitVec 32 :=
  let arg2 : BitVec 32 := BitVec.ofNat 32 (i 2).val
  let c256_i32 : BitVec 32 := 256#32
  let v76 : BitVec 32 := Scalar.muli arg2 c256_i32
  v76
def k0_off2 (i : grid0.Coords) : Fin 3 → Nat :=
  let c0_45 : Index := 0#32
  let arg2 : BitVec 32 := BitVec.ofNat 32 (i 2).val
  let c256_i32 : BitVec 32 := 256#32
  let v76 : BitVec 32 := Scalar.muli arg2 c256_i32
  let v77 : BitVec 32 := v76
  let v95 : Index := Scalar.indexCast v77
  let c0_46 : Index := 0#32
  ![0, v95.toNat, 0]
def k0_off3 (i : grid0.Coords) : Fin 3 → Nat :=
  let c0_48 : Index := 0#32
  let arg2 : BitVec 32 := BitVec.ofNat 32 (i 2).val
  let c256_i32 : BitVec 32 := 256#32
  let v76 : BitVec 32 := Scalar.muli arg2 c256_i32
  let v77 : BitVec 32 := v76
  let v100 : Index := Scalar.indexCast v77
  let c128_49 : Index := 128#32
  ![0, v100.toNat, 128]
def k0_off4 (i : grid0.Coords) : Fin 3 → Nat :=
  let c0_51 : Index := 0#32
  let arg2 : BitVec 32 := BitVec.ofNat 32 (i 2).val
  let c256_i32 : BitVec 32 := 256#32
  let v76 : BitVec 32 := Scalar.muli arg2 c256_i32
  let v77 : BitVec 32 := v76
  let v105 : Index := Scalar.indexCast v77
  let c256_52 : Index := 256#32
  ![0, v105.toNat, 256]
def k0_off5 (i : grid0.Coords) : Fin 3 → Nat :=
  let c0_54 : Index := 0#32
  let arg2 : BitVec 32 := BitVec.ofNat 32 (i 2).val
  let c256_i32 : BitVec 32 := 256#32
  let v76 : BitVec 32 := Scalar.muli arg2 c256_i32
  let v77 : BitVec 32 := v76
  let v110 : Index := Scalar.indexCast v77
  let c384_55 : Index := 384#32
  ![0, v110.toNat, 384]
def k0_off6 (i : grid0.Coords) : Fin 3 → Nat :=
  let c0_57 : Index := 0#32
  let arg2 : BitVec 32 := BitVec.ofNat 32 (i 2).val
  let c256_i32 : BitVec 32 := 256#32
  let v76 : BitVec 32 := Scalar.muli arg2 c256_i32
  let v77 : BitVec 32 := v76
  let v115 : Index := Scalar.indexCast v77
  let c512_58 : Index := 512#32
  ![0, v115.toNat, 512]
def k0_off7 (i : grid0.Coords) : Fin 3 → Nat :=
  let c0_60 : Index := 0#32
  let arg2 : BitVec 32 := BitVec.ofNat 32 (i 2).val
  let c256_i32 : BitVec 32 := 256#32
  let v76 : BitVec 32 := Scalar.muli arg2 c256_i32
  let v77 : BitVec 32 := v76
  let v120 : Index := Scalar.indexCast v77
  let c640_61 : Index := 640#32
  ![0, v120.toNat, 640]
def k0_off8 (i : grid0.Coords) : Fin 3 → Nat :=
  let c0_63 : Index := 0#32
  let arg2 : BitVec 32 := BitVec.ofNat 32 (i 2).val
  let c256_i32 : BitVec 32 := 256#32
  let v76 : BitVec 32 := Scalar.muli arg2 c256_i32
  let v77 : BitVec 32 := v76
  let v125 : Index := Scalar.indexCast v77
  let c768_64 : Index := 768#32
  ![0, v125.toNat, 768]
def k0_off9 (i : grid0.Coords) : Fin 3 → Nat :=
  let c0_66 : Index := 0#32
  let arg2 : BitVec 32 := BitVec.ofNat 32 (i 2).val
  let c256_i32 : BitVec 32 := 256#32
  let v76 : BitVec 32 := Scalar.muli arg2 c256_i32
  let v77 : BitVec 32 := v76
  let v130 : Index := Scalar.indexCast v77
  let c896_67 : Index := 896#32
  ![0, v130.toNat, 896]
def k0_cond1 (i : grid0.Coords) : BitVec 1 :=
  let arg2 : BitVec 32 := BitVec.ofNat 32 (i 2).val
  let c2_i32_108 : BitVec 32 := 2#32
  let c0_i32_109 : BitVec 32 := 0#32
  let v256 : BitVec 1 := Scalar.cmpi .eq c2_i32_108 c0_i32_109
  let c1_i32_110 : BitVec 32 := 1#32
  let v257 : BitVec 32 := Scalar.select v256 c1_i32_110 c2_i32_108
  let v258 : BitVec 32 := Scalar.remsi arg2 v257
  let c0_i32_112 : BitVec 32 := 0#32
  let v260 : BitVec 1 := Scalar.cmpi .slt v258 c0_i32_112
  let c0_i32_113 : BitVec 32 := 0#32
  let v261 : BitVec 1 := Scalar.cmpi .slt v257 c0_i32_113
  let v262 : BitVec 1 := Scalar.xori v260 v261
  let c0_i32_111 : BitVec 32 := 0#32
  let v259 : BitVec 1 := Scalar.cmpi .ne v258 c0_i32_111
  let v263 : BitVec 1 := Scalar.andi v262 v259
  let v264 : BitVec 32 := Scalar.addi v258 v257
  let v265 : BitVec 32 := Scalar.select v263 v264 v258
  let c1_i32_114 : BitVec 32 := 1#32
  let v266 : BitVec 1 := Scalar.cmpi .eq v265 c1_i32_114
  let v267 : BitVec 32 := Scalar.extui v266
  let c0_i32_115 : BitVec 32 := 0#32
  let v268 : BitVec 1 := Scalar.cmpi .ne v267 c0_i32_115
  v268

def k0_mult2 (i : grid0.Coords) : BitVec 32 :=
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  v338
def k0_off10 (i : grid0.Coords) : Fin 3 → Nat :=
  let c0_159 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v340 : Index := Scalar.indexCast v339
  let c0_160 : Index := 0#32
  ![0, v340.toNat, 0]
def k0_off11 (i : grid0.Coords) : Fin 3 → Nat :=
  let c0_162 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v345 : Index := Scalar.indexCast v339
  let c128_163 : Index := 128#32
  ![0, v345.toNat, 128]
def k0_off12 (i : grid0.Coords) : Fin 3 → Nat :=
  let c0_165 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v350 : Index := Scalar.indexCast v339
  let c256_166 : Index := 256#32
  ![0, v350.toNat, 256]
def k0_off13 (i : grid0.Coords) : Fin 3 → Nat :=
  let c0_168 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v355 : Index := Scalar.indexCast v339
  let c384_169 : Index := 384#32
  ![0, v355.toNat, 384]
def k0_off14 (i : grid0.Coords) : Fin 3 → Nat :=
  let c0_171 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v360 : Index := Scalar.indexCast v339
  let c512_172 : Index := 512#32
  ![0, v360.toNat, 512]
def k0_off15 (i : grid0.Coords) : Fin 3 → Nat :=
  let c0_174 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v365 : Index := Scalar.indexCast v339
  let c640_175 : Index := 640#32
  ![0, v365.toNat, 640]
def k0_off16 (i : grid0.Coords) : Fin 3 → Nat :=
  let c0_177 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v370 : Index := Scalar.indexCast v339
  let c768_178 : Index := 768#32
  ![0, v370.toNat, 768]
def k0_off17 (i : grid0.Coords) : Fin 3 → Nat :=
  let c0_180 : Index := 0#32
  let arg2 : BitVec 32 := BitVec.ofNat 32 (i 2).val
  let c1_i32_157 : BitVec 32 := 1#32
  let v337 : BitVec 32 := Scalar.subi arg2 c1_i32_157
  let c256_i32_158 : BitVec 32 := 256#32
  let v338 : BitVec 32 := Scalar.muli v337 c256_i32_158
  let v339 : BitVec 32 := v338
  let v375 : Index := Scalar.indexCast v339
  let c896_181 : Index := 896#32
  ![0, v375.toNat, 896]
@[reducible] def k0_t1_loop (i : grid0.Coords) : Scf.Loop 32 :=
  let c0_i32_129 : BitVec 32 := 0#32
  let arg2 : BitVec 32 := BitVec.ofNat 32 (i 2).val
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_131 : BitVec 32 := 1#32
  ⟨c0_i32_129, v302, c1_i32_131⟩
def k0_mult3 (i : grid0.Coords) (k0_t1 : Fin (k0_t1_loop i).trips) : BitVec 32 :=
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let c1_i32_159 : BitVec 32 := 1#32
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  v343
def k0_off18 (i : grid0.Coords) (k0_t1 : Fin (k0_t1_loop i).trips) (c1_i32_159 : BitVec 32) : Fin 3 → Nat :=
  let c0_162 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v345 : Index := Scalar.indexCast v344
  let c0_163 : Index := 0#32
  ![0, v345.toNat, 0]
def k0_off19 (i : grid0.Coords) (k0_t1 : Fin (k0_t1_loop i).trips) (c1_i32_159 : BitVec 32) : Fin 3 → Nat :=
  let c0_165 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v350 : Index := Scalar.indexCast v344
  let c128_166 : Index := 128#32
  ![0, v350.toNat, 128]
def k0_off20 (i : grid0.Coords) (k0_t1 : Fin (k0_t1_loop i).trips) (c1_i32_159 : BitVec 32) : Fin 3 → Nat :=
  let c0_168 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v355 : Index := Scalar.indexCast v344
  let c256_169 : Index := 256#32
  ![0, v355.toNat, 256]
def k0_off21 (i : grid0.Coords) (k0_t1 : Fin (k0_t1_loop i).trips) (c1_i32_159 : BitVec 32) : Fin 3 → Nat :=
  let c0_171 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v360 : Index := Scalar.indexCast v344
  let c384_172 : Index := 384#32
  ![0, v360.toNat, 384]
def k0_off22 (i : grid0.Coords) (k0_t1 : Fin (k0_t1_loop i).trips) (c1_i32_159 : BitVec 32) : Fin 3 → Nat :=
  let c0_174 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v365 : Index := Scalar.indexCast v344
  let c512_175 : Index := 512#32
  ![0, v365.toNat, 512]
def k0_off23 (i : grid0.Coords) (k0_t1 : Fin (k0_t1_loop i).trips) (c1_i32_159 : BitVec 32) : Fin 3 → Nat :=
  let c0_177 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v370 : Index := Scalar.indexCast v344
  let c640_178 : Index := 640#32
  ![0, v370.toNat, 640]
def k0_off24 (i : grid0.Coords) (k0_t1 : Fin (k0_t1_loop i).trips) (c1_i32_159 : BitVec 32) : Fin 3 → Nat :=
  let c0_180 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v375 : Index := Scalar.indexCast v344
  let c768_181 : Index := 768#32
  ![0, v375.toNat, 768]
def k0_off25 (i : grid0.Coords) (k0_t1 : Fin (k0_t1_loop i).trips) (c1_i32_159 : BitVec 32) : Fin 3 → Nat :=
  let c0_183 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c1_i32_131 : BitVec 32 := 1#32
  let arg8 : BitVec 32 := Scf.iv c0_i32_129 c1_i32_131 k0_t1
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v380 : Index := Scalar.indexCast v344
  let c896_184 : Index := 896#32
  ![0, v380.toNat, 896]
def k0_mult4 (i : grid0.Coords) (k0_t1 : Fin (k0_t1_loop i).trips) : BitVec 32 :=
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let c2_i32_157 : BitVec 32 := 2#32
  let v337 : BitVec 32 := Scalar.subi v280 c2_i32_157
  let c2_i32_158 : BitVec 32 := 2#32
  let c0_i32_129 : BitVec 32 := 0#32
  let c1_i32_131 : BitVec 32 := 1#32
  let arg8 : BitVec 32 := Scf.iv c0_i32_129 c1_i32_131 k0_t1
  let v338 : BitVec 32 := Scalar.muli c2_i32_158 arg8
  let v339 : BitVec 32 := Scalar.subi v337 v338
  let c256_i32_223 : BitVec 32 := 256#32
  let v502 : BitVec 32 := Scalar.muli v339 c256_i32_223
  v502
@[reducible] def k0_t2_loop (i : grid0.Coords) : Scf.Loop 32 :=
  let c0_i32_129 : BitVec 32 := 0#32
  let arg2 : BitVec 32 := BitVec.ofNat 32 (i 2).val
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let v299 : BitVec 32 := Scalar.addi c0_i32_129 v298
  let c1_i32_132 : BitVec 32 := 1#32
  ⟨v302, v299, c1_i32_132⟩
def k0_mult5 (i : grid0.Coords) (k0_t2 : Fin (k0_t2_loop i).trips) : BitVec 32 :=
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let c1_i32_159 : BitVec 32 := 1#32
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  v343
def k0_off26 (i : grid0.Coords) (k0_t2 : Fin (k0_t2_loop i).trips) (c1_i32_159 : BitVec 32) : Fin 3 → Nat :=
  let c0_162 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v345 : Index := Scalar.indexCast v344
  let c0_163 : Index := 0#32
  ![0, v345.toNat, 0]
def k0_off27 (i : grid0.Coords) (k0_t2 : Fin (k0_t2_loop i).trips) (c1_i32_159 : BitVec 32) : Fin 3 → Nat :=
  let c0_165 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v350 : Index := Scalar.indexCast v344
  let c128_166 : Index := 128#32
  ![0, v350.toNat, 128]
def k0_off28 (i : grid0.Coords) (k0_t2 : Fin (k0_t2_loop i).trips) (c1_i32_159 : BitVec 32) : Fin 3 → Nat :=
  let c0_168 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v355 : Index := Scalar.indexCast v344
  let c256_169 : Index := 256#32
  ![0, v355.toNat, 256]
def k0_off29 (i : grid0.Coords) (k0_t2 : Fin (k0_t2_loop i).trips) (c1_i32_159 : BitVec 32) : Fin 3 → Nat :=
  let c0_171 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v360 : Index := Scalar.indexCast v344
  let c384_172 : Index := 384#32
  ![0, v360.toNat, 384]
def k0_off30 (i : grid0.Coords) (k0_t2 : Fin (k0_t2_loop i).trips) (c1_i32_159 : BitVec 32) : Fin 3 → Nat :=
  let c0_174 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v365 : Index := Scalar.indexCast v344
  let c512_175 : Index := 512#32
  ![0, v365.toNat, 512]
def k0_off31 (i : grid0.Coords) (k0_t2 : Fin (k0_t2_loop i).trips) (c1_i32_159 : BitVec 32) : Fin 3 → Nat :=
  let c0_177 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v370 : Index := Scalar.indexCast v344
  let c640_178 : Index := 640#32
  ![0, v370.toNat, 640]
def k0_off32 (i : grid0.Coords) (k0_t2 : Fin (k0_t2_loop i).trips) (c1_i32_159 : BitVec 32) : Fin 3 → Nat :=
  let c0_180 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v375 : Index := Scalar.indexCast v344
  let c768_181 : Index := 768#32
  ![0, v375.toNat, 768]
def k0_off33 (i : grid0.Coords) (k0_t2 : Fin (k0_t2_loop i).trips) (c1_i32_159 : BitVec 32) : Fin 3 → Nat :=
  let c0_183 : Index := 0#32
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let v340 : BitVec 32 := Scalar.subi v280 c1_i32_159
  let c2_i32_160 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v341 : BitVec 32 := Scalar.muli c2_i32_160 arg8
  let v342 : BitVec 32 := Scalar.subi v340 v341
  let c256_i32_161 : BitVec 32 := 256#32
  let v343 : BitVec 32 := Scalar.muli v342 c256_i32_161
  let v344 : BitVec 32 := v343
  let v380 : Index := Scalar.indexCast v344
  let c896_184 : Index := 896#32
  ![0, v380.toNat, 896]
def k0_mult6 (i : grid0.Coords) (k0_t2 : Fin (k0_t2_loop i).trips) : BitVec 32 :=
  let arg2 : BitVec 32 := BitVec.ofNat 32 (i 2).val
  let c2_i32_116 : BitVec 32 := 2#32
  let c0_i32_117 : BitVec 32 := 0#32
  let v270 : BitVec 1 := Scalar.cmpi .eq c2_i32_116 c0_i32_117
  let c1_i32_118 : BitVec 32 := 1#32
  let v271 : BitVec 32 := Scalar.select v270 c1_i32_118 c2_i32_116
  let v272 : BitVec 32 := Scalar.remsi arg2 v271
  let c0_i32_120 : BitVec 32 := 0#32
  let v274 : BitVec 1 := Scalar.cmpi .slt v272 c0_i32_120
  let c0_i32_121 : BitVec 32 := 0#32
  let v275 : BitVec 1 := Scalar.cmpi .slt v271 c0_i32_121
  let v276 : BitVec 1 := Scalar.xori v274 v275
  let c0_i32_119 : BitVec 32 := 0#32
  let v273 : BitVec 1 := Scalar.cmpi .ne v272 c0_i32_119
  let v277 : BitVec 1 := Scalar.andi v276 v273
  let v278 : BitVec 32 := Scalar.addi v272 v271
  let v279 : BitVec 32 := Scalar.select v277 v278 v272
  let v280 : BitVec 32 := Scalar.subi arg2 v279
  let c2_i32_157 : BitVec 32 := 2#32
  let v337 : BitVec 32 := Scalar.subi v280 c2_i32_157
  let c2_i32_158 : BitVec 32 := 2#32
  let c0_i32_129 : BitVec 32 := 0#32
  let c0_i32_123 : BitVec 32 := 0#32
  let v282 : BitVec 1 := Scalar.cmpi .sgt arg2 c0_i32_123
  let v283 : BitVec 32 := Scalar.extui v282
  let c0_i32_124 : BitVec 32 := 0#32
  let v284 : BitVec 1 := Scalar.cmpi .slt arg2 c0_i32_124
  let v285 : BitVec 32 := Scalar.extui v284
  let v286 : BitVec 32 := Scalar.subi v283 v285
  let c2_i32_122 : BitVec 32 := 2#32
  let c0_i32_125 : BitVec 32 := 0#32
  let v287 : BitVec 1 := Scalar.cmpi .sgt c2_i32_122 c0_i32_125
  let v288 : BitVec 32 := Scalar.extui v287
  let c0_i32_126 : BitVec 32 := 0#32
  let v289 : BitVec 1 := Scalar.cmpi .slt c2_i32_122 c0_i32_126
  let v290 : BitVec 32 := Scalar.extui v289
  let v291 : BitVec 32 := Scalar.subi v288 v290
  let v292 : BitVec 1 := Scalar.cmpi .ne v286 v291
  let v293 : BitVec 32 := Scalar.remsi arg2 c2_i32_122
  let c0_i32_127 : BitVec 32 := 0#32
  let v294 : BitVec 1 := Scalar.cmpi .ne v293 c0_i32_127
  let v295 : BitVec 1 := Scalar.andi v292 v294
  let v281 : BitVec 32 := Scalar.divsi arg2 c2_i32_122
  let c1_i32_128 : BitVec 32 := 1#32
  let v296 : BitVec 32 := Scalar.subi v281 c1_i32_128
  let v297 : BitVec 32 := Scalar.select v295 v296 v281
  let v298 : BitVec 32 := Scalar.subi v297 c0_i32_129
  let c1_i32_130 : BitVec 32 := 1#32
  let v300 : BitVec 32 := Scalar.divsi v298 c1_i32_130
  let v301 : BitVec 32 := Scalar.muli v300 c1_i32_130
  let v302 : BitVec 32 := Scalar.addi c0_i32_129 v301
  let c1_i32_132 : BitVec 32 := 1#32
  let arg8 : BitVec 32 := Scf.iv v302 c1_i32_132 k0_t2
  let v338 : BitVec 32 := Scalar.muli c2_i32_158 arg8
  let v339 : BitVec 32 := Scalar.subi v337 v338
  let c256_i32_223 : BitVec 32 := 256#32
  let v502 : BitVec 32 := Scalar.muli v339 c256_i32_223
  v502
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "sb_scale2" => some (((11863283 / 134217728) * (Real.log 2)⁻¹ : ℝ) : EReal)
  | _ => none
-- ==== Reference.lean ====
abbrev S2x4096x2048 : Shape := ⟨3, ![2, 4096, 2048]⟩
abbrev S16 : Shape := ⟨1, ![16]⟩
abbrev S2x4096x16x128 : Shape := ⟨4, ![2, 4096, 16, 128]⟩
abbrev S4096 : Shape := ⟨1, ![4096]⟩
abbrev S2x16x4096x4096 : Shape := ⟨4, ![2, 16, 4096, 4096]⟩
abbrev S_ : Shape := ⟨0, ![]⟩
abbrev S1x16x1x1 : Shape := ⟨4, ![1, 16, 1, 1]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .f32⟩
  | .hbm, ⟨2, _⟩ => ⟨S2x4096x2048, .f32⟩
  | .hbm, ⟨3, _⟩ => ⟨S16, .f32⟩
  | .hbm, ⟨4, _⟩ => ⟨S2x4096x2048, .f32⟩
  | .hbm, ⟨5, _⟩ => ⟨S2x4096x16x128, .f32⟩
  | .hbm, ⟨6, _⟩ => ⟨S2x4096x16x128, .f32⟩
  | .hbm, ⟨7, _⟩ => ⟨S2x4096x16x128, .f32⟩
  | .hbm, ⟨8, _⟩ => ⟨S4096, .i32⟩
  | .hbm, ⟨9, _⟩ => ⟨S2x16x4096x4096, .f32⟩
  | .hbm, ⟨10, _⟩ => ⟨S_, .f32⟩
  | .hbm, ⟨11, _⟩ => ⟨S2x16x4096x4096, .f32⟩
  | .hbm, ⟨12, _⟩ => ⟨S2x16x4096x4096, .f32⟩
  | .hbm, ⟨13, _⟩ => ⟨S1x16x1x1, .f32⟩
  | .hbm, ⟨14, _⟩ => ⟨S2x16x4096x4096, .f32⟩
  | .hbm, ⟨15, _⟩ => ⟨S2x16x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S2x16x4096x4096, .f32⟩
  | .hbm, ⟨22, _⟩ => ⟨S2x16x4096x4096, .f32⟩
  | .hbm, ⟨23, _⟩ => ⟨S_, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S_, .f32⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S_, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .i1⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S_, .f32⟩
  | .hbm, ⟨66, _⟩ => ⟨S_, .f32⟩
  | .hbm, ⟨67, _⟩ => ⟨S2x16x4096x4096, .i1⟩
  | .hbm, ⟨68, _⟩ => ⟨S2x16x4096x4096, .f32⟩
  | .hbm, ⟨69, _⟩ => ⟨S2x16x4096x4096, .f32⟩
  | .hbm, ⟨70, _⟩ => ⟨S2x16x128x4096, .f32⟩
  | .hbm, ⟨71, _⟩ => ⟨S2x4096x16x128, .f32⟩
  | .hbm, ⟨72, _⟩ => ⟨S2x4096x2048, .f32⟩
  | .hbm, ⟨73, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnIdeal.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnReferenceIdeal.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x11264, .f32⟩
  | .hbm, ⟨22, _⟩ => ⟨S2048x11264, .f32⟩
  | .hbm, ⟨23, _⟩ => ⟨S8192x11264, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632x2048, .f32⟩
  | .hbm, ⟨37, _⟩ => ⟨S5632x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Proj.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjIdeal.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S8192x2048 : Shape := ⟨2, ![8192, 2048]⟩
abbrev S2048 : Shape := ⟨1, ![2048]⟩
abbrev S1x2048x8192 : Shape := ⟨3, ![1, 2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x2048, .f32⟩
  | .hbm, ⟨20, _⟩ => ⟨S2048x2048, .f32⟩
  | .hbm, ⟨21, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Out.lean ====
abbrev S8192x2048 : Shape := ⟨2, ![8192, 2048]⟩
abbrev S8192x4096 : Shape := ⟨2, ![8192, 4096]⟩
abbrev S1x6144x2048 : Shape := ⟨3, ![1, 6144, 2048]⟩
abbrev S1024x256 : Shape := ⟨2, ![1024, 256]⟩
abbrev S1024x4096 : Shape := ⟨2, ![1024, 4096]⟩
abbrev S1024x2048 : Shape := ⟨2, ![1024, 2048]⟩
abbrev S1x4096x256 : Shape := ⟨3, ![1, 4096, 256]⟩
abbrev S1x2048x256 : Shape := ⟨3, ![1, 2048, 256]⟩
abbrev S4096x256 : Shape := ⟨2, ![4096, 256]⟩
abbrev S2048x256 : Shape := ⟨2, ![2048, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S8192x2048, .bf16⟩
  | .hbm, ⟨3, _⟩ => ⟨S1x6144x2048, .f32⟩
  | .hbm, ⟨4, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x4096, .bf16⟩
  | .local _ .vmem, ⟨3, _⟩ => ⟨S1024x4096, .bf16⟩
  | .local _ .vmem, ⟨4, _⟩ => ⟨S1024x2048, .bf16⟩
  | .local _ .vmem, ⟨5, _⟩ => ⟨S1024x2048, .bf16⟩
  | .local _ .vmem, ⟨6, _⟩ => ⟨S1x4096x256, .f32⟩
  | .local _ .vmem, ⟨7, _⟩ => ⟨S1x4096x256, .f32⟩
  | .local _ .vmem, ⟨8, _⟩ => ⟨S1x2048x256, .f32⟩
  | .local _ .vmem, ⟨9, _⟩ => ⟨S1x2048x256, .f32⟩
  | .local _ .vmem, ⟨10, _⟩ => ⟨S1024x256, .f32⟩
  | .local _ .vmem, ⟨11, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutIdeal.lean ====
abbrev S8192x2048 : Shape := ⟨2, ![8192, 2048]⟩
abbrev S8192x4096 : Shape := ⟨2, ![8192, 4096]⟩
abbrev S1x6144x2048 : Shape := ⟨3, ![1, 6144, 2048]⟩
abbrev S1024x256 : Shape := ⟨2, ![1024, 256]⟩
abbrev S1024x4096 : Shape := ⟨2, ![1024, 4096]⟩
abbrev S1024x2048 : Shape := ⟨2, ![1024, 2048]⟩
abbrev S1x4096x256 : Shape := ⟨3, ![1, 4096, 256]⟩
abbrev S1x2048x256 : Shape := ⟨3, ![1, 2048, 256]⟩
abbrev S4096x256 : Shape := ⟨2, ![4096, 256]⟩
abbrev S2048x256 : Shape := ⟨2, ![2048, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S8192x2048, .bf16⟩
  | .hbm, ⟨3, _⟩ => ⟨S1x6144x2048, .f32⟩
  | .hbm, ⟨4, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x4096, .bf16⟩
  | .local _ .vmem, ⟨3, _⟩ => ⟨S1024x4096, .bf16⟩
  | .local _ .vmem, ⟨4, _⟩ => ⟨S1024x2048, .bf16⟩
  | .local _ .vmem, ⟨5, _⟩ => ⟨S1024x2048, .bf16⟩
  | .local _ .vmem, ⟨6, _⟩ => ⟨S1x4096x256, .f32⟩
  | .local _ .vmem, ⟨7, _⟩ => ⟨S1x4096x256, .f32⟩
  | .local _ .vmem, ⟨8, _⟩ => ⟨S1x2048x256, .f32⟩
  | .local _ .vmem, ⟨9, _⟩ => ⟨S1x2048x256, .f32⟩
  | .local _ .vmem, ⟨10, _⟩ => ⟨S1024x256, .f32⟩
  | .local _ .vmem, ⟨11, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S8192x2048 : Shape := ⟨2, ![8192, 2048]⟩
abbrev S8192x4096 : Shape := ⟨2, ![8192, 4096]⟩
abbrev S1x6144x2048 : Shape := ⟨3, ![1, 6144, 2048]⟩
abbrev S8192x6144 : Shape := ⟨2, ![8192, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S8192x2048, .bf16⟩
  | .hbm, ⟨3, _⟩ => ⟨S1x6144x2048, .f32⟩
  | .hbm, ⟨4, _⟩ => ⟨S8192x4096, .f32⟩
  | .hbm, ⟨5, _⟩ => ⟨S8192x2048, .f32⟩
  | .hbm, ⟨6, _⟩ => ⟨S8192x6144, .f32⟩
  | .hbm, ⟨7, _⟩ => ⟨S6144x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Mem.lean ====
abbrev S2x4096x2048 : Shape := ⟨3, ![2, 4096, 2048]⟩
abbrev S2x256x2048 : Shape := ⟨3, ![2, 256, 2048]⟩
abbrev S1x512x2048 : Shape := ⟨3, ![1, 512, 2048]⟩
abbrev S1x256x2048 : Shape := ⟨3, ![1, 256, 2048]⟩
abbrev S1x512x512 : Shape := ⟨3, ![1, 512, 512]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2048, .bf16⟩
  | .hbm, ⟨1, _⟩ => ⟨S2x256x2048, .f32⟩
  | .hbm, ⟨2, _⟩ => ⟨S2x256x2048, .f32⟩
  | .hbm, ⟨3, _⟩ => ⟨S2x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x512x2048, .bf16⟩
  | .local _ .vmem, ⟨7, _⟩ => ⟨S1x512x2048, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemReferenceIdeal.lean ====
abbrev S2x4096x2048 : Shape := ⟨3, ![2, 4096, 2048]⟩
abbrev S2x256x2048 : Shape := ⟨3, ![2, 256, 2048]⟩
abbrev S2x4096x4x512 : Shape := ⟨4, ![2, 4096, 4, 512]⟩
abbrev S2x256x4x512 : Shape := ⟨4, ![2, 256, 4, 512]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x512x4096 : Shape := ⟨4, ![2, 4, 512, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x256x2048, .f32⟩
  | .hbm, ⟨2, _⟩ => ⟨S2x256x2048, .f32⟩
  | .hbm, ⟨3, _⟩ => ⟨S2x4096x2048, .f32⟩
  | .hbm, ⟨4, _⟩ => ⟨S2x4096x4x512, .f32⟩
  | .hbm, ⟨5, _⟩ => ⟨S2x256x4x512, .f32⟩
  | .hbm, ⟨6, _⟩ => ⟨S2x256x4x512, .f32⟩
  | .hbm, ⟨7, _⟩ => ⟨S2x4x4096x256, .f32⟩
  | .hbm, ⟨8, _⟩ => ⟨S_, .f32⟩
  | .hbm, ⟨9, _⟩ => ⟨S2x4x4096x256, .f32⟩
  | .hbm, ⟨10, _⟩ => ⟨S2x4x4096x256, .f32⟩
  | .hbm, ⟨11, _⟩ => ⟨S_, .f32⟩
  | .hbm, ⟨12, _⟩ => ⟨S2x4x4096, .f32⟩
  | .hbm, ⟨13, _⟩ => ⟨S_, .f32⟩
  | .hbm, ⟨14, _⟩ => ⟨S2x4x4096, .f32⟩
  | .hbm, ⟨15, _⟩ => ⟨S2x4x4096, .f32⟩
  | .hbm, ⟨16, _⟩ => ⟨S2x4x4096x1, .f32⟩
  | .hbm, ⟨17, _⟩ => ⟨S2x4x4096x256, .f32⟩
  | .hbm, ⟨18, _⟩ => ⟨S2x4x4096x256, .f32⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x512x4096, .f32⟩
  | .hbm, ⟨26, _⟩ => ⟨S2x4096x4x512, .f32⟩
  | .hbm, ⟨27, _⟩ => ⟨S2x4096x2048, .f32⟩
  | .hbm, ⟨28, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Val.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValIdeal.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValReferenceIdeal.lean ====
abbrev S8192x2048 : Shape := ⟨2, ![8192, 2048]⟩
abbrev S2048 : Shape := ⟨1, ![2048]⟩
abbrev S1x2048x8192 : Shape := ⟨3, ![1, 2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x2048, .f32⟩
  | .hbm, ⟨20, _⟩ => ⟨S2048x2048, .f32⟩
  | .hbm, ⟨21, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MemKey.lean ====
abbrev S512x2048 : Shape := ⟨2, ![512, 2048]⟩
abbrev S2048 : Shape := ⟨1, ![2048]⟩
abbrev S2x2048x4096 : Shape := ⟨3, ![2, 2048, 4096]⟩
abbrev S1x2048 : Shape := ⟨2, ![1, 2048]⟩
abbrev S1x2048x512 : Shape := ⟨3, ![1, 2048, 512]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S1x2048, .f32⟩
  | .hbm, ⟨4, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKeyReferenceIdeal.lean ====
abbrev S512x2048 : Shape := ⟨2, ![512, 2048]⟩
abbrev S2048 : Shape := ⟨1, ![2048]⟩
abbrev S2x2048x4096 : Shape := ⟨3, ![2, 2048, 4096]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S1x2048x2048, .f32⟩
  | .hbm, ⟨20, _⟩ => ⟨S2048x2048, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MemVal.lean ====
abbrev S512x2048 : Shape := ⟨2, ![512, 2048]⟩
abbrev S2048 : Shape := ⟨1, ![2048]⟩
abbrev S2x2048x4096 : Shape := ⟨3, ![2, 2048, 4096]⟩
abbrev S1x2048 : Shape := ⟨2, ![1, 2048]⟩
abbrev S1x2048x512 : Shape := ⟨3, ![1, 2048, 512]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S1x2048, .f32⟩
  | .hbm, ⟨4, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemValReferenceIdeal.lean ====
abbrev S512x2048 : Shape := ⟨2, ![512, 2048]⟩
abbrev S2048 : Shape := ⟨1, ![2048]⟩
abbrev S2x2048x4096 : Shape := ⟨3, ![2, 2048, 4096]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S1x2048x2048, .f32⟩
  | .hbm, ⟨20, _⟩ => ⟨S2048x2048, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Conv.lean ====
abbrev S8192x2048 : Shape := ⟨2, ![8192, 2048]⟩
abbrev S2048 : Shape := ⟨1, ![2048]⟩
abbrev S1x2048x12352 : Shape := ⟨3, ![1, 2048, 12352]⟩
abbrev S1x2048 : Shape := ⟨2, ![1, 2048]⟩
abbrev S8192x6144 : Shape := ⟨2, ![8192, 6144]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048, .f32⟩
  | .hbm, ⟨4, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvIdeal.lean ====
abbrev S8192x2048 : Shape := ⟨2, ![8192, 2048]⟩
abbrev S2048 : Shape := ⟨1, ![2048]⟩
abbrev S1x2048x12352 : Shape := ⟨3, ![1, 2048, 12352]⟩
abbrev S1x2048 : Shape := ⟨2, ![1, 2048]⟩
abbrev S8192x6144 : Shape := ⟨2, ![8192, 6144]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048, .f32⟩
  | .hbm, ⟨4, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvReferenceIdeal.lean ====
abbrev S8192x2048 : Shape := ⟨2, ![8192, 2048]⟩
abbrev S2048 : Shape := ⟨1, ![2048]⟩
abbrev S1x2048x12352 : Shape := ⟨3, ![1, 2048, 12352]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x6144, .f32⟩
  | .hbm, ⟨20, _⟩ => ⟨S2048x6144, .f32⟩
  | .hbm, ⟨21, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleKey.lean ====
abbrev S1024x2048 : Shape := ⟨2, ![1024, 2048]⟩
abbrev S2048 : Shape := ⟨1, ![2048]⟩
abbrev S1x2048x8192 : Shape := ⟨3, ![1, 2048, 8192]⟩
abbrev S1x2048 : Shape := ⟨2, ![1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleKeyReferenceIdeal.lean ====
abbrev S1024x2048 : Shape := ⟨2, ![1024, 2048]⟩
abbrev S2048 : Shape := ⟨1, ![2048]⟩
abbrev S1x2048x8192 : Shape := ⟨3, ![1, 2048, 8192]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x2048, .f32⟩
  | .hbm, ⟨20, _⟩ => ⟨S2048x2048, .f32⟩
  | .hbm, ⟨21, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleVal.lean ====
abbrev S1024x2048 : Shape := ⟨2, ![1024, 2048]⟩
abbrev S2048 : Shape := ⟨1, ![2048]⟩
abbrev S1x2048x8192 : Shape := ⟨3, ![1, 2048, 8192]⟩
abbrev S1x2048 : Shape := ⟨2, ![1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleValReferenceIdeal.lean ====
abbrev S1024x2048 : Shape := ⟨2, ![1024, 2048]⟩
abbrev S2048 : Shape := ⟨1, ![2048]⟩
abbrev S1x2048x8192 : Shape := ⟨3, ![1, 2048, 8192]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x2048, .f32⟩
  | .hbm, ⟨20, _⟩ => ⟨S2048x2048, .f32⟩
  | .hbm, ⟨21, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleConv.lean ====
abbrev S1024x2048 : Shape := ⟨2, ![1024, 2048]⟩
abbrev S2048 : Shape := ⟨1, ![2048]⟩
abbrev S1x2048x12352 : Shape := ⟨3, ![1, 2048, 12352]⟩
abbrev S1x2048 : Shape := ⟨2, ![1, 2048]⟩
abbrev S1024x6144 : Shape := ⟨2, ![1024, 6144]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1x2048, .f32⟩
  | .hbm, ⟨4, _⟩ => ⟨S1024x6144, .f32⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleConvReferenceIdeal.lean ====
abbrev S1024x2048 : Shape := ⟨2, ![1024, 2048]⟩
abbrev S2048 : Shape := ⟨1, ![2048]⟩
abbrev S1x2048x12352 : Shape := ⟨3, ![1, 2048, 12352]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x6144 : Shape := ⟨3, ![1, 2048, 6144]⟩
abbrev S2048x6144 : Shape := ⟨2, ![2048, 6144]⟩
abbrev S1024x6144 : Shape := ⟨2, ![1024, 6144]⟩

abbrev nBuf : Space → Nat
  | .hbm => 22
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x6144, .f32⟩
  | .hbm, ⟨20, _⟩ => ⟨S2048x6144, .f32⟩
  | .hbm, ⟨21, _⟩ => ⟨S1024x6144, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleFfn.lean ====
abbrev S1024x2048 : Shape := ⟨2, ![1024, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1024x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SampleFfnReferenceIdeal.lean ====
abbrev S1024x2048 : Shape := ⟨2, ![1024, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x11264 : Shape := ⟨3, ![1, 2048, 11264]⟩
abbrev S2048x11264 : Shape := ⟨2, ![2048, 11264]⟩
abbrev S1024x11264 : Shape := ⟨2, ![1024, 11264]⟩
abbrev S1024x5632 : Shape := ⟨2, ![1024, 5632]⟩
abbrev S1x5632x2048 : Shape := ⟨3, ![1, 5632, 2048]⟩
abbrev S5632x2048 : Shape := ⟨2, ![5632, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S1x2048x11264, .f32⟩
  | .hbm, ⟨22, _⟩ => ⟨S2048x11264, .f32⟩
  | .hbm, ⟨23, _⟩ => ⟨S1024x11264, .f32⟩
  | .hbm, ⟨24, _⟩ => ⟨S1024x5632, .f32⟩
  | .hbm, ⟨25, _⟩ => ⟨S1024x5632, .f32⟩
  | .hbm, ⟨26, _⟩ => ⟨S1024x5632, .f32⟩
  | .hbm, ⟨27, _⟩ => ⟨S1024x5632, .f32⟩
  | .hbm, ⟨28, _⟩ => ⟨S_, .f32⟩
  | .hbm, ⟨29, _⟩ => ⟨S1024x5632, .f32⟩
  | .hbm, ⟨30, _⟩ => ⟨S1024x5632, .f32⟩
  | .hbm, ⟨31, _⟩ => ⟨S_, .f32⟩
  | .hbm, ⟨32, _⟩ => ⟨S1024x5632, .f32⟩
  | .hbm, ⟨33, _⟩ => ⟨S1024x5632, .f32⟩
  | .hbm, ⟨34, _⟩ => ⟨S1024x5632, .f32⟩
  | .hbm, ⟨35, _⟩ => ⟨S1024x5632, .f32⟩
  | .hbm, ⟨36, _⟩ => ⟨S1x5632x2048, .f32⟩
  | .hbm, ⟨37, _⟩ => ⟨S5632x2048, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S_, .f32⟩
  | .hbm, ⟨51, _⟩ => ⟨S1024x1, .f32⟩
  | .hbm, ⟨52, _⟩ => ⟨S1024x1, .f32⟩
  | .hbm, ⟨53, _⟩ => ⟨S1024x1, .f32⟩
  | .hbm, ⟨54, _⟩ => ⟨S1024x2048, .f32⟩
  | .hbm, ⟨55, _⟩ => ⟨S1024x2048, .f32⟩
  | .hbm, ⟨56, _⟩ => ⟨S1x2048, .f32⟩
  | .hbm, ⟨57, _⟩ => ⟨S1024x2048, .f32⟩
  | .hbm, ⟨58, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Half.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== HalfIdeal.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== HalfReferenceIdeal.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048x11264, .f32⟩
  | .hbm, ⟨21, _⟩ => ⟨S2048x11264, .f32⟩
  | .hbm, ⟨22, _⟩ => ⟨S8192x11264, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S1x5632x2048, .f32⟩
  | .hbm, ⟨36, _⟩ => ⟨S5632x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== SbOut.lean ====
abbrev S8192x2048 : Shape := ⟨2, ![8192, 2048]⟩
abbrev S1x4096x2048 : Shape := ⟨3, ![1, 4096, 2048]⟩
abbrev S1024x256 : Shape := ⟨2, ![1024, 256]⟩
abbrev S1024x2048 : Shape := ⟨2, ![1024, 2048]⟩
abbrev S1x2048x256 : Shape := ⟨3, ![1, 2048, 256]⟩
abbrev S2048x256 : Shape := ⟨2, ![2048, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x4096x2048, .f32⟩
  | .hbm, ⟨4, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1024x256, .f32⟩
  | .local _ .vmem, ⟨11, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbOutIdeal.lean ====
abbrev S8192x2048 : Shape := ⟨2, ![8192, 2048]⟩
abbrev S1x4096x2048 : Shape := ⟨3, ![1, 4096, 2048]⟩
abbrev S1024x256 : Shape := ⟨2, ![1024, 256]⟩
abbrev S1024x2048 : Shape := ⟨2, ![1024, 2048]⟩
abbrev S1x2048x256 : Shape := ⟨3, ![1, 2048, 256]⟩
abbrev S2048x256 : Shape := ⟨2, ![2048, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x4096x2048, .f32⟩
  | .hbm, ⟨4, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1024x256, .f32⟩
  | .local _ .vmem, ⟨11, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbOutReferenceIdeal.lean ====
abbrev S8192x2048 : Shape := ⟨2, ![8192, 2048]⟩
abbrev S1x4096x2048 : Shape := ⟨3, ![1, 4096, 2048]⟩
abbrev S8192x4096 : Shape := ⟨2, ![8192, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x4096x2048, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S4096x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MemKeyLast.lean ====
abbrev S512x2048 : Shape := ⟨2, ![512, 2048]⟩
abbrev S2048 : Shape := ⟨1, ![2048]⟩
abbrev S2x2048x4096 : Shape := ⟨3, ![2, 2048, 4096]⟩
abbrev S1x2048 : Shape := ⟨2, ![1, 2048]⟩
abbrev S1x2048x512 : Shape := ⟨3, ![1, 2048, 512]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S1x2048, .f32⟩
  | .hbm, ⟨4, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKeyLastReferenceIdeal.lean ====
abbrev S512x2048 : Shape := ⟨2, ![512, 2048]⟩
abbrev S2048 : Shape := ⟨1, ![2048]⟩
abbrev S2x2048x4096 : Shape := ⟨3, ![2, 2048, 4096]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S1x2048x2048, .f32⟩
  | .hbm, ⟨20, _⟩ => ⟨S2048x2048, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MemValLast.lean ====
abbrev S512x2048 : Shape := ⟨2, ![512, 2048]⟩
abbrev S2048 : Shape := ⟨1, ![2048]⟩
abbrev S2x2048x4096 : Shape := ⟨3, ![2, 2048, 4096]⟩
abbrev S1x2048 : Shape := ⟨2, ![1, 2048]⟩
abbrev S1x2048x512 : Shape := ⟨3, ![1, 2048, 512]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S1x2048, .f32⟩
  | .hbm, ⟨4, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemValLastReferenceIdeal.lean ====
abbrev S512x2048 : Shape := ⟨2, ![512, 2048]⟩
abbrev S2048 : Shape := ⟨1, ![2048]⟩
abbrev S2x2048x4096 : Shape := ⟨3, ![2, 2048, 4096]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x4096, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S1x2048x2048, .f32⟩
  | .hbm, ⟨20, _⟩ => ⟨S2048x2048, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Gate.lean ====
abbrev S8192x2048 : Shape := ⟨2, ![8192, 2048]⟩
abbrev S2048 : Shape := ⟨1, ![2048]⟩
abbrev S1x2048x12352 : Shape := ⟨3, ![1, 2048, 12352]⟩
abbrev S1x2048 : Shape := ⟨2, ![1, 2048]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048, .f32⟩
  | .hbm, ⟨4, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateIdeal.lean ====
abbrev S8192x2048 : Shape := ⟨2, ![8192, 2048]⟩
abbrev S2048 : Shape := ⟨1, ![2048]⟩
abbrev S1x2048x12352 : Shape := ⟨3, ![1, 2048, 12352]⟩
abbrev S1x2048 : Shape := ⟨2, ![1, 2048]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048, .f32⟩
  | .hbm, ⟨4, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateReferenceIdeal.lean ====
abbrev S8192x2048 : Shape := ⟨2, ![8192, 2048]⟩
abbrev S2048 : Shape := ⟨1, ![2048]⟩
abbrev S1x2048x12352 : Shape := ⟨3, ![1, 2048, 12352]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x4096, .f32⟩
  | .hbm, ⟨20, _⟩ => ⟨S2048x4096, .f32⟩
  | .hbm, ⟨21, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Step.lean ====
abbrev S8192x2048 : Shape := ⟨2, ![8192, 2048]⟩
abbrev S2048 : Shape := ⟨1, ![2048]⟩
abbrev S1x2048x12352 : Shape := ⟨3, ![1, 2048, 12352]⟩
abbrev S1x2048x64 : Shape := ⟨3, ![1, 2048, 64]⟩
abbrev S1x2048 : Shape := ⟨2, ![1, 2048]⟩
abbrev S8192x64 : Shape := ⟨2, ![8192, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩
abbrev S2048x64 : Shape := ⟨2, ![2048, 64]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048x64, .f32⟩
  | .hbm, ⟨4, _⟩ => ⟨S1x2048, .f32⟩
  | .hbm, ⟨5, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x64, .f32⟩
  | .local _ .vmem, ⟨4, _⟩ => ⟨S1024x64, .f32⟩
  | .local _ .vmem, ⟨5, _⟩ => ⟨S1024x64, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StepIdeal.lean ====
abbrev S8192x2048 : Shape := ⟨2, ![8192, 2048]⟩
abbrev S2048 : Shape := ⟨1, ![2048]⟩
abbrev S1x2048x12352 : Shape := ⟨3, ![1, 2048, 12352]⟩
abbrev S1x2048x64 : Shape := ⟨3, ![1, 2048, 64]⟩
abbrev S1x2048 : Shape := ⟨2, ![1, 2048]⟩
abbrev S8192x64 : Shape := ⟨2, ![8192, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩
abbrev S2048x64 : Shape := ⟨2, ![2048, 64]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048x64, .f32⟩
  | .hbm, ⟨4, _⟩ => ⟨S1x2048, .f32⟩
  | .hbm, ⟨5, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x64, .f32⟩
  | .local _ .vmem, ⟨4, _⟩ => ⟨S1024x64, .f32⟩
  | .local _ .vmem, ⟨5, _⟩ => ⟨S1024x64, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StepReferenceIdeal.lean ====
abbrev S8192x2048 : Shape := ⟨2, ![8192, 2048]⟩
abbrev S2048 : Shape := ⟨1, ![2048]⟩
abbrev S1x2048x12352 : Shape := ⟨3, ![1, 2048, 12352]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x64 : Shape := ⟨3, ![1, 2048, 64]⟩
abbrev S2048x64 : Shape := ⟨2, ![2048, 64]⟩
abbrev S8192x64 : Shape := ⟨2, ![8192, 64]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x64, .f32⟩
  | .hbm, ⟨20, _⟩ => ⟨S2048x64, .f32⟩
  | .hbm, ⟨21, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SsdMemQuery.lean ====
abbrev S8192x2048 : Shape := ⟨2, ![8192, 2048]⟩
abbrev S2048 : Shape := ⟨1, ![2048]⟩
abbrev S1x2048x12352 : Shape := ⟨3, ![1, 2048, 12352]⟩
abbrev S1x2048x2048 : Shape := ⟨3, ![1, 2048, 2048]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048x2048, .f32⟩
  | .hbm, ⟨4, _⟩ => ⟨S1x2048, .f32⟩
  | .hbm, ⟨5, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdMemQueryIdeal.lean ====
abbrev S8192x2048 : Shape := ⟨2, ![8192, 2048]⟩
abbrev S2048 : Shape := ⟨1, ![2048]⟩
abbrev S1x2048x12352 : Shape := ⟨3, ![1, 2048, 12352]⟩
abbrev S1x2048x2048 : Shape := ⟨3, ![1, 2048, 2048]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S1x2048x2048, .f32⟩
  | .hbm, ⟨4, _⟩ => ⟨S1x2048, .f32⟩
  | .hbm, ⟨5, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdMemQueryReferenceIdeal.lean ====
abbrev S8192x2048 : Shape := ⟨2, ![8192, 2048]⟩
abbrev S2048 : Shape := ⟨1, ![2048]⟩
abbrev S1x2048x12352 : Shape := ⟨3, ![1, 2048, 12352]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x12352, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x2048, .f32⟩
  | .hbm, ⟨20, _⟩ => ⟨S2048x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Query.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryIdeal.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryReferenceIdeal.lean ====
abbrev S8192x2048 : Shape := ⟨2, ![8192, 2048]⟩
abbrev S2048 : Shape := ⟨1, ![2048]⟩
abbrev S1x2048x8192 : Shape := ⟨3, ![1, 2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x2048, .f32⟩
  | .hbm, ⟨20, _⟩ => ⟨S2048x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== SbMemQuery.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbMemQueryIdeal.lean ====
abbrev S8192x2048 : Shape := ⟨2, ![8192, 2048]⟩
abbrev S2048 : Shape := ⟨1, ![2048]⟩
abbrev S1x2048x8192 : Shape := ⟨3, ![1, 2048, 8192]⟩
abbrev S1x2048 : Shape := ⟨2, ![1, 2048]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbMemQueryReferenceIdeal.lean ====
abbrev S8192x2048 : Shape := ⟨2, ![8192, 2048]⟩
abbrev S2048 : Shape := ⟨1, ![2048]⟩
abbrev S1x2048x8192 : Shape := ⟨3, ![1, 2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x2048x2048, .f32⟩
  | .hbm, ⟨20, _⟩ => ⟨S2048x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== SampleOut.lean ====
abbrev S1024x2048 : Shape := ⟨2, ![1024, 2048]⟩
abbrev S1024x4096 : Shape := ⟨2, ![1024, 4096]⟩
abbrev S1x6144x2048 : Shape := ⟨3, ![1, 6144, 2048]⟩
abbrev S1024x256 : Shape := ⟨2, ![1024, 256]⟩
abbrev S1x4096x256 : Shape := ⟨3, ![1, 4096, 256]⟩
abbrev S1x2048x256 : Shape := ⟨3, ![1, 2048, 256]⟩
abbrev S4096x256 : Shape := ⟨2, ![4096, 256]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S1024x4096, .bf16⟩
  | .hbm, ⟨2, _⟩ => ⟨S1024x2048, .bf16⟩
  | .hbm, ⟨3, _⟩ => ⟨S1x6144x2048, .f32⟩
  | .hbm, ⟨4, _⟩ => ⟨S1024x2048, .f32⟩
  | .local _ .vmem, ⟨0, _⟩ => ⟨S1024x256, .f32⟩
  | .local _ .vmem, ⟨1, _⟩ => ⟨S1024x256, .f32⟩
  | .local _ .vmem, ⟨2, _⟩ => ⟨S1024x4096, .bf16⟩
  | .local _ .vmem, ⟨3, _⟩ => ⟨S1024x2048, .bf16⟩
  | .local _ .vmem, ⟨4, _⟩ => ⟨S1x4096x256, .f32⟩
  | .local _ .vmem, ⟨5, _⟩ => ⟨S1x4096x256, .f32⟩
  | .local _ .vmem, ⟨6, _⟩ => ⟨S1x2048x256, .f32⟩
  | .local _ .vmem, ⟨7, _⟩ => ⟨S1x2048x256, .f32⟩
  | .local _ .vmem, ⟨8, _⟩ => ⟨S1024x256, .f32⟩
  | .local _ .vmem, ⟨9, _⟩ => ⟨S1024x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SampleOutIdeal.lean ====
abbrev S1024x2048 : Shape := ⟨2, ![1024, 2048]⟩
abbrev S1024x4096 : Shape := ⟨2, ![1024, 4096]⟩
abbrev S1x6144x2048 : Shape := ⟨3, ![1, 6144, 2048]⟩
abbrev S1024x256 : Shape := ⟨2, ![1024, 256]⟩
abbrev S1x4096x256 : Shape := ⟨3, ![1, 4096, 256]⟩
abbrev S1x2048x256 : Shape := ⟨3, ![1, 2048, 256]⟩
abbrev S4096x256 : Shape := ⟨2, ![4096, 256]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S1024x4096, .bf16⟩
  | .hbm, ⟨2, _⟩ => ⟨S1024x2048, .bf16⟩
  | .hbm, ⟨3, _⟩ => ⟨S1x6144x2048, .f32⟩
  | .hbm, ⟨4, _⟩ => ⟨S1024x2048, .f32⟩
  | .local _ .vmem, ⟨0, _⟩ => ⟨S1024x256, .f32⟩
  | .local _ .vmem, ⟨1, _⟩ => ⟨S1024x256, .f32⟩
  | .local _ .vmem, ⟨2, _⟩ => ⟨S1024x4096, .bf16⟩
  | .local _ .vmem, ⟨3, _⟩ => ⟨S1024x2048, .bf16⟩
  | .local _ .vmem, ⟨4, _⟩ => ⟨S1x4096x256, .f32⟩
  | .local _ .vmem, ⟨5, _⟩ => ⟨S1x4096x256, .f32⟩
  | .local _ .vmem, ⟨6, _⟩ => ⟨S1x2048x256, .f32⟩
  | .local _ .vmem, ⟨7, _⟩ => ⟨S1x2048x256, .f32⟩
  | .local _ .vmem, ⟨8, _⟩ => ⟨S1024x256, .f32⟩
  | .local _ .vmem, ⟨9, _⟩ => ⟨S1024x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SampleOutReferenceIdeal.lean ====
abbrev S1024x2048 : Shape := ⟨2, ![1024, 2048]⟩
abbrev S1024x4096 : Shape := ⟨2, ![1024, 4096]⟩
abbrev S1x6144x2048 : Shape := ⟨3, ![1, 6144, 2048]⟩
abbrev S1024x6144 : Shape := ⟨2, ![1024, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x4096, .bf16⟩
  | .hbm, ⟨2, _⟩ => ⟨S1024x2048, .bf16⟩
  | .hbm, ⟨3, _⟩ => ⟨S1x6144x2048, .f32⟩
  | .hbm, ⟨4, _⟩ => ⟨S1024x4096, .f32⟩
  | .hbm, ⟨5, _⟩ => ⟨S1024x2048, .f32⟩
  | .hbm, ⟨6, _⟩ => ⟨S1024x6144, .f32⟩
  | .hbm, ⟨7, _⟩ => ⟨S6144x2048, .f32⟩
  | .hbm, ⟨8, _⟩ => ⟨S1024x2048, .f32⟩
  | .hbm, ⟨9, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SampleSbOut.lean ====
abbrev S1024x2048 : Shape := ⟨2, ![1024, 2048]⟩
abbrev S1x4096x2048 : Shape := ⟨3, ![1, 4096, 2048]⟩
abbrev S1024x256 : Shape := ⟨2, ![1024, 256]⟩
abbrev S1x2048x256 : Shape := ⟨3, ![1, 2048, 256]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1024x2048, .bf16⟩
  | .hbm, ⟨3, _⟩ => ⟨S1x4096x2048, .f32⟩
  | .hbm, ⟨4, _⟩ => ⟨S1024x2048, .f32⟩
  | .local _ .vmem, ⟨0, _⟩ => ⟨S1024x256, .f32⟩
  | .local _ .vmem, ⟨1, _⟩ => ⟨S1024x256, .f32⟩
  | .local _ .vmem, ⟨2, _⟩ => ⟨S1024x2048, .bf16⟩
  | .local _ .vmem, ⟨3, _⟩ => ⟨S1024x2048, .bf16⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1024x256, .f32⟩
  | .local _ .vmem, ⟨9, _⟩ => ⟨S1024x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SampleSbOutReferenceIdeal.lean ====
abbrev S1024x2048 : Shape := ⟨2, ![1024, 2048]⟩
abbrev S1x4096x2048 : Shape := ⟨3, ![1, 4096, 2048]⟩
abbrev S1024x4096 : Shape := ⟨2, ![1024, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1024x2048, .bf16⟩
  | .hbm, ⟨3, _⟩ => ⟨S1x4096x2048, .f32⟩
  | .hbm, ⟨4, _⟩ => ⟨S1024x2048, .f32⟩
  | .hbm, ⟨5, _⟩ => ⟨S1024x2048, .f32⟩
  | .hbm, ⟨6, _⟩ => ⟨S1024x4096, .f32⟩
  | .hbm, ⟨7, _⟩ => ⟨S4096x2048, .f32⟩
  | .hbm, ⟨8, _⟩ => ⟨S1024x2048, .f32⟩
  | .hbm, ⟨9, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SampleHalf.lean ====
abbrev S1024x2048 : Shape := ⟨2, ![1024, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S1x2048, .f32⟩
  | .hbm, ⟨6, _⟩ => ⟨S1024x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SampleHalfReferenceIdeal.lean ====
abbrev S1024x2048 : Shape := ⟨2, ![1024, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x11264 : Shape := ⟨3, ![1, 2048, 11264]⟩
abbrev S2048x11264 : Shape := ⟨2, ![2048, 11264]⟩
abbrev S1024x11264 : Shape := ⟨2, ![1024, 11264]⟩
abbrev S1024x5632 : Shape := ⟨2, ![1024, 5632]⟩
abbrev S1x5632x2048 : Shape := ⟨3, ![1, 5632, 2048]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1024x2048, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x2048, .f32⟩
  | .hbm, ⟨16, _⟩ => ⟨S1024x2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S1x2048x11264, .f32⟩
  | .hbm, ⟨21, _⟩ => ⟨S2048x11264, .f32⟩
  | .hbm, ⟨22, _⟩ => ⟨S1024x11264, .f32⟩
  | .hbm, ⟨23, _⟩ => ⟨S1024x5632, .f32⟩
  | .hbm, ⟨24, _⟩ => ⟨S1024x5632, .f32⟩
  | .hbm, ⟨25, _⟩ => ⟨S1024x5632, .f32⟩
  | .hbm, ⟨26, _⟩ => ⟨S1024x5632, .f32⟩
  | .hbm, ⟨27, _⟩ => ⟨S_, .f32⟩
  | .hbm, ⟨28, _⟩ => ⟨S1024x5632, .f32⟩
  | .hbm, ⟨29, _⟩ => ⟨S1024x5632, .f32⟩
  | .hbm, ⟨30, _⟩ => ⟨S_, .f32⟩
  | .hbm, ⟨31, _⟩ => ⟨S1024x5632, .f32⟩
  | .hbm, ⟨32, _⟩ => ⟨S1024x5632, .f32⟩
  | .hbm, ⟨33, _⟩ => ⟨S1024x5632, .f32⟩
  | .hbm, ⟨34, _⟩ => ⟨S1024x5632, .f32⟩
  | .hbm, ⟨35, _⟩ => ⟨S1x5632x2048, .f32⟩
  | .hbm, ⟨36, _⟩ => ⟨S5632x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== SampleGate.lean ====
abbrev S1024x2048 : Shape := ⟨2, ![1024, 2048]⟩
abbrev S2048 : Shape := ⟨1, ![2048]⟩
abbrev S1x2048x12352 : Shape := ⟨3, ![1, 2048, 12352]⟩
abbrev S1x2048 : Shape := ⟨2, ![1, 2048]⟩
abbrev S1024x4096 : Shape := ⟨2, ![1024, 4096]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1x2048, .f32⟩
  | .hbm, ⟨4, _⟩ => ⟨S1024x4096, .f32⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleGateReferenceIdeal.lean ====
abbrev S1024x2048 : Shape := ⟨2, ![1024, 2048]⟩
abbrev S2048 : Shape := ⟨1, ![2048]⟩
abbrev S1x2048x12352 : Shape := ⟨3, ![1, 2048, 12352]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x4096 : Shape := ⟨3, ![1, 2048, 4096]⟩
abbrev S2048x4096 : Shape := ⟨2, ![2048, 4096]⟩
abbrev S1024x4096 : Shape := ⟨2, ![1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x4096, .f32⟩
  | .hbm, ⟨20, _⟩ => ⟨S2048x4096, .f32⟩
  | .hbm, ⟨21, _⟩ => ⟨S1024x4096, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleStep.lean ====
abbrev S1024x2048 : Shape := ⟨2, ![1024, 2048]⟩
abbrev S2048 : Shape := ⟨1, ![2048]⟩
abbrev S1x2048x12352 : Shape := ⟨3, ![1, 2048, 12352]⟩
abbrev S1x2048x64 : Shape := ⟨3, ![1, 2048, 64]⟩
abbrev S1x2048 : Shape := ⟨2, ![1, 2048]⟩
abbrev S1024x64 : Shape := ⟨2, ![1024, 64]⟩
abbrev S1024 : Shape := ⟨1, ![1024]⟩
abbrev S1024x1 : Shape := ⟨2, ![1024, 1]⟩
abbrev S2048x64 : Shape := ⟨2, ![2048, 64]⟩

abbrev nBuf : Space → Nat
  | .hbm => 6
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1x2048x64, .f32⟩
  | .hbm, ⟨4, _⟩ => ⟨S1x2048, .f32⟩
  | .hbm, ⟨5, _⟩ => ⟨S1024x64, .f32⟩
  | .local _ .vmem, ⟨0, _⟩ => ⟨S1024x2048, .f32⟩
  | .local _ .vmem, ⟨1, _⟩ => ⟨S1x2048, .f32⟩
  | .local _ .vmem, ⟨2, _⟩ => ⟨S1x2048x64, .f32⟩
  | .local _ .vmem, ⟨3, _⟩ => ⟨S1024x64, .f32⟩
  | .local _ .vmem, ⟨4, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== SampleStepReferenceIdeal.lean ====
abbrev S1024x2048 : Shape := ⟨2, ![1024, 2048]⟩
abbrev S2048 : Shape := ⟨1, ![2048]⟩
abbrev S1x2048x12352 : Shape := ⟨3, ![1, 2048, 12352]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x64 : Shape := ⟨3, ![1, 2048, 64]⟩
abbrev S2048x64 : Shape := ⟨2, ![2048, 64]⟩
abbrev S1024x64 : Shape := ⟨2, ![1024, 64]⟩

abbrev nBuf : Space → Nat
  | .hbm => 22
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x64, .f32⟩
  | .hbm, ⟨20, _⟩ => ⟨S2048x64, .f32⟩
  | .hbm, ⟨21, _⟩ => ⟨S1024x64, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SampleSsdMemQuery.lean ====
abbrev S1024x2048 : Shape := ⟨2, ![1024, 2048]⟩
abbrev S2048 : Shape := ⟨1, ![2048]⟩
abbrev S1x2048x12352 : Shape := ⟨3, ![1, 2048, 12352]⟩
abbrev S1x2048x2048 : Shape := ⟨3, ![1, 2048, 2048]⟩
abbrev S1x2048 : Shape := ⟨2, ![1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1x2048x2048, .f32⟩
  | .hbm, ⟨4, _⟩ => ⟨S1x2048, .f32⟩
  | .hbm, ⟨5, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleSsdMemQueryReferenceIdeal.lean ====
abbrev S1024x2048 : Shape := ⟨2, ![1024, 2048]⟩
abbrev S2048 : Shape := ⟨1, ![2048]⟩
abbrev S1x2048x12352 : Shape := ⟨3, ![1, 2048, 12352]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x12352, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x2048, .f32⟩
  | .hbm, ⟨20, _⟩ => ⟨S2048x2048, .f32⟩
  | .hbm, ⟨21, _⟩ => ⟨S1024x2048, .f32⟩
  | .hbm, ⟨22, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== SampleQuery.lean ====
abbrev S1024x2048 : Shape := ⟨2, ![1024, 2048]⟩
abbrev S2048 : Shape := ⟨1, ![2048]⟩
abbrev S1x2048x8192 : Shape := ⟨3, ![1, 2048, 8192]⟩
abbrev S1x2048 : Shape := ⟨2, ![1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleQueryReferenceIdeal.lean ====
abbrev S1024x2048 : Shape := ⟨2, ![1024, 2048]⟩
abbrev S2048 : Shape := ⟨1, ![2048]⟩
abbrev S1x2048x8192 : Shape := ⟨3, ![1, 2048, 8192]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x2048, .f32⟩
  | .hbm, ⟨20, _⟩ => ⟨S2048x2048, .f32⟩
  | .hbm, ⟨21, _⟩ => ⟨S1024x2048, .f32⟩
  | .hbm, ⟨22, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== SampleSbMemQuery.lean ====
abbrev S1024x2048 : Shape := ⟨2, ![1024, 2048]⟩
abbrev S2048 : Shape := ⟨1, ![2048]⟩
abbrev S1x2048x8192 : Shape := ⟨3, ![1, 2048, 8192]⟩
abbrev S1x2048 : Shape := ⟨2, ![1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1x2048, .f32⟩
  | .hbm, ⟨4, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleSbMemQueryReferenceIdeal.lean ====
abbrev S1024x2048 : Shape := ⟨2, ![1024, 2048]⟩
abbrev S2048 : Shape := ⟨1, ![2048]⟩
abbrev S1x2048x8192 : Shape := ⟨3, ![1, 2048, 8192]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048x8192, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1x2048x2048, .f32⟩
  | .hbm, ⟨20, _⟩ => ⟨S2048x2048, .f32⟩
  | .hbm, ⟨21, _⟩ => ⟨S1024x2048, .f32⟩
  | .hbm, ⟨22, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== HalfLast.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== HalfLastIdeal.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== HalfLastReferenceIdeal.lean ====
abbrev S8192x2048 : Shape := ⟨2, ![8192, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S1x2048x11264, .f32⟩
  | .hbm, ⟨21, _⟩ => ⟨S2048x11264, .f32⟩
  | .hbm, ⟨22, _⟩ => ⟨S8192x11264, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S1x5632x2048, .f32⟩
  | .hbm, ⟨36, _⟩ => ⟨S5632x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== SampleHalfLast.lean ====
abbrev S1024x2048 : Shape := ⟨2, ![1024, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S1x2048, .f32⟩
  | .hbm, ⟨6, _⟩ => ⟨S1024x2048, .f32⟩
  | .local _ .vmem, ⟨0, _⟩ => ⟨S1x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SampleHalfLastReferenceIdeal.lean ====
abbrev S1024x2048 : Shape := ⟨2, ![1024, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x11264 : Shape := ⟨3, ![1, 2048, 11264]⟩
abbrev S2048x11264 : Shape := ⟨2, ![2048, 11264]⟩
abbrev S1024x11264 : Shape := ⟨2, ![1024, 11264]⟩
abbrev S1024x5632 : Shape := ⟨2, ![1024, 5632]⟩
abbrev S1x5632x2048 : Shape := ⟨3, ![1, 5632, 2048]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1024x2048, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x2048, .f32⟩
  | .hbm, ⟨16, _⟩ => ⟨S1024x2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S1x2048x11264, .f32⟩
  | .hbm, ⟨21, _⟩ => ⟨S2048x11264, .f32⟩
  | .hbm, ⟨22, _⟩ => ⟨S1024x11264, .f32⟩
  | .hbm, ⟨23, _⟩ => ⟨S1024x5632, .f32⟩
  | .hbm, ⟨24, _⟩ => ⟨S1024x5632, .f32⟩
  | .hbm, ⟨25, _⟩ => ⟨S1024x5632, .f32⟩
  | .hbm, ⟨26, _⟩ => ⟨S1024x5632, .f32⟩
  | .hbm, ⟨27, _⟩ => ⟨S_, .f32⟩
  | .hbm, ⟨28, _⟩ => ⟨S1024x5632, .f32⟩
  | .hbm, ⟨29, _⟩ => ⟨S1024x5632, .f32⟩
  | .hbm, ⟨30, _⟩ => ⟨S_, .f32⟩
  | .hbm, ⟨31, _⟩ => ⟨S1024x5632, .f32⟩
  | .hbm, ⟨32, _⟩ => ⟨S1024x5632, .f32⟩
  | .hbm, ⟨33, _⟩ => ⟨S1024x5632, .f32⟩
  | .hbm, ⟨34, _⟩ => ⟨S1024x5632, .f32⟩
  | .hbm, ⟨35, _⟩ => ⟨S1x5632x2048, .f32⟩
  | .hbm, ⟨36, _⟩ => ⟨S5632x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.OutValue.lean ====
/- What the output projection leaves in its result array: the residual plus the two products, block by block, is the
   residual plus one product with the two activations side by side. -/
module

public import proofs.«01_k».proof.Proof.Gen.OutIdeal.Value
public import proofs.«01_k».proof.Proof.Gen.OutReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutIdeal.Hand

open Cert.OutIdeal Cert.OutIdeal.Gen

variable (m : (ℓ : Loc nD τ sig) → Buf (Elt Ideal) ℓ)

/-- The reference's result as a function of the four arguments. -/
abbrev REF (X : FVec Ideal S8192x2048 .f32) (A : FVec Ideal S8192x4096 .bf16) (B : FVec Ideal S8192x2048 .bf16)
    (W : FVec Ideal S1x6144x2048 .f32) : FVec Ideal S8192x2048 .f32 :=
  addf X (Host.dotGeneral Cert.OutReferenceIdeal.dot_S8192x6144_S6144x2048_S8192x2048_1_0_0_1_n_n none
    (concatenate Cert.OutReferenceIdeal.S8192x6144 1
      [⟨S8192x4096, extf .f32 A Cert.OutReferenceIdeal.Gen.bitsLt_bf16_f32⟩, ⟨S8192x2048, extf .f32 B Cert.OutReferenceIdeal.Gen.bitsLt_bf16_f32⟩]
      Cert.OutReferenceIdeal.Gen.concatenates_S8192x4096_S8192x2048_S8192x6144_d1)
    (shapeCast Cert.OutReferenceIdeal.S6144x2048 W Cert.OutReferenceIdeal.Gen.shapeCasts_S1x6144x2048_S6144x2048))

theorem idx : ∀ t : Fin cfg0.N, win0_0.index t = ![t.val / 8, t.val % 8] ∧ win0_1.index t = ![t.val / 8, 0] ∧ win0_2.index t = ![t.val / 8, 0]
    ∧ win0_3.index t = ![0, 0, t.val % 8] ∧ win0_4.index t = ![0, 2, t.val % 8] ∧ win0_5.index t = ![t.val / 8, t.val % 8] :=
  (by decide +kernel : ∀ t : Fin grid0.N, _)

/-- The weights' first block, stated whole, is the array's columns there. -/
theorem first_rows (c : Dev nD) (t : Fin cfg0.N) (k : Fin 4096) (l : Fin 256) (h : t.val % 8 * 256 + l.val < 2048) :
    X0_3 m c t (ix3 0 k l) = m ((c : Thread nD τ).loc main_arg3) (ix3 0 ⟨k.val, by omega⟩ ⟨t.val % 8 * 256 + l.val, h⟩) := by
  unfold X0_3 Pipeline.Window.fill
  rw [dif_pos (moved0_3 t _)]
  blk_ext [iblk, V, idx t]

theorem point (c : Dev nD) (t : Fin cfg0.N) (y) :
    k0_pay1 (iblk m c 0 t) (iblk m c 1 t) (X0_3 m c t) (iblk m c 2 t) (iblk m c 4 t) y
      = REF (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REF]
  refine (add_assoc (_ : EReal) _ _).trans ?_
  have hy : t.val % 8 * 256 + (y 1).val < 2048 := by have h1 : (y 1).val < 256 := (y 1).isLt; omega
  have hx : ∀ k : Fin 4096, X0_3 m c t (ix3 0 k (y 1)) = m ((c : Thread nD τ).loc main_arg3) (ix3 0 ⟨k.val, by omega⟩ ⟨t.val % 8 * 256 + (y 1).val, hy⟩) :=
    fun k => first_rows m c t k (y 1) hy
  simp only [hx]
  blk_point [iblk, V, idx t]

theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; unfold outsAt0; frame_out
  exact point m c t y

end Cert.OutIdeal.Hand

end
-- ==== Proof.ProjValue.lean ====
/- What the projection leaves in its result array: every block is the normalised rows, kept from the first column block
   of a row block to its last, times the block's columns. -/
module

public import proofs.«01_k».proof.Proof.Gen.ProjIdeal.Value
public import proofs.«01_k».proof.Proof.Gen.ProjReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Hand

open Cert.ProjIdeal Cert.ProjIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.ProjReferenceIdeal.Gen.bcast_S8192x1_S8192x2048_0_1
    (Host.rsqrt (addf (Host.divf
      (broadcastInDim Cert.ProjReferenceIdeal.S8192x1 ![0] Cert.ProjReferenceIdeal.Gen.bcast_S8192_S8192x1_0
        (Host.reduceAdd (mulf X X) (constant Cert.ProjReferenceIdeal.S_ .f32 0x00000000#32)
          Cert.ProjReferenceIdeal.Gen.reducesTo_S8192x2048_S8192_d1 Cert.ProjReferenceIdeal.Gen.h_S_))
      (broadcastInDim Cert.ProjReferenceIdeal.S8192x1 ![] Cert.ProjReferenceIdeal.Gen.bcast_S_S8192x1
        (constant Cert.ProjReferenceIdeal.S_ .f32 0x45000000#32)))
      (broadcastInDim Cert.ProjReferenceIdeal.S8192x1 ![] Cert.ProjReferenceIdeal.Gen.bcast_S_S8192x1
        (constant Cert.ProjReferenceIdeal.S_ .f32 0x358637BD#32))))))
    (broadcastInDim S8192x2048 ![0, 1] Cert.ProjReferenceIdeal.Gen.bcast_S1x2048_S8192x2048_0_1
      (broadcastInDim S1x2048 ![1] Cert.ProjReferenceIdeal.Gen.bcast_S2048_S1x2048_1 G))

/-- The reference's result as a function of the three arguments. -/
abbrev REF (X : FVec Ideal S8192x2048 .f32) (G : FVec Ideal S2048 .f32) (W : FVec Ideal S1x2048x8192 .f32) :
    FVec Ideal S8192x2048 .f32 :=
  Host.dotGeneral Cert.ProjReferenceIdeal.dot_S8192x2048_S2048x2048_S8192x2048_1_0_0_1_n_n none (NORM X G)
    (shapeCast Cert.ProjReferenceIdeal.S2048x2048
      (extractStridedSlice Cert.ProjReferenceIdeal.S1x2048x2048 ![0, 0, 2048] W
        Cert.ProjReferenceIdeal.Gen.slices_S1x2048x8192_S1x2048x2048_0_0_2048)
      Cert.ProjReferenceIdeal.Gen.shapeCasts_S1x2048x2048_S2048x2048)

theorem idx : ∀ t : Fin cfg0.N, win0_0.index t = ![t.val / 4, 0] ∧ win0_1.index t = ![0, 0]
    ∧ win0_2.index t = ![0, 0, 4 + t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.ProjIdeal.Hand

end
-- ==== Proof.FfnValue.lean ====
/- What the feed-forward block leaves in its result array: the hidden columns, taken 512 at a time and added up, are one
   product over all 5632 of them; then the residual and the final normalisation. -/
module

public import proofs.«01_k».proof.Proof.Gen.FfnIdeal.Value
public import proofs.«01_k».proof.Proof.Gen.FfnReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

/-- The reference's normalisation of every row. -/
def NORM (X : FVec Ideal S8192x2048 .f32) (G : FVec Ideal S2048 .f32) : FVec Ideal S8192x2048 .f32 :=
  mulf (mulf X (broadcastInDim S8192x2048 ![0, 1] Cert.FfnReferenceIdeal.Gen.bcast_S8192x1_S8192x2048_0_1
    (Host.rsqrt (addf (Host.divf
      (broadcastInDim Cert.FfnReferenceIdeal.S8192x1 ![0] Cert.FfnReferenceIdeal.Gen.bcast_S8192_S8192x1_0
        (Host.reduceAdd (mulf X X) (constant Cert.FfnReferenceIdeal.S_ .f32 0x00000000#32)
          Cert.FfnReferenceIdeal.Gen.reducesTo_S8192x2048_S8192_d1 Cert.FfnReferenceIdeal.Gen.h_S_))
      (broadcastInDim Cert.FfnReferenceIdeal.S8192x1 ![] Cert.FfnReferenceIdeal.Gen.bcast_S_S8192x1
        (constant Cert.FfnReferenceIdeal.S_ .f32 0x45000000#32)))
      (broadcastInDim Cert.FfnReferenceIdeal.S8192x1 ![] Cert.FfnReferenceIdeal.Gen.bcast_S_S8192x1
        (constant Cert.FfnReferenceIdeal.S_ .f32 0x358637BD#32))))))
    (broadcastInDim S8192x2048 ![0, 1] Cert.FfnReferenceIdeal.Gen.bcast_S1x2048_S8192x2048_0_1
      (broadcastInDim S1x2048 ![1] Cert.FfnReferenceIdeal.Gen.bcast_S2048_S1x2048_1 G))

/-- Gate and up projection, side by side, of normalised rows `H`. -/
abbrev BOTH (H : FVec Ideal S8192x2048 .f32) (W : FVec Ideal S2x2048x11264 .f32) : FVec Ideal Cert.FfnReferenceIdeal.S8192x11264 .f32 :=
  Host.dotGeneral Cert.FfnReferenceIdeal.dot_S8192x2048_S2048x11264_S8192x11264_1_0_0_1_n_n none H
    (shapeCast Cert.FfnReferenceIdeal.S2048x11264
      (extractStridedSlice Cert.FfnReferenceIdeal.S1x2048x11264 ![1, 0, 0] W Cert.FfnReferenceIdeal.Gen.slices_S2x2048x11264_S1x2048x11264_1_0_0)
      Cert.FfnReferenceIdeal.Gen.shapeCasts_S1x2048x11264_S2048x11264)

/-- The hidden columns: the gate through the sigmoid-weighted unit, times the up projection. -/
def HID (H : FVec Ideal S8192x2048 .f32) (W : FVec Ideal S2x2048x11264 .f32) : FVec Ideal Cert.FfnReferenceIdeal.S8192x5632 .f32 :=
  mulf (mulf (extractStridedSlice Cert.FfnReferenceIdeal.S8192x5632 ![0, 0] (BOTH H W) Cert.FfnReferenceIdeal.Gen.slices_S8192x11264_S8192x5632_0_0)
      (Host.divf (broadcastInDim Cert.FfnReferenceIdeal.S8192x5632 ![] Cert.FfnReferenceIdeal.Gen.bcast_S_S8192x5632 (constant Cert.FfnReferenceIdeal.S_ .f32 0x3F800000#32))
        (addf (broadcastInDim Cert.FfnReferenceIdeal.S8192x5632 ![] Cert.FfnReferenceIdeal.Gen.bcast_S_S8192x5632 (constant Cert.FfnReferenceIdeal.S_ .f32 0x3F800000#32))
          (Host.exp (Host.negf (extractStridedSlice Cert.FfnReferenceIdeal.S8192x5632 ![0, 0] (BOTH H W) Cert.FfnReferenceIdeal.Gen.slices_S8192x11264_S8192x5632_0_0))))))
    (extractStridedSlice Cert.FfnReferenceIdeal.S8192x5632 ![0, 5632] (BOTH H W) Cert.FfnReferenceIdeal.Gen.slices_S8192x11264_S8192x5632_0_5632)

/-- The residual plus half the output projection of the hidden columns. -/
def SUM (X : FVec Ideal S8192x2048 .f32) (D : FVec Ideal Cert.FfnReferenceIdeal.S8192x5632 .f32) (O : FVec Ideal S2x5632x2048 .f32) :
    FVec Ideal S8192x2048 .f32 :=
  addf X (mulf (broadcastInDim S8192x2048 ![] Cert.FfnReferenceIdeal.Gen.bcast_S_S8192x2048 (constant Cert.FfnReferenceIdeal.S_ .f32 0x3F000000#32))
    (Host.dotGeneral Cert.FfnReferenceIdeal.dot_S8192x5632_S5632x2048_S8192x2048_1_0_0_1_n_n none D
      (shapeCast Cert.FfnReferenceIdeal.S5632x2048
        (extractStridedSlice Cert.FfnReferenceIdeal.S1x5632x2048 ![1, 0, 0] O Cert.FfnReferenceIdeal.Gen.slices_S2x5632x2048_S1x5632x2048_1_0_0)
        Cert.FfnReferenceIdeal.Gen.shapeCasts_S1x5632x2048_S5632x2048)))

/-- The reference's result as a function of the five arguments. -/
abbrev REF (X : FVec Ideal S8192x2048 .f32) (G : FVec Ideal S2048 .f32) (W : FVec Ideal S2x2048x11264 .f32)
    (O : FVec Ideal S2x5632x2048 .f32) (GF : FVec Ideal S2048 .f32) : FVec Ideal S8192x2048 .f32 :=
  NORM (SUM X (HID (NORM X G) W) O) GF

theorem idx : ∀ t : Fin cfg0.N, win0_0.index t = ![0, 0] ∧ win0_1.index t = ![1, 0, t.val % 11]
    ∧ win0_2.index t = ![1, 0, 11 + t.val % 11] ∧ win0_3.index t = ![1, t.val % 11, 0] ∧ win0_4.index t = ![0, 0]
    ∧ win0_5.index t = ![t.val / 11, 0] ∧ win0_6.index t = ![t.val / 11, 0] :=
  (by decide +kernel : ∀ t : Fin grid0.N, _)

/-- The reference's normalised rows of the arguments. -/
abbrev rowsR (c : Dev nD) : FVec Ideal S8192x2048 .f32 :=
  NORM (m ((c : Thread nD τ).loc main_arg0)) (m ((c : Thread nD τ).loc main_arg1))

/-- The reference's hidden columns of the arguments. -/
abbrev hidR (c : Dev nD) : FVec Ideal Cert.FfnReferenceIdeal.S8192x5632 .f32 :=
  HID (rowsR m c) (m ((c : Thread nD τ).loc main_arg2))

/-- A row block's normalised rows are the reference's. -/
theorem rows (c : Dev nD) (t : Fin cfg0.N) (y : S1024x2048.Idx) (j : S8192x2048.Idx)
    (h0 : (j 0 : ℕ) = t.val / 11 * 1024 + y 0) (h1 : (j 1 : ℕ) = y 1) :
    k0_pay1 (iblk m c 5 t) (iblk m c 0 t) y = rowsR m c j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 11 * 1024 + y 0) (h1 : (j 1 : ℕ) = y 1), (outsAt0 m c n hn).2 y = rowsR m c j := by
  intro n
  induction n with
  | zero =>
    intro hn y j h0 h1
    rw [outsAt0_A m c ⟨0, hn⟩ (by rfl) (show ¬ (0 : ℕ) % 11 = 10 by decide)]
    frame_out
    exact rows m c ⟨0, hn⟩ y j h0 h1
  | succ n ih =>
    intro hn y j h0 h1
    by_cases h : (n + 1) % 11 = 0
    · rw [outsAt0_A m c ⟨n + 1, hn⟩ h (show ¬ (n + 1) % 11 = 10 by omega)]
      frame_out
      exact rows m c ⟨n + 1, hn⟩ y j h0 h1
    · have e : (n + 1) / 11 = n / 11 := by omega
      by_cases h' : (n + 1) % 11 = 10
      · rw [outsAt0_C m c ⟨n + 1, hn⟩ h h']
        frame_out
        exact ih _ y j (by rw [← e]; exact h0) h1
      · rw [outsAt0_B m c ⟨n + 1, hn⟩ h h']
        frame_out
        exact ih _ y j (by rw [← e]; exact h0) h1

/-- One hidden block's part of the output projection. -/
def part (c : Dev nD) (j : S8192x2048.Idx) (s : Fin 11) : EReal :=
  ∑ k : Fin 512, hidR m c (ix2 (j 0) ⟨s.val * 512 + k.val, by omega⟩)
    * (show FVec Ideal S2x5632x2048 .f32 from m ((c : Thread nD τ).loc main_arg3)) (ix3 1 ⟨s.val * 512 + k.val, by omega⟩ (j 1))

/-- The accumulating payload over the normalised rows adds one hidden block's part. -/
theorem step (c : Dev nD) (t : Fin cfg0.N) (S : FVec Ideal S1024x2048 .bf16) (acc : FVec Ideal S1024x2048 .f32) (y : S1024x2048.Idx)
    (j : S8192x2048.Idx) (h0 : (j 0 : ℕ) = t.val / 11 * 1024 + y 0) (h1 : (j 1 : ℕ) = y 1)
    (hS : ∀ k, S (ix2 (y 0) k) = rowsR m c (ix2 (j 0) k)) :
    k0_pay3 S (iblk m c 1 t) (iblk m c 2 t) acc (iblk m c 3 t) y = acc y + part m c j ⟨t.val % 11, Nat.mod_lt _ (by decide)⟩ := by
  unfold part hidR
  pointwise [k0_pay3, HID]
  simp only [hS]
  simp only [Ideal.logistic]
  blk_point [iblk, V, idx t]

/-- The parts of the first `n` hidden blocks, added up. -/
def parts (c : Dev nD) (j : S8192x2048.Idx) (n : ℕ) : EReal :=
  ∑ s ∈ Finset.range n, if h : s < 11 then part m c j ⟨s, h⟩ else 0

theorem parts_zero (c : Dev nD) (j : S8192x2048.Idx) : parts m c j 0 = 0 := Finset.sum_range_zero _

theorem parts_succ (c : Dev nD) (j : S8192x2048.Idx) (n : ℕ) (h : n < 11) :
    parts m c j (n + 1) = parts m c j n + part m c j ⟨n, h⟩ := by
  unfold parts
  rw [Finset.sum_range_succ, dif_pos h]

/-- All parts together are the one product over every hidden column. -/
theorem parts_all (c : Dev nD) (j : S8192x2048.Idx) :
    parts m c j 11 = ∑ l : Fin 5632, hidR m c (ix2 (j 0) l)
      * (show FVec Ideal S2x5632x2048 .f32 from m ((c : Thread nD τ).loc main_arg3)) (ix3 1 l (j 1)) := by
  have e : parts m c j 11 = ∑ s : Fin 11, part m c j s := by
    unfold parts
    rw [Finset.sum_range]
    exact Finset.sum_congr rfl fun s _ => dif_pos s.isLt
  rw [e]
  unfold part
  exact Fin.sum_mul_add_congr fun s k hl => rfl

/-- Before a row block's last point the output block holds the parts so far. -/
theorem partial_sum (c : Dev nD) : ∀ (n : ℕ) (hn : n < cfg0.N) (hl : n % 11 < 10) (y : S1024x2048.Idx) (j : S8192x2048.Idx)
    (h0 : (j 0 : ℕ) = n / 11 * 1024 + y 0) (h1 : (j 1 : ℕ) = y 1), (outsAt0 m c n hn).1 y = parts m c j (n % 11 + 1) := by
  intro n
  induction n with
  | zero =>
    intro hn hl y j h0 h1
    rw [outsAt0_A m c ⟨0, hn⟩ (by rfl) (show ¬ (0 : ℕ) % 11 = 10 by decide)]
    frame_out
    rw [step m c ⟨0, hn⟩ _ _ y j h0 h1 (fun k => rows m c ⟨0, hn⟩ _ _ h0 rfl), parts_succ m c j 0 (by decide), parts_zero]
    pointwise [k0_pay2]
  | succ n ih =>
    intro hn hl y j h0 h1
    by_cases h : (n + 1) % 11 = 0
    · rw [outsAt0_A m c ⟨n + 1, hn⟩ h (show ¬ (n + 1) % 11 = 10 by omega)]
      frame_out
      rw [step m c ⟨n + 1, hn⟩ _ _ y j h0 h1 (fun k => rows m c ⟨n + 1, hn⟩ _ _ h0 rfl)]
      simp only [h]
      rw [parts_succ m c j 0 (by decide), parts_zero]
      pointwise [k0_pay2]
    · have e : (n + 1) / 11 = n / 11 := by omega
      have e' : (n + 1) % 11 = n % 11 + 1 := by omega
      have h0' : (j 0 : ℕ) = n / 11 * 1024 + y 0 := by rw [← e]; exact h0
      rw [outsAt0_B m c ⟨n + 1, hn⟩ h (show ¬ (n + 1) % 11 = 10 by omega)]
      frame_out
      refine (congrArg (fun S => k0_pay3 S (iblk m c 1 ⟨n + 1, hn⟩) (iblk m c 2 ⟨n + 1, hn⟩) (outsAt0 m c n (by omega)).1
        (iblk m c 3 ⟨n + 1, hn⟩) y) (Memref.IsWhole.read_unread _ _)).trans ?_
      change k0_pay3 (outsAt0 m c n (by omega)).2 _ _ _ _ y = _
      rw [step m c ⟨n + 1, hn⟩ _ _ y j h0 h1 (fun k => scratch m c n _ _ _ h0' rfl), parts_succ m c j _ (by omega)]
      refine congrArg₂ (· + ·) ?_ rfl
      rw [e']
      exact ih _ (by omega) y j h0' h1

/-- What a row block's last point leaves before the residual: all parts. -/
theorem full_sum (c : Dev nD) (t : Fin cfg0.N) (h : ¬ t.val % 11 = 0) (h' : t.val % 11 = 10) (y : S1024x2048.Idx) (j : S8192x2048.Idx)
    (h0 : (j 0 : ℕ) = t.val / 11 * 1024 + y 0) (h1 : (j 1 : ℕ) = y 1) :
    k0_pay3 (outsAt0 m c (t.val - 1) (by omega)).2 (iblk m c 1 t) (iblk m c 2 t) (outsAt0 m c (t.val - 1) (by omega)).1 (iblk m c 3 t) y
      = parts m c j 11 := by
  have e : t.val / 11 = (t.val - 1) / 11 := by omega
  have h0' : (j 0 : ℕ) = (t.val - 1) / 11 * 1024 + y 0 := by rw [← e]; exact h0
  rw [step m c t _ _ y j h0 h1 (fun k => scratch m c (t.val - 1) _ _ _ h0' rfl), parts_succ m c j 10 (by decide),
    partial_sum m c (t.val - 1) _ (by omega) y j h0' h1]
  have e1 : (t.val - 1) % 11 + 1 = 10 := by omega
  simp only [e1, h']

theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h' : t.val % 11 = 10 := (flush0_6 t).mp hf
  have h : ¬ t.val % 11 = 0 := by omega
  blk_simp
  rw [after0_6, outsAt0_C m c t h h']
  frame_out
  have hn : t.val - 1 < cfg0.N := lt_of_le_of_lt (Nat.sub_le _ _) t.isLt
  obtain ⟨S, hS⟩ : ∃ S, S = k0_pay3 (outsAt0 m c (t.val - 1) hn).2 (iblk m c 1 t) (iblk m c 2 t) (outsAt0 m c (t.val - 1) hn).1
    (iblk m c 3 t) := ⟨_, rfl⟩
  refine (congrArg (fun S => k0_pay4 (iblk m c 5 t) S (iblk m c 4 t) y) ((congrArg (fun S => k0_pay3 S (iblk m c 1 t) (iblk m c 2 t)
    (outsAt0 m c (t.val - 1) hn).1 (iblk m c 3 t)) (Memref.IsWhole.read_unread _ _)).trans hS.symm)).trans ?_
  have hs := fun y j h0 h1 => (congrFun hS y).trans ((full_sum m c t h h' y j h0 h1).trans (parts_all m c j))
  clear hS
  change _ = NORM (SUM (m ((c : Thread nD τ).loc main_arg0)) (hidR m c) (m ((c : Thread nD τ).loc main_arg3)))
    (m ((c : Thread nD τ).loc main_arg4)) _
  generalize hidR m c = D at hs ⊢
  have hk : ∀ k, S (ix2 (y 0) k) = _ := fun k => hs (ix2 (y 0) k) (ix2 (((cfg0.win 6).blk t).view.emb y 0) k) (by blk_simp [idx t]) rfl
  have hy : S y = _ := hs y (((cfg0.win 6).blk t).view.emb y) (by blk_simp [idx t]) (by blk_simp [idx t])
  pointwise [k0_pay4, NORM, SUM]
  rw [hy]
  simp only [hk]
  blk_point [iblk, V, idx t]

end Cert.FfnIdeal.Hand

end
-- ==== Proof.MemValue.lean ====
/- What the attention over the memory tokens leaves in its result array: each head's softmax over the 256 tokens, as the reference
   computes it for all heads at once. -/
module

public import proofs.«01_k».proof.Proof.Gen.MemIdeal.Value
public import proofs.«01_k».proof.Proof.Gen.MemReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemIdeal.Hand

open Cert.MemIdeal Cert.MemIdeal.Gen

namespace Ref

open Cert.MemReferenceIdeal Cert.MemReferenceIdeal.Gen

/-- The scaled scores of every head. -/
def SCORE (Q : FVec Ideal S2x4096x2048 .bf16) (K : FVec Ideal S2x256x2048 .f32) : FVec Ideal S2x4x4096x256 .f32 :=
  mulf (Host.dotGeneral dot_S2x4096x4x512_S2x256x4x512_S2x4x4096x256_3_3_1_1_02_02 none
      (shapeCast _ (extf .f32 Q Cert.MemReferenceIdeal.Gen.bitsLt_bf16_f32) shapeCasts_S2x4096x2048_S2x4096x4x512) (shapeCast _ K shapeCasts_S2x256x2048_S2x256x4x512))
    (broadcastInDim S2x4x4096x256 ![] bcast_S_S2x4x4096x256 (constant S_ .f32 0x3D3504F3#32))

/-- Every row's largest score. -/
def TOPS (Z : FVec Ideal S2x4x4096x256 .f32) : FVec Ideal S2x4x4096 .f32 :=
  Host.reduce FloatOps.maximumf Z (constant S_ .f32 0xFF800000#32) reducesTo_S2x4x4096x256_S2x4x4096_d3 h_S_

/-- The exponentials of scores less the largest of their row. -/
def EXPS (Z : FVec Ideal S2x4x4096x256 .f32) (T : FVec Ideal S2x4x4096 .f32) : FVec Ideal S2x4x4096x256 .f32 :=
  Host.exp (subf Z (broadcastInDim S2x4x4096x256 ![0, 1, 2, 3] bcast_S2x4x4096x1_S2x4x4096x256_0_1_2_3
    (broadcastInDim S2x4x4096x1 ![0, 1, 2] bcast_S2x4x4096_S2x4x4096x1_0_1_2
      (maximumf (broadcastInDim S2x4x4096 ![] bcast_S_S2x4x4096 (constant S_ .f32 0xFF800000#32)) T))))

/-- Every row's sum. -/
def SUMS (E : FVec Ideal S2x4x4096x256 .f32) : FVec Ideal S2x4x4096 .f32 :=
  Host.reduceAdd E (constant S_ .f32 0x00000000#32) reducesTo_S2x4x4096x256_S2x4x4096_d3 h_S_

/-- Every row divided by its sum. -/
def OVER (E : FVec Ideal S2x4x4096x256 .f32) (S : FVec Ideal S2x4x4096 .f32) : FVec Ideal S2x4x4096x256 .f32 :=
  Host.divf E (broadcastInDim S2x4x4096x256 ![0, 1, 2, 3] bcast_S2x4x4096x1_S2x4x4096x256_0_1_2_3
    (broadcastInDim S2x4x4096x1 ![0, 1, 2] bcast_S2x4x4096_S2x4x4096x1_0_1_2 S))

/-- The softmax of every row of scores. -/
def SOFT (Z : FVec Ideal S2x4x4096x256 .f32) : FVec Ideal S2x4x4096x256 .f32 :=
  OVER (EXPS Z (TOPS Z)) (SUMS (EXPS Z (TOPS Z)))

/-- The weighted sums of the memory values. -/
def PROD (P : FVec Ideal S2x4x4096x256 .f32) (V : FVec Ideal S2x256x2048 .f32) : FVec Ideal S2x4x512x4096 .f32 :=
  Host.dotGeneral dot_S2x256x4x512_S2x4x4096x256_S2x4x512x4096_1_3_3_2_02_01 none (shapeCast _ V shapeCasts_S2x256x2048_S2x256x4x512) P

/-- The heads' columns side by side. -/
def FLAT (T : FVec Ideal S2x4x512x4096 .f32) : FVec Ideal S2x4096x2048 .bf16 :=
  truncf .bf16 (shapeCast _ (transpose S2x4096x4x512 [0, 3, 1, 2] T
    transposes_S2x4x512x4096_S2x4096x4x512_0_3_1_2) shapeCasts_S2x4096x4x512_S2x4096x2048) Cert.MemReferenceIdeal.Gen.bitsLt_bf16_f32

/-- The reference's result as a function of the three arguments. -/
def REF (Q : FVec Ideal S2x4096x2048 .bf16) (K V : FVec Ideal S2x256x2048 .f32) : FVec Ideal S2x4096x2048 .bf16 :=
  FLAT (PROD (SOFT (SCORE Q K)) V)

/-- A scaled score, read. -/
theorem score_at (Q : FVec Ideal S2x4096x2048 .bf16) (K : FVec Ideal S2x256x2048 .f32) (b : Fin 2) (h : Fin 4) (t : Fin 4096) (r : Fin 256) :
    SCORE Q K (ix4 b h t r) = (∑ k : Fin 512, Q (ix3 b t ⟨h.val * 512 + k.val, by omega⟩) * K (ix3 b r ⟨h.val * 512 + k.val, by omega⟩))
      * Ideal.ofBits .f32 0x3D3504F3#32 := by
  pointwise [SCORE]

/-- A row's largest value, as the reduction folds it. -/
def top (z : Fin 256 → EReal) : EReal := Finset.fold max (Ideal.ofBits .f32 0xFF800000#32) z Finset.univ

/-- Starting once more from the reduction's own start changes nothing. -/
theorem max_top (z : Fin 256 → EReal) : max (Ideal.ofBits .f32 0xFF800000#32) (top z) = top z :=
  max_eq_right ((Finset.le_fold_max _).mpr (Or.inl le_rfl))

theorem tops_at (Z : FVec Ideal S2x4x4096x256 .f32) (b : Fin 2) (h : Fin 4) (t : Fin 4096) :
    TOPS Z (ix3 b h t) = top fun s => Z (ix4 b h t s) := by
  unfold top
  pointwise [TOPS]

theorem exps_at (Z : FVec Ideal S2x4x4096x256 .f32) (T : FVec Ideal S2x4x4096 .f32) (b : Fin 2) (h : Fin 4) (t : Fin 4096) (r : Fin 256) :
    EXPS Z T (ix4 b h t r) = Ideal.exp (Z (ix4 b h t r) - max (Ideal.ofBits .f32 0xFF800000#32) (T (ix3 b h t))) := by
  pointwise [EXPS]

theorem sums_at (E : FVec Ideal S2x4x4096x256 .f32) (b : Fin 2) (h : Fin 4) (t : Fin 4096) :
    SUMS E (ix3 b h t) = ∑ q : Fin 256, E (ix4 b h t q) := by
  pointwise [SUMS]

theorem over_at (E : FVec Ideal S2x4x4096x256 .f32) (S : FVec Ideal S2x4x4096 .f32) (b : Fin 2) (h : Fin 4) (t : Fin 4096) (r : Fin 256) :
    OVER E S (ix4 b h t r) = Ideal.div (E (ix4 b h t r)) (S (ix3 b h t)) := by
  pointwise [OVER]

/-- An entry of the softmax, read. -/
theorem soft_at (Z : FVec Ideal S2x4x4096x256 .f32) (b : Fin 2) (h : Fin 4) (t : Fin 4096) (r : Fin 256) :
    SOFT Z (ix4 b h t r) = Ideal.div (Ideal.exp (Z (ix4 b h t r) - top fun s => Z (ix4 b h t s)))
      (∑ q : Fin 256, Ideal.exp (Z (ix4 b h t q) - top fun s => Z (ix4 b h t s))) := by
  unfold SOFT
  simp only [over_at, sums_at, exps_at, tops_at, max_top]

/-- A weighted sum of memory values, read. -/
theorem prod_at (P : FVec Ideal S2x4x4096x256 .f32) (V : FVec Ideal S2x256x2048 .f32) (b : Fin 2) (h : Fin 4) (t : Fin 4096) (d : Fin 512) :
    PROD P V (ix4 b h d t) = ∑ r : Fin 256, V (ix3 b r ⟨h.val * 512 + d.val, by omega⟩) * P (ix4 b h t r) := by
  pointwise [PROD]

/-- A column, read in its head. -/
theorem flat_at (T : FVec Ideal S2x4x512x4096 .f32) (j : S2x4096x2048.Idx) (h : Fin 4) (d : Fin 512) (hj : (j 2 : ℕ) = h.val * 512 + d.val) :
    FLAT T j = T (ix4 (j 0) h d (j 1)) := by
  pointwise [FLAT]
  blk_ext

end Ref

open Ref (REF SCORE)

theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

/-- The payloads of the other heads are the first head's. -/
theorem pay4_eq (a : Vec Ideal S1x512x512 .bf16) (b d : Vec Ideal S1x256x512 .f32) :
    k0_pay4 (k0_pay2 a) (k0_pay3 b) d = k0_pay1 a b d := rfl

theorem pay8_eq (a : Vec Ideal S1x512x512 .bf16) (b d : Vec Ideal S1x256x512 .f32) :
    k0_pay8 (k0_pay5 d) (k0_pay6 a b) (k0_pay7 a b) = k0_pay1 a b d := rfl

theorem pay9_eq (a : Vec Ideal S1x512x512 .bf16) (b d : Vec Ideal S1x256x512 .f32) : k0_pay9 a b d = k0_pay1 a b d := rfl

/-- A head's payload, read. -/
theorem pay_at (a : Vec Ideal S1x512x512 .bf16) (b d : Vec Ideal S1x256x512 .f32) (x : S1x512x512.Idx) (z : Fin 256 → EReal)
    (hz : ∀ r, (∑ k : Fin 512, a (ix3 0 (x 1) k) * b (ix3 0 r k)) * Ideal.ofBits .f32 0x3D3504F3#32 = z r) :
    k0_pay1 a b d x = ∑ r : Fin 256, Ideal.div (Ideal.exp (z r - Ref.top z)) (∑ q : Fin 256, Ideal.exp (z q - Ref.top z)) * d (ix3 0 r (x 2)) := by
  pointwise [k0_pay1]
  simp only [hz]
  rfl

/-- One head's columns are the reference's. -/
theorem core (Q : FVec Ideal S2x4096x2048 .bf16) (K V : FVec Ideal S2x256x2048 .f32) (a : Vec Ideal S1x512x512 .bf16)
    (b d : Vec Ideal S1x256x512 .f32) (h : Fin 4) (x : S1x512x512.Idx) (j : S2x4096x2048.Idx)
    (ha : ∀ k : Fin 512, a (ix3 0 (x 1) k) = Q (ix3 (j 0) (j 1) ⟨h.val * 512 + k.val, by omega⟩))
    (hb : ∀ (r : Fin 256) (k : Fin 512), b (ix3 0 r k) = K (ix3 (j 0) r ⟨h.val * 512 + k.val, by omega⟩))
    (hd : ∀ r : Fin 256, d (ix3 0 r (x 2)) = V (ix3 (j 0) r (j 2)))
    (hj : (j 2 : ℕ) = h.val * 512 + x 2) :
    k0_pay1 a b d x = REF Q K V j := by
  have hx : (⟨h.val * 512 + ((x 2 : Fin 512) : ℕ), by have := (x 2).isLt; have : ((x 2 : Fin 512) : ℕ) < 512 := this; omega⟩ : Fin 2048) = j 2 := Fin.ext hj.symm
  unfold REF
  refine (pay_at a b d x (fun r => SCORE Q K (ix4 (j 0) h (j 1) r)) fun r => ?_).trans
    (Eq.trans ?_ ((Ref.flat_at _ j h (x 2) hj).trans (Ref.prod_at _ _ (j 0) h (j 1) (x 2))).symm)
  · refine Eq.trans ?_ (Ref.score_at Q K (j 0) h (j 1) r).symm
    exact congrArg (· * _) (Finset.sum_congr rfl fun k _ => congrArg₂ (· * ·) (ha k) (hb r k))
  · refine Finset.sum_congr rfl fun r _ => ?_
    refine (mul_comm (_ : EReal) _).trans (congrArg₂ (· * ·) ((hd r).trans (congrArg (fun e => V (ix3 (j 0) r e)) hx.symm)) ?_)
    exact (Ref.soft_at (SCORE Q K) (j 0) h (j 1) r).symm

variable (m : (ℓ : Loc nD τ sig) → Buf (Elt Ideal) ℓ)

theorem point (c : Dev nD) (t : Fin cfg0.N) (y) :
    out0_3 (iblk m c 0 t) (iblk m c 1 t) (iblk m c 2 t) y
      = REF (m ((c : Thread nD τ).loc main_arg0)) (m ((c : Thread nD τ).loc main_arg1)) (m ((c : Thread nD τ).loc main_arg2))
        (((cfg0.win 3).blk t).view.emb y) := by
  unfold out0_3
  rw [pay9_eq, pay8_eq, pay4_eq]
  canon_tiles x h
  · refine core _ _ _ _ _ _ 3 x _ ?_ ?_ ?_ ?_
    · intro k; blk_point [iblk, V, idx t]
    · intro r k; blk_point [iblk, V, idx t]
    · intro r; blk_point [iblk, V, idx t]
    · blk_simp [idx t]
      omega
  · refine core _ _ _ _ _ _ 2 x _ ?_ ?_ ?_ ?_
    · intro k; blk_point [iblk, V, idx t]
    · intro r k; blk_point [iblk, V, idx t]
    · intro r; blk_point [iblk, V, idx t]
    · blk_simp [idx t]
      omega
  · refine core _ _ _ _ _ _ 1 x _ ?_ ?_ ?_ ?_
    · intro k; blk_point [iblk, V, idx t]
    · intro r k; blk_point [iblk, V, idx t]
    · intro r; blk_point [iblk, V, idx t]
    · blk_simp [idx t]
      omega
  · refine core _ _ _ _ _ _ 0 x _ ?_ ?_ ?_ ?_
    · intro k; blk_point [iblk, V, idx t]
    · intro r k; blk_point [iblk, V, idx t]
    · intro r; blk_point [iblk, V, idx t]
    · blk_simp [idx t]
      omega

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.MemIdeal.Hand

end
-- ==== Proof.ValValue.lean ====
/- What the projection leaves in its result array when its columns are the values': the normalised rows times those columns. -/
module

public import proofs.«01_k».proof.Proof.Gen.ValIdeal.Value
public import proofs.«01_k».proof.Proof.Gen.ValReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ValIdeal.Hand

open Cert.ValIdeal Cert.ValIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.ValReferenceIdeal.Gen.bcast_S8192x1_S8192x2048_0_1
    (Host.rsqrt (addf (Host.divf
      (broadcastInDim Cert.ValReferenceIdeal.S8192x1 ![0] Cert.ValReferenceIdeal.Gen.bcast_S8192_S8192x1_0
        (Host.reduceAdd (mulf X X) (constant Cert.ValReferenceIdeal.S_ .f32 0x00000000#32)
          Cert.ValReferenceIdeal.Gen.reducesTo_S8192x2048_S8192_d1 Cert.ValReferenceIdeal.Gen.h_S_))
      (broadcastInDim Cert.ValReferenceIdeal.S8192x1 ![] Cert.ValReferenceIdeal.Gen.bcast_S_S8192x1
        (constant Cert.ValReferenceIdeal.S_ .f32 0x45000000#32)))
      (broadcastInDim Cert.ValReferenceIdeal.S8192x1 ![] Cert.ValReferenceIdeal.Gen.bcast_S_S8192x1
        (constant Cert.ValReferenceIdeal.S_ .f32 0x358637BD#32))))))
    (broadcastInDim S8192x2048 ![0, 1] Cert.ValReferenceIdeal.Gen.bcast_S1x2048_S8192x2048_0_1
      (broadcastInDim S1x2048 ![1] Cert.ValReferenceIdeal.Gen.bcast_S2048_S1x2048_1 G))

/-- The reference's result as a function of the three arguments. -/
abbrev REF (X : FVec Ideal S8192x2048 .f32) (G : FVec Ideal S2048 .f32) (W : FVec Ideal S1x2048x8192 .f32) :
    FVec Ideal S8192x2048 .f32 :=
  Host.dotGeneral Cert.ValReferenceIdeal.dot_S8192x2048_S2048x2048_S8192x2048_1_0_0_1_n_n none (NORM X G)
    (shapeCast Cert.ValReferenceIdeal.S2048x2048
      (extractStridedSlice Cert.ValReferenceIdeal.S1x2048x2048 ![0, 0, 4096] W
        Cert.ValReferenceIdeal.Gen.slices_S1x2048x8192_S1x2048x2048_0_0_4096)
      Cert.ValReferenceIdeal.Gen.shapeCasts_S1x2048x2048_S2048x2048)

theorem idx : ∀ t : Fin cfg0.N, win0_0.index t = ![t.val / 4, 0] ∧ win0_1.index t = ![0, 0]
    ∧ win0_2.index t = ![0, 0, 8 + t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.ValIdeal.Hand

end
-- ==== Proof.MemKeyValue.lean ====
/- What the projection leaves in its result array when its rows are the memory tokens and its columns the keys': one row
   block, kept for all its column blocks. -/
module

public import proofs.«01_k».proof.Proof.Gen.MemKeyIdeal.Value
public import proofs.«01_k».proof.Proof.Gen.MemKeyReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemKeyIdeal.Hand

open Cert.MemKeyIdeal Cert.MemKeyIdeal.Gen

variable (m : (ℓ : Loc nD τ sig) → Buf (Elt Ideal) ℓ)

/-- The reference's normalised rows. -/
def NORM (X : FVec Ideal S512x2048 .f32) (G : FVec Ideal S2048 .f32) : FVec Ideal S512x2048 .f32 :=
  mulf (mulf X (broadcastInDim S512x2048 ![0, 1] Cert.MemKeyReferenceIdeal.Gen.bcast_S512x1_S512x2048_0_1
    (Host.rsqrt (addf (Host.divf
      (broadcastInDim Cert.MemKeyReferenceIdeal.S512x1 ![0] Cert.MemKeyReferenceIdeal.Gen.bcast_S512_S512x1_0
        (Host.reduceAdd (mulf X X) (constant Cert.MemKeyReferenceIdeal.S_ .f32 0x00000000#32)
          Cert.MemKeyReferenceIdeal.Gen.reducesTo_S512x2048_S512_d1 Cert.MemKeyReferenceIdeal.Gen.h_S_))
      (broadcastInDim Cert.MemKeyReferenceIdeal.S512x1 ![] Cert.MemKeyReferenceIdeal.Gen.bcast_S_S512x1
        (constant Cert.MemKeyReferenceIdeal.S_ .f32 0x45000000#32)))
      (broadcastInDim Cert.MemKeyReferenceIdeal.S512x1 ![] Cert.MemKeyReferenceIdeal.Gen.bcast_S_S512x1
        (constant Cert.MemKeyReferenceIdeal.S_ .f32 0x358637BD#32))))))
    (broadcastInDim S512x2048 ![0, 1] Cert.MemKeyReferenceIdeal.Gen.bcast_S1x2048_S512x2048_0_1
      (broadcastInDim S1x2048 ![1] Cert.MemKeyReferenceIdeal.Gen.bcast_S2048_S1x2048_1 G))

/-- The reference's result as a function of the three arguments. -/
abbrev REF (X : FVec Ideal S512x2048 .f32) (G : FVec Ideal S2048 .f32) (W : FVec Ideal S2x2048x4096 .f32) :
    FVec Ideal S512x2048 .f32 :=
  Host.dotGeneral Cert.MemKeyReferenceIdeal.dot_S512x2048_S2048x2048_S512x2048_1_0_0_1_n_n none (NORM X G)
    (shapeCast Cert.MemKeyReferenceIdeal.S2048x2048
      (extractStridedSlice Cert.MemKeyReferenceIdeal.S1x2048x2048 ![0, 0, 0] W
        Cert.MemKeyReferenceIdeal.Gen.slices_S2x2048x4096_S1x2048x2048_0_0_0)
      Cert.MemKeyReferenceIdeal.Gen.shapeCasts_S1x2048x2048_S2048x2048)

theorem idx : ∀ t : Fin cfg0.N, win0_0.index t = ![t.val / 4, 0] ∧ win0_1.index t = ![0, 0]
    ∧ win0_2.index t = ![0, 0, t.val % 4] ∧ win0_3.index t = ![t.val / 4, t.val % 4] :=
  (by decide +kernel : ∀ t : Fin grid0.N, _)

/-- A row block's normalised rows are the reference's. -/
theorem rows (c : Dev nD) (t : Fin cfg0.N) (y : S512x2048.Idx) (j : S512x2048.Idx)
    (h0 : (j 0 : ℕ) = t.val / 4 * 512 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S512x2048.Idx) (j : S512x2048.Idx)
    (h0 : (j 0 : ℕ) = n / 4 * 512 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.MemKeyIdeal.Hand

end
-- ==== Proof.MemValValue.lean ====
/- What the projection leaves in its result array when its rows are the memory tokens and its columns the values'. -/
module

public import proofs.«01_k».proof.Proof.Gen.MemValIdeal.Value
public import proofs.«01_k».proof.Proof.Gen.MemValReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemValIdeal.Hand

open Cert.MemValIdeal Cert.MemValIdeal.Gen

variable (m : (ℓ : Loc nD τ sig) → Buf (Elt Ideal) ℓ)

/-- The reference's normalised rows. -/
def NORM (X : FVec Ideal S512x2048 .f32) (G : FVec Ideal S2048 .f32) : FVec Ideal S512x2048 .f32 :=
  mulf (mulf X (broadcastInDim S512x2048 ![0, 1] Cert.MemValReferenceIdeal.Gen.bcast_S512x1_S512x2048_0_1
    (Host.rsqrt (addf (Host.divf
      (broadcastInDim Cert.MemValReferenceIdeal.S512x1 ![0] Cert.MemValReferenceIdeal.Gen.bcast_S512_S512x1_0
        (Host.reduceAdd (mulf X X) (constant Cert.MemValReferenceIdeal.S_ .f32 0x00000000#32)
          Cert.MemValReferenceIdeal.Gen.reducesTo_S512x2048_S512_d1 Cert.MemValReferenceIdeal.Gen.h_S_))
      (broadcastInDim Cert.MemValReferenceIdeal.S512x1 ![] Cert.MemValReferenceIdeal.Gen.bcast_S_S512x1
        (constant Cert.MemValReferenceIdeal.S_ .f32 0x45000000#32)))
      (broadcastInDim Cert.MemValReferenceIdeal.S512x1 ![] Cert.MemValReferenceIdeal.Gen.bcast_S_S512x1
        (constant Cert.MemValReferenceIdeal.S_ .f32 0x358637BD#32))))))
    (broadcastInDim S512x2048 ![0, 1] Cert.MemValReferenceIdeal.Gen.bcast_S1x2048_S512x2048_0_1
      (broadcastInDim S1x2048 ![1] Cert.MemValReferenceIdeal.Gen.bcast_S2048_S1x2048_1 G))

/-- The reference's result as a function of the three arguments. -/
abbrev REF (X : FVec Ideal S512x2048 .f32) (G : FVec Ideal S2048 .f32) (W : FVec Ideal S2x2048x4096 .f32) :
    FVec Ideal S512x2048 .f32 :=
  Host.dotGeneral Cert.MemValReferenceIdeal.dot_S512x2048_S2048x2048_S512x2048_1_0_0_1_n_n none (NORM X G)
    (shapeCast Cert.MemValReferenceIdeal.S2048x2048
      (extractStridedSlice Cert.MemValReferenceIdeal.S1x2048x2048 ![0, 0, 2048] W
        Cert.MemValReferenceIdeal.Gen.slices_S2x2048x4096_S1x2048x2048_0_0_2048)
      Cert.MemValReferenceIdeal.Gen.shapeCasts_S1x2048x2048_S2048x2048)

theorem idx : ∀ t : Fin cfg0.N, win0_0.index t = ![t.val / 4, 0] ∧ win0_1.index t = ![0, 0]
    ∧ win0_2.index t = ![0, 0, 4 + t.val % 4] ∧ win0_3.index t = ![t.val / 4, t.val % 4] :=
  (by decide +kernel : ∀ t : Fin grid0.N, _)

/-- A row block's normalised rows are the reference's. -/
theorem rows (c : Dev nD) (t : Fin cfg0.N) (y : S512x2048.Idx) (j : S512x2048.Idx)
    (h0 : (j 0 : ℕ) = t.val / 4 * 512 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S512x2048.Idx) (j : S512x2048.Idx)
    (h0 : (j 0 : ℕ) = n / 4 * 512 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.MemValIdeal.Hand

end
-- ==== Proof.ConvValue.lean ====
/- What the projection leaves in its result array when its columns are the 6144 that enter the convolution. -/
module

public import proofs.«01_k».proof.Proof.Gen.ConvIdeal.Value
public import proofs.«01_k».proof.Proof.Gen.ConvReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvIdeal.Hand

open Cert.ConvIdeal Cert.ConvIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.ConvReferenceIdeal.Gen.bcast_S8192x1_S8192x2048_0_1
    (Host.rsqrt (addf (Host.divf
      (broadcastInDim Cert.ConvReferenceIdeal.S8192x1 ![0] Cert.ConvReferenceIdeal.Gen.bcast_S8192_S8192x1_0
        (Host.reduceAdd (mulf X X) (constant Cert.ConvReferenceIdeal.S_ .f32 0x00000000#32)
          Cert.ConvReferenceIdeal.Gen.reducesTo_S8192x2048_S8192_d1 Cert.ConvReferenceIdeal.Gen.h_S_))
      (broadcastInDim Cert.ConvReferenceIdeal.S8192x1 ![] Cert.ConvReferenceIdeal.Gen.bcast_S_S8192x1
        (constant Cert.ConvReferenceIdeal.S_ .f32 0x45000000#32)))
      (broadcastInDim Cert.ConvReferenceIdeal.S8192x1 ![] Cert.ConvReferenceIdeal.Gen.bcast_S_S8192x1
        (constant Cert.ConvReferenceIdeal.S_ .f32 0x358637BD#32))))))
    (broadcastInDim S8192x2048 ![0, 1] Cert.ConvReferenceIdeal.Gen.bcast_S1x2048_S8192x2048_0_1
      (broadcastInDim S1x2048 ![1] Cert.ConvReferenceIdeal.Gen.bcast_S2048_S1x2048_1 G))

/-- The reference's result as a function of the three arguments. -/
abbrev REF (X : FVec Ideal S8192x2048 .f32) (G : FVec Ideal S2048 .f32) (W : FVec Ideal S1x2048x12352 .f32) :
    FVec Ideal S8192x6144 .f32 :=
  Host.dotGeneral Cert.ConvReferenceIdeal.dot_S8192x2048_S2048x6144_S8192x6144_1_0_0_1_n_n none (NORM X G)
    (shapeCast Cert.ConvReferenceIdeal.S2048x6144
      (extractStridedSlice Cert.ConvReferenceIdeal.S1x2048x6144 ![0, 0, 4096] W
        Cert.ConvReferenceIdeal.Gen.slices_S1x2048x12352_S1x2048x6144_0_0_4096)
      Cert.ConvReferenceIdeal.Gen.shapeCasts_S1x2048x6144_S2048x6144)

theorem idx : ∀ t : Fin cfg0.N, win0_0.index t = ![t.val / 12, 0] ∧ win0_1.index t = ![0, 0]
    ∧ win0_2.index t = ![0, 0, 8 + t.val % 12] ∧ win0_3.index t = ![t.val / 12, t.val % 12] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val / 12 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 12 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 12 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (X0_2 m c t) := by
  by_cases h : t.val % 12 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (X0_2 m c t)) (Memref.IsWhole.read_unread _ _)

/-- No block of the weights is cut: the staged block is the array's columns from the block's first on. -/
theorem staged (c : Dev nD) (t : Fin cfg0.N) (k : Fin 2048) (b : Fin 512) :
    (show FVec Ideal S1x2048x512 .f32 from X0_2 m c t) (ix3 0 k b)
      = (show FVec Ideal S1x2048x12352 .f32 from m ((c : Thread nD τ).loc main_arg2))
          (ix3 0 k ⟨4096 + (t.val % 12 * 512 + b.val), by omega⟩) := by
  change X0_2 m c t (ix3 0 k b : S1x2048x512.Idx) = _
  unfold X0_2 Pipeline.Window.fill
  rw [dif_pos (moved0_2 t _)]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  refine congrArg (_ * ·) ((staged m c t k (y 1)).trans ?_)
  blk_point [iblk, V, idx t]

end Cert.ConvIdeal.Hand

end
-- ==== Proof.SampleKeyValue.lean ====
/- What the projection leaves in its result array when its rows are the sample's and its columns the keys'. -/
module

public import proofs.«01_k».proof.Proof.Gen.SampleKeyIdeal.Value
public import proofs.«01_k».proof.Proof.Gen.SampleKeyReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleKeyIdeal.Hand

open Cert.SampleKeyIdeal Cert.SampleKeyIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleKeyReferenceIdeal.Gen.bcast_S1024x1_S1024x2048_0_1
    (Host.rsqrt (addf (Host.divf
      (broadcastInDim Cert.SampleKeyReferenceIdeal.S1024x1 ![0] Cert.SampleKeyReferenceIdeal.Gen.bcast_S1024_S1024x1_0
        (Host.reduceAdd (mulf X X) (constant Cert.SampleKeyReferenceIdeal.S_ .f32 0x00000000#32)
          Cert.SampleKeyReferenceIdeal.Gen.reducesTo_S1024x2048_S1024_d1 Cert.SampleKeyReferenceIdeal.Gen.h_S_))
      (broadcastInDim Cert.SampleKeyReferenceIdeal.S1024x1 ![] Cert.SampleKeyReferenceIdeal.Gen.bcast_S_S1024x1
        (constant Cert.SampleKeyReferenceIdeal.S_ .f32 0x45000000#32)))
      (broadcastInDim Cert.SampleKeyReferenceIdeal.S1024x1 ![] Cert.SampleKeyReferenceIdeal.Gen.bcast_S_S1024x1
        (constant Cert.SampleKeyReferenceIdeal.S_ .f32 0x358637BD#32))))))
    (broadcastInDim S1024x2048 ![0, 1] Cert.SampleKeyReferenceIdeal.Gen.bcast_S1x2048_S1024x2048_0_1
      (broadcastInDim S1x2048 ![1] Cert.SampleKeyReferenceIdeal.Gen.bcast_S2048_S1x2048_1 G))

/-- The reference's result as a function of the three arguments. -/
abbrev REF (X : FVec Ideal S1024x2048 .f32) (G : FVec Ideal S2048 .f32) (W : FVec Ideal S1x2048x8192 .f32) :
    FVec Ideal S1024x2048 .f32 :=
  Host.dotGeneral Cert.SampleKeyReferenceIdeal.dot_S1024x2048_S2048x2048_S1024x2048_1_0_0_1_n_n none (NORM X G)
    (shapeCast Cert.SampleKeyReferenceIdeal.S2048x2048
      (extractStridedSlice Cert.SampleKeyReferenceIdeal.S1x2048x2048 ![0, 0, 2048] W
        Cert.SampleKeyReferenceIdeal.Gen.slices_S1x2048x8192_S1x2048x2048_0_0_2048)
      Cert.SampleKeyReferenceIdeal.Gen.shapeCasts_S1x2048x2048_S2048x2048)

theorem idx : ∀ t : Fin cfg0.N, win0_0.index t = ![t.val / 4, 0] ∧ win0_1.index t = ![0, 0]
    ∧ win0_2.index t = ![0, 0, 4 + t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.SampleKeyIdeal.Hand

end
-- ==== Proof.SampleValValue.lean ====
/- What the projection leaves in its result array when its rows are the sample's and its columns the values'. -/
module

public import proofs.«01_k».proof.Proof.Gen.SampleValIdeal.Value
public import proofs.«01_k».proof.Proof.Gen.SampleValReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleValIdeal.Hand

open Cert.SampleValIdeal Cert.SampleValIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleValReferenceIdeal.Gen.bcast_S1024x1_S1024x2048_0_1
    (Host.rsqrt (addf (Host.divf
      (broadcastInDim Cert.SampleValReferenceIdeal.S1024x1 ![0] Cert.SampleValReferenceIdeal.Gen.bcast_S1024_S1024x1_0
        (Host.reduceAdd (mulf X X) (constant Cert.SampleValReferenceIdeal.S_ .f32 0x00000000#32)
          Cert.SampleValReferenceIdeal.Gen.reducesTo_S1024x2048_S1024_d1 Cert.SampleValReferenceIdeal.Gen.h_S_))
      (broadcastInDim Cert.SampleValReferenceIdeal.S1024x1 ![] Cert.SampleValReferenceIdeal.Gen.bcast_S_S1024x1
        (constant Cert.SampleValReferenceIdeal.S_ .f32 0x45000000#32)))
      (broadcastInDim Cert.SampleValReferenceIdeal.S1024x1 ![] Cert.SampleValReferenceIdeal.Gen.bcast_S_S1024x1
        (constant Cert.SampleValReferenceIdeal.S_ .f32 0x358637BD#32))))))
    (broadcastInDim S1024x2048 ![0, 1] Cert.SampleValReferenceIdeal.Gen.bcast_S1x2048_S1024x2048_0_1
      (broadcastInDim S1x2048 ![1] Cert.SampleValReferenceIdeal.Gen.bcast_S2048_S1x2048_1 G))

/-- The reference's result as a function of the three arguments. -/
abbrev REF (X : FVec Ideal S1024x2048 .f32) (G : FVec Ideal S2048 .f32) (W : FVec Ideal S1x2048x8192 .f32) :
    FVec Ideal S1024x2048 .f32 :=
  Host.dotGeneral Cert.SampleValReferenceIdeal.dot_S1024x2048_S2048x2048_S1024x2048_1_0_0_1_n_n none (NORM X G)
    (shapeCast Cert.SampleValReferenceIdeal.S2048x2048
      (extractStridedSlice Cert.SampleValReferenceIdeal.S1x2048x2048 ![0, 0, 4096] W
        Cert.SampleValReferenceIdeal.Gen.slices_S1x2048x8192_S1x2048x2048_0_0_4096)
      Cert.SampleValReferenceIdeal.Gen.shapeCasts_S1x2048x2048_S2048x2048)

theorem idx : ∀ t : Fin cfg0.N, win0_0.index t = ![t.val / 4, 0] ∧ win0_1.index t = ![0, 0]
    ∧ win0_2.index t = ![0, 0, 8 + t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.SampleValIdeal.Hand

end
-- ==== Proof.SampleConvValue.lean ====
/- What the projection leaves in its result array when its rows are the sample's and its columns the 6144 that enter the
   convolution. -/
module

public import proofs.«01_k».proof.Proof.Gen.SampleConvIdeal.Value
public import proofs.«01_k».proof.Proof.Gen.SampleConvReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleConvIdeal.Hand

open Cert.SampleConvIdeal Cert.SampleConvIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleConvReferenceIdeal.Gen.bcast_S1024x1_S1024x2048_0_1
    (Host.rsqrt (addf (Host.divf
      (broadcastInDim Cert.SampleConvReferenceIdeal.S1024x1 ![0] Cert.SampleConvReferenceIdeal.Gen.bcast_S1024_S1024x1_0
        (Host.reduceAdd (mulf X X) (constant Cert.SampleConvReferenceIdeal.S_ .f32 0x00000000#32)
          Cert.SampleConvReferenceIdeal.Gen.reducesTo_S1024x2048_S1024_d1 Cert.SampleConvReferenceIdeal.Gen.h_S_))
      (broadcastInDim Cert.SampleConvReferenceIdeal.S1024x1 ![] Cert.SampleConvReferenceIdeal.Gen.bcast_S_S1024x1
        (constant Cert.SampleConvReferenceIdeal.S_ .f32 0x45000000#32)))
      (broadcastInDim Cert.SampleConvReferenceIdeal.S1024x1 ![] Cert.SampleConvReferenceIdeal.Gen.bcast_S_S1024x1
        (constant Cert.SampleConvReferenceIdeal.S_ .f32 0x358637BD#32))))))
    (broadcastInDim S1024x2048 ![0, 1] Cert.SampleConvReferenceIdeal.Gen.bcast_S1x2048_S1024x2048_0_1
      (broadcastInDim S1x2048 ![1] Cert.SampleConvReferenceIdeal.Gen.bcast_S2048_S1x2048_1 G))

/-- The reference's result as a function of the three arguments. -/
abbrev REF (X : FVec Ideal S1024x2048 .f32) (G : FVec Ideal S2048 .f32) (W : FVec Ideal S1x2048x12352 .f32) :
    FVec Ideal S1024x6144 .f32 :=
  Host.dotGeneral Cert.SampleConvReferenceIdeal.dot_S1024x2048_S2048x6144_S1024x6144_1_0_0_1_n_n none (NORM X G)
    (shapeCast Cert.SampleConvReferenceIdeal.S2048x6144
      (extractStridedSlice Cert.SampleConvReferenceIdeal.S1x2048x6144 ![0, 0, 4096] W
        Cert.SampleConvReferenceIdeal.Gen.slices_S1x2048x12352_S1x2048x6144_0_0_4096)
      Cert.SampleConvReferenceIdeal.Gen.shapeCasts_S1x2048x6144_S2048x6144)

theorem idx : ∀ t : Fin cfg0.N, win0_0.index t = ![t.val / 12, 0] ∧ win0_1.index t = ![0, 0]
    ∧ win0_2.index t = ![0, 0, 8 + t.val % 12] ∧ win0_3.index t = ![t.val / 12, t.val % 12] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val / 12 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 12 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 12 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (X0_2 m c t) := by
  by_cases h : t.val % 12 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (X0_2 m c t)) (Memref.IsWhole.read_unread _ _)

/-- No block of the weights is cut: the staged block is the array's columns from the block's first on. -/
theorem staged (c : Dev nD) (t : Fin cfg0.N) (k : Fin 2048) (b : Fin 512) :
    (show FVec Ideal S1x2048x512 .f32 from X0_2 m c t) (ix3 0 k b)
      = (show FVec Ideal S1x2048x12352 .f32 from m ((c : Thread nD τ).loc main_arg2))
          (ix3 0 k ⟨4096 + (t.val % 12 * 512 + b.val), by omega⟩) := by
  change X0_2 m c t (ix3 0 k b : S1x2048x512.Idx) = _
  unfold X0_2 Pipeline.Window.fill
  rw [dif_pos (moved0_2 t _)]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  refine congrArg (_ * ·) ((staged m c t k (y 1)).trans ?_)
  blk_point [iblk, V, idx t]

end Cert.SampleConvIdeal.Hand

end
-- ==== Proof.SampleFfnValue.lean ====
/- What the feed-forward block leaves in its result array when its rows are the sample's: one block of rows. -/
module

public import proofs.«01_k».proof.Proof.Gen.SampleFfnIdeal.Value
public import proofs.«01_k».proof.Proof.Gen.SampleFfnReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleFfnIdeal.Hand

open Cert.SampleFfnIdeal Cert.SampleFfnIdeal.Gen

variable (m : (ℓ : Loc nD τ sig) → Buf (Elt Ideal) ℓ)

/-- The reference's normalisation of every row. -/
def NORM (X : FVec Ideal S1024x2048 .f32) (G : FVec Ideal S2048 .f32) : FVec Ideal S1024x2048 .f32 :=
  mulf (mulf X (broadcastInDim S1024x2048 ![0, 1] Cert.SampleFfnReferenceIdeal.Gen.bcast_S1024x1_S1024x2048_0_1
    (Host.rsqrt (addf (Host.divf
      (broadcastInDim Cert.SampleFfnReferenceIdeal.S1024x1 ![0] Cert.SampleFfnReferenceIdeal.Gen.bcast_S1024_S1024x1_0
        (Host.reduceAdd (mulf X X) (constant Cert.SampleFfnReferenceIdeal.S_ .f32 0x00000000#32)
          Cert.SampleFfnReferenceIdeal.Gen.reducesTo_S1024x2048_S1024_d1 Cert.SampleFfnReferenceIdeal.Gen.h_S_))
      (broadcastInDim Cert.SampleFfnReferenceIdeal.S1024x1 ![] Cert.SampleFfnReferenceIdeal.Gen.bcast_S_S1024x1
        (constant Cert.SampleFfnReferenceIdeal.S_ .f32 0x45000000#32)))
      (broadcastInDim Cert.SampleFfnReferenceIdeal.S1024x1 ![] Cert.SampleFfnReferenceIdeal.Gen.bcast_S_S1024x1
        (constant Cert.SampleFfnReferenceIdeal.S_ .f32 0x358637BD#32))))))
    (broadcastInDim S1024x2048 ![0, 1] Cert.SampleFfnReferenceIdeal.Gen.bcast_S1x2048_S1024x2048_0_1
      (broadcastInDim S1x2048 ![1] Cert.SampleFfnReferenceIdeal.Gen.bcast_S2048_S1x2048_1 G))

/-- Gate and up projection, side by side, of normalised rows `H`. -/
abbrev BOTH (H : FVec Ideal S1024x2048 .f32) (W : FVec Ideal S2x2048x11264 .f32) : FVec Ideal Cert.SampleFfnReferenceIdeal.S1024x11264 .f32 :=
  Host.dotGeneral Cert.SampleFfnReferenceIdeal.dot_S1024x2048_S2048x11264_S1024x11264_1_0_0_1_n_n none H
    (shapeCast Cert.SampleFfnReferenceIdeal.S2048x11264
      (extractStridedSlice Cert.SampleFfnReferenceIdeal.S1x2048x11264 ![1, 0, 0] W Cert.SampleFfnReferenceIdeal.Gen.slices_S2x2048x11264_S1x2048x11264_1_0_0)
      Cert.SampleFfnReferenceIdeal.Gen.shapeCasts_S1x2048x11264_S2048x11264)

/-- The hidden columns: the gate through the sigmoid-weighted unit, times the up projection. -/
def HID (H : FVec Ideal S1024x2048 .f32) (W : FVec Ideal S2x2048x11264 .f32) : FVec Ideal Cert.SampleFfnReferenceIdeal.S1024x5632 .f32 :=
  mulf (mulf (extractStridedSlice Cert.SampleFfnReferenceIdeal.S1024x5632 ![0, 0] (BOTH H W) Cert.SampleFfnReferenceIdeal.Gen.slices_S1024x11264_S1024x5632_0_0)
      (Host.divf (broadcastInDim Cert.SampleFfnReferenceIdeal.S1024x5632 ![] Cert.SampleFfnReferenceIdeal.Gen.bcast_S_S1024x5632 (constant Cert.SampleFfnReferenceIdeal.S_ .f32 0x3F800000#32))
        (addf (broadcastInDim Cert.SampleFfnReferenceIdeal.S1024x5632 ![] Cert.SampleFfnReferenceIdeal.Gen.bcast_S_S1024x5632 (constant Cert.SampleFfnReferenceIdeal.S_ .f32 0x3F800000#32))
          (Host.exp (Host.negf (extractStridedSlice Cert.SampleFfnReferenceIdeal.S1024x5632 ![0, 0] (BOTH H W) Cert.SampleFfnReferenceIdeal.Gen.slices_S1024x11264_S1024x5632_0_0))))))
    (extractStridedSlice Cert.SampleFfnReferenceIdeal.S1024x5632 ![0, 5632] (BOTH H W) Cert.SampleFfnReferenceIdeal.Gen.slices_S1024x11264_S1024x5632_0_5632)

/-- The residual plus half the output projection of the hidden columns. -/
def SUM (X : FVec Ideal S1024x2048 .f32) (D : FVec Ideal Cert.SampleFfnReferenceIdeal.S1024x5632 .f32) (O : FVec Ideal S2x5632x2048 .f32) :
    FVec Ideal S1024x2048 .f32 :=
  addf X (mulf (broadcastInDim S1024x2048 ![] Cert.SampleFfnReferenceIdeal.Gen.bcast_S_S1024x2048 (constant Cert.SampleFfnReferenceIdeal.S_ .f32 0x3F000000#32))
    (Host.dotGeneral Cert.SampleFfnReferenceIdeal.dot_S1024x5632_S5632x2048_S1024x2048_1_0_0_1_n_n none D
      (shapeCast Cert.SampleFfnReferenceIdeal.S5632x2048
        (extractStridedSlice Cert.SampleFfnReferenceIdeal.S1x5632x2048 ![1, 0, 0] O Cert.SampleFfnReferenceIdeal.Gen.slices_S2x5632x2048_S1x5632x2048_1_0_0)
        Cert.SampleFfnReferenceIdeal.Gen.shapeCasts_S1x5632x2048_S5632x2048)))

/-- The reference's result as a function of the five arguments. -/
abbrev REF (X : FVec Ideal S1024x2048 .f32) (G : FVec Ideal S2048 .f32) (W : FVec Ideal S2x2048x11264 .f32)
    (O : FVec Ideal S2x5632x2048 .f32) (GF : FVec Ideal S2048 .f32) : FVec Ideal S1024x2048 .f32 :=
  NORM (SUM X (HID (NORM X G) W) O) GF

theorem idx : ∀ t : Fin cfg0.N, win0_0.index t = ![0, 0] ∧ win0_1.index t = ![1, 0, t.val % 11]
    ∧ win0_2.index t = ![1, 0, 11 + t.val % 11] ∧ win0_3.index t = ![1, t.val % 11, 0] ∧ win0_4.index t = ![0, 0]
    ∧ win0_5.index t = ![t.val / 11, 0] ∧ win0_6.index t = ![t.val / 11, 0] :=
  (by decide +kernel : ∀ t : Fin grid0.N, _)

/-- The reference's normalised rows of the arguments. -/
abbrev rowsR (c : Dev nD) : FVec Ideal S1024x2048 .f32 :=
  NORM (m ((c : Thread nD τ).loc main_arg0)) (m ((c : Thread nD τ).loc main_arg1))

/-- The reference's hidden columns of the arguments. -/
abbrev hidR (c : Dev nD) : FVec Ideal Cert.SampleFfnReferenceIdeal.S1024x5632 .f32 :=
  HID (rowsR m c) (m ((c : Thread nD τ).loc main_arg2))

/-- A row block's normalised rows are the reference's. -/
theorem rows (c : Dev nD) (t : Fin cfg0.N) (y : S1024x2048.Idx) (j : S1024x2048.Idx)
    (h0 : (j 0 : ℕ) = t.val / 11 * 1024 + y 0) (h1 : (j 1 : ℕ) = y 1) :
    k0_pay1 (iblk m c 5 t) (iblk m c 0 t) y = rowsR m c j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 11 * 1024 + y 0) (h1 : (j 1 : ℕ) = y 1), (outsAt0 m c n hn).2 y = rowsR m c j := by
  intro n
  induction n with
  | zero =>
    intro hn y j h0 h1
    rw [outsAt0_A m c ⟨0, hn⟩ (by rfl) (show ¬ (0 : ℕ) % 11 = 10 by decide)]
    frame_out
    exact rows m c ⟨0, hn⟩ y j h0 h1
  | succ n ih =>
    intro hn y j h0 h1
    by_cases h : (n + 1) % 11 = 0
    · rw [outsAt0_A m c ⟨n + 1, hn⟩ h (show ¬ (n + 1) % 11 = 10 by omega)]
      frame_out
      exact rows m c ⟨n + 1, hn⟩ y j h0 h1
    · have e : (n + 1) / 11 = n / 11 := by omega
      by_cases h' : (n + 1) % 11 = 10
      · rw [outsAt0_C m c ⟨n + 1, hn⟩ h h']
        frame_out
        exact ih _ y j (by rw [← e]; exact h0) h1
      · rw [outsAt0_B m c ⟨n + 1, hn⟩ h h']
        frame_out
        exact ih _ y j (by rw [← e]; exact h0) h1

/-- One hidden block's part of the output projection. -/
def part (c : Dev nD) (j : S1024x2048.Idx) (s : Fin 11) : EReal :=
  ∑ k : Fin 512, hidR m c (ix2 (j 0) ⟨s.val * 512 + k.val, by omega⟩)
    * (show FVec Ideal S2x5632x2048 .f32 from m ((c : Thread nD τ).loc main_arg3)) (ix3 1 ⟨s.val * 512 + k.val, by omega⟩ (j 1))

/-- The accumulating payload over the normalised rows adds one hidden block's part. -/
theorem step (c : Dev nD) (t : Fin cfg0.N) (S : FVec Ideal S1024x2048 .bf16) (acc : FVec Ideal S1024x2048 .f32) (y : S1024x2048.Idx)
    (j : S1024x2048.Idx) (h0 : (j 0 : ℕ) = t.val / 11 * 1024 + y 0) (h1 : (j 1 : ℕ) = y 1)
    (hS : ∀ k, S (ix2 (y 0) k) = rowsR m c (ix2 (j 0) k)) :
    k0_pay3 S (iblk m c 1 t) (iblk m c 2 t) acc (iblk m c 3 t) y = acc y + part m c j ⟨t.val % 11, Nat.mod_lt _ (by decide)⟩ := by
  unfold part hidR
  pointwise [k0_pay3, HID]
  simp only [hS]
  simp only [Ideal.logistic]
  blk_point [iblk, V, idx t]

/-- The parts of the first `n` hidden blocks, added up. -/
def parts (c : Dev nD) (j : S1024x2048.Idx) (n : ℕ) : EReal :=
  ∑ s ∈ Finset.range n, if h : s < 11 then part m c j ⟨s, h⟩ else 0

theorem parts_zero (c : Dev nD) (j : S1024x2048.Idx) : parts m c j 0 = 0 := Finset.sum_range_zero _

theorem parts_succ (c : Dev nD) (j : S1024x2048.Idx) (n : ℕ) (h : n < 11) :
    parts m c j (n + 1) = parts m c j n + part m c j ⟨n, h⟩ := by
  unfold parts
  rw [Finset.sum_range_succ, dif_pos h]

/-- All parts together are the one product over every hidden column. -/
theorem parts_all (c : Dev nD) (j : S1024x2048.Idx) :
    parts m c j 11 = ∑ l : Fin 5632, hidR m c (ix2 (j 0) l)
      * (show FVec Ideal S2x5632x2048 .f32 from m ((c : Thread nD τ).loc main_arg3)) (ix3 1 l (j 1)) := by
  have e : parts m c j 11 = ∑ s : Fin 11, part m c j s := by
    unfold parts
    rw [Finset.sum_range]
    exact Finset.sum_congr rfl fun s _ => dif_pos s.isLt
  rw [e]
  unfold part
  exact Fin.sum_mul_add_congr fun s k hl => rfl

/-- Before a row block's last point the output block holds the parts so far. -/
theorem partial_sum (c : Dev nD) : ∀ (n : ℕ) (hn : n < cfg0.N) (hl : n % 11 < 10) (y : S1024x2048.Idx) (j : S1024x2048.Idx)
    (h0 : (j 0 : ℕ) = n / 11 * 1024 + y 0) (h1 : (j 1 : ℕ) = y 1), (outsAt0 m c n hn).1 y = parts m c j (n % 11 + 1) := by
  intro n
  induction n with
  | zero =>
    intro hn hl y j h0 h1
    rw [outsAt0_A m c ⟨0, hn⟩ (by rfl) (show ¬ (0 : ℕ) % 11 = 10 by decide)]
    frame_out
    rw [step m c ⟨0, hn⟩ _ _ y j h0 h1 (fun k => rows m c ⟨0, hn⟩ _ _ h0 rfl), parts_succ m c j 0 (by decide), parts_zero]
    pointwise [k0_pay2]
  | succ n ih =>
    intro hn hl y j h0 h1
    by_cases h : (n + 1) % 11 = 0
    · rw [outsAt0_A m c ⟨n + 1, hn⟩ h (show ¬ (n + 1) % 11 = 10 by omega)]
      frame_out
      rw [step m c ⟨n + 1, hn⟩ _ _ y j h0 h1 (fun k => rows m c ⟨n + 1, hn⟩ _ _ h0 rfl)]
      simp only [h]
      rw [parts_succ m c j 0 (by decide), parts_zero]
      pointwise [k0_pay2]
    · have e : (n + 1) / 11 = n / 11 := by omega
      have e' : (n + 1) % 11 = n % 11 + 1 := by omega
      have h0' : (j 0 : ℕ) = n / 11 * 1024 + y 0 := by rw [← e]; exact h0
      rw [outsAt0_B m c ⟨n + 1, hn⟩ h (show ¬ (n + 1) % 11 = 10 by omega)]
      frame_out
      refine (congrArg (fun S => k0_pay3 S (iblk m c 1 ⟨n + 1, hn⟩) (iblk m c 2 ⟨n + 1, hn⟩) (outsAt0 m c n (by omega)).1
        (iblk m c 3 ⟨n + 1, hn⟩) y) (Memref.IsWhole.read_unread _ _)).trans ?_
      change k0_pay3 (outsAt0 m c n (by omega)).2 _ _ _ _ y = _
      rw [step m c ⟨n + 1, hn⟩ _ _ y j h0 h1 (fun k => scratch m c n _ _ _ h0' rfl), parts_succ m c j _ (by omega)]
      refine congrArg₂ (· + ·) ?_ rfl
      rw [e']
      exact ih _ (by omega) y j h0' h1

/-- What a row block's last point leaves before the residual: all parts. -/
theorem full_sum (c : Dev nD) (t : Fin cfg0.N) (h : ¬ t.val % 11 = 0) (h' : t.val % 11 = 10) (y : S1024x2048.Idx) (j : S1024x2048.Idx)
    (h0 : (j 0 : ℕ) = t.val / 11 * 1024 + y 0) (h1 : (j 1 : ℕ) = y 1) :
    k0_pay3 (outsAt0 m c (t.val - 1) (by omega)).2 (iblk m c 1 t) (iblk m c 2 t) (outsAt0 m c (t.val - 1) (by omega)).1 (iblk m c 3 t) y
      = parts m c j 11 := by
  have e : t.val / 11 = (t.val - 1) / 11 := by omega
  have h0' : (j 0 : ℕ) = (t.val - 1) / 11 * 1024 + y 0 := by rw [← e]; exact h0
  rw [step m c t _ _ y j h0 h1 (fun k => scratch m c (t.val - 1) _ _ _ h0' rfl), parts_succ m c j 10 (by decide),
    partial_sum m c (t.val - 1) _ (by omega) y j h0' h1]
  have e1 : (t.val - 1) % 11 + 1 = 10 := by omega
  simp only [e1, h']

theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h' : t.val % 11 = 10 := (flush0_6 t).mp hf
  have h : ¬ t.val % 11 = 0 := by omega
  blk_simp
  rw [after0_6, outsAt0_C m c t h h']
  frame_out
  have hn : t.val - 1 < cfg0.N := lt_of_le_of_lt (Nat.sub_le _ _) t.isLt
  obtain ⟨S, hS⟩ : ∃ S, S = k0_pay3 (outsAt0 m c (t.val - 1) hn).2 (iblk m c 1 t) (iblk m c 2 t) (outsAt0 m c (t.val - 1) hn).1
    (iblk m c 3 t) := ⟨_, rfl⟩
  refine (congrArg (fun S => k0_pay4 (iblk m c 5 t) S (iblk m c 4 t) y) ((congrArg (fun S => k0_pay3 S (iblk m c 1 t) (iblk m c 2 t)
    (outsAt0 m c (t.val - 1) hn).1 (iblk m c 3 t)) (Memref.IsWhole.read_unread _ _)).trans hS.symm)).trans ?_
  have hs := fun y j h0 h1 => (congrFun hS y).trans ((full_sum m c t h h' y j h0 h1).trans (parts_all m c j))
  clear hS
  change _ = NORM (SUM (m ((c : Thread nD τ).loc main_arg0)) (hidR m c) (m ((c : Thread nD τ).loc main_arg3)))
    (m ((c : Thread nD τ).loc main_arg4)) _
  generalize hidR m c = D at hs ⊢
  have hk : ∀ k, S (ix2 (y 0) k) = _ := fun k => hs (ix2 (y 0) k) (ix2 (((cfg0.win 6).blk t).view.emb y 0) k) (by blk_simp [idx t]) rfl
  have hy : S y = _ := hs y (((cfg0.win 6).blk t).view.emb y) (by blk_simp [idx t]) (by blk_simp [idx t])
  pointwise [k0_pay4, NORM, SUM]
  rw [hy]
  simp only [hk]
  blk_point [iblk, V, idx t]

end Cert.SampleFfnIdeal.Hand

end
-- ==== Proof.HalfValue.lean ====
/- What the feed-forward block without the final normalisation leaves in its result array. -/
module

public import proofs.«01_k».proof.Proof.Gen.HalfIdeal.Value
public import proofs.«01_k».proof.Proof.Gen.HalfReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HalfIdeal.Hand

open Cert.HalfIdeal Cert.HalfIdeal.Gen

variable (m : (ℓ : Loc nD τ sig) → Buf (Elt Ideal) ℓ)

/-- The reference's normalisation of every row. -/
def NORM (X : FVec Ideal S8192x2048 .f32) (G : FVec Ideal S2048 .f32) : FVec Ideal S8192x2048 .f32 :=
  mulf (mulf X (broadcastInDim S8192x2048 ![0, 1] Cert.HalfReferenceIdeal.Gen.bcast_S8192x1_S8192x2048_0_1
    (Host.rsqrt (addf (Host.divf
      (broadcastInDim Cert.HalfReferenceIdeal.S8192x1 ![0] Cert.HalfReferenceIdeal.Gen.bcast_S8192_S8192x1_0
        (Host.reduceAdd (mulf X X) (constant Cert.HalfReferenceIdeal.S_ .f32 0x00000000#32)
          Cert.HalfReferenceIdeal.Gen.reducesTo_S8192x2048_S8192_d1 Cert.HalfReferenceIdeal.Gen.h_S_))
      (broadcastInDim Cert.HalfReferenceIdeal.S8192x1 ![] Cert.HalfReferenceIdeal.Gen.bcast_S_S8192x1
        (constant Cert.HalfReferenceIdeal.S_ .f32 0x45000000#32)))
      (broadcastInDim Cert.HalfReferenceIdeal.S8192x1 ![] Cert.HalfReferenceIdeal.Gen.bcast_S_S8192x1
        (constant Cert.HalfReferenceIdeal.S_ .f32 0x358637BD#32))))))
    (broadcastInDim S8192x2048 ![0, 1] Cert.HalfReferenceIdeal.Gen.bcast_S1x2048_S8192x2048_0_1
      (broadcastInDim S1x2048 ![1] Cert.HalfReferenceIdeal.Gen.bcast_S2048_S1x2048_1 G))

/-- Gate and up projection, side by side, of normalised rows `H`. -/
abbrev BOTH (H : FVec Ideal S8192x2048 .f32) (W : FVec Ideal S2x2048x11264 .f32) : FVec Ideal Cert.HalfReferenceIdeal.S8192x11264 .f32 :=
  Host.dotGeneral Cert.HalfReferenceIdeal.dot_S8192x2048_S2048x11264_S8192x11264_1_0_0_1_n_n none H
    (shapeCast Cert.HalfReferenceIdeal.S2048x11264
      (extractStridedSlice Cert.HalfReferenceIdeal.S1x2048x11264 ![0, 0, 0] W Cert.HalfReferenceIdeal.Gen.slices_S2x2048x11264_S1x2048x11264_0_0_0)
      Cert.HalfReferenceIdeal.Gen.shapeCasts_S1x2048x11264_S2048x11264)

/-- The hidden columns: the gate through the sigmoid-weighted unit, times the up projection. -/
def HID (H : FVec Ideal S8192x2048 .f32) (W : FVec Ideal S2x2048x11264 .f32) : FVec Ideal Cert.HalfReferenceIdeal.S8192x5632 .f32 :=
  mulf (mulf (extractStridedSlice Cert.HalfReferenceIdeal.S8192x5632 ![0, 0] (BOTH H W) Cert.HalfReferenceIdeal.Gen.slices_S8192x11264_S8192x5632_0_0)
      (Host.divf (broadcastInDim Cert.HalfReferenceIdeal.S8192x5632 ![] Cert.HalfReferenceIdeal.Gen.bcast_S_S8192x5632 (constant Cert.HalfReferenceIdeal.S_ .f32 0x3F800000#32))
        (addf (broadcastInDim Cert.HalfReferenceIdeal.S8192x5632 ![] Cert.HalfReferenceIdeal.Gen.bcast_S_S8192x5632 (constant Cert.HalfReferenceIdeal.S_ .f32 0x3F800000#32))
          (Host.exp (Host.negf (extractStridedSlice Cert.HalfReferenceIdeal.S8192x5632 ![0, 0] (BOTH H W) Cert.HalfReferenceIdeal.Gen.slices_S8192x11264_S8192x5632_0_0))))))
    (extractStridedSlice Cert.HalfReferenceIdeal.S8192x5632 ![0, 5632] (BOTH H W) Cert.HalfReferenceIdeal.Gen.slices_S8192x11264_S8192x5632_0_5632)

/-- The residual plus half the output projection of the hidden columns. -/
def SUM (X : FVec Ideal S8192x2048 .f32) (D : FVec Ideal Cert.HalfReferenceIdeal.S8192x5632 .f32) (O : FVec Ideal S2x5632x2048 .f32) :
    FVec Ideal S8192x2048 .f32 :=
  addf X (mulf (broadcastInDim S8192x2048 ![] Cert.HalfReferenceIdeal.Gen.bcast_S_S8192x2048 (constant Cert.HalfReferenceIdeal.S_ .f32 0x3F000000#32))
    (Host.dotGeneral Cert.HalfReferenceIdeal.dot_S8192x5632_S5632x2048_S8192x2048_1_0_0_1_n_n none D
      (shapeCast Cert.HalfReferenceIdeal.S5632x2048
        (extractStridedSlice Cert.HalfReferenceIdeal.S1x5632x2048 ![0, 0, 0] O Cert.HalfReferenceIdeal.Gen.slices_S2x5632x2048_S1x5632x2048_0_0_0)
        Cert.HalfReferenceIdeal.Gen.shapeCasts_S1x5632x2048_S5632x2048)))

/-- The reference's result as a function of the four arguments. -/
abbrev REF (X : FVec Ideal S8192x2048 .f32) (G : FVec Ideal S2048 .f32) (W : FVec Ideal S2x2048x11264 .f32)
    (O : FVec Ideal S2x5632x2048 .f32) : FVec Ideal S8192x2048 .f32 :=
  SUM X (HID (NORM X G) W) O

theorem idx : ∀ t : Fin cfg0.N, win0_0.index t = ![0, 0] ∧ win0_1.index t = ![0, 0, t.val % 11]
    ∧ win0_2.index t = ![0, 0, 11 + t.val % 11] ∧ win0_3.index t = ![0, t.val % 11, 0] ∧ win0_4.index t = ![0, 0]
    ∧ win0_5.index t = ![t.val / 11, 0] ∧ win0_6.index t = ![t.val / 11, 0] :=
  (by decide +kernel : ∀ t : Fin grid0.N, _)

/-- The reference's normalised rows of the arguments. -/
abbrev rowsR (c : Dev nD) : FVec Ideal S8192x2048 .f32 :=
  NORM (m ((c : Thread nD τ).loc main_arg0)) (m ((c : Thread nD τ).loc main_arg1))

/-- The reference's hidden columns of the arguments. -/
abbrev hidR (c : Dev nD) : FVec Ideal Cert.HalfReferenceIdeal.S8192x5632 .f32 :=
  HID (rowsR m c) (m ((c : Thread nD τ).loc main_arg2))

/-- A row block's normalised rows are the reference's. -/
theorem rows (c : Dev nD) (t : Fin cfg0.N) (y : S1024x2048.Idx) (j : S8192x2048.Idx)
    (h0 : (j 0 : ℕ) = t.val / 11 * 1024 + y 0) (h1 : (j 1 : ℕ) = y 1) :
    k0_pay1 (iblk m c 5 t) (iblk m c 0 t) y = rowsR m c j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 11 * 1024 + y 0) (h1 : (j 1 : ℕ) = y 1), (outsAt0 m c n hn).2 y = rowsR m c j := by
  intro n
  induction n with
  | zero =>
    intro hn y j h0 h1
    rw [outsAt0_A m c ⟨0, hn⟩ (by rfl) (show ¬ (0 : ℕ) % 11 = 10 by decide)]
    frame_out
    exact rows m c ⟨0, hn⟩ y j h0 h1
  | succ n ih =>
    intro hn y j h0 h1
    by_cases h : (n + 1) % 11 = 0
    · rw [outsAt0_A m c ⟨n + 1, hn⟩ h (show ¬ (n + 1) % 11 = 10 by omega)]
      frame_out
      exact rows m c ⟨n + 1, hn⟩ y j h0 h1
    · have e : (n + 1) / 11 = n / 11 := by omega
      by_cases h' : (n + 1) % 11 = 10
      · rw [outsAt0_C m c ⟨n + 1, hn⟩ h h']
        frame_out
        exact ih _ y j (by rw [← e]; exact h0) h1
      · rw [outsAt0_B m c ⟨n + 1, hn⟩ h h']
        frame_out
        exact ih _ y j (by rw [← e]; exact h0) h1

/-- One hidden block's part of the output projection. -/
def part (c : Dev nD) (j : S8192x2048.Idx) (s : Fin 11) : EReal :=
  ∑ k : Fin 512, hidR m c (ix2 (j 0) ⟨s.val * 512 + k.val, by omega⟩)
    * (show FVec Ideal S2x5632x2048 .f32 from m ((c : Thread nD τ).loc main_arg3)) (ix3 0 ⟨s.val * 512 + k.val, by omega⟩ (j 1))

/-- The accumulating payload over the normalised rows adds one hidden block's part. -/
theorem step (c : Dev nD) (t : Fin cfg0.N) (S : FVec Ideal S1024x2048 .bf16) (acc : FVec Ideal S1024x2048 .f32) (y : S1024x2048.Idx)
    (j : S8192x2048.Idx) (h0 : (j 0 : ℕ) = t.val / 11 * 1024 + y 0) (h1 : (j 1 : ℕ) = y 1)
    (hS : ∀ k, S (ix2 (y 0) k) = rowsR m c (ix2 (j 0) k)) :
    k0_pay3 S (iblk m c 1 t) (iblk m c 2 t) acc (iblk m c 3 t) y = acc y + part m c j ⟨t.val % 11, Nat.mod_lt _ (by decide)⟩ := by
  unfold part hidR
  pointwise [k0_pay3, HID]
  simp only [hS]
  simp only [Ideal.logistic]
  blk_point [iblk, V, idx t]

/-- The parts of the first `n` hidden blocks, added up. -/
def parts (c : Dev nD) (j : S8192x2048.Idx) (n : ℕ) : EReal :=
  ∑ s ∈ Finset.range n, if h : s < 11 then part m c j ⟨s, h⟩ else 0

theorem parts_zero (c : Dev nD) (j : S8192x2048.Idx) : parts m c j 0 = 0 := Finset.sum_range_zero _

theorem parts_succ (c : Dev nD) (j : S8192x2048.Idx) (n : ℕ) (h : n < 11) :
    parts m c j (n + 1) = parts m c j n + part m c j ⟨n, h⟩ := by
  unfold parts
  rw [Finset.sum_range_succ, dif_pos h]

/-- All parts together are the one product over every hidden column. -/
theorem parts_all (c : Dev nD) (j : S8192x2048.Idx) :
    parts m c j 11 = ∑ l : Fin 5632, hidR m c (ix2 (j 0) l)
      * (show FVec Ideal S2x5632x2048 .f32 from m ((c : Thread nD τ).loc main_arg3)) (ix3 0 l (j 1)) := by
  have e : parts m c j 11 = ∑ s : Fin 11, part m c j s := by
    unfold parts
    rw [Finset.sum_range]
    exact Finset.sum_congr rfl fun s _ => dif_pos s.isLt
  rw [e]
  unfold part
  exact Fin.sum_mul_add_congr fun s k hl => rfl

/-- Before a row block's last point the output block holds the parts so far. -/
theorem partial_sum (c : Dev nD) : ∀ (n : ℕ) (hn : n < cfg0.N) (hl : n % 11 < 10) (y : S1024x2048.Idx) (j : S8192x2048.Idx)
    (h0 : (j 0 : ℕ) = n / 11 * 1024 + y 0) (h1 : (j 1 : ℕ) = y 1), (outsAt0 m c n hn).1 y = parts m c j (n % 11 + 1) := by
  intro n
  induction n with
  | zero =>
    intro hn hl y j h0 h1
    rw [outsAt0_A m c ⟨0, hn⟩ (by rfl) (show ¬ (0 : ℕ) % 11 = 10 by decide)]
    frame_out
    rw [step m c ⟨0, hn⟩ _ _ y j h0 h1 (fun k => rows m c ⟨0, hn⟩ _ _ h0 rfl), parts_succ m c j 0 (by decide), parts_zero]
    pointwise [k0_pay2]
  | succ n ih =>
    intro hn hl y j h0 h1
    by_cases h : (n + 1) % 11 = 0
    · rw [outsAt0_A m c ⟨n + 1, hn⟩ h (show ¬ (n + 1) % 11 = 10 by omega)]
      frame_out
      rw [step m c ⟨n + 1, hn⟩ _ _ y j h0 h1 (fun k => rows m c ⟨n + 1, hn⟩ _ _ h0 rfl)]
      simp only [h]
      rw [parts_succ m c j 0 (by decide), parts_zero]
      pointwise [k0_pay2]
    · have e : (n + 1) / 11 = n / 11 := by omega
      have e' : (n + 1) % 11 = n % 11 + 1 := by omega
      have h0' : (j 0 : ℕ) = n / 11 * 1024 + y 0 := by rw [← e]; exact h0
      rw [outsAt0_B m c ⟨n + 1, hn⟩ h (show ¬ (n + 1) % 11 = 10 by omega)]
      frame_out
      refine (congrArg (fun S => k0_pay3 S (iblk m c 1 ⟨n + 1, hn⟩) (iblk m c 2 ⟨n + 1, hn⟩) (outsAt0 m c n (by omega)).1
        (iblk m c 3 ⟨n + 1, hn⟩) y) (Memref.IsWhole.read_unread _ _)).trans ?_
      change k0_pay3 (outsAt0 m c n (by omega)).2 _ _ _ _ y = _
      rw [step m c ⟨n + 1, hn⟩ _ _ y j h0 h1 (fun k => scratch m c n _ _ _ h0' rfl), parts_succ m c j _ (by omega)]
      refine congrArg₂ (· + ·) ?_ rfl
      rw [e']
      exact ih _ (by omega) y j h0' h1

/-- What a row block's last point leaves before the residual: all parts. -/
theorem full_sum (c : Dev nD) (t : Fin cfg0.N) (h : ¬ t.val % 11 = 0) (h' : t.val % 11 = 10) (y : S1024x2048.Idx) (j : S8192x2048.Idx)
    (h0 : (j 0 : ℕ) = t.val / 11 * 1024 + y 0) (h1 : (j 1 : ℕ) = y 1) :
    k0_pay3 (outsAt0 m c (t.val - 1) (by omega)).2 (iblk m c 1 t) (iblk m c 2 t) (outsAt0 m c (t.val - 1) (by omega)).1 (iblk m c 3 t) y
      = parts m c j 11 := by
  have e : t.val / 11 = (t.val - 1) / 11 := by omega
  have h0' : (j 0 : ℕ) = (t.val - 1) / 11 * 1024 + y 0 := by rw [← e]; exact h0
  rw [step m c t _ _ y j h0 h1 (fun k => scratch m c (t.val - 1) _ _ _ h0' rfl), parts_succ m c j 10 (by decide),
    partial_sum m c (t.val - 1) _ (by omega) y j h0' h1]
  have e1 : (t.val - 1) % 11 + 1 = 10 := by omega
  simp only [e1, h']

theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have h' : t.val % 11 = 10 := (flush0_6 t).mp hf
  have h : ¬ t.val % 11 = 0 := by omega
  blk_simp
  rw [after0_6, outsAt0_C m c t h h']
  frame_out
  have hn : t.val - 1 < cfg0.N := lt_of_le_of_lt (Nat.sub_le _ _) t.isLt
  obtain ⟨S, hS⟩ : ∃ S, S = k0_pay3 (outsAt0 m c (t.val - 1) hn).2 (iblk m c 1 t) (iblk m c 2 t) (outsAt0 m c (t.val - 1) hn).1
    (iblk m c 3 t) := ⟨_, rfl⟩
  refine (congrArg (fun S => k0_pay4 (iblk m c 5 t) S y) ((congrArg (fun S => k0_pay3 S (iblk m c 1 t) (iblk m c 2 t)
    (outsAt0 m c (t.val - 1) hn).1 (iblk m c 3 t)) (Memref.IsWhole.read_unread _ _)).trans hS.symm)).trans ?_
  have hs := fun y j h0 h1 => (congrFun hS y).trans ((full_sum m c t h h' y j h0 h1).trans (parts_all m c j))
  clear hS
  change _ = SUM (m ((c : Thread nD τ).loc main_arg0)) (hidR m c) (m ((c : Thread nD τ).loc main_arg3)) _
  generalize hidR m c = D at hs ⊢
  have hy : S y = _ := hs y (((cfg0.win 6).blk t).view.emb y) (by blk_simp [idx t]) (by blk_simp [idx t])
  pointwise [k0_pay4, SUM]
  rw [hy]
  blk_point [iblk, V, idx t]

end Cert.HalfIdeal.Hand

end
-- ==== Proof.SbOutValue.lean ====
/- What the output projection leaves in its result array in the stick-breaking layer: the two activations are equally wide,
   so every block of the weights is whole. -/
module

public import proofs.«01_k».proof.Proof.Gen.SbOutIdeal.Value
public import proofs.«01_k».proof.Proof.Gen.SbOutReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SbOutIdeal.Hand

open Cert.SbOutIdeal Cert.SbOutIdeal.Gen

variable (m : (ℓ : Loc nD τ sig) → Buf (Elt Ideal) ℓ)

/-- The reference's result as a function of the four arguments. -/
abbrev REF (X : FVec Ideal S8192x2048 .f32) (A : FVec Ideal S8192x2048 .bf16) (B : FVec Ideal S8192x2048 .bf16)
    (W : FVec Ideal S1x4096x2048 .f32) : FVec Ideal S8192x2048 .f32 :=
  addf X (Host.dotGeneral Cert.SbOutReferenceIdeal.dot_S8192x4096_S4096x2048_S8192x2048_1_0_0_1_n_n none
    (concatenate Cert.SbOutReferenceIdeal.S8192x4096 1
      [⟨S8192x2048, extf .f32 A Cert.SbOutReferenceIdeal.Gen.bitsLt_bf16_f32⟩, ⟨S8192x2048, extf .f32 B Cert.SbOutReferenceIdeal.Gen.bitsLt_bf16_f32⟩]
      Cert.SbOutReferenceIdeal.Gen.concatenates_S8192x2048_S8192x2048_S8192x4096_d1)
    (shapeCast Cert.SbOutReferenceIdeal.S4096x2048 W Cert.SbOutReferenceIdeal.Gen.shapeCasts_S1x4096x2048_S4096x2048))

theorem idx : ∀ t : Fin cfg0.N, win0_0.index t = ![t.val / 8, t.val % 8] ∧ win0_1.index t = ![t.val / 8, 0] ∧ win0_2.index t = ![t.val / 8, 0]
    ∧ win0_3.index t = ![0, 0, t.val % 8] ∧ win0_4.index t = ![0, 1, t.val % 8] ∧ win0_5.index t = ![t.val / 8, t.val % 8] :=
  (by decide +kernel : ∀ t : Fin grid0.N, _)

theorem point (c : Dev nD) (t : Fin cfg0.N) (y) :
    k0_pay1 (iblk m c 0 t) (iblk m c 1 t) (iblk m c 3 t) (iblk m c 2 t) (iblk m c 4 t) y
      = REF (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REF]
  refine (add_assoc (_ : EReal) _ _).trans ?_
  blk_point [iblk, V, idx t]

theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point m c t y

end Cert.SbOutIdeal.Hand

end
-- ==== Proof.MemKeyLastValue.lean ====
/- What the projection leaves in its result array when its columns are the memory keys', with the last layer's weights. -/
module

public import proofs.«01_k».proof.Proof.Gen.MemKeyLastIdeal.Value
public import proofs.«01_k».proof.Proof.Gen.MemKeyLastReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemKeyLastIdeal.Hand

open Cert.MemKeyLastIdeal Cert.MemKeyLastIdeal.Gen

variable (m : (ℓ : Loc nD τ sig) → Buf (Elt Ideal) ℓ)

/-- The reference's normalised rows. -/
def NORM (X : FVec Ideal S512x2048 .f32) (G : FVec Ideal S2048 .f32) : FVec Ideal S512x2048 .f32 :=
  mulf (mulf X (broadcastInDim S512x2048 ![0, 1] Cert.MemKeyLastReferenceIdeal.Gen.bcast_S512x1_S512x2048_0_1
    (Host.rsqrt (addf (Host.divf
      (broadcastInDim Cert.MemKeyLastReferenceIdeal.S512x1 ![0] Cert.MemKeyLastReferenceIdeal.Gen.bcast_S512_S512x1_0
        (Host.reduceAdd (mulf X X) (constant Cert.MemKeyLastReferenceIdeal.S_ .f32 0x00000000#32)
          Cert.MemKeyLastReferenceIdeal.Gen.reducesTo_S512x2048_S512_d1 Cert.MemKeyLastReferenceIdeal.Gen.h_S_))
      (broadcastInDim Cert.MemKeyLastReferenceIdeal.S512x1 ![] Cert.MemKeyLastReferenceIdeal.Gen.bcast_S_S512x1
        (constant Cert.MemKeyLastReferenceIdeal.S_ .f32 0x45000000#32)))
      (broadcastInDim Cert.MemKeyLastReferenceIdeal.S512x1 ![] Cert.MemKeyLastReferenceIdeal.Gen.bcast_S_S512x1
        (constant Cert.MemKeyLastReferenceIdeal.S_ .f32 0x358637BD#32))))))
    (broadcastInDim S512x2048 ![0, 1] Cert.MemKeyLastReferenceIdeal.Gen.bcast_S1x2048_S512x2048_0_1
      (broadcastInDim S1x2048 ![1] Cert.MemKeyLastReferenceIdeal.Gen.bcast_S2048_S1x2048_1 G))

/-- The reference's result as a function of the three arguments. -/
abbrev REF (X : FVec Ideal S512x2048 .f32) (G : FVec Ideal S2048 .f32) (W : FVec Ideal S2x2048x4096 .f32) :
    FVec Ideal S512x2048 .f32 :=
  Host.dotGeneral Cert.MemKeyLastReferenceIdeal.dot_S512x2048_S2048x2048_S512x2048_1_0_0_1_n_n none (NORM X G)
    (shapeCast Cert.MemKeyLastReferenceIdeal.S2048x2048
      (extractStridedSlice Cert.MemKeyLastReferenceIdeal.S1x2048x2048 ![1, 0, 0] W
        Cert.MemKeyLastReferenceIdeal.Gen.slices_S2x2048x4096_S1x2048x2048_1_0_0)
      Cert.MemKeyLastReferenceIdeal.Gen.shapeCasts_S1x2048x2048_S2048x2048)

theorem idx : ∀ t : Fin cfg0.N, win0_0.index t = ![t.val / 4, 0] ∧ win0_1.index t = ![0, 0]
    ∧ win0_2.index t = ![1, 0, t.val % 4] ∧ win0_3.index t = ![t.val / 4, t.val % 4] :=
  (by decide +kernel : ∀ t : Fin grid0.N, _)

/-- A row block's normalised rows are the reference's. -/
theorem rows (c : Dev nD) (t : Fin cfg0.N) (y : S512x2048.Idx) (j : S512x2048.Idx)
    (h0 : (j 0 : ℕ) = t.val / 4 * 512 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S512x2048.Idx) (j : S512x2048.Idx)
    (h0 : (j 0 : ℕ) = n / 4 * 512 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.MemKeyLastIdeal.Hand

end
-- ==== Proof.MemValLastValue.lean ====
/- What the projection leaves in its result array when its columns are the memory values', with the last layer's weights. -/
module

public import proofs.«01_k».proof.Proof.Gen.MemValLastIdeal.Value
public import proofs.«01_k».proof.Proof.Gen.MemValLastReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemValLastIdeal.Hand

open Cert.MemValLastIdeal Cert.MemValLastIdeal.Gen

variable (m : (ℓ : Loc nD τ sig) → Buf (Elt Ideal) ℓ)

/-- The reference's normalised rows. -/
def NORM (X : FVec Ideal S512x2048 .f32) (G : FVec Ideal S2048 .f32) : FVec Ideal S512x2048 .f32 :=
  mulf (mulf X (broadcastInDim S512x2048 ![0, 1] Cert.MemValLastReferenceIdeal.Gen.bcast_S512x1_S512x2048_0_1
    (Host.rsqrt (addf (Host.divf
      (broadcastInDim Cert.MemValLastReferenceIdeal.S512x1 ![0] Cert.MemValLastReferenceIdeal.Gen.bcast_S512_S512x1_0
        (Host.reduceAdd (mulf X X) (constant Cert.MemValLastReferenceIdeal.S_ .f32 0x00000000#32)
          Cert.MemValLastReferenceIdeal.Gen.reducesTo_S512x2048_S512_d1 Cert.MemValLastReferenceIdeal.Gen.h_S_))
      (broadcastInDim Cert.MemValLastReferenceIdeal.S512x1 ![] Cert.MemValLastReferenceIdeal.Gen.bcast_S_S512x1
        (constant Cert.MemValLastReferenceIdeal.S_ .f32 0x45000000#32)))
      (broadcastInDim Cert.MemValLastReferenceIdeal.S512x1 ![] Cert.MemValLastReferenceIdeal.Gen.bcast_S_S512x1
        (constant Cert.MemValLastReferenceIdeal.S_ .f32 0x358637BD#32))))))
    (broadcastInDim S512x2048 ![0, 1] Cert.MemValLastReferenceIdeal.Gen.bcast_S1x2048_S512x2048_0_1
      (broadcastInDim S1x2048 ![1] Cert.MemValLastReferenceIdeal.Gen.bcast_S2048_S1x2048_1 G))

/-- The reference's result as a function of the three arguments. -/
abbrev REF (X : FVec Ideal S512x2048 .f32) (G : FVec Ideal S2048 .f32) (W : FVec Ideal S2x2048x4096 .f32) :
    FVec Ideal S512x2048 .f32 :=
  Host.dotGeneral Cert.MemValLastReferenceIdeal.dot_S512x2048_S2048x2048_S512x2048_1_0_0_1_n_n none (NORM X G)
    (shapeCast Cert.MemValLastReferenceIdeal.S2048x2048
      (extractStridedSlice Cert.MemValLastReferenceIdeal.S1x2048x2048 ![1, 0, 2048] W
        Cert.MemValLastReferenceIdeal.Gen.slices_S2x2048x4096_S1x2048x2048_1_0_2048)
      Cert.MemValLastReferenceIdeal.Gen.shapeCasts_S1x2048x2048_S2048x2048)

theorem idx : ∀ t : Fin cfg0.N, win0_0.index t = ![t.val / 4, 0] ∧ win0_1.index t = ![0, 0]
    ∧ win0_2.index t = ![1, 0, 4 + t.val % 4] ∧ win0_3.index t = ![t.val / 4, t.val % 4] :=
  (by decide +kernel : ∀ t : Fin grid0.N, _)

/-- A row block's normalised rows are the reference's. -/
theorem rows (c : Dev nD) (t : Fin cfg0.N) (y : S512x2048.Idx) (j : S512x2048.Idx)
    (h0 : (j 0 : ℕ) = t.val / 4 * 512 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S512x2048.Idx) (j : S512x2048.Idx)
    (h0 : (j 0 : ℕ) = n / 4 * 512 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.MemValLastIdeal.Hand

end
-- ==== Proof.GateValue.lean ====
/- What the projection leaves in its result array when its columns are the gate's. -/
module

public import proofs.«01_k».proof.Proof.Gen.GateIdeal.Value
public import proofs.«01_k».proof.Proof.Gen.GateReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.Hand

open Cert.GateIdeal Cert.GateIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.GateReferenceIdeal.Gen.bcast_S8192x1_S8192x2048_0_1
    (Host.rsqrt (addf (Host.divf
      (broadcastInDim Cert.GateReferenceIdeal.S8192x1 ![0] Cert.GateReferenceIdeal.Gen.bcast_S8192_S8192x1_0
        (Host.reduceAdd (mulf X X) (constant Cert.GateReferenceIdeal.S_ .f32 0x00000000#32)
          Cert.GateReferenceIdeal.Gen.reducesTo_S8192x2048_S8192_d1 Cert.GateReferenceIdeal.Gen.h_S_))
      (broadcastInDim Cert.GateReferenceIdeal.S8192x1 ![] Cert.GateReferenceIdeal.Gen.bcast_S_S8192x1
        (constant Cert.GateReferenceIdeal.S_ .f32 0x45000000#32)))
      (broadcastInDim Cert.GateReferenceIdeal.S8192x1 ![] Cert.GateReferenceIdeal.Gen.bcast_S_S8192x1
        (constant Cert.GateReferenceIdeal.S_ .f32 0x358637BD#32))))))
    (broadcastInDim S8192x2048 ![0, 1] Cert.GateReferenceIdeal.Gen.bcast_S1x2048_S8192x2048_0_1
      (broadcastInDim S1x2048 ![1] Cert.GateReferenceIdeal.Gen.bcast_S2048_S1x2048_1 G))

/-- The reference's result as a function of the three arguments. -/
abbrev REF (X : FVec Ideal S8192x2048 .f32) (G : FVec Ideal S2048 .f32) (W : FVec Ideal S1x2048x12352 .f32) :
    FVec Ideal S8192x4096 .f32 :=
  Host.dotGeneral Cert.GateReferenceIdeal.dot_S8192x2048_S2048x4096_S8192x4096_1_0_0_1_n_n none (NORM X G)
    (shapeCast Cert.GateReferenceIdeal.S2048x4096
      (extractStridedSlice Cert.GateReferenceIdeal.S1x2048x4096 ![0, 0, 0] W
        Cert.GateReferenceIdeal.Gen.slices_S1x2048x12352_S1x2048x4096_0_0_0)
      Cert.GateReferenceIdeal.Gen.shapeCasts_S1x2048x4096_S2048x4096)

theorem idx : ∀ t : Fin cfg0.N, win0_0.index t = ![t.val / 8, 0] ∧ win0_1.index t = ![0, 0]
    ∧ win0_2.index t = ![0, 0, t.val % 8] ∧ win0_3.index t = ![t.val / 8, t.val % 8] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val / 8 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 8 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 8 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (X0_2 m c t) := by
  by_cases h : t.val % 8 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (X0_2 m c t)) (Memref.IsWhole.read_unread _ _)

/-- No block of the weights is cut: the staged block is the array's columns from the block's first on. -/
theorem staged (c : Dev nD) (t : Fin cfg0.N) (k : Fin 2048) (b : Fin 512) :
    (show FVec Ideal S1x2048x512 .f32 from X0_2 m c t) (ix3 0 k b)
      = (show FVec Ideal S1x2048x12352 .f32 from m ((c : Thread nD τ).loc main_arg2))
          (ix3 0 k ⟨t.val % 8 * 512 + b.val, by omega⟩) := by
  change X0_2 m c t (ix3 0 k b : S1x2048x512.Idx) = _
  unfold X0_2 Pipeline.Window.fill
  rw [dif_pos (moved0_2 t _)]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  refine congrArg (_ * ·) ((staged m c t k (y 1)).trans ?_)
  blk_point [iblk, V, idx t]

end Cert.GateIdeal.Hand

end
-- ==== Proof.StepValue.lean ====
/- What the projection leaves in its result array when its columns are the time steps', cut out of the weights
   before the call: one block of 64 columns. -/
module

public import proofs.«01_k».proof.Proof.Gen.StepIdeal.Value
public import proofs.«01_k».proof.Proof.Gen.StepReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StepIdeal.Hand

open Cert.StepIdeal Cert.StepIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.StepReferenceIdeal.Gen.bcast_S8192x1_S8192x2048_0_1
    (Host.rsqrt (addf (Host.divf
      (broadcastInDim Cert.StepReferenceIdeal.S8192x1 ![0] Cert.StepReferenceIdeal.Gen.bcast_S8192_S8192x1_0
        (Host.reduceAdd (mulf X X) (constant Cert.StepReferenceIdeal.S_ .f32 0x00000000#32)
          Cert.StepReferenceIdeal.Gen.reducesTo_S8192x2048_S8192_d1 Cert.StepReferenceIdeal.Gen.h_S_))
      (broadcastInDim Cert.StepReferenceIdeal.S8192x1 ![] Cert.StepReferenceIdeal.Gen.bcast_S_S8192x1
        (constant Cert.StepReferenceIdeal.S_ .f32 0x45000000#32)))
      (broadcastInDim Cert.StepReferenceIdeal.S8192x1 ![] Cert.StepReferenceIdeal.Gen.bcast_S_S8192x1
        (constant Cert.StepReferenceIdeal.S_ .f32 0x358637BD#32))))))
    (broadcastInDim S8192x2048 ![0, 1] Cert.StepReferenceIdeal.Gen.bcast_S1x2048_S8192x2048_0_1
      (broadcastInDim S1x2048 ![1] Cert.StepReferenceIdeal.Gen.bcast_S2048_S1x2048_1 G))

/-- The reference's result as a function of the three arguments. -/
abbrev REF (X : FVec Ideal S8192x2048 .f32) (G : FVec Ideal S2048 .f32) (W : FVec Ideal S1x2048x12352 .f32) :
    FVec Ideal S8192x64 .f32 :=
  Host.dotGeneral Cert.StepReferenceIdeal.dot_S8192x2048_S2048x64_S8192x64_1_0_0_1_n_n none (NORM X G)
    (shapeCast Cert.StepReferenceIdeal.S2048x64
      (extractStridedSlice Cert.StepReferenceIdeal.S1x2048x64 ![0, 0, 10240] W
        Cert.StepReferenceIdeal.Gen.slices_S1x2048x12352_S1x2048x64_0_0_10240)
      Cert.StepReferenceIdeal.Gen.shapeCasts_S1x2048x64_S2048x64)

theorem idx : ∀ t : Fin cfg0.N, win0_0.index t = ![t.val, 0] ∧ win0_1.index t = ![0, 0]
    ∧ win0_2.index t = ![0, 0, 0] ∧ win0_3.index t = ![t.val, 0] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- What a point leaves in the output block is the product of its row block's normalised rows. -/
theorem product (c : Dev nD) (t : Fin cfg0.N) :
    outsAt0 m c t = k0_pay2 (k0_pay1 (iblk m c 0 t) (iblk m c 1 t)) (iblk m c 2 t) := by
  unfold outsAt0
  frame_out

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := rows m c t (ix2 (y 0) k) (ix2 (((cfg0.win 3).blk t).view.emb y 0) k) (by blk_simp [idx t]) rfl
  blk_simp at e ⊢
  rw [e]
  blk_point [iblk, V, idx t]

end Cert.StepIdeal.Hand

end
-- ==== Proof.SsdMemQueryValue.lean ====
/- What the projection leaves in its result array when its columns are the memory queries' of the SSD
   layer, cut out of the weights before the call. -/
module

public import proofs.«01_k».proof.Proof.Gen.SsdMemQueryIdeal.Value
public import proofs.«01_k».proof.Proof.Gen.SsdMemQueryReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SsdMemQueryIdeal.Hand

open Cert.SsdMemQueryIdeal Cert.SsdMemQueryIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.SsdMemQueryReferenceIdeal.Gen.bcast_S8192x1_S8192x2048_0_1
    (Host.rsqrt (addf (Host.divf
      (broadcastInDim Cert.SsdMemQueryReferenceIdeal.S8192x1 ![0] Cert.SsdMemQueryReferenceIdeal.Gen.bcast_S8192_S8192x1_0
        (Host.reduceAdd (mulf X X) (constant Cert.SsdMemQueryReferenceIdeal.S_ .f32 0x00000000#32)
          Cert.SsdMemQueryReferenceIdeal.Gen.reducesTo_S8192x2048_S8192_d1 Cert.SsdMemQueryReferenceIdeal.Gen.h_S_))
      (broadcastInDim Cert.SsdMemQueryReferenceIdeal.S8192x1 ![] Cert.SsdMemQueryReferenceIdeal.Gen.bcast_S_S8192x1
        (constant Cert.SsdMemQueryReferenceIdeal.S_ .f32 0x45000000#32)))
      (broadcastInDim Cert.SsdMemQueryReferenceIdeal.S8192x1 ![] Cert.SsdMemQueryReferenceIdeal.Gen.bcast_S_S8192x1
        (constant Cert.SsdMemQueryReferenceIdeal.S_ .f32 0x358637BD#32))))))
    (broadcastInDim S8192x2048 ![0, 1] Cert.SsdMemQueryReferenceIdeal.Gen.bcast_S1x2048_S8192x2048_0_1
      (broadcastInDim S1x2048 ![1] Cert.SsdMemQueryReferenceIdeal.Gen.bcast_S2048_S1x2048_1 G))

/-- The reference's result as a function of the three arguments. -/
abbrev REF (X : FVec Ideal S8192x2048 .f32) (G : FVec Ideal S2048 .f32) (W : FVec Ideal S1x2048x12352 .f32) :
    FVec Ideal S8192x2048 .bf16 :=
  truncf .bf16 (Host.dotGeneral Cert.SsdMemQueryReferenceIdeal.dot_S8192x2048_S2048x2048_S8192x2048_1_0_0_1_n_n none (NORM X G)
    (shapeCast Cert.SsdMemQueryReferenceIdeal.S2048x2048
      (extractStridedSlice Cert.SsdMemQueryReferenceIdeal.S1x2048x2048 ![0, 0, 10304] W
        Cert.SsdMemQueryReferenceIdeal.Gen.slices_S1x2048x12352_S1x2048x2048_0_0_10304)
      Cert.SsdMemQueryReferenceIdeal.Gen.shapeCasts_S1x2048x2048_S2048x2048))
    Cert.SsdMemQueryReferenceIdeal.Gen.bitsLt_bf16_f32

theorem idx : ∀ t : Fin cfg0.N, win0_0.index t = ![t.val / 4, 0] ∧ win0_1.index t = ![0, 0]
    ∧ win0_2.index t = ![0, 0, t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.SsdMemQueryIdeal.Hand

end
-- ==== Proof.QueryValue.lean ====
/- What the projection leaves in its result array when its columns are the queries'. -/
module

public import proofs.«01_k».proof.Proof.Gen.QueryIdeal.Value
public import proofs.«01_k».proof.Proof.Gen.QueryReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QueryIdeal.Hand

open Cert.QueryIdeal Cert.QueryIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.QueryReferenceIdeal.Gen.bcast_S8192x1_S8192x2048_0_1
    (Host.rsqrt (addf (Host.divf
      (broadcastInDim Cert.QueryReferenceIdeal.S8192x1 ![0] Cert.QueryReferenceIdeal.Gen.bcast_S8192_S8192x1_0
        (Host.reduceAdd (mulf X X) (constant Cert.QueryReferenceIdeal.S_ .f32 0x00000000#32)
          Cert.QueryReferenceIdeal.Gen.reducesTo_S8192x2048_S8192_d1 Cert.QueryReferenceIdeal.Gen.h_S_))
      (broadcastInDim Cert.QueryReferenceIdeal.S8192x1 ![] Cert.QueryReferenceIdeal.Gen.bcast_S_S8192x1
        (constant Cert.QueryReferenceIdeal.S_ .f32 0x45000000#32)))
      (broadcastInDim Cert.QueryReferenceIdeal.S8192x1 ![] Cert.QueryReferenceIdeal.Gen.bcast_S_S8192x1
        (constant Cert.QueryReferenceIdeal.S_ .f32 0x358637BD#32))))))
    (broadcastInDim S8192x2048 ![0, 1] Cert.QueryReferenceIdeal.Gen.bcast_S1x2048_S8192x2048_0_1
      (broadcastInDim S1x2048 ![1] Cert.QueryReferenceIdeal.Gen.bcast_S2048_S1x2048_1 G))

/-- The reference's result as a function of the three arguments. -/
abbrev REF (X : FVec Ideal S8192x2048 .f32) (G : FVec Ideal S2048 .f32) (W : FVec Ideal S1x2048x8192 .f32) :
    FVec Ideal S8192x2048 .bf16 :=
  truncf .bf16 (Host.dotGeneral Cert.QueryReferenceIdeal.dot_S8192x2048_S2048x2048_S8192x2048_1_0_0_1_n_n none (NORM X G)
    (shapeCast Cert.QueryReferenceIdeal.S2048x2048
      (extractStridedSlice Cert.QueryReferenceIdeal.S1x2048x2048 ![0, 0, 0] W
        Cert.QueryReferenceIdeal.Gen.slices_S1x2048x8192_S1x2048x2048_0_0_0)
      Cert.QueryReferenceIdeal.Gen.shapeCasts_S1x2048x2048_S2048x2048))
    Cert.QueryReferenceIdeal.Gen.bitsLt_bf16_f32

theorem idx : ∀ t : Fin cfg0.N, win0_0.index t = ![t.val / 4, 0] ∧ win0_1.index t = ![0, 0]
    ∧ win0_2.index t = ![0, 0, t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.QueryIdeal.Hand

end
-- ==== Proof.SbMemQueryValue.lean ====
/- What the projection leaves in its result array when its columns are the memory queries' of the
   stick-breaking layer. -/
module

public import proofs.«01_k».proof.Proof.Gen.SbMemQueryIdeal.Value
public import proofs.«01_k».proof.Proof.Gen.SbMemQueryReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SbMemQueryIdeal.Hand

open Cert.SbMemQueryIdeal Cert.SbMemQueryIdeal.Gen

variable (m : (ℓ : Loc nD τ sig) → Buf (Elt Ideal) ℓ)

/-- The reference's normalised rows. -/
def NORM (X : FVec Ideal S8192x2048 .f32) (G : FVec Ideal S2048 .f32) : FVec Ideal S8192x2048 .f32 :=
  mulf (mulf X (broadcastInDim S8192x2048 ![0, 1] Cert.SbMemQueryReferenceIdeal.Gen.bcast_S8192x1_S8192x2048_0_1
    (Host.rsqrt (addf (Host.divf
      (broadcastInDim Cert.SbMemQueryReferenceIdeal.S8192x1 ![0] Cert.SbMemQueryReferenceIdeal.Gen.bcast_S8192_S8192x1_0
        (Host.reduceAdd (mulf X X) (constant Cert.SbMemQueryReferenceIdeal.S_ .f32 0x00000000#32)
          Cert.SbMemQueryReferenceIdeal.Gen.reducesTo_S8192x2048_S8192_d1 Cert.SbMemQueryReferenceIdeal.Gen.h_S_))
      (broadcastInDim Cert.SbMemQueryReferenceIdeal.S8192x1 ![] Cert.SbMemQueryReferenceIdeal.Gen.bcast_S_S8192x1
        (constant Cert.SbMemQueryReferenceIdeal.S_ .f32 0x45000000#32)))
      (broadcastInDim Cert.SbMemQueryReferenceIdeal.S8192x1 ![] Cert.SbMemQueryReferenceIdeal.Gen.bcast_S_S8192x1
        (constant Cert.SbMemQueryReferenceIdeal.S_ .f32 0x358637BD#32))))))
    (broadcastInDim S8192x2048 ![0, 1] Cert.SbMemQueryReferenceIdeal.Gen.bcast_S1x2048_S8192x2048_0_1
      (broadcastInDim S1x2048 ![1] Cert.SbMemQueryReferenceIdeal.Gen.bcast_S2048_S1x2048_1 G))

/-- The reference's result as a function of the three arguments. -/
abbrev REF (X : FVec Ideal S8192x2048 .f32) (G : FVec Ideal S2048 .f32) (W : FVec Ideal S1x2048x8192 .f32) :
    FVec Ideal S8192x2048 .bf16 :=
  truncf .bf16 (Host.dotGeneral Cert.SbMemQueryReferenceIdeal.dot_S8192x2048_S2048x2048_S8192x2048_1_0_0_1_n_n none (NORM X G)
    (shapeCast Cert.SbMemQueryReferenceIdeal.S2048x2048
      (extractStridedSlice Cert.SbMemQueryReferenceIdeal.S1x2048x2048 ![0, 0, 6144] W
        Cert.SbMemQueryReferenceIdeal.Gen.slices_S1x2048x8192_S1x2048x2048_0_0_6144)
      Cert.SbMemQueryReferenceIdeal.Gen.shapeCasts_S1x2048x2048_S2048x2048))
    Cert.SbMemQueryReferenceIdeal.Gen.bitsLt_bf16_f32

theorem idx : ∀ t : Fin cfg0.N, win0_0.index t = ![t.val / 4, 0] ∧ win0_1.index t = ![0, 0]
    ∧ win0_2.index t = ![0, 0, 12 + t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S8192x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.SbMemQueryIdeal.Hand

end
-- ==== Proof.KernelIdealRunOdd.lean ====
/- One run of the stick-breaking kernel's body at an odd query block of `KernelIdeal`: what its stores leave in the output's
   staging buffer, found by the run. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The pieces the body stores at an odd query block, with the proof that on whole staging buffers it runs to
    those pieces written and every input as it was. -/
noncomputable def runOdd (c : Dev nD) (i : grid0.Coords) (arg3 : Memref sig .tc .smem S16 .f32) (harg3 : arg3.IsWhole)
    (arg4 : Memref sig .tc .vmem S1x256x1024 .bf16) (harg4 : arg4.IsWhole) (arg5 : Memref sig .tc .vmem S1x4096x1024 .f32) (harg5 : arg5.IsWhole)
    (arg6 : Memref sig .tc .vmem S1x4096x1024 .f32) (harg6 : arg6.IsWhole) (arg7 : Memref sig .tc .vmem S1x256x1024 .bf16) (harg7 : arg7.IsWhole)
    (hc : k0_cond1 i = 1#1) (x0 : Vec F S16 .f32) (x1 : Vec F S1x256x1024 .bf16) (x2 x3 : Vec F S1x4096x1024 .f32) :
    { L : List (View.Piece (Elt F) S1x256x1024 .bf16) // ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L)) -∗ K ⟨⟩))
          ⊢ wp frame (wpE (defs₀ (F := F)) Variants.none c none) E (cc0_sb_prompt i arg3 harg3 arg4 harg4 arg5 harg5 arg6 harg6 arg7 harg7) K } := by
  refine ⟨?_, fun E K => ?run⟩
  case run =>
    simp only [cc0_sb_prompt_eq_skeleton]
    unfold cc0_sb_prompt_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1
    obtain rfl := harg5.eq_unread hf2; obtain rfl := harg6.eq_unread hf3
    sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.KernelIdealRunEven.lean ====
/- One run of the stick-breaking kernel's body at an even query block of `KernelIdeal`: what its stores leave in the output's
   staging buffer, found by the run. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The pieces the body stores at an even query block, with the proof that on whole staging buffers it runs to
    those pieces written and every input as it was. -/
noncomputable def runEven (c : Dev nD) (i : grid0.Coords) (arg3 : Memref sig .tc .smem S16 .f32) (harg3 : arg3.IsWhole)
    (arg4 : Memref sig .tc .vmem S1x256x1024 .bf16) (harg4 : arg4.IsWhole) (arg5 : Memref sig .tc .vmem S1x4096x1024 .f32) (harg5 : arg5.IsWhole)
    (arg6 : Memref sig .tc .vmem S1x4096x1024 .f32) (harg6 : arg6.IsWhole) (arg7 : Memref sig .tc .vmem S1x256x1024 .bf16) (harg7 : arg7.IsWhole)
    (hc : ¬ k0_cond1 i = 1#1) (x0 : Vec F S16 .f32) (x1 : Vec F S1x256x1024 .bf16) (x2 x3 : Vec F S1x4096x1024 .f32) :
    { L : List (View.Piece (Elt F) S1x256x1024 .bf16) // ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L)) -∗ K ⟨⟩))
          ⊢ wp frame (wpE (defs₀ (F := F)) Variants.none c none) E (cc0_sb_prompt i arg3 harg3 arg4 harg4 arg5 harg5 arg6 harg6 arg7 harg7) K } := by
  refine ⟨?_, fun E K => ?run⟩
  case run =>
    simp only [cc0_sb_prompt_eq_skeleton]
    unfold cc0_sb_prompt_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1
    obtain rfl := harg5.eq_unread hf2; obtain rfl := harg6.eq_unread hf3
    sl_exec (disch := sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.KernelIdealFrame.lean ====
/- The frame of the stick-breaking kernel `KernelIdeal`: its body's triple at every grid point, odd query block or even, the pipeline's
   proof data, the run and the frame claim. -/
module

public import proofs.«01_k».proof.Proof.KernelIdealRunOdd
public import proofs.«01_k».proof.Proof.KernelIdealRunEven
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section body

variable (c : Dev nD) (i : grid0.Coords) (arg3 : Memref sig .tc .smem S16 .f32) (harg3 : arg3.IsWhole)
  (arg4 : Memref sig .tc .vmem S1x256x1024 .bf16) (harg4 : arg4.IsWhole) (arg5 : Memref sig .tc .vmem S1x4096x1024 .f32) (harg5 : arg5.IsWhole)
  (arg6 : Memref sig .tc .vmem S1x4096x1024 .f32) (harg6 : arg6.IsWhole) (arg7 : Memref sig .tc .vmem S1x256x1024 .bf16) (harg7 : arg7.IsWhole)

/-- The output's staging buffer after the body. -/
def out (x0 : Vec F S16 .f32) (x1 : Vec F S1x256x1024 .bf16) (x2 x3 : Vec F S1x4096x1024 .f32) : Vec F S1x256x1024 .bf16 :=
  if hc : k0_cond1 i = 1#1 then View.canon (runOdd c i arg3 harg3 arg4 harg4 arg5 harg5 arg6 harg6 arg7 harg7 hc x0 x1 x2 x3).1
  else View.canon (runEven c i arg3 harg3 arg4 harg4 arg5 harg5 arg6 harg6 arg7 harg7 hc x0 x1 x2 x3).1

theorem cover_odd (hc : k0_cond1 i = 1#1) (x0 : Vec F S16 .f32) (x1 : Vec F S1x256x1024 .bf16) (x2 x3 : Vec F S1x4096x1024 .f32) (y : S1x256x1024.Idx) :
    ∃ pc ∈ (runOdd c i arg3 harg3 arg4 harg4 arg5 harg5 arg6 harg6 arg7 harg7 hc x0 x1 x2 x3).1, y ∈ pc.1.set :=
  View.cover_of_tiledL (runOdd c i arg3 harg3 arg4 harg4 arg5 harg5 arg6 harg6 arg7 harg7 hc x0 x1 x2 x3).1 S1x256x128.size (by sl_kernel_rfl) y

theorem cover_even (hc : ¬ k0_cond1 i = 1#1) (x0 : Vec F S16 .f32) (x1 : Vec F S1x256x1024 .bf16) (x2 x3 : Vec F S1x4096x1024 .f32) (y : S1x256x1024.Idx) :
    ∃ pc ∈ (runEven c i arg3 harg3 arg4 harg4 arg5 harg5 arg6 harg6 arg7 harg7 hc x0 x1 x2 x3).1, y ∈ pc.1.set :=
  View.cover_of_tiledL (runEven c i arg3 harg3 arg4 harg4 arg5 harg5 arg6 harg6 arg7 harg7 hc x0 x1 x2 x3).1 S1x256x128.size (by sl_kernel_rfl) y

set_option maxHeartbeats 1000000 in
/-- The body on whole staging buffers leaves its inputs as they were and the output at `out`. -/
theorem sound_kernel (E : Set ℕ) (x0 : Vec F S16 .f32) (x1 : Vec F S1x256x1024 .bf16) (x2 x3 : Vec F S1x4096x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (out c i arg3 harg3 arg4 harg4 arg5 harg5 arg6 harg6 arg7 harg7 x0 x1 x2 x3)) -∗ K ⟨⟩))
      ⊢ wp frame (wpE (defs₀ (F := F)) Variants.none c none) E (cc0_sb_prompt i arg3 harg3 arg4 harg4 arg5 harg5 arg6 harg6 arg7 harg7) K := by
  unfold out
  iintro ⟨H0, H1, H2, H3, H4, Hk⟩
  by_cases hc : k0_cond1 i = 1#1
  · rw [dif_pos hc]
    iapply ((runOdd c i arg3 harg3 arg4 harg4 arg5 harg5 arg6 harg6 arg7 harg7 hc x0 x1 x2 x3).2 E K)
    isplitl [H0]; · iexact H0
    isplitl [H1]; · iexact H1
    isplitl [H2]; · iexact H2
    isplitl [H3]; · iexact H3
    isplitl [H4]; · iexact H4
    iintro ⟨H0, H1, H2, H3, ⟨%f, H4⟩⟩
    iapply Hk
    isplitl [H0]; · iexact H0
    isplitl [H1]; · iexact H1
    isplitl [H2]; · iexact H2
    isplitl [H3]; · iexact H3
    unfold owns
    iexists _; isplitr; swap; · iexact H4
    ipureintro
    exact View.read_writes_eq_canon _ _ _ (cover_odd c i arg3 harg3 arg4 harg4 arg5 harg5 arg6 harg6 arg7 harg7 hc x0 x1 x2 x3)
  · rw [dif_neg hc]
    iapply ((runEven c i arg3 harg3 arg4 harg4 arg5 harg5 arg6 harg6 arg7 harg7 hc x0 x1 x2 x3).2 E K)
    isplitl [H0]; · iexact H0
    isplitl [H1]; · iexact H1
    isplitl [H2]; · iexact H2
    isplitl [H3]; · iexact H3
    isplitl [H4]; · iexact H4
    iintro ⟨H0, H1, H2, H3, ⟨%f, H4⟩⟩
    iapply Hk
    isplitl [H0]; · iexact H0
    isplitl [H1]; · iexact H1
    isplitl [H2]; · iexact H2
    isplitl [H3]; · iexact H3
    unfold owns
    iexists _; isplitr; swap; · iexact H4
    ipureintro
    exact View.read_writes_eq_canon _ _ _ (cover_even c i arg3 harg3 arg4 harg4 arg5 harg5 arg6 harg6 arg7 harg7 hc x0 x1 x2 x3)

end body

variable (m : (ℓ : Loc nD τ sig) → Buf (Elt F) ℓ) (ρ : Dev nD → PrngReg)

/-- What the body leaves in the output's staging buffer at point `t`. -/
def outAt (c : Dev nD) (t : Fin cfg0.N) : Vec F S1x256x1024 .bf16 :=
  out c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (iblk m c 0 t) (iblk m c 1 t) (iblk m c 2 t) (iblk m c 3 t)

/-- The pipeline's proof data: the arrays as the region finds them, every input's buffer left at its block and the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt
  iintro ⟨HΦ, Ho, ⟨%d0, H0⟩, ⟨%d1, H1⟩, ⟨%d2, H2⟩, ⟨%d3, H3⟩, ⟨%d4, H4⟩⟩
  iapply (sound_kernel c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    Set.univ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what its proof data says, every other buffer as it was, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.SbBlock.lean ====
/- The stick-breaking kernel's work on one block of 256 keys, for all eight heads of 256 queries at once: as functions of
   the blocks it loads, with each of them read at an entry. -/
module

public import proofs.«01_k».proof.Proof.Gen.KernelIdeal.Loops
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem Idealize.ShloMosaic.WordCmp

namespace Cert.KernelIdeal.Hand

open Cert.KernelIdeal Cert.KernelIdeal.Gen

/-- The carried values of the walk over the blocks: each row's sum of the drops passed so far, and each head's sums of values. -/
abbrev St : Type := FVec Ideal S2048x1 .f32 × FVec Ideal S256x128 .f32 × FVec Ideal S256x128 .f32 × FVec Ideal S256x128 .f32
  × FVec Ideal S256x128 .f32 × FVec Ideal S256x128 .f32 × FVec Ideal S256x128 .f32 × FVec Ideal S256x128 .f32 × FVec Ideal S256x128 .f32

/-- The sums of head `h`. -/
def St.acc (s : St) (h : Fin 8) : FVec Ideal S256x128 .f32 :=
  match h with
  | ⟨0, _⟩ => s.2.1
  | ⟨1, _⟩ => s.2.2.1
  | ⟨2, _⟩ => s.2.2.2.1
  | ⟨3, _⟩ => s.2.2.2.2.1
  | ⟨4, _⟩ => s.2.2.2.2.2.1
  | ⟨5, _⟩ => s.2.2.2.2.2.2.1
  | ⟨6, _⟩ => s.2.2.2.2.2.2.2.1
  | ⟨7, _⟩ => s.2.2.2.2.2.2.2.2

/-- The row of query `r` of head `h`. -/
def row (h : Fin 8) (r : Fin 256) : Fin 2048 := ⟨h.val * 256 + r.val, by omega⟩

/-- The scores in base 2, a head's rows below one another. -/
def SCORES (q : Fin 8 → FVec Ideal S256x128 .bf16) (B : FVec Ideal S2048x1 .f32) (k : Fin 8 → Vec Ideal S1x256x128 .f32) : FVec Ideal S2048x256 .f32 :=
  k0_pay31 (q 5) (q 6) (q 7) B (k0_pay25 (q 0) (k 0)) (k0_pay25 (q 1) (k 1)) (k0_pay25 (q 2) (k 2)) (k0_pay25 (q 3) (k 3))
    (k0_pay25 (q 4) (k 4)) (k0_pay30 (k 5)) (k 6) (k 7)

/-- The drop of each score: what passing it takes from the logarithm. -/
def DROP (z : FVec Ideal S2048x256 .f32) : FVec Ideal S2048x256 .f32 :=
  addf (maximumf z (broadcast S2048x256 (Scalar.ofBits .f32 0x00000000#32)))
    (mulf (log (addf (broadcast S2048x256 (Scalar.ofBits .f32 0x3F800000#32))
        (exp2 (subf (broadcast S2048x256 (Scalar.ofBits .f32 0x00000000#32)) (absf z)))))
      (broadcast S2048x256 (Named.named κ "log2e" 0x3FB8AA3B#32)))

/-- One where the row's key, counted within its half, comes after the column's. -/
def LATER : FVec Ideal S512x256 .bf16 :=
  truncf .bf16 (sitofp .f32 (extui 32 (cmpi .sgt (select (andi k0_pay35 k0_pay34) (addi k0_pay33 (broadcast S512x256 256#32)) k0_pay33)
    (iota .tc S512x256 32 [1] iota_S512x256_d1_w32)) natLt_1_32)) bitsLt_bf16_f32

/-- A matrix beside what its rounding leaves. -/
def HILO (d : FVec Ideal S2048x256 .f32) : FVec Ideal S2048x512 .bf16 :=
  concatenate S2048x512 1 [⟨S2048x256, truncf .bf16 d bitsLt_bf16_f32⟩,
    ⟨S2048x256, truncf .bf16 (subf d (extf .f32 (truncf .bf16 d bitsLt_bf16_f32) bitsLt_bf16_f32)) bitsLt_bf16_f32⟩]
    concatenates_S2048x256_S2048x256_S2048x512_d1

/-- The weights of a block's keys. -/
def WTS (c : FVec Ideal S2048x1 .f32) (z d : FVec Ideal S2048x256 .f32) : FVec Ideal S2048x256 .f32 :=
  exp2 (subf (subf z d) (addf (matmul dot_S2048x512_S512x256_S2048x256_1_0_0_1_n_n none (HILO d) LATER (constant S2048x256 .f32 0x00000000#32))
    (broadcastTo S2048x256 c broadcasts_S2048x1_S2048x256)))

/-- Where a key of the queries' own block comes before the query. -/
def MASK : IVec S2048x256 1 := k0_pay113 (iota .tc S2048x256 32 [0] iota_S2048x256_d0_w32) (iota .tc S2048x256 32 [1] iota_S2048x256_d1_w32)

/-- Only the entries under the mask. -/
def MASKED (x : FVec Ideal S2048x256 .f32) : FVec Ideal S2048x256 .f32 :=
  select MASK x (broadcast S2048x256 (Scalar.ofBits .f32 0x00000000#32))

/-- One head's sums, a block further. -/
def ACC (o : Fin 2 → ℕ) (ho : S2048x256.Slices o S256x256) (a : FVec Ideal S256x128 .f32) (w : FVec Ideal S2048x256 .f32) (v : Vec Ideal S1x256x128 .f32) :
    FVec Ideal S256x128 .f32 :=
  addf a (matmul dot_S256x256_S256x128_S256x128_1_0_0_1_n_n none (truncf .bf16 (extractStridedSlice S256x256 o w ho) bitsLt_bf16_f32)
    (truncf .bf16 (shapeCast S256x128 v shapeCasts_S1x256x128_S256x128) bitsLt_bf16_f32) (constant S256x128 .f32 0x00000000#32))

/-- The carried values, a block with drops `d` and weights `w` further. -/
def NEXT (d w : FVec Ideal S2048x256 .f32) (v : Fin 8 → Vec Ideal S1x256x128 .f32) (s : St) : St :=
  (k0_pay37 s.1 d, ACC ![0, 0] slices_S2048x256_o0_0_S256x256 (s.acc 0) w (v 0), ACC ![256, 0] slices_S2048x256_o256_0_S256x256 (s.acc 1) w (v 1),
    ACC ![512, 0] slices_S2048x256_o512_0_S256x256 (s.acc 2) w (v 2), ACC ![768, 0] slices_S2048x256_o768_0_S256x256 (s.acc 3) w (v 3),
    ACC ![1024, 0] slices_S2048x256_o1024_0_S256x256 (s.acc 4) w (v 4), ACC ![1280, 0] slices_S2048x256_o1280_0_S256x256 (s.acc 5) w (v 5),
    ACC ![1536, 0] slices_S2048x256_o1536_0_S256x256 (s.acc 6) w (v 6), ACC ![1792, 0] slices_S2048x256_o1792_0_S256x256 (s.acc 7) w (v 7))

/-- A block before the queries' own. -/
def STEP (q : Fin 8 → FVec Ideal S256x128 .bf16) (B : FVec Ideal S2048x1 .f32) (k v : Fin 8 → Vec Ideal S1x256x128 .f32) (s : St) : St :=
  NEXT (DROP (SCORES q B k)) (WTS s.1 (SCORES q B k) (DROP (SCORES q B k))) v s

/-- The queries' own block. -/
def DIAG (q : Fin 8 → FVec Ideal S256x128 .bf16) (B : FVec Ideal S2048x1 .f32) (k v : Fin 8 → Vec Ideal S1x256x128 .f32) (s : St) : St :=
  NEXT (MASKED (DROP (SCORES q B k))) (MASKED (WTS s.1 (SCORES q B k) (MASKED (DROP (SCORES q B k))))) v s

/-- The walk's start. -/
def START : St := (k0_pay104, k0_pay105, k0_pay106, k0_pay107, k0_pay108, k0_pay109, k0_pay110, k0_pay111, k0_pay112)

theorem start_car (j : S2048x1.Idx) : START.1 j = 0 := by
  show k0_pay104 j = 0
  pointwise [k0_pay104]

theorem start_acc0 (j : S256x128.Idx) : k0_pay105 (F := Ideal) j = 0 := by
  pointwise [k0_pay105]

theorem start_acc (h : Fin 8) (j : S256x128.Idx) : START.acc h j = 0 := by
  fin_cases h <;> exact start_acc0 j

theorem drop_at (z : FVec Ideal S2048x256 .f32) (j : S2048x256.Idx) :
    DROP z j = max (z j) 0 + Ideal.log (1 + Ideal.exp2 (0 - max (z j) (-z j))) * (((Real.log 2)⁻¹ : ℝ) : EReal) := by
  pointwise [DROP]
  exact congrArg (fun x => max (z j) 0 + Ideal.log (1 + Ideal.exp2 (0 - max (z j) (-z j))) * x)
    (IdealRules.named_const.ideal_named_scalar _ _ _ _ rfl)

/-- A word's remainder by 256, as the kernel takes it. -/
def KEYMOD (x : BitVec 32) : BitVec 32 :=
  let n := Scalar.select (Scalar.cmpi .eq 256#32 0#32) 1#32 256#32
  Scalar.select (IntOp.andi (IntOp.xori (IntOp.cmpi .slt (IntOp.remsi .vector x n) 0#32) (Scalar.cmpi .slt n 0#32))
    (IntOp.cmpi .ne (IntOp.remsi .vector x n) 0#32)) (IntOp.addi (IntOp.remsi .vector x n) n) (IntOp.remsi .vector x n)

theorem keymod : ∀ a : Fin 2048, KEYMOD (BitVec.ofNat 32 a.val) = BitVec.ofNat 32 (a.val % 256) := by decide +kernel

theorem later_at (a : Fin 512) (s : Fin 256) : LATER (ix2 a s) = if s.val < a.val % 256 then 1 else 0 := by
  pointwise [LATER, k0_pay35, k0_pay34, k0_pay33]
  show FloatOps.sitofp .f32 (BitVec.setWidth 32 (IntOp.cmpi .sgt (KEYMOD (BitVec.ofNat 32 a.val)) (BitVec.ofNat 32 s.val))) = _
  rw [keymod ⟨a.val, by omega⟩, cmpi_sgt_ofNat (by dsimp only; omega) (by omega)]
  show (((BitVec.setWidth 32 (BitVec.ofBool (decide (s.val < a.val % 256)))).toInt : ℝ) : EReal) = _
  by_cases h : s.val < a.val % 256
  · have e : (BitVec.setWidth 32 (BitVec.ofBool true)).toInt = 1 := by decide
    rw [if_pos h, decide_eq_true h, e]
    norm_num
  · rw [if_neg h, decide_eq_false h]
    norm_num

theorem hilo_lo (d : FVec Ideal S2048x256 .f32) (r : Fin 2048) (s : Fin 256) : HILO d (ix2 r (Fin.castAdd 256 s)) = d (ix2 r s) := by
  pointwise [HILO]
  exact dif_pos s.isLt

theorem hilo_hi (d : FVec Ideal S2048x256 .f32) (r : Fin 2048) (s : Fin 256) :
    HILO d (ix2 r (Fin.natAdd 256 s)) = d (ix2 r s) - d (ix2 r s) := by
  have e : (⟨(Fin.natAdd 256 s).val - 256, by simp⟩ : Fin 256) = s := Fin.ext (by simp)
  pointwise [HILO]
  exact (dif_neg (by simp)).trans (congrArg (fun k => d (ix2 r k) - d (ix2 r k)) e)

theorem wts_at (c : FVec Ideal S2048x1 .f32) (z d : FVec Ideal S2048x256 .f32) (r : Fin 2048) (s : Fin 256) :
    WTS c z d (ix2 r s) = Ideal.exp2 (z (ix2 r s) - d (ix2 r s) - ((∑ a : Fin (256 + 256), HILO d (ix2 r a) * LATER (ix2 a s)) + c (ix2 r 0))) := by
  pointwise [WTS]
  rfl

/-- A sum of reals, taken as reals. -/
theorem coe_sum {ι : Type} (S : Finset ι) (f : ι → ℝ) : (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

/-- The weights' inner sums, for drops that are real. -/
theorem later_sum (d : FVec Ideal S2048x256 .f32) (r : Fin 2048) (s : Fin 256) (D : Fin 256 → ℝ) (hd : ∀ k, d (ix2 r k) = (D k : EReal)) :
    (∑ a : Fin (256 + 256), HILO d (ix2 r a) * LATER (ix2 a s)) = ((∑ k : Fin 256, if s.val < k.val then D k else 0 : ℝ) : EReal) := by
  rw [Fin.sum_univ_add]
  have e : ∀ k : Fin 256, HILO d (ix2 r (Fin.castAdd 256 k)) * LATER (ix2 (Fin.castAdd 256 k) s) = ((if s.val < k.val then D k else 0 : ℝ) : EReal) := by
    intro k
    rw [hilo_lo, later_at, hd]
    have : (Fin.castAdd 256 k).val % 256 = k.val := Nat.mod_eq_of_lt k.isLt
    rw [this]
    split <;> simp
  have e' : ∀ k : Fin 256, HILO d (ix2 r (Fin.natAdd 256 k)) * LATER (ix2 (Fin.natAdd 256 k) s) = 0 := by
    intro k
    rw [hilo_hi, hd, ← EReal.coe_sub, sub_self, EReal.coe_zero, zero_mul]
  rw [Finset.sum_congr rfl fun k _ => e k, Finset.sum_congr rfl fun k _ => e' k, Finset.sum_const_zero, add_zero, coe_sum]

theorem mask_at (h : Fin 8) (r s : Fin 256) : MASK (ix2 (row h r) s) = BitVec.ofBool (decide (s.val < r.val)) := by
  pointwise [MASK, k0_pay113]
  show IntOp.cmpi .slt (BitVec.ofNat 32 s.val) (KEYMOD (BitVec.ofNat 32 (row h r).val)) = _
  have e : (row h r).val % 256 = r.val := by unfold row; dsimp only; omega
  rw [keymod, cmpi_slt_ofNat (by omega) (by omega), e]

theorem masked_at (x : FVec Ideal S2048x256 .f32) (h : Fin 8) (r s : Fin 256) :
    MASKED x (ix2 (row h r) s) = if s.val < r.val then x (ix2 (row h r) s) else 0 := by
  pointwise [MASKED]
  rw [mask_at]
  by_cases hs : s.val < r.val
  · rw [if_pos hs, decide_eq_true hs]; rfl
  · rw [if_neg hs, decide_eq_false hs]; rfl

theorem next_car (d w : FVec Ideal S2048x256 .f32) (v : Fin 8 → Vec Ideal S1x256x128 .f32) (s : St) (r : Fin 2048) :
    (NEXT d w v s).1 (ix2 r 0) = s.1 (ix2 r 0) + ∑ k : Fin 256, d (ix2 r k) := by
  show k0_pay37 s.1 d (ix2 r 0) = _
  pointwise [k0_pay37]

theorem acc_at (h : Fin 8) (ho : S2048x256.Slices ![h.val * 256, 0] S256x256) (a : FVec Ideal S256x128 .f32) (w : FVec Ideal S2048x256 .f32)
    (v : Vec Ideal S1x256x128 .f32) (r : Fin 256) (e : Fin 128) :
    ACC ![h.val * 256, 0] ho a w v (ix2 r e) = a (ix2 r e) + ∑ k : Fin 256, w (ix2 (row h r) k) * v (ix3 0 k e) := by
  pointwise [ACC]
  rfl

theorem next_acc (d w : FVec Ideal S2048x256 .f32) (v : Fin 8 → Vec Ideal S1x256x128 .f32) (s : St) (h : Fin 8) (r : Fin 256) (e : Fin 128) :
    (NEXT d w v s).acc h (ix2 r e) = s.acc h (ix2 r e) + ∑ k : Fin 256, w (ix2 (row h r) k) * v h (ix3 0 k e) :=
  match h with
  | ⟨0, _⟩ => acc_at 0 slices_S2048x256_o0_0_S256x256 (s.acc 0) w (v 0) r e
  | ⟨1, _⟩ => acc_at 1 slices_S2048x256_o256_0_S256x256 (s.acc 1) w (v 1) r e
  | ⟨2, _⟩ => acc_at 2 slices_S2048x256_o512_0_S256x256 (s.acc 2) w (v 2) r e
  | ⟨3, _⟩ => acc_at 3 slices_S2048x256_o768_0_S256x256 (s.acc 3) w (v 3) r e
  | ⟨4, _⟩ => acc_at 4 slices_S2048x256_o1024_0_S256x256 (s.acc 4) w (v 4) r e
  | ⟨5, _⟩ => acc_at 5 slices_S2048x256_o1280_0_S256x256 (s.acc 5) w (v 5) r e
  | ⟨6, _⟩ => acc_at 6 slices_S2048x256_o1536_0_S256x256 (s.acc 6) w (v 6) r e
  | ⟨7, _⟩ => acc_at 7 slices_S2048x256_o1792_0_S256x256 (s.acc 7) w (v 7) r e

theorem dot_at (q : FVec Ideal S256x128 .bf16) (k : Vec Ideal S1x256x128 .f32) (r s : Fin 256) :
    k0_pay25 q k (ix2 r s) = ∑ e : Fin 128, q (ix2 r e) * k (ix3 0 s e) := by
  pointwise [k0_pay25]

/-- Eight matrices below one another. -/
def STACK (x : Fin 8 → FVec Ideal S256x256 .f32) : FVec Ideal S2048x256 .f32 :=
  concatenate S2048x256 0 [⟨S256x256, x 0⟩, ⟨S256x256, x 1⟩, ⟨S256x256, x 2⟩, ⟨S256x256, x 3⟩, ⟨S256x256, x 4⟩, ⟨S256x256, x 5⟩, ⟨S256x256, x 6⟩, ⟨S256x256, x 7⟩]
    concatenates_S256x256_S256x256_S256x256_S256x256_S256x256_S256x256_S256x256_S256x256_S2048x256_d0

/-- Each below the others lies at its own rows. -/
theorem stack_at (x : Fin 8 → FVec Ideal S256x256 .f32) (h : Fin 8) (r s : Fin 256) : STACK x (ix2 (row h r) s) = x h (ix2 r s) := by
  exact concatenate_ofFn_apply (0 : Fin S2048x256.rank) x
    concatenates_S256x256_S256x256_S256x256_S256x256_S256x256_S256x256_S256x256_S256x256_S2048x256_d0 rfl 256 rfl (ix2 (row h r) s) h
    (by show (h.val * 256 + r.val) / 256 = h.val; omega) (ix2 r s) (by show r.val = (h.val * 256 + r.val) % 256; omega)
    (by intro b hb
        match b with
        | ⟨0, _⟩ => exact absurd rfl hb
        | ⟨1, _⟩ => rfl)

theorem scores_eq (q : Fin 8 → FVec Ideal S256x128 .bf16) (B : FVec Ideal S2048x1 .f32) (k : Fin 8 → Vec Ideal S1x256x128 .f32) :
    SCORES q B k = addf (mulf (STACK fun h => k0_pay25 (q h) (k h)) (broadcast S2048x256 (Named.named κ "sb_scale2" 0x3E0293EE#32)))
      (broadcastTo S2048x256 B broadcasts_S2048x1_S2048x256) := rfl

theorem scores_at (q : Fin 8 → FVec Ideal S256x128 .bf16) (B : FVec Ideal S2048x1 .f32) (k : Fin 8 → Vec Ideal S1x256x128 .f32)
    (h : Fin 8) (r s : Fin 256) :
    SCORES q B k (ix2 (row h r) s) = (∑ e : Fin 128, q h (ix2 r e) * k h (ix3 0 s e)) * ((((11863283 / 134217728) * (Real.log 2)⁻¹ : ℝ)) : EReal)
      + B (ix2 (row h r) 0) := by
  rw [scores_eq]
  have e : (Named.named (F := Ideal) κ "sb_scale2" (φ := .f32) 0x3E0293EE#32) = ((((11863283 / 134217728) * (Real.log 2)⁻¹ : ℝ)) : EReal) :=
    IdealRules.named_const.ideal_named_scalar _ _ _ _ rfl
  pointwise []
  rw [stack_at, dot_at, e]

end Cert.KernelIdeal.Hand
-- ==== Proof.SbMath.lean ====
/- The stick-breaking attention of one row of real scores: every key's drop and weight, and how one block of the kernel's walk
   carries the row's sums from the keys after the block to those from its start. -/
module

public import proofs.«01_k».proof.Proof.SbBlock

@[expose] public section

set_option maxRecDepth 16384

noncomputable section

open Idealize.ShloMosaic Idealize.ShloMosaic.TcCoe Idealize.SL.Sem

namespace Cert.KernelIdeal.Hand

open Cert.KernelIdeal Cert.KernelIdeal.Gen

/-- The softplus of a real. -/
def SPR (x : ℝ) : ℝ := max x 0 + Real.log (1 + Real.exp (-|x|))

/-- What key `l` takes from the logarithm of a row of scores `x` whose query is at `t`. -/
def DM (x : ℕ → ℝ) (t l : ℕ) : ℝ := if l < t then SPR (x l) else 0

/-- Key `l`'s weight in the row. -/
def WM (x : ℕ → ℝ) (t l : ℕ) : ℝ := if l < t then Real.exp (x l - SPR (x l) - ∑ j ∈ Finset.Ico (l + 1) 4096, DM x t j) else 0

theorem log2_ne : Real.log 2 ≠ 0 := (Real.log_pos (by norm_num)).ne'

theorem coe_max' (a b : ℝ) : max (a : EReal) (b : EReal) = ((max a b : ℝ) : EReal) := (EReal.coe_strictMono.monotone.map_max).symm

theorem exp2_div (y : ℝ) : Ideal.exp2 ((y / Real.log 2 : ℝ) : EReal) = ((Real.exp y : ℝ) : EReal) := by
  rw [Ideal.exp2_coe]
  refine congrArg _ ?_
  show (2 : ℝ) ^ (y / Real.log 2) = _
  rw [Real.rpow_def_of_pos (by norm_num), mul_div_cancel₀ _ log2_ne]

/-- The kernel's drop of a score in base 2. -/
theorem drop_coe (x : ℝ) :
    max ((x / Real.log 2 : ℝ) : EReal) 0
      + Ideal.log (1 + Ideal.exp2 (0 - max ((x / Real.log 2 : ℝ) : EReal) (-((x / Real.log 2 : ℝ) : EReal)))) * (((Real.log 2)⁻¹ : ℝ) : EReal)
      = ((SPR x / Real.log 2 : ℝ) : EReal) := by
  have hL : 0 < Real.log 2 := Real.log_pos (by norm_num)
  have e1 : max (x / Real.log 2) (-(x / Real.log 2)) = |x| / Real.log 2 := by
    show |x / Real.log 2| = _
    rw [abs_div, abs_of_pos hL]
  have e2 : (0 : EReal) - ((|x| / Real.log 2 : ℝ) : EReal) = ((-|x| / Real.log 2 : ℝ) : EReal) := by
    rw [← EReal.coe_zero, ← EReal.coe_sub]
    refine congrArg _ ?_
    ring
  have e3 : ¬ (1 + Real.exp (-|x|)) ≤ 0 := by have := Real.exp_pos (-|x|); linarith
  have e4 : max (x / Real.log 2) 0 = max x 0 / Real.log 2 := by
    rw [max_div_div_right hL.le x 0 |>.symm, zero_div]
  rw [← EReal.coe_neg, coe_max', e1, e2, exp2_div, ← EReal.coe_one, ← EReal.coe_add, Ideal.log_coe, if_neg e3, ← EReal.coe_mul,
    ← EReal.coe_zero, coe_max', e4, ← EReal.coe_add]
  refine congrArg _ ?_
  unfold SPR
  field_simp

section Walk

variable (x : Fin 8 → Fin 256 → ℕ → ℝ) (T : ℕ) (V : Fin 8 → ℕ → Fin 128 → EReal)

/-- The carried values once the keys from `n` on are passed. -/
def INV (n : ℕ) (s : St) : Prop :=
  ∀ (h : Fin 8) (r : Fin 256),
    s.1 (ix2 (row h r) 0) = (((∑ l ∈ Finset.Ico n 4096, DM (x h r) (T * 256 + r.val) l) / Real.log 2 : ℝ) : EReal)
    ∧ ∀ e : Fin 128, s.acc h (ix2 r e) = ∑ l ∈ Finset.Ico n 4096, (WM (x h r) (T * 256 + r.val) l : EReal) * V h l e

theorem inv_start : INV x T V ((T + 1) * 256) START := by
  intro h r
  have hn : ∀ l ∈ Finset.Ico ((T + 1) * 256) 4096, ¬ l < T * 256 + r.val := fun l hl => by
    have := (Finset.mem_Ico.mp hl).1
    have := r.isLt
    omega
  constructor
  · have h0 : ∑ l ∈ Finset.Ico ((T + 1) * 256) 4096, DM (x h r) (T * 256 + r.val) l = 0 :=
      Finset.sum_eq_zero fun l hl => if_neg (hn l hl)
    rw [start_car, h0, zero_div, EReal.coe_zero]
  · intro e
    rw [start_acc]
    refine (Finset.sum_eq_zero fun l hl => ?_).symm
    unfold WM
    rw [if_neg (hn l hl), EReal.coe_zero, zero_mul]

/-- A sum over the keys from `n` on, of which the first 256 apart. -/
theorem sum_block {M : Type} [AddCommMonoid M] (f : ℕ → M) (n : ℕ) (hn : n + 256 ≤ 4096) :
    ∑ l ∈ Finset.Ico n 4096, f l = (∑ l ∈ Finset.Ico (n + 256) 4096, f l) + ∑ k : Fin 256, f (n + k.val) := by
  rw [← Finset.sum_Ico_consecutive f (Nat.le_add_right n 256) hn, add_comm, Finset.sum_Ico_eq_sum_range f n, Nat.add_sub_cancel_left,
    Finset.sum_range]

/-- A block's drops and weights being the row's, the carried values go on. -/
theorem inv_next (n : ℕ) (hn : n + 256 ≤ 4096) (d w : FVec Ideal S2048x256 .f32) (v : Fin 8 → Vec Ideal S1x256x128 .f32) (s : St)
    (hd : ∀ h r (k : Fin 256), d (ix2 (row h r) k) = ((DM (x h r) (T * 256 + r.val) (n + k.val) / Real.log 2 : ℝ) : EReal))
    (hw : ∀ h r (k : Fin 256), w (ix2 (row h r) k) = ((WM (x h r) (T * 256 + r.val) (n + k.val) : ℝ) : EReal))
    (hv : ∀ h (k : Fin 256) (e : Fin 128), v h (ix3 0 k e) = V h (n + k.val) e)
    (hs : INV x T V (n + 256) s) : INV x T V n (NEXT d w v s) := by
  intro h r
  constructor
  · rw [next_car, (hs h r).1, sum_block _ n hn, Finset.sum_congr rfl fun k _ => hd h r k, coe_sum, ← EReal.coe_add, ← Finset.sum_div, add_div]
  · intro e
    rw [next_acc, (hs h r).2 e, sum_block _ n hn]
    exact congrArg _ (Finset.sum_congr rfl fun k _ => congrArg₂ (· * ·) (hw h r k) (hv h k e))

/-- A key's weight from its block's drops and the sum carried in. -/
theorem weight_coe (n : ℕ) (hn : n + 256 ≤ 4096) (h : Fin 8) (r s : Fin 256) (c : FVec Ideal S2048x1 .f32) (z d : FVec Ideal S2048x256 .f32)
    (hc : c (ix2 (row h r) 0) = (((∑ l ∈ Finset.Ico (n + 256) 4096, DM (x h r) (T * 256 + r.val) l) / Real.log 2 : ℝ) : EReal))
    (hz : z (ix2 (row h r) s) = ((x h r (n + s.val) / Real.log 2 : ℝ) : EReal))
    (hd : ∀ k : Fin 256, d (ix2 (row h r) k) = ((DM (x h r) (T * 256 + r.val) (n + k.val) / Real.log 2 : ℝ) : EReal))
    (hs : n + s.val < T * 256 + r.val) :
    WTS c z d (ix2 (row h r) s) = ((WM (x h r) (T * 256 + r.val) (n + s.val) : ℝ) : EReal) := by
  rw [wts_at, later_sum d (row h r) s (fun k => DM (x h r) (T * 256 + r.val) (n + k.val) / Real.log 2) hd, hz, hd s, hc]
  have e : (∑ k : Fin 256, if s.val < k.val then DM (x h r) (T * 256 + r.val) (n + k.val) / Real.log 2 else 0)
      + (∑ l ∈ Finset.Ico (n + 256) 4096, DM (x h r) (T * 256 + r.val) l) / Real.log 2
      = (∑ j ∈ Finset.Ico (n + s.val + 1) 4096, DM (x h r) (T * 256 + r.val) j) / Real.log 2 := by
    have hsl := s.isLt
    rw [← Finset.sum_Ico_consecutive _ (show n + s.val + 1 ≤ n + 256 by omega) hn, add_div]
    refine congrArg (· + _) ?_
    have := Fin.sum_univ_eq_sum_range (fun k => if s.val < k then DM (x h r) (T * 256 + r.val) (n + k) / Real.log 2 else 0) 256
    rw [this, ← Finset.sum_filter, Finset.sum_div, Finset.sum_Ico_eq_sum_range]
    refine (Finset.sum_nbij' (fun k => k - (s.val + 1)) (fun k => s.val + 1 + k) ?_ ?_ ?_ ?_ ?_)
    · intro k hk; simp only [Finset.mem_filter, Finset.mem_range] at hk ⊢; omega
    · intro k hk; simp only [Finset.mem_filter, Finset.mem_range] at hk ⊢; omega
    · intro k hk; simp only [Finset.mem_filter, Finset.mem_range] at hk ⊢; omega
    · intro k hk; omega
    · intro k hk
      simp only [Finset.mem_filter, Finset.mem_range] at hk
      rw [show n + s.val + 1 + (k - (s.val + 1)) = n + k by omega]
  rw [← EReal.coe_sub, ← EReal.coe_add, ← EReal.coe_sub, e, ← sub_div, ← sub_div, exp2_div]
  unfold WM
  rw [if_pos hs]
  unfold DM
  rw [if_pos hs]

/-- A block before the queries' own. -/
theorem inv_step (n : ℕ) (hn : n + 256 ≤ T * 256) (hT : T < 16) (q : Fin 8 → FVec Ideal S256x128 .bf16) (B : FVec Ideal S2048x1 .f32)
    (k v : Fin 8 → Vec Ideal S1x256x128 .f32) (s : St)
    (hz : ∀ h r (j : Fin 256), SCORES q B k (ix2 (row h r) j) = ((x h r (n + j.val) / Real.log 2 : ℝ) : EReal))
    (hv : ∀ h (j : Fin 256) (e : Fin 128), v h (ix3 0 j e) = V h (n + j.val) e)
    (hs : INV x T V (n + 256) s) : INV x T V n (STEP q B k v s) := by
  have hn' : n + 256 ≤ 4096 := by omega
  have hlt : ∀ (r j : Fin 256), n + j.val < T * 256 + r.val := fun r j => by have := j.isLt; omega
  have hd : ∀ h r (j : Fin 256), DROP (SCORES q B k) (ix2 (row h r) j) = ((DM (x h r) (T * 256 + r.val) (n + j.val) / Real.log 2 : ℝ) : EReal) := by
    intro h r j
    rw [drop_at, hz, drop_coe]
    unfold DM
    rw [if_pos (hlt r j)]
  unfold STEP
  exact inv_next x T V n hn' _ _ v s hd (fun h r j => weight_coe x T n hn' h r j s.1 _ _ (hs h r).1 (hz h r j) (hd h r) (hlt r j)) hv hs

/-- The queries' own block. -/
theorem inv_diag (hT : T < 16) (q : Fin 8 → FVec Ideal S256x128 .bf16) (B : FVec Ideal S2048x1 .f32)
    (k v : Fin 8 → Vec Ideal S1x256x128 .f32) (s : St)
    (hz : ∀ h r (j : Fin 256), SCORES q B k (ix2 (row h r) j) = ((x h r (T * 256 + j.val) / Real.log 2 : ℝ) : EReal))
    (hv : ∀ h (j : Fin 256) (e : Fin 128), v h (ix3 0 j e) = V h (T * 256 + j.val) e)
    (hs : INV x T V (T * 256 + 256) s) : INV x T V (T * 256) (DIAG q B k v s) := by
  have hn' : T * 256 + 256 ≤ 4096 := by omega
  have hd : ∀ h r (j : Fin 256), MASKED (DROP (SCORES q B k)) (ix2 (row h r) j)
      = ((DM (x h r) (T * 256 + r.val) (T * 256 + j.val) / Real.log 2 : ℝ) : EReal) := by
    intro h r j
    rw [masked_at, drop_at, hz, drop_coe]
    unfold DM
    by_cases hj : j.val < r.val
    · rw [if_pos hj, if_pos (by omega)]
    · rw [if_neg hj, if_neg (by omega), zero_div, EReal.coe_zero]
  unfold DIAG
  refine inv_next x T V (T * 256) hn' _ _ v s hd (fun h r j => ?_) hv hs
  rw [masked_at]
  by_cases hj : j.val < r.val
  · rw [if_pos hj]
    exact weight_coe x T (T * 256) hn' h r j s.1 _ _ (hs h r).1 (hz h r j) (hd h r) (by omega)
  · rw [if_neg hj]
    unfold WM
    rw [if_neg (by omega), EReal.coe_zero]

end Walk

end Cert.KernelIdeal.Hand
-- ==== Proof.SbRun.lean ====
/- The stick-breaking kernel's walk over the blocks of keys, as its run finds it: each trip two steps of the block before, and
   what it stores the sums of the walk's end. -/
module

public import proofs.«01_k».proof.Proof.SbBlock
public import proofs.«01_k».proof.Proof.KernelIdealFrame

@[expose] public section

set_option maxRecDepth 16384

noncomputable section

open Idealize.ShloMosaic Idealize.ShloMosaic.TcCoe Idealize.SL.Sem Idealize.ShloMosaic.WordCmp

namespace Cert.KernelIdeal.Hand

open Cert.KernelIdeal Cert.KernelIdeal.Gen

/-- One of eight. -/
def pick {α : Type} (a0 a1 a2 a3 a4 a5 a6 a7 : α) (h : Fin 8) : α :=
  match h with
  | ⟨0, _⟩ => a0
  | ⟨1, _⟩ => a1
  | ⟨2, _⟩ => a2
  | ⟨3, _⟩ => a3
  | ⟨4, _⟩ => a4
  | ⟨5, _⟩ => a5
  | ⟨6, _⟩ => a6
  | ⟨7, _⟩ => a7

/-- A block of 256 keys of one head, as it is loaded at the offsets `o`. -/
def LD (a : Memref sig .tc .vmem S1x4096x1024 .f32) (X : BufTy.Contents (Elt Ideal) a.view.ty) (o : Fin 3 → ℕ)
    (ho : ∀ b, o b + S1x256x128.size b ≤ S1x4096x1024.size b) : Vec Ideal S1x256x128 .f32 :=
  View.readAt (Elt Ideal) a.view (Rect.unit (s := S1x4096x1024) o S1x256x128.size ho).toLoadRect X

/-- The eight heads' blocks of a trip's first or second step. -/
def LDT (i : grid0.Coords) (k : Fin (k0_t1_loop i).trips) (r : Fin 2) (a : Memref sig .tc .vmem S1x4096x1024 .f32)
    (X : BufTy.Contents (Elt Ideal) a.view.ty) : Fin 8 → Vec Ideal S1x256x128 .f32 :=
  pick (LD a X _ (k0_off18_inb i k r))
    (LD a X _ (k0_off19_inb i k r))
    (LD a X _ (k0_off20_inb i k r))
    (LD a X _ (k0_off21_inb i k r))
    (LD a X _ (k0_off22_inb i k r))
    (LD a X _ (k0_off23_inb i k r))
    (LD a X _ (k0_off24_inb i k r))
    (LD a X _ (k0_off25_inb i k r))

/-- A trip is two steps. -/
theorem trip_eq (𝒱 : Variants) (c : Dev nD) (bd : Option 𝒱.V) (i : grid0.Coords) (arg3 : Memref sig .tc .smem S16 .f32) (harg3 : arg3.IsWhole) (arg4 : Memref sig .tc .vmem S1x256x1024 .bf16) (harg4 : arg4.IsWhole) (arg5 : Memref sig .tc .vmem S1x4096x1024 .f32) (harg5 : arg5.IsWhole) (arg6 : Memref sig .tc .vmem S1x4096x1024 .f32) (harg6 : arg6.IsWhole) (arg7 : Memref sig .tc .vmem S1x256x1024 .bf16) (harg7 : arg7.IsWhole) (arg2 : BitVec 32) (v1 : FVec Ideal S256x128 .bf16) (v3 : FVec Ideal S256x128 .bf16) (v5 : FVec Ideal S256x128 .bf16) (v7 : FVec Ideal S256x128 .bf16) (v9 : FVec Ideal S256x128 .bf16) (v11 : FVec Ideal S256x128 .bf16) (v13 : FVec Ideal S256x128 .bf16) (v15 : FVec Ideal S256x128 .bf16) (v64 : FVec Ideal S2048x1 .f32) (v269_0 : FVec Ideal S2048x1 .f32) (v269_1 : FVec Ideal S256x128 .f32) (v269_2 : FVec Ideal S256x128 .f32) (v269_3 : FVec Ideal S256x128 .f32) (v269_4 : FVec Ideal S256x128 .f32) (v269_5 : FVec Ideal S256x128 .f32) (v269_6 : FVec Ideal S256x128 .f32) (v269_7 : FVec Ideal S256x128 .f32) (v269_8 : FVec Ideal S256x128 .f32) (v271 : BitVec 32) (v272 : BitVec 32) (v273 : BitVec 1) (v274 : BitVec 1) (v275 : BitVec 1) (v280 : BitVec 32) (X_arg5 : BufTy.Contents (Elt Ideal) arg5.view.ty) (X_arg6 : BufTy.Contents (Elt Ideal) arg6.view.ty) (k : Fin (k0_t1_loop i).trips) (acc : St) :
    tripR_k0_t1 (F := Ideal) 𝒱 c bd i arg3 harg3 arg4 harg4 arg5 harg5 arg6 harg6 arg7 harg7 arg2 v1 v3 v5 v7 v9 v11 v13 v15 v64 v269_0 v269_1 v269_2 v269_3 v269_4 v269_5 v269_6 v269_7 v269_8 v271 v272 v273 v274 v275 v280 X_arg5 X_arg6 k acc
      = STEP (pick v1 v3 v5 v7 v9 v11 v13 v15) v64 (LDT i k 1 arg5 X_arg5) (LDT i k 1 arg6 X_arg6)
        (STEP (pick v1 v3 v5 v7 v9 v11 v13 v15) v64 (LDT i k 0 arg5 X_arg5) (LDT i k 0 arg6 X_arg6) acc) := by
  unfold tripR_k0_t1
  delta trip_k0_t1
  rfl

/-- A head's queries, as they are loaded at the offsets `o`. -/
def QL (a : Memref sig .tc .vmem S1x256x1024 .bf16) (X : BufTy.Contents (Elt Ideal) a.view.ty) (o : Fin 3 → ℕ)
    (ho : ∀ b, o b + S1x256x128.size b ≤ S1x256x1024.size b) : FVec Ideal S256x128 .bf16 :=
  k0_pay93 (View.readAt (Elt Ideal) a.view (Rect.unit (s := S1x256x1024) o S1x256x128.size ho).toLoadRect X)

/-- The eight heads' queries. -/
def QS (a : Memref sig .tc .vmem S1x256x1024 .bf16) (X : BufTy.Contents (Elt Ideal) a.view.ty) : Fin 8 → FVec Ideal S256x128 .bf16 :=
  pick (QL a X ![0, 0, 0] inb_S1x256x1024_S1x256x128_0_0_0)
    (QL a X ![0, 0, 128] inb_S1x256x1024_S1x256x128_0_0_128)
    (QL a X ![0, 0, 256] inb_S1x256x1024_S1x256x128_0_0_256)
    (QL a X ![0, 0, 384] inb_S1x256x1024_S1x256x128_0_0_384)
    (QL a X ![0, 0, 512] inb_S1x256x1024_S1x256x128_0_0_512)
    (QL a X ![0, 0, 640] inb_S1x256x1024_S1x256x128_0_0_640)
    (QL a X ![0, 0, 768] inb_S1x256x1024_S1x256x128_0_0_768)
    (QL a X ![0, 0, 896] inb_S1x256x1024_S1x256x128_0_0_896)

/-- A head's bias. -/
def BL (i : grid0.Coords) (a : Memref sig .tc .smem S16 .f32) (X : BufTy.Contents (Elt Ideal) a.view.ty) (r : Fin 8) : Elt Ideal .f32 :=
  View.readAt (Elt Ideal) a.view (Rect.unit (s := S16) (k0_off1 i (BitVec.ofNat 32 r.val)) S1.size (k0_off1_inb i r)).toLoadRect X
    (Shape.Idx.first (s := S1) (by decide))

/-- Every row's bias in base 2. -/
def BS (i : grid0.Coords) (a : Memref sig .tc .smem S16 .f32) (X : BufTy.Contents (Elt Ideal) a.view.ty) : FVec Ideal S2048x1 .f32 :=
  k0_pay103 (k0_pay101 (BL i a X 0)) (k0_pay102 (BL i a X 1)) (BL i a X 2) (BL i a X 3) (BL i a X 4) (BL i a X 5) (BL i a X 6) (BL i a X 7)

/-- The eight heads' blocks at the queries' own rows. -/
def LDD (i : grid0.Coords) (a : Memref sig .tc .vmem S1x4096x1024 .f32) (X : BufTy.Contents (Elt Ideal) a.view.ty) : Fin 8 → Vec Ideal S1x256x128 .f32 :=
  pick (LD a X _ (k0_off2_inb i))
    (LD a X _ (k0_off3_inb i))
    (LD a X _ (k0_off4_inb i))
    (LD a X _ (k0_off5_inb i))
    (LD a X _ (k0_off6_inb i))
    (LD a X _ (k0_off7_inb i))
    (LD a X _ (k0_off8_inb i))
    (LD a X _ (k0_off9_inb i))

/-- The eight heads' blocks before those, where the count of blocks before is odd. -/
def LDO (i : grid0.Coords) (hc : k0_cond1 i = 1#1) (a : Memref sig .tc .vmem S1x4096x1024 .f32) (X : BufTy.Contents (Elt Ideal) a.view.ty) :
    Fin 8 → Vec Ideal S1x256x128 .f32 :=
  pick (LD a X _ (k0_off10_inb i hc))
    (LD a X _ (k0_off11_inb i hc))
    (LD a X _ (k0_off12_inb i hc))
    (LD a X _ (k0_off13_inb i hc))
    (LD a X _ (k0_off14_inb i hc))
    (LD a X _ (k0_off15_inb i hc))
    (LD a X _ (k0_off16_inb i hc))
    (LD a X _ (k0_off17_inb i hc))

/-- A head's stored columns. -/
def OUTP (x : FVec Ideal S256x128 .f32) : Vec Ideal S1x256x128 .bf16 := k0_pay6 x

/-- What is stored of the walk's end, the last store first. -/
def PIECES (s : St) : List (View.Piece (Elt Ideal) S1x256x1024 .bf16) :=
  [⟨Rect.unit (s := S1x256x1024) ![0, 0, 896] S1x256x128.size inb_S1x256x1024_S1x256x128_0_0_896, OUTP (s.acc 7)⟩,
    ⟨Rect.unit (s := S1x256x1024) ![0, 0, 768] S1x256x128.size inb_S1x256x1024_S1x256x128_0_0_768, OUTP (s.acc 6)⟩,
    ⟨Rect.unit (s := S1x256x1024) ![0, 0, 640] S1x256x128.size inb_S1x256x1024_S1x256x128_0_0_640, OUTP (s.acc 5)⟩,
    ⟨Rect.unit (s := S1x256x1024) ![0, 0, 512] S1x256x128.size inb_S1x256x1024_S1x256x128_0_0_512, OUTP (s.acc 4)⟩,
    ⟨Rect.unit (s := S1x256x1024) ![0, 0, 384] S1x256x128.size inb_S1x256x1024_S1x256x128_0_0_384, OUTP (s.acc 3)⟩,
    ⟨Rect.unit (s := S1x256x1024) ![0, 0, 256] S1x256x128.size inb_S1x256x1024_S1x256x128_0_0_256, OUTP (s.acc 2)⟩,
    ⟨Rect.unit (s := S1x256x1024) ![0, 0, 128] S1x256x128.size inb_S1x256x1024_S1x256x128_0_0_128, OUTP (s.acc 1)⟩,
    ⟨Rect.unit (s := S1x256x1024) ![0, 0, 0] S1x256x128.size inb_S1x256x1024_S1x256x128_0_0_0, OUTP (s.acc 0)⟩]

/-- The walk over the pairs of blocks. -/
def WALK (i : grid0.Coords) (q : Fin 8 → FVec Ideal S256x128 .bf16) (B : FVec Ideal S2048x1 .f32)
    (a b : Memref sig .tc .vmem S1x4096x1024 .f32) (X : BufTy.Contents (Elt Ideal) a.view.ty) (Y : BufTy.Contents (Elt Ideal) b.view.ty) (s : St) : ℕ → St
  | 0 => s
  | n + 1 => if h : n < (k0_t1_loop i).trips then
      STEP q B (LDT i ⟨n, h⟩ 1 a X) (LDT i ⟨n, h⟩ 1 b Y) (STEP q B (LDT i ⟨n, h⟩ 0 a X) (LDT i ⟨n, h⟩ 0 b Y) (WALK i q B a b X Y s n))
    else WALK i q B a b X Y s n

theorem loop_eq (𝒱 : Variants) (c : Dev nD) (bd : Option 𝒱.V) (i : grid0.Coords) (arg3 : Memref sig .tc .smem S16 .f32) (harg3 : arg3.IsWhole) (arg4 : Memref sig .tc .vmem S1x256x1024 .bf16) (harg4 : arg4.IsWhole) (arg5 : Memref sig .tc .vmem S1x4096x1024 .f32) (harg5 : arg5.IsWhole) (arg6 : Memref sig .tc .vmem S1x4096x1024 .f32) (harg6 : arg6.IsWhole) (arg7 : Memref sig .tc .vmem S1x256x1024 .bf16) (harg7 : arg7.IsWhole) (arg2 : BitVec 32) (v1 : FVec Ideal S256x128 .bf16) (v3 : FVec Ideal S256x128 .bf16) (v5 : FVec Ideal S256x128 .bf16) (v7 : FVec Ideal S256x128 .bf16) (v9 : FVec Ideal S256x128 .bf16) (v11 : FVec Ideal S256x128 .bf16) (v13 : FVec Ideal S256x128 .bf16) (v15 : FVec Ideal S256x128 .bf16) (v64 : FVec Ideal S2048x1 .f32) (v269_0 : FVec Ideal S2048x1 .f32) (v269_1 : FVec Ideal S256x128 .f32) (v269_2 : FVec Ideal S256x128 .f32) (v269_3 : FVec Ideal S256x128 .f32) (v269_4 : FVec Ideal S256x128 .f32) (v269_5 : FVec Ideal S256x128 .f32) (v269_6 : FVec Ideal S256x128 .f32) (v269_7 : FVec Ideal S256x128 .f32) (v269_8 : FVec Ideal S256x128 .f32) (v271 : BitVec 32) (v272 : BitVec 32) (v273 : BitVec 1) (v274 : BitVec 1) (v275 : BitVec 1) (v280 : BitVec 32) (X_arg5 : BufTy.Contents (Elt Ideal) arg5.view.ty) (X_arg6 : BufTy.Contents (Elt Ideal) arg6.view.ty) (s : St) : ∀ n : ℕ, n ≤ (k0_t1_loop i).trips →
    st_k0_t1 (F := Ideal) 𝒱 c bd i arg3 harg3 arg4 harg4 arg5 harg5 arg6 harg6 arg7 harg7 arg2 v1 v3 v5 v7 v9 v11 v13 v15 v64 v269_0 v269_1 v269_2 v269_3 v269_4 v269_5 v269_6 v269_7 v269_8 v271 v272 v273 v274 v275 v280 X_arg5 X_arg6 s n
      = WALK i (pick v1 v3 v5 v7 v9 v11 v13 v15) v64 arg5 arg6 X_arg5 X_arg6 s n
  | 0, _ => rfl
  | n + 1, h => by
    refine (st_k0_t1_succ (F := Ideal) 𝒱 c bd i arg3 harg3 arg4 harg4 arg5 harg5 arg6 harg6 arg7 harg7 arg2 v1 v3 v5 v7 v9 v11 v13 v15 v64 v269_0 v269_1 v269_2 v269_3 v269_4 v269_5 v269_6 v269_7 v269_8 v271 v272 v273 v274 v275 v280 X_arg5 X_arg6 s ⟨n, h⟩).trans ?_
    rw [trip_eq, loop_eq 𝒱 c bd i arg3 harg3 arg4 harg4 arg5 harg5 arg6 harg6 arg7 harg7 arg2 v1 v3 v5 v7 v9 v11 v13 v15 v64 v269_0 v269_1 v269_2 v269_3 v269_4 v269_5 v269_6 v269_7 v269_8 v271 v272 v273 v274 v275 v280 X_arg5 X_arg6 s n (Nat.le_of_succ_le h)]
    rw [WALK.eq_2, dif_pos (show n < (k0_t1_loop i).trips from h)]

theorem trips2 : ∀ i : grid0.Coords, (k0_t2_loop i).trips = 0 := by decide +kernel

/-- The state before the pairs, at an even block. -/
def EVEN (i : grid0.Coords) (q : Fin 8 → FVec Ideal S256x128 .bf16) (B : FVec Ideal S2048x1 .f32)
    (a b : Memref sig .tc .vmem S1x4096x1024 .f32) (X : BufTy.Contents (Elt Ideal) a.view.ty) (Y : BufTy.Contents (Elt Ideal) b.view.ty) : St :=
  DIAG q B (LDD i a X) (LDD i b Y) START

/-- The state before the pairs, at an odd block. -/
def ODD (i : grid0.Coords) (hc : k0_cond1 i = 1#1) (q : Fin 8 → FVec Ideal S256x128 .bf16) (B : FVec Ideal S2048x1 .f32)
    (a b : Memref sig .tc .vmem S1x4096x1024 .f32) (X : BufTy.Contents (Elt Ideal) a.view.ty) (Y : BufTy.Contents (Elt Ideal) b.view.ty) : St :=
  STEP q B (LDO i hc a X) (LDO i hc b Y) (EVEN i q B a b X Y)

set_option maxHeartbeats 4000000 in
/-- What a run stores: the pieces of the end of its walk. -/
theorem runeven_pieces (c : Dev nD) (i : grid0.Coords) (arg3 : Memref sig .tc .smem S16 .f32) (harg3 : arg3.IsWhole)
    (arg4 : Memref sig .tc .vmem S1x256x1024 .bf16) (harg4 : arg4.IsWhole) (arg5 : Memref sig .tc .vmem S1x4096x1024 .f32) (harg5 : arg5.IsWhole)
    (arg6 : Memref sig .tc .vmem S1x4096x1024 .f32) (harg6 : arg6.IsWhole) (arg7 : Memref sig .tc .vmem S1x256x1024 .bf16) (harg7 : arg7.IsWhole)
    (hc : ¬ k0_cond1 i = 1#1) (x0 : Vec Ideal S16 .f32) (x1 : Vec Ideal S1x256x1024 .bf16) (x2 x3 : Vec Ideal S1x4096x1024 .f32) :
    ∀ (q : Fin 8 → FVec Ideal S256x128 .bf16) (B : FVec Ideal S2048x1 .f32) (S : St),
      q = QS arg4 (harg4.unread x1) → B = BS i arg3 (harg3.unread x0) → S = EVEN i q B arg5 arg6 (harg5.unread x2) (harg6.unread x3) →
      (runEven (F := Ideal) c i arg3 harg3 arg4 harg4 arg5 harg5 arg6 harg6 arg7 harg7 hc x0 x1 x2 x3).1
        = PIECES (st_k0_t2 (F := Ideal) Variants.none c none i arg3 harg3 arg4 harg4 arg5 harg5 arg6 harg6 arg7 harg7 (BitVec.ofNat 32 (i 2).val) (q 0) (q 1) (q 2) (q 3) (q 4) (q 5) (q 6) (q 7) B S.1 S.2.1 S.2.2.1 S.2.2.2.1 S.2.2.2.2.1 S.2.2.2.2.2.1 S.2.2.2.2.2.2.1 S.2.2.2.2.2.2.2.1 S.2.2.2.2.2.2.2.2
            2#32 (runEven.sl.v272 i) (runEven.sl.v273 i) (runEven.sl.v274 i) 0#1 (runEven.sl.v280 i) (k0_t1_loop i).ub (harg5.unread x2) (harg6.unread x3)
            (st_k0_t1 (F := Ideal) Variants.none c none i arg3 harg3 arg4 harg4 arg5 harg5 arg6 harg6 arg7 harg7 (BitVec.ofNat 32 (i 2).val) (q 0) (q 1) (q 2) (q 3) (q 4) (q 5) (q 6) (q 7) B S.1 S.2.1 S.2.2.1 S.2.2.2.1 S.2.2.2.2.1 S.2.2.2.2.2.1 S.2.2.2.2.2.2.1 S.2.2.2.2.2.2.2.1 S.2.2.2.2.2.2.2.2
              2#32 (runEven.sl.v272 i) (runEven.sl.v273 i) (runEven.sl.v274 i) 0#1 (runEven.sl.v280 i) (harg5.unread x2) (harg6.unread x3) S (k0_t1_loop i).trips) (k0_t2_loop i).trips) := by
  rintro q B S rfl rfl rfl
  delta runEven
  rfl

set_option maxHeartbeats 4000000 in
/-- What a run stores: the pieces of the end of its walk. -/
theorem runodd_pieces (c : Dev nD) (i : grid0.Coords) (arg3 : Memref sig .tc .smem S16 .f32) (harg3 : arg3.IsWhole)
    (arg4 : Memref sig .tc .vmem S1x256x1024 .bf16) (harg4 : arg4.IsWhole) (arg5 : Memref sig .tc .vmem S1x4096x1024 .f32) (harg5 : arg5.IsWhole)
    (arg6 : Memref sig .tc .vmem S1x4096x1024 .f32) (harg6 : arg6.IsWhole) (arg7 : Memref sig .tc .vmem S1x256x1024 .bf16) (harg7 : arg7.IsWhole)
    (hc : k0_cond1 i = 1#1) (x0 : Vec Ideal S16 .f32) (x1 : Vec Ideal S1x256x1024 .bf16) (x2 x3 : Vec Ideal S1x4096x1024 .f32) :
    ∀ (q : Fin 8 → FVec Ideal S256x128 .bf16) (B : FVec Ideal S2048x1 .f32) (S : St),
      q = QS arg4 (harg4.unread x1) → B = BS i arg3 (harg3.unread x0) → S = ODD i hc q B arg5 arg6 (harg5.unread x2) (harg6.unread x3) →
      (runOdd (F := Ideal) c i arg3 harg3 arg4 harg4 arg5 harg5 arg6 harg6 arg7 harg7 hc x0 x1 x2 x3).1
        = PIECES (st_k0_t2 (F := Ideal) Variants.none c none i arg3 harg3 arg4 harg4 arg5 harg5 arg6 harg6 arg7 harg7 (BitVec.ofNat 32 (i 2).val) (q 0) (q 1) (q 2) (q 3) (q 4) (q 5) (q 6) (q 7) B S.1 S.2.1 S.2.2.1 S.2.2.2.1 S.2.2.2.2.1 S.2.2.2.2.2.1 S.2.2.2.2.2.2.1 S.2.2.2.2.2.2.2.1 S.2.2.2.2.2.2.2.2
            2#32 (runOdd.sl.v272 i) (runOdd.sl.v273 i) (runOdd.sl.v274 i) 0#1 (runOdd.sl.v280 i) (k0_t1_loop i).ub (harg5.unread x2) (harg6.unread x3)
            (st_k0_t1 (F := Ideal) Variants.none c none i arg3 harg3 arg4 harg4 arg5 harg5 arg6 harg6 arg7 harg7 (BitVec.ofNat 32 (i 2).val) (q 0) (q 1) (q 2) (q 3) (q 4) (q 5) (q 6) (q 7) B S.1 S.2.1 S.2.2.1 S.2.2.2.1 S.2.2.2.2.1 S.2.2.2.2.2.1 S.2.2.2.2.2.2.1 S.2.2.2.2.2.2.2.1 S.2.2.2.2.2.2.2.2
              2#32 (runOdd.sl.v272 i) (runOdd.sl.v273 i) (runOdd.sl.v274 i) 0#1 (runOdd.sl.v280 i) (harg5.unread x2) (harg6.unread x3) S (k0_t1_loop i).trips) (k0_t2_loop i).trips) := by
  rintro q B S rfl rfl rfl
  delta runOdd
  rfl

theorem pick_self {α : Type} (q : Fin 8 → α) : pick (q 0) (q 1) (q 2) (q 3) (q 4) (q 5) (q 6) (q 7) = q := by
  funext h
  fin_cases h <;> rfl

/-- The walk's end, at an even block and at an odd one. -/
def FINAL (i : grid0.Coords) (q : Fin 8 → FVec Ideal S256x128 .bf16) (B : FVec Ideal S2048x1 .f32)
    (a b : Memref sig .tc .vmem S1x4096x1024 .f32) (X : BufTy.Contents (Elt Ideal) a.view.ty) (Y : BufTy.Contents (Elt Ideal) b.view.ty) : St :=
  WALK i q B a b X Y (if hc : k0_cond1 i = 1#1 then ODD i hc q B a b X Y else EVEN i q B a b X Y) (k0_t1_loop i).trips

theorem runeven_final (c : Dev nD) (i : grid0.Coords) (arg3 : Memref sig .tc .smem S16 .f32) (harg3 : arg3.IsWhole)
    (arg4 : Memref sig .tc .vmem S1x256x1024 .bf16) (harg4 : arg4.IsWhole) (arg5 : Memref sig .tc .vmem S1x4096x1024 .f32) (harg5 : arg5.IsWhole)
    (arg6 : Memref sig .tc .vmem S1x4096x1024 .f32) (harg6 : arg6.IsWhole) (arg7 : Memref sig .tc .vmem S1x256x1024 .bf16) (harg7 : arg7.IsWhole)
    (hc : ¬ k0_cond1 i = 1#1) (x0 : Vec Ideal S16 .f32) (x1 : Vec Ideal S1x256x1024 .bf16) (x2 x3 : Vec Ideal S1x4096x1024 .f32) :
    (runEven (F := Ideal) c i arg3 harg3 arg4 harg4 arg5 harg5 arg6 harg6 arg7 harg7 hc x0 x1 x2 x3).1
      = PIECES (FINAL i (QS arg4 (harg4.unread x1)) (BS i arg3 (harg3.unread x0)) arg5 arg6 (harg5.unread x2) (harg6.unread x3)) := by
  refine (runeven_pieces c i arg3 harg3 arg4 harg4 arg5 harg5 arg6 harg6 arg7 harg7 hc x0 x1 x2 x3 _ _ _ rfl rfl rfl).trans (congrArg PIECES ?_)
  rw [trips2, st_k0_t2_zero, loop_eq _ _ _ _ _ _ _ _ _ _ _ _ _ _ _ _ _ _ _ _ _ _ _ _ _ _ _ _ _ _ _ _ _ _ _ _ _ _ _ _ _ _ _ le_rfl, pick_self]
  unfold FINAL
  rw [dif_neg hc]

theorem runodd_final (c : Dev nD) (i : grid0.Coords) (arg3 : Memref sig .tc .smem S16 .f32) (harg3 : arg3.IsWhole)
    (arg4 : Memref sig .tc .vmem S1x256x1024 .bf16) (harg4 : arg4.IsWhole) (arg5 : Memref sig .tc .vmem S1x4096x1024 .f32) (harg5 : arg5.IsWhole)
    (arg6 : Memref sig .tc .vmem S1x4096x1024 .f32) (harg6 : arg6.IsWhole) (arg7 : Memref sig .tc .vmem S1x256x1024 .bf16) (harg7 : arg7.IsWhole)
    (hc : k0_cond1 i = 1#1) (x0 : Vec Ideal S16 .f32) (x1 : Vec Ideal S1x256x1024 .bf16) (x2 x3 : Vec Ideal S1x4096x1024 .f32) :
    (runOdd (F := Ideal) c i arg3 harg3 arg4 harg4 arg5 harg5 arg6 harg6 arg7 harg7 hc x0 x1 x2 x3).1
      = PIECES (FINAL i (QS arg4 (harg4.unread x1)) (BS i arg3 (harg3.unread x0)) arg5 arg6 (harg5.unread x2) (harg6.unread x3)) := by
  refine (runodd_pieces c i arg3 harg3 arg4 harg4 arg5 harg5 arg6 harg6 arg7 harg7 hc x0 x1 x2 x3 _ _ _ rfl rfl rfl).trans (congrArg PIECES ?_)
  rw [trips2, st_k0_t2_zero, loop_eq _ _ _ _ _ _ _ _ _ _ _ _ _ _ _ _ _ _ _ _ _ _ _ _ _ _ _ _ _ _ _ _ _ _ _ _ _ _ _ _ _ _ _ le_rfl, pick_self]
  unfold FINAL
  rw [dif_pos hc]

theorem out_final (c : Dev nD) (i : grid0.Coords) (arg3 : Memref sig .tc .smem S16 .f32) (harg3 : arg3.IsWhole)
    (arg4 : Memref sig .tc .vmem S1x256x1024 .bf16) (harg4 : arg4.IsWhole) (arg5 : Memref sig .tc .vmem S1x4096x1024 .f32) (harg5 : arg5.IsWhole)
    (arg6 : Memref sig .tc .vmem S1x4096x1024 .f32) (harg6 : arg6.IsWhole) (arg7 : Memref sig .tc .vmem S1x256x1024 .bf16) (harg7 : arg7.IsWhole)
    (x0 : Vec Ideal S16 .f32) (x1 : Vec Ideal S1x256x1024 .bf16) (x2 x3 : Vec Ideal S1x4096x1024 .f32) :
    out (F := Ideal) c i arg3 harg3 arg4 harg4 arg5 harg5 arg6 harg6 arg7 harg7 x0 x1 x2 x3 = View.canon (PIECES (FINAL i (QS arg4 (harg4.unread x1)) (BS i arg3 (harg3.unread x0)) arg5 arg6 (harg5.unread x2) (harg6.unread x3))) := by
  unfold out
  split
  · rw [runodd_final]
  · rw [runeven_final]

end Cert.KernelIdeal.Hand
-- ==== Proof.SbLoads.lean ====
/- What the stick-breaking kernel's loads read: each head's queries, keys, values and bias, and the walk's end from them. -/
module

public import proofs.«01_k».proof.Proof.SbMath
public import proofs.«01_k».proof.Proof.SbRun
public import Idealize.ShloMosaic.Lib.WholeRead

@[expose] public section

set_option maxRecDepth 16384

noncomputable section

open Idealize.ShloMosaic Idealize.ShloMosaic.TcCoe Idealize.SL.Sem

namespace Cert.KernelIdeal.Hand

open Cert.KernelIdeal Cert.KernelIdeal.Gen

/-- Column `e` of a head. -/
def col (h : Fin 8) (e : Fin 128) : Fin 1024 := ⟨h.val * 128 + e.val, by omega⟩

theorem trips1 : ∀ i : grid0.Coords, (k0_t1_loop i).trips = (i 2).val / 2 := by decide +kernel

theorem cond1_iff : ∀ i : grid0.Coords, k0_cond1 i = 1#1 ↔ (i 2).val % 2 = 1 := by decide +kernel

theorem off1 : ∀ (i : grid0.Coords) (r : Fin 8), k0_off1 i (BitVec.ofNat 32 r.val) = ![(i 1).val * 8 + r.val] := by decide +kernel

theorem off2 : ∀ i : grid0.Coords, k0_off2 i = ![0, (i 2).val * 256, 0] := by decide +kernel
theorem off3 : ∀ i : grid0.Coords, k0_off3 i = ![0, (i 2).val * 256, 128] := by decide +kernel
theorem off4 : ∀ i : grid0.Coords, k0_off4 i = ![0, (i 2).val * 256, 256] := by decide +kernel
theorem off5 : ∀ i : grid0.Coords, k0_off5 i = ![0, (i 2).val * 256, 384] := by decide +kernel
theorem off6 : ∀ i : grid0.Coords, k0_off6 i = ![0, (i 2).val * 256, 512] := by decide +kernel
theorem off7 : ∀ i : grid0.Coords, k0_off7 i = ![0, (i 2).val * 256, 640] := by decide +kernel
theorem off8 : ∀ i : grid0.Coords, k0_off8 i = ![0, (i 2).val * 256, 768] := by decide +kernel
theorem off9 : ∀ i : grid0.Coords, k0_off9 i = ![0, (i 2).val * 256, 896] := by decide +kernel

theorem off10 : ∀ i : grid0.Coords, k0_cond1 i = 1#1 → k0_off10 i = ![0, ((i 2).val - 1) * 256, 0] := by decide +kernel
theorem off11 : ∀ i : grid0.Coords, k0_cond1 i = 1#1 → k0_off11 i = ![0, ((i 2).val - 1) * 256, 128] := by decide +kernel
theorem off12 : ∀ i : grid0.Coords, k0_cond1 i = 1#1 → k0_off12 i = ![0, ((i 2).val - 1) * 256, 256] := by decide +kernel
theorem off13 : ∀ i : grid0.Coords, k0_cond1 i = 1#1 → k0_off13 i = ![0, ((i 2).val - 1) * 256, 384] := by decide +kernel
theorem off14 : ∀ i : grid0.Coords, k0_cond1 i = 1#1 → k0_off14 i = ![0, ((i 2).val - 1) * 256, 512] := by decide +kernel
theorem off15 : ∀ i : grid0.Coords, k0_cond1 i = 1#1 → k0_off15 i = ![0, ((i 2).val - 1) * 256, 640] := by decide +kernel
theorem off16 : ∀ i : grid0.Coords, k0_cond1 i = 1#1 → k0_off16 i = ![0, ((i 2).val - 1) * 256, 768] := by decide +kernel
theorem off17 : ∀ i : grid0.Coords, k0_cond1 i = 1#1 → k0_off17 i = ![0, ((i 2).val - 1) * 256, 896] := by decide +kernel

/-- Where a trip's step begins. -/
def BEG (i : grid0.Coords) (k r : ℕ) : ℕ := ((i 2).val - (i 2).val % 2 - 1 - r - 2 * k) * 256

theorem off18 : ∀ (i : grid0.Coords) (k : Fin (k0_t1_loop i).trips) (r : Fin 2),
    k0_off18 i k (BitVec.ofNat 32 (1 + r.val)) = ![0, BEG i k.val r.val, 0] := by decide +kernel
theorem off19 : ∀ (i : grid0.Coords) (k : Fin (k0_t1_loop i).trips) (r : Fin 2),
    k0_off19 i k (BitVec.ofNat 32 (1 + r.val)) = ![0, BEG i k.val r.val, 128] := by decide +kernel
theorem off20 : ∀ (i : grid0.Coords) (k : Fin (k0_t1_loop i).trips) (r : Fin 2),
    k0_off20 i k (BitVec.ofNat 32 (1 + r.val)) = ![0, BEG i k.val r.val, 256] := by decide +kernel
theorem off21 : ∀ (i : grid0.Coords) (k : Fin (k0_t1_loop i).trips) (r : Fin 2),
    k0_off21 i k (BitVec.ofNat 32 (1 + r.val)) = ![0, BEG i k.val r.val, 384] := by decide +kernel
theorem off22 : ∀ (i : grid0.Coords) (k : Fin (k0_t1_loop i).trips) (r : Fin 2),
    k0_off22 i k (BitVec.ofNat 32 (1 + r.val)) = ![0, BEG i k.val r.val, 512] := by decide +kernel
theorem off23 : ∀ (i : grid0.Coords) (k : Fin (k0_t1_loop i).trips) (r : Fin 2),
    k0_off23 i k (BitVec.ofNat 32 (1 + r.val)) = ![0, BEG i k.val r.val, 640] := by decide +kernel
theorem off24 : ∀ (i : grid0.Coords) (k : Fin (k0_t1_loop i).trips) (r : Fin 2),
    k0_off24 i k (BitVec.ofNat 32 (1 + r.val)) = ![0, BEG i k.val r.val, 768] := by decide +kernel
theorem off25 : ∀ (i : grid0.Coords) (k : Fin (k0_t1_loop i).trips) (r : Fin 2),
    k0_off25 i k (BitVec.ofNat 32 (1 + r.val)) = ![0, BEG i k.val r.val, 896] := by decide +kernel

section Loads

variable {a : Memref sig .tc .vmem S1x4096x1024 .f32} (ha : a.IsWhole) (X : Vec Ideal S1x4096x1024 .f32)

/-- A block of keys loaded at known offsets. -/
theorem ld_at (o : Fin 3 → ℕ) (ho : ∀ b, o b + S1x256x128.size b ≤ S1x4096x1024.size b) (n : ℕ) (h : Fin 8)
    (eo : o = ![0, n, h.val * 128]) (j : Fin 256) (e : Fin 128) :
    LD a (ha.unread X) o ho (ix3 0 j e) = X (ix3 0 (Fin.ofNat 4096 (n + j.val)) (col h e)) := by
  subst eo
  have hn : n + 256 ≤ 4096 := ho 1
  unfold LD
  refine (ha.readAt_unread X _ _).trans (congrArg X (funext fun b => Fin.ext ?_))
  have hj := j.isLt
  match b with
  | ⟨0, _⟩ => rfl
  | ⟨1, _⟩ =>
    show n + 1 * j.val = (n + j.val) % 4096
    rw [Nat.mod_eq_of_lt (by omega)]
    omega
  | ⟨2, _⟩ =>
    show h.val * 128 + 1 * e.val = h.val * 128 + e.val
    omega

theorem ldd_at (i : grid0.Coords) (h : Fin 8) (j : Fin 256) (e : Fin 128) :
    LDD i a (ha.unread X) h (ix3 0 j e) = X (ix3 0 (Fin.ofNat 4096 ((i 2).val * 256 + j.val)) (col h e)) :=
  match h with
  | ⟨0, _⟩ => ld_at ha X _ (k0_off2_inb i) _ 0 (off2 i) j e
  | ⟨1, _⟩ => ld_at ha X _ (k0_off3_inb i) _ 1 (off3 i) j e
  | ⟨2, _⟩ => ld_at ha X _ (k0_off4_inb i) _ 2 (off4 i) j e
  | ⟨3, _⟩ => ld_at ha X _ (k0_off5_inb i) _ 3 (off5 i) j e
  | ⟨4, _⟩ => ld_at ha X _ (k0_off6_inb i) _ 4 (off6 i) j e
  | ⟨5, _⟩ => ld_at ha X _ (k0_off7_inb i) _ 5 (off7 i) j e
  | ⟨6, _⟩ => ld_at ha X _ (k0_off8_inb i) _ 6 (off8 i) j e
  | ⟨7, _⟩ => ld_at ha X _ (k0_off9_inb i) _ 7 (off9 i) j e

theorem ldo_at (i : grid0.Coords) (hc : k0_cond1 i = 1#1) (h : Fin 8) (j : Fin 256) (e : Fin 128) :
    LDO i hc a (ha.unread X) h (ix3 0 j e) = X (ix3 0 (Fin.ofNat 4096 (((i 2).val - 1) * 256 + j.val)) (col h e)) :=
  match h with
  | ⟨0, _⟩ => ld_at ha X _ (k0_off10_inb i hc) _ 0 (off10 i hc) j e
  | ⟨1, _⟩ => ld_at ha X _ (k0_off11_inb i hc) _ 1 (off11 i hc) j e
  | ⟨2, _⟩ => ld_at ha X _ (k0_off12_inb i hc) _ 2 (off12 i hc) j e
  | ⟨3, _⟩ => ld_at ha X _ (k0_off13_inb i hc) _ 3 (off13 i hc) j e
  | ⟨4, _⟩ => ld_at ha X _ (k0_off14_inb i hc) _ 4 (off14 i hc) j e
  | ⟨5, _⟩ => ld_at ha X _ (k0_off15_inb i hc) _ 5 (off15 i hc) j e
  | ⟨6, _⟩ => ld_at ha X _ (k0_off16_inb i hc) _ 6 (off16 i hc) j e
  | ⟨7, _⟩ => ld_at ha X _ (k0_off17_inb i hc) _ 7 (off17 i hc) j e

theorem ldt_at (i : grid0.Coords) (k : Fin (k0_t1_loop i).trips) (r : Fin 2) (h : Fin 8) (j : Fin 256) (e : Fin 128) :
    LDT i k r a (ha.unread X) h (ix3 0 j e) = X (ix3 0 (Fin.ofNat 4096 (BEG i k.val r.val + j.val)) (col h e)) :=
  match h with
  | ⟨0, _⟩ => ld_at ha X _ (k0_off18_inb i k r) _ 0 (off18 i k r) j e
  | ⟨1, _⟩ => ld_at ha X _ (k0_off19_inb i k r) _ 1 (off19 i k r) j e
  | ⟨2, _⟩ => ld_at ha X _ (k0_off20_inb i k r) _ 2 (off20 i k r) j e
  | ⟨3, _⟩ => ld_at ha X _ (k0_off21_inb i k r) _ 3 (off21 i k r) j e
  | ⟨4, _⟩ => ld_at ha X _ (k0_off22_inb i k r) _ 4 (off22 i k r) j e
  | ⟨5, _⟩ => ld_at ha X _ (k0_off23_inb i k r) _ 5 (off23 i k r) j e
  | ⟨6, _⟩ => ld_at ha X _ (k0_off24_inb i k r) _ 6 (off24 i k r) j e
  | ⟨7, _⟩ => ld_at ha X _ (k0_off25_inb i k r) _ 7 (off25 i k r) j e

end Loads

section Queries

variable {a : Memref sig .tc .vmem S1x256x1024 .bf16} (ha : a.IsWhole) (X : Vec Ideal S1x256x1024 .bf16)

theorem ql_at (o : Fin 3 → ℕ) (ho : ∀ b, o b + S1x256x128.size b ≤ S1x256x1024.size b) (h : Fin 8)
    (eo : o = ![0, 0, h.val * 128]) (r : Fin 256) (e : Fin 128) : QL a (ha.unread X) o ho (ix2 r e) = X (ix3 0 r (col h e)) := by
  subst eo
  unfold QL
  pointwise [k0_pay93]
  refine (ha.readAt_unread X _ _).trans (congrArg X (funext fun b => Fin.ext ?_))
  match b with
  | ⟨0, _⟩ => rfl
  | ⟨1, _⟩ =>
    show 0 + 1 * r.val = r.val
    omega
  | ⟨2, _⟩ =>
    show h.val * 128 + 1 * e.val = h.val * 128 + e.val
    omega

theorem qs_at (h : Fin 8) (r : Fin 256) (e : Fin 128) : QS a (ha.unread X) h (ix2 r e) = X (ix3 0 r (col h e)) :=
  match h with
  | ⟨0, _⟩ => ql_at ha X _ inb_S1x256x1024_S1x256x128_0_0_0 0 rfl r e
  | ⟨1, _⟩ => ql_at ha X _ inb_S1x256x1024_S1x256x128_0_0_128 1 rfl r e
  | ⟨2, _⟩ => ql_at ha X _ inb_S1x256x1024_S1x256x128_0_0_256 2 rfl r e
  | ⟨3, _⟩ => ql_at ha X _ inb_S1x256x1024_S1x256x128_0_0_384 3 rfl r e
  | ⟨4, _⟩ => ql_at ha X _ inb_S1x256x1024_S1x256x128_0_0_512 4 rfl r e
  | ⟨5, _⟩ => ql_at ha X _ inb_S1x256x1024_S1x256x128_0_0_640 5 rfl r e
  | ⟨6, _⟩ => ql_at ha X _ inb_S1x256x1024_S1x256x128_0_0_768 6 rfl r e
  | ⟨7, _⟩ => ql_at ha X _ inb_S1x256x1024_S1x256x128_0_0_896 7 rfl r e

end Queries

section Biases

variable {a : Memref sig .tc .smem S16 .f32} (ha : a.IsWhole) (X : Vec Ideal S16 .f32)

/-- The head a point's head `h` is. -/
def head (i : grid0.Coords) (h : Fin 8) : Fin 16 := ⟨(i 1).val * 8 + h.val, by have : (i 1).val < 2 := (i 1).isLt; omega⟩

theorem bl_at (i : grid0.Coords) (h : Fin 8) : BL i a (ha.unread X) h = X (ix1 (head i h)) := by
  unfold BL
  refine (ha.readAt_unread X _ _).trans (congrArg X (funext fun b => Fin.ext ?_))
  match b with
  | ⟨0, _⟩ =>
    show k0_off1 i (BitVec.ofNat 32 h.val) 0 + (Shape.Idx.first (s := S1) (by decide) 0).val * 1 = (i 1).val * 8 + h.val
    rw [off1 i h]
    rfl

/-- One below the other, the eight heads' biases. -/
theorem bs_eq (b : Fin 8 → Elt Ideal .f32) :
    k0_pay103 (F := Ideal) (k0_pay101 (b 0)) (k0_pay102 (b 1)) (b 2) (b 3) (b 4) (b 5) (b 6) (b 7)
      = concatenate S2048x1 0 (List.ofFn fun h : Fin 8 => (⟨S256x1, k0_pay101 (F := Ideal) (b h)⟩ : (s : Shape) × (s.Idx → Ideal .f32)))
        concatenates_S256x1_S256x1_S256x1_S256x1_S256x1_S256x1_S256x1_S256x1_S2048x1_d0 := rfl

theorem bs_at (i : grid0.Coords) (h : Fin 8) (r : Fin 256) :
    BS i a (ha.unread X) (ix2 (row h r) 0) = X (ix1 (head i h)) * (((Real.log 2)⁻¹ : ℝ) : EReal) := by
  have e : (Named.named (F := Ideal) κ "log2e" (φ := .f32) 0x3FB8AA3B#32) = (((Real.log 2)⁻¹ : ℝ) : EReal) :=
    IdealRules.named_const.ideal_named_scalar _ _ _ _ rfl
  have ep : k0_pay101 (F := Ideal) (BL i a (ha.unread X) h) (ix2 r 0) = X (ix1 (head i h)) * (((Real.log 2)⁻¹ : ℝ) : EReal) := by
    rw [bl_at ha X i h, ← e]
    rfl
  refine Eq.trans ?_ ep
  unfold BS
  rw [bs_eq fun h => BL i a (ha.unread X) h]
  exact concatenate_ofFn_apply (0 : Fin S2048x1.rank) (fun h => k0_pay101 (F := Ideal) (BL i a (ha.unread X) h))
    concatenates_S256x1_S256x1_S256x1_S256x1_S256x1_S256x1_S256x1_S256x1_S2048x1_d0 rfl 256 rfl (ix2 (row h r) 0) h
    (by show (h.val * 256 + r.val) / 256 = h.val; omega) (ix2 r 0) (by show r.val = (h.val * 256 + r.val) % 256; omega)
    (by intro b hb
        match b with
        | ⟨0, _⟩ => exact absurd rfl hb
        | ⟨1, _⟩ => rfl)

end Biases

section Final

variable {a b : Memref sig .tc .vmem S1x4096x1024 .f32} (ha : a.IsWhole) (hb : b.IsWhole) (X Y : Vec Ideal S1x4096x1024 .f32)

/-- The values of a point's heads. -/
def VAL (Y : Vec Ideal S1x4096x1024 .f32) (h : Fin 8) (l : ℕ) (e : Fin 128) : EReal := Y (ix3 0 (Fin.ofNat 4096 l) (col h e))

/-- The walk ends having passed every key. -/
theorem inv_final (i : grid0.Coords) (q : Fin 8 → FVec Ideal S256x128 .bf16) (B : FVec Ideal S2048x1 .f32) (x : Fin 8 → Fin 256 → ℕ → ℝ)
    (hz : ∀ (k : Fin 8 → Vec Ideal S1x256x128 .f32) (n : ℕ), n + 256 ≤ 4096 →
      (∀ h (j : Fin 256) (e : Fin 128), k h (ix3 0 j e) = X (ix3 0 (Fin.ofNat 4096 (n + j.val)) (col h e))) →
      ∀ h r (j : Fin 256), SCORES q B k (ix2 (row h r) j) = ((x h r (n + j.val) / Real.log 2 : ℝ) : EReal)) :
    INV x (i 2).val (VAL Y) 0 (FINAL i q B a b (ha.unread X) (hb.unread Y)) := by
  have hT : (i 2).val < 16 := (i 2).isLt
  have hE : INV x (i 2).val (VAL Y) ((i 2).val * 256) (EVEN i q B a b (ha.unread X) (hb.unread Y)) := by
    unfold EVEN
    refine inv_diag x _ (VAL Y) hT q B _ _ _ (hz _ _ (by omega) (ldd_at ha X i)) (ldd_at hb Y i) ?_
    have := inv_start x (i 2).val (VAL Y)
    rwa [Nat.succ_mul] at this
  have hO : INV x (i 2).val (VAL Y) (((i 2).val - (i 2).val % 2) * 256)
      (if hc : k0_cond1 i = 1#1 then ODD i hc q B a b (ha.unread X) (hb.unread Y) else EVEN i q B a b (ha.unread X) (hb.unread Y)) := by
    by_cases hc : k0_cond1 i = 1#1
    · have h1 := (cond1_iff i).mp hc
      rw [dif_pos hc, h1]
      unfold ODD
      refine inv_step x _ (VAL Y) (((i 2).val - 1) * 256) (by omega) hT q B _ _ _ (hz _ _ (by omega) (ldo_at ha X i hc)) (ldo_at hb Y i hc) ?_
      rwa [show ((i 2).val - 1) * 256 + 256 = (i 2).val * 256 by omega]
    · have h1 : (i 2).val % 2 = 0 := by
        have := (cond1_iff i).not.mp hc
        omega
      rw [dif_neg hc, h1]
      exact hE
  have hW : ∀ n : ℕ, n ≤ (i 2).val / 2 → INV x (i 2).val (VAL Y) (((i 2).val - (i 2).val % 2 - 2 * n) * 256)
      (WALK i q B a b (ha.unread X) (hb.unread Y) (if hc : k0_cond1 i = 1#1 then ODD i hc q B a b (ha.unread X) (hb.unread Y) else EVEN i q B a b (ha.unread X) (hb.unread Y)) n) := by
    intro n
    induction n with
    | zero => intro _; exact hO
    | succ n ih =>
      intro hn
      have hlt : n < (k0_t1_loop i).trips := by rw [trips1]; omega
      rw [WALK.eq_2, dif_pos hlt]
      have e1 : BEG i n 1 = ((i 2).val - (i 2).val % 2 - 2 * (n + 1)) * 256 := by unfold BEG; omega
      have e0 : BEG i n 0 = ((i 2).val - (i 2).val % 2 - 2 * (n + 1)) * 256 + 256 := by unfold BEG; omega
      refine inv_step x _ (VAL Y) _ (by omega) hT q B _ _ _ (hz _ _ (by omega) fun h j e => ?_) (fun h j e => ?_) ?_
      · rw [← e1]; exact ldt_at ha X i ⟨n, hlt⟩ 1 h j e
      · rw [← e1]; exact ldt_at hb Y i ⟨n, hlt⟩ 1 h j e
      refine inv_step x _ (VAL Y) _ (by omega) hT q B _ _ _ (hz _ _ (by omega) fun h j e => ?_) (fun h j e => ?_) ?_
      · rw [← e0]; exact ldt_at ha X i ⟨n, hlt⟩ 0 h j e
      · rw [← e0]; exact ldt_at hb Y i ⟨n, hlt⟩ 0 h j e
      rw [show ((i 2).val - (i 2).val % 2 - 2 * (n + 1)) * 256 + 256 + 256 = ((i 2).val - (i 2).val % 2 - 2 * n) * 256 by omega]
      exact ih (by omega)
  have := hW ((i 2).val / 2) le_rfl
  rw [show ((i 2).val - (i 2).val % 2 - 2 * ((i 2).val / 2)) * 256 = 0 by omega] at this
  unfold FINAL
  rw [trips1]
  exact this

end Final

end Cert.KernelIdeal.Hand
-- ==== Proof.SbRef.lean ====
/- The reference's stick-breaking attention, read: each head's scores, its log-sigmoids, the sums of the later keys and the weighted
   sums of the values. -/
module

public import proofs.«01_k».proof.Proof.SbMath
public import proofs.«01_k».proof.Proof.Gen.ReferenceIdeal.Run

@[expose] public section

set_option maxRecDepth 16384

noncomputable section

open Idealize.ShloMosaic Idealize.ShloMosaic.TcCoe Idealize.ShloMosaic.WordCmp Idealize.SL.Sem

namespace Cert.KernelIdeal.Hand.Ref

open Cert.ReferenceIdeal Cert.ReferenceIdeal.Gen

/-- Zero everywhere, as the padding is written. -/
def NOUGHT : FVec Ideal S2x16x4096x4096 .f32 :=
  broadcastInDim S2x16x4096x4096 ![] bcast_S_S2x16x4096x4096 (id (constant S_ .f32 0x00000000#32))

/-- The same, as the log-sigmoid writes it. -/
def ZED : FVec Ideal S2x16x4096x4096 .f32 :=
  broadcastInDim S2x16x4096x4096 ![] bcast_S_S2x16x4096x4096 (constant S_ .f32 0x00000000#32)

/-- Where the key comes before the query. -/
def BEFORE : IVec S2x16x4096x4096 1 :=
  broadcastInDim S2x16x4096x4096 ![2, 3] bcast_S4096x4096_S2x16x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The scores of every head. -/
def SCORE (Q : FVec Ideal S2x4096x2048 .bf16) (K : FVec Ideal S2x4096x2048 .f32) (B : FVec Ideal S16 .f32) : FVec Ideal S2x16x4096x4096 .f32 :=
  addf (mulf (Host.dotGeneral dot_S2x4096x16x128_S2x4096x16x128_S2x16x4096x4096_3_3_1_1_02_02 none
      (shapeCast _ (extf .f32 Q bitsLt_bf16_f32) shapeCasts_S2x4096x2048_S2x4096x16x128) (shapeCast _ K shapeCasts_S2x4096x2048_S2x4096x16x128))
    (broadcastInDim S2x16x4096x4096 ![] bcast_S_S2x16x4096x4096 (constant S_ .f32 0x3DB504F3#32)))
    (broadcastInDim S2x16x4096x4096 ![0, 1, 2, 3] bcast_S1x16x1x1_S2x16x4096x4096_0_1_2_3 (broadcastInDim S1x16x1x1 ![1] bcast_S16_S1x16x1x1_1 B))

/-- The softplus of every entry. -/
def SOFT (U : FVec Ideal S2x16x4096x4096 .f32) : FVec Ideal S2x16x4096x4096 .f32 :=
  select (cmpf .une (subf U ZED) (subf U ZED)) (addf U ZED)
    (addf (maximumf U ZED) (Host.log1p (Host.exp (Host.negf (Host.absf (subf U ZED))))))

/-- The log-sigmoid of every entry. -/
def LOGSIG (Y : FVec Ideal S2x16x4096x4096 .f32) : FVec Ideal S2x16x4096x4096 .f32 := Host.negf (SOFT (Host.negf Y))

/-- The entries before the query, and zero elsewhere. -/
def UNDER (X : FVec Ideal S2x16x4096x4096 .f32) : FVec Ideal S2x16x4096x4096 .f32 := select BEFORE X NOUGHT

/-- Each key's sum with the later ones of its row. -/
def SUFFIX (X : FVec Ideal S2x16x4096x4096 .f32) : FVec Ideal S2x16x4096x4096 .f32 :=
  Host.reduceWindowAdd ![1, 1, 1, 4096] ![1, 1, 1, 1] ![0, 0, 0, 0] ![0, 0, 0, 4095] X (broadcastInDim S_ ![] bcast_S_S_ (constant S_ .f32 0x00000000#32))
    reduceWindows_S2x16x4096x4096_S2x16x4096x4096_w1s1p0_0_w1s1p0_0_w1s1p0_0_w4096s1p0_4095 h_S_

/-- The weights from the scores' log-sigmoids and the logarithms of what the keys leave. -/
def WEIGHT (L D : FVec Ideal S2x16x4096x4096 .f32) : FVec Ideal S2x16x4096x4096 .f32 :=
  select BEFORE (Host.exp (addf L (subf (SUFFIX D) D))) NOUGHT

/-- The weighted sums of the values. -/
def PROD (P : FVec Ideal S2x16x4096x4096 .f32) (V : FVec Ideal S2x4096x2048 .f32) : FVec Ideal S2x16x128x4096 .f32 :=
  Host.dotGeneral dot_S2x4096x16x128_S2x16x4096x4096_S2x16x128x4096_1_3_3_2_02_01 none (shapeCast _ V shapeCasts_S2x4096x2048_S2x4096x16x128) P

/-- The heads' columns side by side. -/
def FLAT (T : FVec Ideal S2x16x128x4096 .f32) : FVec Ideal S2x4096x2048 .bf16 :=
  truncf .bf16 (shapeCast _ (transpose S2x4096x16x128 [0, 3, 1, 2] T
    transposes_S2x16x128x4096_S2x4096x16x128_0_3_1_2) shapeCasts_S2x4096x16x128_S2x4096x2048) bitsLt_bf16_f32

/-- The reference's result as a function of the four arguments. -/
def REF (Q : FVec Ideal S2x4096x2048 .bf16) (K V : FVec Ideal S2x4096x2048 .f32) (B : FVec Ideal S16 .f32) : FVec Ideal S2x4096x2048 .bf16 :=
  FLAT (PROD (WEIGHT (LOGSIG (SCORE Q K B)) (UNDER (LOGSIG (Host.negf (SCORE Q K B))))) V)

theorem scale_val : Ideal.ofBits .f32 0x3DB504F3#32 = ((11863283 / 134217728 : ℝ) : EReal) := by
  have e1 : (BitVec.extractLsb' (8 + 23) 1 0x3DB504F3#32 == 1#1) = false := by decide
  have e2 : (BitVec.extractLsb' 23 8 0x3DB504F3#32).toNat = 123 := by decide
  have e3 : (BitVec.extractLsb' 0 23 0x3DB504F3#32).toNat = 3474675 := by decide
  show Ideal.ieee 8 23 0x3DB504F3#32 = _
  unfold Ideal.ieee
  simp only [e1, e2, e3]
  norm_num

theorem score_at (Q : FVec Ideal S2x4096x2048 .bf16) (K : FVec Ideal S2x4096x2048 .f32) (B : FVec Ideal S16 .f32) (b : Fin 2) (h : Fin 16)
    (t s : Fin 4096) :
    SCORE Q K B (ix4 b h t s) = (∑ e : Fin 128, Q (ix3 b t ⟨h.val * 128 + e.val, by omega⟩) * K (ix3 b s ⟨h.val * 128 + e.val, by omega⟩))
      * Ideal.ofBits .f32 0x3DB504F3#32 + B (ix1 h) := by
  pointwise [SCORE]

theorem nought_at (j : S2x16x4096x4096.Idx) : NOUGHT j = 0 := by
  show ZED j = 0
  pointwise [ZED]

theorem zed_at (j : S2x16x4096x4096.Idx) : ZED j = 0 := by
  pointwise [ZED]

theorem before_at (b : Fin 2) (h : Fin 16) (t s : Fin 4096) : BEFORE (ix4 b h t s) = if s.val < t.val then 1#1 else 0#1 := by
  pointwise [BEFORE]
  rw [cmpi_slt_ofNat (by omega) (by omega)]
  by_cases hs : s.val < t.val
  · rw [if_pos hs, decide_eq_true hs]; rfl
  · rw [if_neg hs, decide_eq_false hs]; rfl

theorem soft_at (U : FVec Ideal S2x16x4096x4096 .f32) (j : S2x16x4096x4096.Idx) (x : ℝ) (hx : U j = (x : EReal)) :
    SOFT U j = ((SPR x : ℝ) : EReal) := by
  pointwise [SOFT, zed_at, hx]
  have e : (1 : EReal) + ((Real.exp (-|x|) : ℝ) : EReal) = ((1 + Real.exp (-|x|) : ℝ) : EReal) := by
    rw [← EReal.coe_one, ← EReal.coe_add]
  have e3 : ¬ (1 + Real.exp (-|x|)) ≤ 0 := by have := Real.exp_pos (-|x|); linarith
  have ea : (FloatOps.absf (F := Idealize.ShloMosaic.Ideal) (φ := .f32) (x : EReal)) = ((|x| : ℝ) : EReal) := by
    show max (x : EReal) (-(x : EReal)) = _
    rw [← EReal.coe_neg, coe_max']
    rfl
  rw [if_neg (not_not.mpr rfl), ea, ← EReal.coe_neg, Ideal.exp_coe]
  unfold Ideal.log1p
  rw [e, Ideal.log_coe, if_neg e3, ← EReal.coe_zero, coe_max', ← EReal.coe_add]
  rfl

theorem logsig_at (Y : FVec Ideal S2x16x4096x4096 .f32) (j : S2x16x4096x4096.Idx) (x : ℝ) (hx : Y j = (x : EReal)) :
    LOGSIG Y j = ((x - SPR x : ℝ) : EReal) := by
  have e : x - SPR x = -SPR (-x) := by
    unfold SPR
    rw [abs_neg]
    have : max x 0 = max (-x) 0 + x := by
      rcases le_total x 0 with h | h
      · rw [max_eq_right h, max_eq_left (by linarith)]; ring
      · rw [max_eq_left h, max_eq_right (by linarith)]; ring
    rw [this]
    ring
  show -(SOFT (Host.negf Y) j) = _
  rw [soft_at (Host.negf Y) j (-x) (by show -(Y j) = _; rw [hx, EReal.coe_neg]), e, EReal.coe_neg]

theorem under_at (X : FVec Ideal S2x16x4096x4096 .f32) (b : Fin 2) (h : Fin 16) (t s : Fin 4096) :
    UNDER X (ix4 b h t s) = if s.val < t.val then X (ix4 b h t s) else 0 := by
  show (if BEFORE (ix4 b h t s) = 1#1 then X (ix4 b h t s) else NOUGHT (ix4 b h t s)) = _
  rw [before_at, nought_at]
  by_cases hs : s.val < t.val
  · rw [if_pos hs, if_pos hs, if_pos rfl]
  · rw [if_neg hs, if_neg hs, if_neg (by decide)]

/-- A sum folded from the left. -/
theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The window of the sums. -/
abbrev WIN : Shape := ⟨4, ![1, 1, 1, 4096]⟩

/-- A window's entries are counted by their last coordinate. -/
def winEquiv : WIN.Idx ≃ Fin 4096 where
  toFun w := w 3
  invFun k := ix4 (0 : Fin 1) (0 : Fin 1) (0 : Fin 1) k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- A padded window's sum from zero is the sum over the window's places of what lies there. -/
theorem windowAdd_sum {s t u : Shape} (window strides lo hi : Fin s.rank → Nat) (x : FVec Idealize.ShloMosaic.Ideal s .f32)
    (init : FVec Idealize.ShloMosaic.Ideal u .f32) (h : s.ReduceWindows window strides lo hi t) (hu : 0 < u.numel) (j : t.Idx)
    (g : (⟨s.rank, window⟩ : Shape).Idx → EReal) (hv : init (Shape.Idx.first hu) = (0 : EReal))
    (hin : ∀ (w : (⟨s.rank, window⟩ : Shape).Idx) (H : ∀ a : Fin s.rank, lo a ≤ (j (a.cast h.1.symm)).val * strides a + (w a).val
      ∧ (j (a.cast h.1.symm)).val * strides a + (w a).val - lo a < s.size a),
      x (fun a => ⟨(j (a.cast h.1.symm)).val * strides a + (w a).val - lo a, (H a).2⟩) = g w)
    (hout : ∀ w : (⟨s.rank, window⟩ : Shape).Idx, (¬ ∀ a : Fin s.rank, lo a ≤ (j (a.cast h.1.symm)).val * strides a + (w a).val
      ∧ (j (a.cast h.1.symm)).val * strides a + (w a).val - lo a < s.size a) → g w = 0) :
    Host.reduceWindowAdd window strides lo hi x init h hu j = ∑ w, g w := by
  have e : Host.reduceWindowAdd window strides lo hi x init h hu j
      = (List.finRange (⟨s.rank, window⟩ : Shape).numel).foldl (fun r n => r + g ((⟨s.rank, window⟩ : Shape).rowMajor.symm n)) 0 := by
    show List.foldl _ (init (Shape.Idx.first hu)) _ = _
    refine congrArg₂ (fun F v => List.foldl F v _) (funext fun r => funext fun n => congrArg (r + ·) ?_) hv
    dsimp only
    split
    · next H => exact hin _ H
    · next H => exact hv.trans (hout _ H).symm
  rw [e, foldl_sum, zero_add, ← List.ofFn_eq_map, List.sum_ofFn, Equiv.sum_comp _ g]

theorem suffix_at (X : FVec Ideal S2x16x4096x4096 .f32) (f : ℕ → EReal) (b : Fin 2) (h : Fin 16) (t s : Fin 4096)
    (hf : ∀ l : Fin 4096, X (ix4 b h t l) = f l.val) : SUFFIX X (ix4 b h t s) = ∑ l ∈ Finset.Ico s.val 4096, f l := by
  have hz : broadcastInDim S_ ![] bcast_S_S_ (constant (F := Idealize.ShloMosaic.Ideal) S_ .f32 0x00000000#32) (Shape.Idx.first h_S_) = (0 : EReal) := by
    pointwise []
  have e : SUFFIX X (ix4 b h t s) = ∑ w : WIN.Idx, if s.val + (w 3).val < 4096 then f (s.val + (w 3).val) else 0 := by
    refine windowAdd_sum (s := S2x16x4096x4096) (t := S2x16x4096x4096) (u := S_) ![1, 1, 1, 4096] ![1, 1, 1, 1] ![0, 0, 0, 0] ![0, 0, 0, 4095] X _ _ _
      (ix4 b h t s) (fun w : WIN.Idx => if s.val + (w 3).val < 4096 then f (s.val + (w 3).val) else 0) hz (fun w H => ?_) (fun w H => ?_)
    · have h3 : s.val * 1 + (w 3).val - 0 < 4096 := (H 3).2
      have h0 : (w 0).val < 1 := (w 0).isLt
      have h1 : (w 1).val < 1 := (w 1).isLt
      have h2 : (w 2).val < 1 := (w 2).isLt
      rw [if_pos (by omega)]
      refine (congrArg X (funext fun a => Fin.ext ?_)).trans (hf ⟨s.val + (w 3).val, by omega⟩)
      match a with
      | ⟨0, _⟩ => show b.val * 1 + (w 0).val - 0 = b.val; omega
      | ⟨1, _⟩ => show h.val * 1 + (w 1).val - 0 = h.val; omega
      | ⟨2, _⟩ => show t.val * 1 + (w 2).val - 0 = t.val; omega
      | ⟨3, _⟩ => show s.val * 1 + (w 3).val - 0 = s.val + (w 3).val; omega
    · refine if_neg fun hs => H fun a => ?_
      have h0 : (w 0).val < 1 := (w 0).isLt
      have h1 : (w 1).val < 1 := (w 1).isLt
      have h2 : (w 2).val < 1 := (w 2).isLt
      have hb := b.isLt
      have hh := h.isLt
      have ht := t.isLt
      match a with
      | ⟨0, _⟩ => show 0 ≤ b.val * 1 + (w 0).val ∧ b.val * 1 + (w 0).val - 0 < 2; omega
      | ⟨1, _⟩ => show 0 ≤ h.val * 1 + (w 1).val ∧ h.val * 1 + (w 1).val - 0 < 16; omega
      | ⟨2, _⟩ => show 0 ≤ t.val * 1 + (w 2).val ∧ t.val * 1 + (w 2).val - 0 < 4096; omega
      | ⟨3, _⟩ => show 0 ≤ s.val * 1 + (w 3).val ∧ s.val * 1 + (w 3).val - 0 < 4096; omega
  rw [e, ← winEquiv.symm.sum_comp]
  show ∑ k : Fin 4096, (if s.val + k.val < 4096 then f (s.val + k.val) else 0) = _
  have hs := s.isLt
  rw [Fin.sum_univ_eq_sum_range (fun k => if s.val + k < 4096 then f (s.val + k) else 0) 4096, Finset.sum_Ico_eq_sum_range, ← Finset.sum_filter]
  refine Finset.sum_congr (Finset.ext fun k => ?_) fun _ _ => rfl
  simp only [Finset.mem_filter, Finset.mem_range]
  omega

/-- A weight of the reference's, of a row of real scores. -/
theorem weight_at (Z : FVec Ideal S2x16x4096x4096 .f32) (x : ℕ → ℝ) (b : Fin 2) (h : Fin 16) (t s : Fin 4096)
    (hx : ∀ l : Fin 4096, Z (ix4 b h t l) = (x l.val : EReal)) :
    WEIGHT (LOGSIG Z) (UNDER (LOGSIG (Host.negf Z))) (ix4 b h t s) = ((WM x t.val s.val : ℝ) : EReal) := by
  have hd : ∀ l : Fin 4096, UNDER (LOGSIG (Host.negf Z)) (ix4 b h t l) = ((-DM x t.val l.val : ℝ) : EReal) := by
    intro l
    have e : SOFT Z (ix4 b h t l) = ((SPR (x l.val) : ℝ) : EReal) := soft_at Z _ _ (hx l)
    have e' : LOGSIG (Host.negf Z) (ix4 b h t l) = ((-SPR (x l.val) : ℝ) : EReal) := by
      have hn : Host.negf (Host.negf Z) = Z := funext fun j => neg_neg (Z j)
      show -(SOFT (Host.negf (Host.negf Z)) (ix4 b h t l)) = _
      rw [hn, e, EReal.coe_neg]
    rw [under_at, e']
    unfold DM
    by_cases hl : l.val < t.val
    · rw [if_pos hl, if_pos hl]
    · rw [if_neg hl, if_neg hl, neg_zero, EReal.coe_zero]
  show (if BEFORE (ix4 b h t s) = 1#1 then Ideal.exp (LOGSIG Z (ix4 b h t s)
    + (SUFFIX (UNDER (LOGSIG (Host.negf Z))) (ix4 b h t s) - UNDER (LOGSIG (Host.negf Z)) (ix4 b h t s))) else NOUGHT (ix4 b h t s)) = _
  rw [before_at, nought_at, logsig_at Z _ _ (hx s), suffix_at _ (fun l => ((-DM x t.val l : ℝ) : EReal)) b h t s hd, hd s]
  unfold WM
  by_cases hs : s.val < t.val
  · rw [if_pos hs, if_pos rfl, if_pos hs]
    have hsl := s.isLt
    rw [coe_sum, ← EReal.coe_sub, ← EReal.coe_add, Ideal.exp_coe, Finset.sum_eq_sum_Ico_succ_bot hsl, Finset.sum_neg_distrib]
    refine congrArg (fun y : ℝ => ((Real.exp y : ℝ) : EReal)) ?_
    ring
  · rw [if_neg hs, if_neg (by decide), if_neg hs, EReal.coe_zero]

theorem prod_at (P : FVec Ideal S2x16x4096x4096 .f32) (V : FVec Ideal S2x4096x2048 .f32) (b : Fin 2) (h : Fin 16) (t : Fin 4096) (d : Fin 128) :
    PROD P V (ix4 b h d t) = ∑ s : Fin 4096, V (ix3 b s ⟨h.val * 128 + d.val, by omega⟩) * P (ix4 b h t s) := by
  pointwise [PROD]

theorem flat_at (T : FVec Ideal S2x16x128x4096 .f32) (j : S2x4096x2048.Idx) (h : Fin 16) (d : Fin 128) (hj : (j 2 : ℕ) = h.val * 128 + d.val) :
    FLAT T j = T (ix4 (j 0) h d (j 1)) := by
  pointwise [FLAT]
  blk_ext

end Cert.KernelIdeal.Hand.Ref
-- ==== Proof.SbValue.lean ====
/- What the stick-breaking kernel leaves in its result array is the reference's, the queries, keys and biases being finite. -/
module

public import proofs.«01_k».proof.Proof.SbLoads
public import proofs.«01_k».proof.Proof.SbRef
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Ref (REF SCORE)

/-- The infinite word is not below itself. -/
theorem not_top_lt (φ : FTy) (x w : EReal) (hw : w = ⊤) (hx : FloatOps.cmpf (F := Ideal) (φ := φ) .olt x w = 1#1) : x ≠ ⊤ := by
  rintro rfl
  subst hw
  have e : decide ((⊤ : EReal) < ⊤) = false := decide_eq_false (lt_irrefl _)
  change BitVec.ofBool (decide ((⊤ : EReal) < ⊤)) = 1#1 at hx
  rw [e] at hx
  exact absurd hx (by decide)

/-- A number whose magnitude is below the infinite word's is real. -/
theorem real_of_lt (φ : FTy) (x w : EReal) (hw : w = ⊤) (hx : FloatOps.cmpf (F := Ideal) (φ := φ) .olt (max x (-x) : EReal) w = 1#1) :
    ∃ r : ℝ, x = (r : EReal) := by
  have h := not_top_lt φ _ w hw hx
  induction x with
  | coe r => exact ⟨r, rfl⟩
  | bot => exact absurd (by rw [EReal.neg_bot, max_eq_right bot_le]) h
  | top => exact absurd (by rw [EReal.neg_top, max_eq_left bot_le]) h

theorem outp_at (x : FVec Ideal S256x128 .f32) (y : S1x256x128.Idx) : OUTP x y = x (ix2 (y 1) (y 2)) := by
  unfold OUTP
  pointwise [k0_pay6]

section Core

variable (Q : FVec Ideal S2x4096x2048 .bf16) (K V : FVec Ideal S2x4096x2048 .f32) (B : FVec Ideal S16 .f32)

/-- A score's real number. -/
def XR (i : grid0.Coords) (b : Fin 2) (h : Fin 8) (r : Fin 256) (l : ℕ) : ℝ :=
  (SCORE Q K B (ix4 b (head i h) ⟨(i 2).val * 256 + r.val, by have : (i 2).val < 16 := (i 2).isLt; omega⟩ (Fin.ofNat 4096 l))).toReal

/-- Column `c` of a point's heads. -/
def wide (i : grid0.Coords) (c : Fin 1024) : Fin 2048 := ⟨(i 1).val * 1024 + c.val, by have : (i 1).val < 2 := (i 1).isLt; omega⟩

/-- Row `r` of a point's queries. -/
def qrow (i : grid0.Coords) (r : Fin 256) : Fin 4096 := ⟨(i 2).val * 256 + r.val, by have : (i 2).val < 16 := (i 2).isLt; omega⟩

theorem wide_col (i : grid0.Coords) (h : Fin 8) (e : Fin 128) (hlt : (head i h).val * 128 + e.val < 2048) :
    wide i (col h e) = ⟨(head i h).val * 128 + e.val, hlt⟩ := by
  refine Fin.ext ?_
  show (i 1).val * 1024 + (h.val * 128 + e.val) = ((i 1).val * 8 + h.val) * 128 + e.val
  omega

variable (hQ : ∀ j, ∃ r : ℝ, Q j = (r : EReal)) (hK : ∀ j, ∃ r : ℝ, K j = (r : EReal)) (hB : ∀ j, ∃ r : ℝ, B j = (r : EReal))
include hQ hK hB

/-- A finite score, and the kernel's of it in base 2. -/
theorem score_real (i : grid0.Coords) (b : Fin 2) (h : Fin 8) (t s : Fin 4096) :
    ∃ z : ℝ, SCORE Q K B (ix4 b (head i h) t s) = (z : EReal)
      ∧ (∑ e : Fin 128, Q (ix3 b t (wide i (col h e))) * K (ix3 b s (wide i (col h e)))) * ((((11863283 / 134217728) * (Real.log 2)⁻¹ : ℝ)) : EReal)
        + B (ix1 (head i h)) * (((Real.log 2)⁻¹ : ℝ) : EReal) = ((z / Real.log 2 : ℝ) : EReal) := by
  choose q hq using hQ
  choose k hk using hK
  choose β hβ using hB
  have eS : (∑ e : Fin 128, Q (ix3 b t (wide i (col h e))) * K (ix3 b s (wide i (col h e))))
      = ((∑ e : Fin 128, q (ix3 b t (wide i (col h e))) * k (ix3 b s (wide i (col h e))) : ℝ) : EReal) := by
    rw [← coe_sum]
    exact Finset.sum_congr rfl fun e _ => by rw [hq, hk, EReal.coe_mul]
  refine ⟨(∑ e : Fin 128, q (ix3 b t (wide i (col h e))) * k (ix3 b s (wide i (col h e)))) * (11863283 / 134217728) + β (ix1 (head i h)), ?_, ?_⟩
  · refine (Ref.score_at Q K B b (head i h) t s).trans ?_
    rw [EReal.coe_add, EReal.coe_mul, ← eS, hβ, Ref.scale_val]
    refine congrArg (· * _ + _) (Finset.sum_congr rfl fun e _ => ?_)
    rw [wide_col]
  · rw [eS, hβ, ← EReal.coe_mul, ← EReal.coe_mul, ← EReal.coe_add]
    refine congrArg _ ?_
    ring

variable {arg3 : Memref sig .tc .smem S16 .f32} (harg3 : arg3.IsWhole)
  {arg4 : Memref sig .tc .vmem S1x256x1024 .bf16} (harg4 : arg4.IsWhole) {arg5 : Memref sig .tc .vmem S1x4096x1024 .f32} (harg5 : arg5.IsWhole)
  {arg6 : Memref sig .tc .vmem S1x4096x1024 .f32} (harg6 : arg6.IsWhole)

/-- A head's sum at the walk's end is the reference's entry. -/
theorem acc_val (i : grid0.Coords) (b : Fin 2) (x0 : Vec Ideal S16 .f32) (x1 : Vec Ideal S1x256x1024 .bf16) (x2 x3 : Vec Ideal S1x4096x1024 .f32)
    (h0 : ∀ n : Fin 16, x0 (ix1 n) = B (ix1 n)) (h1 : ∀ (r : Fin 256) (c : Fin 1024), x1 (ix3 0 r c) = Q (ix3 b (qrow i r) (wide i c)))
    (h2 : ∀ (l : Fin 4096) (c : Fin 1024), x2 (ix3 0 l c) = K (ix3 b l (wide i c)))
    (h3 : ∀ (l : Fin 4096) (c : Fin 1024), x3 (ix3 0 l c) = V (ix3 b l (wide i c)))
    (h : Fin 8) (r : Fin 256) (e : Fin 128) (j : S2x4096x2048.Idx) (j0 : (j 0 : ℕ) = b) (j1 : (j 1 : ℕ) = (i 2).val * 256 + r.val)
    (j2 : (j 2 : ℕ) = (i 1).val * 1024 + (h.val * 128 + e.val)) :
    (FINAL i (QS arg4 (harg4.unread x1)) (BS i arg3 (harg3.unread x0)) arg5 arg6 (harg5.unread x2) (harg6.unread x3)).acc h (ix2 r e)
      = REF Q K V B j := by
  have hx : ∀ (h : Fin 8) (r : Fin 256) (l : Fin 4096), SCORE Q K B (ix4 b (head i h) (qrow i r) l) = ((XR Q K B i b h r l.val : ℝ) : EReal) := by
    intro h r l
    obtain ⟨z, hz, _⟩ := score_real Q K B hQ hK hB i b h (qrow i r) l
    unfold XR
    have el : Fin.ofNat 4096 l.val = l := Fin.ext (Nat.mod_eq_of_lt l.isLt)
    rw [el]
    show _ = ((SCORE Q K B (ix4 b (head i h) (qrow i r) l)).toReal : EReal)
    rw [hz, EReal.toReal_coe]
  have hI := inv_final harg5 harg6 x2 x3 i (QS arg4 (harg4.unread x1)) (BS i arg3 (harg3.unread x0)) (XR Q K B i b) (fun k n hn hk h r j => by
    obtain ⟨z, hz, hz'⟩ := score_real Q K B hQ hK hB i b h (qrow i r) (Fin.ofNat 4096 (n + j.val))
    have ez : XR Q K B i b h r (n + j.val) = z := by
      unfold XR
      show (SCORE Q K B (ix4 b (head i h) (qrow i r) (Fin.ofNat 4096 (n + j.val)))).toReal = z
      rw [hz, EReal.toReal_coe]
    rw [scores_at, bs_at, h0, ez, ← hz']
    refine congrArg (· * _ + _) (Finset.sum_congr rfl fun e _ => ?_)
    rw [qs_at, hk, h1, h2])
  rw [(hI h r).2 e]
  have hj : j = ix3 b (qrow i r) (j 2) := by
    funext a
    match a with
    | ⟨0, _⟩ => exact Fin.ext j0
    | ⟨1, _⟩ => exact Fin.ext j1
    | ⟨2, _⟩ => rfl
  have e0 : j 0 = b := Fin.ext j0
  have e1 : j 1 = qrow i r := Fin.ext j1
  unfold REF
  refine Eq.trans ?_ ((Ref.flat_at _ j (head i h) e (j2.trans (by show _ = ((i 1).val * 8 + h.val) * 128 + e.val; omega))).trans
    ((congrArg₂ (fun p t => Ref.PROD _ V (ix4 p (head i h) e t)) e0 e1).trans (Ref.prod_at _ V b (head i h) (qrow i r) e))).symm
  rw [← Finset.range_eq_Ico, Finset.sum_range]
  refine Finset.sum_congr rfl fun s _ => ?_
  rw [mul_comm, Ref.weight_at (SCORE Q K B) (XR Q K B i b h r) b (head i h) (qrow i r) s (hx h r)]
  refine congrArg (· * _) ?_
  unfold VAL
  have el : Fin.ofNat 4096 s.val = s := Fin.ext (Nat.mod_eq_of_lt s.isLt)
  rw [h3, el, wide_col]

end Core

theorem idx : ∀ t : Fin cfg0.N, win0_0.index t = ![0]
    ∧ win0_1.index t = ![(grid0.coords t 0).val, (grid0.coords t 2).val, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, (grid0.coords t 2).val, (grid0.coords t 1).val] :=
  (by decide +kernel : ∀ t : Fin grid0.N, _)

variable (m : (ℓ : Loc nD τ sig) → Buf (Elt Ideal) ℓ)

/-- A piece of what the body leaves. -/
theorem piece (c : Dev nD) (t : Fin cfg0.N)
    (hQ : ∀ j, ∃ r : ℝ, m ((c : Thread nD τ).loc main_arg0) j = (r : EReal)) (hK : ∀ j, ∃ r : ℝ, m ((c : Thread nD τ).loc main_arg1) j = (r : EReal))
    (hB : ∀ j, ∃ r : ℝ, m ((c : Thread nD τ).loc main_arg3) j = (r : EReal))
    {arg3 : Memref sig .tc .smem S16 .f32} (harg3 : arg3.IsWhole)
    {arg4 : Memref sig .tc .vmem S1x256x1024 .bf16} (harg4 : arg4.IsWhole) {arg5 : Memref sig .tc .vmem S1x4096x1024 .f32} (harg5 : arg5.IsWhole)
    {arg6 : Memref sig .tc .vmem S1x4096x1024 .f32} (harg6 : arg6.IsWhole)
    (h : Fin 8) (x : S1x256x128.Idx) (j : S2x4096x2048.Idx) (j0 : (j 0 : ℕ) = (grid0.coords t 0).val)
    (j1 : (j 1 : ℕ) = (grid0.coords t 2).val * 256 + ((x 1 : Fin 256) : ℕ))
    (j2 : (j 2 : ℕ) = (grid0.coords t 1).val * 1024 + (h.val * 128 + ((x 2 : Fin 128) : ℕ))) :
    OUTP ((FINAL (grid0.coords t) (QS arg4 (harg4.unread (iblk m c 1 t))) (BS (grid0.coords t) arg3 (harg3.unread (iblk m c 0 t))) arg5 arg6
        (harg5.unread (iblk m c 2 t)) (harg6.unread (iblk m c 3 t))).acc h) x
      = REF (m ((c : Thread nD τ).loc main_arg0)) (m ((c : Thread nD τ).loc main_arg1)) (m ((c : Thread nD τ).loc main_arg2))
        (m ((c : Thread nD τ).loc main_arg3)) j := by
  refine (outp_at _ x).trans (acc_val _ _ _ _ hQ hK hB harg3 harg4 harg5 harg6 (grid0.coords t) (grid0.coords t 0) _ _ _ _ ?_ ?_ ?_ ?_ h (x 1) (x 2) j j0 j1 j2)
  · intro n; blk_point [iblk, V, idx t]
  · intro r k; blk_point [iblk, V, idx t] <;> rfl
  · intro l k; blk_point [iblk, V, idx t] <;> rfl
  · intro l k; blk_point [iblk, V, idx t] <;> rfl

theorem point (c : Dev nD) (t : Fin cfg0.N)
    (hQ : ∀ j, ∃ r : ℝ, m ((c : Thread nD τ).loc main_arg0) j = (r : EReal)) (hK : ∀ j, ∃ r : ℝ, m ((c : Thread nD τ).loc main_arg1) j = (r : EReal))
    (hB : ∀ j, ∃ r : ℝ, m ((c : Thread nD τ).loc main_arg3) j = (r : EReal)) (y) :
    outAt m c t y
      = REF (m ((c : Thread nD τ).loc main_arg0)) (m ((c : Thread nD τ).loc main_arg1)) (m ((c : Thread nD τ).loc main_arg2))
        (m ((c : Thread nD τ).loc main_arg3)) (((cfg0.win 4).blk t).view.emb y) := by
  unfold outAt
  rw [out_final]
  unfold PIECES
  canon_tiles x h
  · refine piece m c t hQ hK hB _ _ _ _ 7 x _ ?_ ?_ ?_ <;> blk_simp [idx t] <;> omega
  · refine piece m c t hQ hK hB _ _ _ _ 6 x _ ?_ ?_ ?_ <;> blk_simp [idx t] <;> omega
  · refine piece m c t hQ hK hB _ _ _ _ 5 x _ ?_ ?_ ?_ <;> blk_simp [idx t] <;> omega
  · refine piece m c t hQ hK hB _ _ _ _ 4 x _ ?_ ?_ ?_ <;> blk_simp [idx t] <;> omega
  · refine piece m c t hQ hK hB _ _ _ _ 3 x _ ?_ ?_ ?_ <;> blk_simp [idx t] <;> omega
  · refine piece m c t hQ hK hB _ _ _ _ 2 x _ ?_ ?_ ?_ <;> blk_simp [idx t] <;> omega
  · refine piece m c t hQ hK hB _ _ _ _ 1 x _ ?_ ?_ ?_ <;> blk_simp [idx t] <;> omega
  · refine piece m c t hQ hK hB _ _ _ _ 0 x _ ?_ ?_ ?_ <;> blk_simp [idx t] <;> omega

theorem inf_bf16 : Ideal.ofBits .bf16 0x7F80#16 = ⊤ := by
  show Ideal.ieee 8 7 0x7F80#16 = ⊤
  unfold Ideal.ieee
  simp

theorem inf_f32 : Ideal.ofBits .f32 0x7F800000#32 = ⊤ := by
  show Ideal.ieee 8 23 0x7F800000#32 = ⊤
  unfold Ideal.ieee
  simp

/-- What the kernel leaves in its result array, its queries, keys and biases finite. -/
theorem final [Cert.Pre_finite.Facts] (hpre : Cert.Pre_KernelIdeal_finite m) (c : Dev nD) : (dats m 0 c).arrAt 4 (cfgs 0).N
    = REF (m ((c : Thread nD τ).loc main_arg0)) (m ((c : Thread nD τ).loc main_arg1)) (m ((c : Thread nD τ).loc main_arg2))
      (m ((c : Thread nD τ).loc main_arg3)) := by
  obtain ⟨p0, p1, p2⟩ := hpre c
  have hQ : ∀ j, ∃ r : ℝ, m ((c : Thread nD τ).loc main_arg0) j = (r : EReal) := fun j =>
    real_of_lt .bf16 _ _ inf_bf16 (congrFun p0 j)
  have hK : ∀ j, ∃ r : ℝ, m ((c : Thread nD τ).loc main_arg1) j = (r : EReal) := fun j =>
    real_of_lt .f32 _ _ inf_f32 (congrFun p1 j)
  have hB : ∀ j, ∃ r : ℝ, m ((c : Thread nD τ).loc main_arg3) j = (r : EReal) := fun j =>
    real_of_lt .f32 _ _ inf_f32 (congrFun p2 j)
  refine (dats m 0 c).arrAt_eq_of_covers 4 _ (by decide +kernel) fun t _ y => ?_
  blk_simp
  rw [after0_4]
  exact point m c t hQ hK hB y

end Cert.KernelIdeal.Hand
-- ==== Proof.SampleOutValue.lean ====
/- What the SSD layer's output projection leaves in its result array when its rows are the sample's: one block of rows. -/
module

public import proofs.«01_k».proof.Proof.Gen.SampleOutIdeal.Value
public import proofs.«01_k».proof.Proof.Gen.SampleOutReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleOutIdeal.Hand

open Cert.SampleOutIdeal Cert.SampleOutIdeal.Gen

variable (m : (ℓ : Loc nD τ sig) → Buf (Elt Ideal) ℓ)

/-- The reference's result as a function of the four arguments. -/
abbrev REF (X : FVec Ideal S1024x2048 .f32) (A : FVec Ideal S1024x4096 .bf16) (B : FVec Ideal S1024x2048 .bf16)
    (W : FVec Ideal S1x6144x2048 .f32) : FVec Ideal S1024x2048 .f32 :=
  addf X (Host.dotGeneral Cert.SampleOutReferenceIdeal.dot_S1024x6144_S6144x2048_S1024x2048_1_0_0_1_n_n none
    (concatenate Cert.SampleOutReferenceIdeal.S1024x6144 1
      [⟨S1024x4096, extf .f32 A Cert.SampleOutReferenceIdeal.Gen.bitsLt_bf16_f32⟩, ⟨S1024x2048, extf .f32 B Cert.SampleOutReferenceIdeal.Gen.bitsLt_bf16_f32⟩]
      Cert.SampleOutReferenceIdeal.Gen.concatenates_S1024x4096_S1024x2048_S1024x6144_d1)
    (shapeCast Cert.SampleOutReferenceIdeal.S6144x2048 W Cert.SampleOutReferenceIdeal.Gen.shapeCasts_S1x6144x2048_S6144x2048))

theorem idx : ∀ t : Fin cfg0.N, win0_0.index t = ![t.val / 8, t.val % 8] ∧ win0_1.index t = ![t.val / 8, 0] ∧ win0_2.index t = ![t.val / 8, 0]
    ∧ win0_3.index t = ![0, 0, t.val % 8] ∧ win0_4.index t = ![0, 2, t.val % 8] ∧ win0_5.index t = ![t.val / 8, t.val % 8] :=
  (by decide +kernel : ∀ t : Fin grid0.N, _)

/-- The weights' first block, stated whole, is the array's columns there. -/
theorem first_rows (c : Dev nD) (t : Fin cfg0.N) (k : Fin 4096) (l : Fin 256) (h : t.val % 8 * 256 + l.val < 2048) :
    X0_3 m c t (ix3 0 k l) = m ((c : Thread nD τ).loc main_arg3) (ix3 0 ⟨k.val, by omega⟩ ⟨t.val % 8 * 256 + l.val, h⟩) := by
  unfold X0_3 Pipeline.Window.fill
  rw [dif_pos (moved0_3 t _)]
  blk_ext [iblk, V, idx t]

theorem point (c : Dev nD) (t : Fin cfg0.N) (y) :
    k0_pay1 (iblk m c 0 t) (iblk m c 1 t) (X0_3 m c t) (iblk m c 2 t) (iblk m c 4 t) y
      = REF (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REF]
  refine (add_assoc (_ : EReal) _ _).trans ?_
  have hy : t.val % 8 * 256 + (y 1).val < 2048 := by have h1 : (y 1).val < 256 := (y 1).isLt; omega
  have hx : ∀ k : Fin 4096, X0_3 m c t (ix3 0 k (y 1)) = m ((c : Thread nD τ).loc main_arg3) (ix3 0 ⟨k.val, by omega⟩ ⟨t.val % 8 * 256 + (y 1).val, hy⟩) :=
    fun k => first_rows m c t k (y 1) hy
  simp only [hx]
  blk_point [iblk, V, idx t]

theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; unfold outsAt0; frame_out
  exact point m c t y

end Cert.SampleOutIdeal.Hand

end
-- ==== Proof.SampleSbOutValue.lean ====
/- What the stick-breaking layer's output projection leaves in its result array when its rows are the sample's: one block
   of rows. -/
module

public import proofs.«01_k».proof.Proof.Gen.SampleSbOutIdeal.Value
public import proofs.«01_k».proof.Proof.Gen.SampleSbOutReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleSbOutIdeal.Hand

open Cert.SampleSbOutIdeal Cert.SampleSbOutIdeal.Gen

variable (m : (ℓ : Loc nD τ sig) → Buf (Elt Ideal) ℓ)

/-- The reference's result as a function of the four arguments. -/
abbrev REF (X : FVec Ideal S1024x2048 .f32) (A : FVec Ideal S1024x2048 .bf16) (B : FVec Ideal S1024x2048 .bf16)
    (W : FVec Ideal S1x4096x2048 .f32) : FVec Ideal S1024x2048 .f32 :=
  addf X (Host.dotGeneral Cert.SampleSbOutReferenceIdeal.dot_S1024x4096_S4096x2048_S1024x2048_1_0_0_1_n_n none
    (concatenate Cert.SampleSbOutReferenceIdeal.S1024x4096 1
      [⟨S1024x2048, extf .f32 A Cert.SampleSbOutReferenceIdeal.Gen.bitsLt_bf16_f32⟩, ⟨S1024x2048, extf .f32 B Cert.SampleSbOutReferenceIdeal.Gen.bitsLt_bf16_f32⟩]
      Cert.SampleSbOutReferenceIdeal.Gen.concatenates_S1024x2048_S1024x2048_S1024x4096_d1)
    (shapeCast Cert.SampleSbOutReferenceIdeal.S4096x2048 W Cert.SampleSbOutReferenceIdeal.Gen.shapeCasts_S1x4096x2048_S4096x2048))

theorem idx : ∀ t : Fin cfg0.N, win0_0.index t = ![t.val / 8, t.val % 8] ∧ win0_1.index t = ![t.val / 8, 0] ∧ win0_2.index t = ![t.val / 8, 0]
    ∧ win0_3.index t = ![0, 0, t.val % 8] ∧ win0_4.index t = ![0, 1, t.val % 8] ∧ win0_5.index t = ![t.val / 8, t.val % 8] :=
  (by decide +kernel : ∀ t : Fin grid0.N, _)

theorem point (c : Dev nD) (t : Fin cfg0.N) (y) :
    k0_pay1 (iblk m c 0 t) (iblk m c 1 t) (iblk m c 3 t) (iblk m c 2 t) (iblk m c 4 t) y
      = REF (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REF]
  refine (add_assoc (_ : EReal) _ _).trans ?_
  blk_point [iblk, V, idx t]

theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point m c t y

end Cert.SampleSbOutIdeal.Hand

end
-- ==== Proof.SampleHalfValue.lean ====
/- What the feed-forward block without the final normalisation leaves in its result array when its rows are the sample's:
   one block of rows. -/
module

public import proofs.«01_k».proof.Proof.Gen.SampleHalfIdeal.Value
public import proofs.«01_k».proof.Proof.Gen.SampleHalfReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleHalfIdeal.Hand

open Cert.SampleHalfIdeal Cert.SampleHalfIdeal.Gen

variable (m : (ℓ : Loc nD τ sig) → Buf (Elt Ideal) ℓ)

/-- The reference's normalisation of every row. -/
def NORM (X : FVec Ideal S1024x2048 .f32) (G : FVec Ideal S2048 .f32) : FVec Ideal S1024x2048 .f32 :=
  mulf (mulf X (broadcastInDim S1024x2048 ![0, 1] Cert.SampleHalfReferenceIdeal.Gen.bcast_S1024x1_S1024x2048_0_1
    (Host.rsqrt (addf (Host.divf
      (broadcastInDim Cert.SampleHalfReferenceIdeal.S1024x1 ![0] Cert.SampleHalfReferenceIdeal.Gen.bcast_S1024_S1024x1_0
        (Host.reduceAdd (mulf X X) (constant Cert.SampleHalfReferenceIdeal.S_ .f32 0x00000000#32)
          Cert.SampleHalfReferenceIdeal.Gen.reducesTo_S1024x2048_S1024_d1 Cert.SampleHalfReferenceIdeal.Gen.h_S_))
      (broadcastInDim Cert.SampleHalfReferenceIdeal.S1024x1 ![] Cert.SampleHalfReferenceIdeal.Gen.bcast_S_S1024x1
        (constant Cert.SampleHalfReferenceIdeal.S_ .f32 0x45000000#32)))
      (broadcastInDim Cert.SampleHalfReferenceIdeal.S1024x1 ![] Cert.SampleHalfReferenceIdeal.Gen.bcast_S_S1024x1
        (constant Cert.SampleHalfReferenceIdeal.S_ .f32 0x358637BD#32))))))
    (broadcastInDim S1024x2048 ![0, 1] Cert.SampleHalfReferenceIdeal.Gen.bcast_S1x2048_S1024x2048_0_1
      (broadcastInDim S1x2048 ![1] Cert.SampleHalfReferenceIdeal.Gen.bcast_S2048_S1x2048_1 G))

/-- Gate and up projection, side by side, of normalised rows `H`. -/
abbrev BOTH (H : FVec Ideal S1024x2048 .f32) (W : FVec Ideal S2x2048x11264 .f32) : FVec Ideal Cert.SampleHalfReferenceIdeal.S1024x11264 .f32 :=
  Host.dotGeneral Cert.SampleHalfReferenceIdeal.dot_S1024x2048_S2048x11264_S1024x11264_1_0_0_1_n_n none H
    (shapeCast Cert.SampleHalfReferenceIdeal.S2048x11264
      (extractStridedSlice Cert.SampleHalfReferenceIdeal.S1x2048x11264 ![0, 0, 0] W Cert.SampleHalfReferenceIdeal.Gen.slices_S2x2048x11264_S1x2048x11264_0_0_0)
      Cert.SampleHalfReferenceIdeal.Gen.shapeCasts_S1x2048x11264_S2048x11264)

/-- The hidden columns: the gate through the sigmoid-weighted unit, times the up projection. -/
def HID (H : FVec Ideal S1024x2048 .f32) (W : FVec Ideal S2x2048x11264 .f32) : FVec Ideal Cert.SampleHalfReferenceIdeal.S1024x5632 .f32 :=
  mulf (mulf (extractStridedSlice Cert.SampleHalfReferenceIdeal.S1024x5632 ![0, 0] (BOTH H W) Cert.SampleHalfReferenceIdeal.Gen.slices_S1024x11264_S1024x5632_0_0)
      (Host.divf (broadcastInDim Cert.SampleHalfReferenceIdeal.S1024x5632 ![] Cert.SampleHalfReferenceIdeal.Gen.bcast_S_S1024x5632 (constant Cert.SampleHalfReferenceIdeal.S_ .f32 0x3F800000#32))
        (addf (broadcastInDim Cert.SampleHalfReferenceIdeal.S1024x5632 ![] Cert.SampleHalfReferenceIdeal.Gen.bcast_S_S1024x5632 (constant Cert.SampleHalfReferenceIdeal.S_ .f32 0x3F800000#32))
          (Host.exp (Host.negf (extractStridedSlice Cert.SampleHalfReferenceIdeal.S1024x5632 ![0, 0] (BOTH H W) Cert.SampleHalfReferenceIdeal.Gen.slices_S1024x11264_S1024x5632_0_0))))))
    (extractStridedSlice Cert.SampleHalfReferenceIdeal.S1024x5632 ![0, 5632] (BOTH H W) Cert.SampleHalfReferenceIdeal.Gen.slices_S1024x11264_S1024x5632_0_5632)

/-- The residual plus half the output projection of the hidden columns. -/
def SUM (X : FVec Ideal S1024x2048 .f32) (D : FVec Ideal Cert.SampleHalfReferenceIdeal.S1024x5632 .f32) (O : FVec Ideal S2x5632x2048 .f32) :
    FVec Ideal S1024x2048 .f32 :=
  addf X (mulf (broadcastInDim S1024x2048 ![] Cert.SampleHalfReferenceIdeal.Gen.bcast_S_S1024x2048 (constant Cert.SampleHalfReferenceIdeal.S_ .f32 0x3F000000#32))
    (Host.dotGeneral Cert.SampleHalfReferenceIdeal.dot_S1024x5632_S5632x2048_S1024x2048_1_0_0_1_n_n none D
      (shapeCast Cert.SampleHalfReferenceIdeal.S5632x2048
        (extractStridedSlice Cert.SampleHalfReferenceIdeal.S1x5632x2048 ![0, 0, 0] O Cert.SampleHalfReferenceIdeal.Gen.slices_S2x5632x2048_S1x5632x2048_0_0_0)
        Cert.SampleHalfReferenceIdeal.Gen.shapeCasts_S1x5632x2048_S5632x2048)))

/-- The reference's result as a function of the four arguments. -/
abbrev REF (X : FVec Ideal S1024x2048 .f32) (G : FVec Ideal S2048 .f32) (W : FVec Ideal S2x2048x11264 .f32)
    (O : FVec Ideal S2x5632x2048 .f32) : FVec Ideal S1024x2048 .f32 :=
  SUM X (HID (NORM X G) W) O

theorem idx : ∀ t : Fin cfg0.N, win0_0.index t = ![0, 0] ∧ win0_1.index t = ![0, 0, t.val % 11]
    ∧ win0_2.index t = ![0, 0, 11 + t.val % 11] ∧ win0_3.index t = ![0, t.val % 11, 0] ∧ win0_4.index t = ![0, 0]
    ∧ win0_5.index t = ![t.val / 11, 0] ∧ win0_6.index t = ![t.val / 11, 0] :=
  (by decide +kernel : ∀ t : Fin grid0.N, _)

/-- The reference's normalised rows of the arguments. -/
abbrev rowsR (c : Dev nD) : FVec Ideal S1024x2048 .f32 :=
  NORM (m ((c : Thread nD τ).loc main_arg0)) (m ((c : Thread nD τ).loc main_arg1))

/-- The reference's hidden columns of the arguments. -/
abbrev hidR (c : Dev nD) : FVec Ideal Cert.SampleHalfReferenceIdeal.S1024x5632 .f32 :=
  HID (rowsR m c) (m ((c : Thread nD τ).loc main_arg2))

/-- A row block's normalised rows are the reference's. -/
theorem rows (c : Dev nD) (t : Fin cfg0.N) (y : S1024x2048.Idx) (j : S1024x2048.Idx)
    (h0 : (j 0 : ℕ) = t.val / 11 * 1024 + y 0) (h1 : (j 1 : ℕ) = y 1) :
    k0_pay1 (iblk m c 5 t) (iblk m c 0 t) y = rowsR m c j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 11 * 1024 + y 0) (h1 : (j 1 : ℕ) = y 1), (outsAt0 m c n hn).2 y = rowsR m c j := by
  intro n
  induction n with
  | zero =>
    intro hn y j h0 h1
    rw [outsAt0_A m c ⟨0, hn⟩ (by rfl) (show ¬ (0 : ℕ) % 11 = 10 by decide)]
    frame_out
    exact rows m c ⟨0, hn⟩ y j h0 h1
  | succ n ih =>
    intro hn y j h0 h1
    by_cases h : (n + 1) % 11 = 0
    · rw [outsAt0_A m c ⟨n + 1, hn⟩ h (show ¬ (n + 1) % 11 = 10 by omega)]
      frame_out
      exact rows m c ⟨n + 1, hn⟩ y j h0 h1
    · have e : (n + 1) / 11 = n / 11 := by omega
      by_cases h' : (n + 1) % 11 = 10
      · rw [outsAt0_C m c ⟨n + 1, hn⟩ h h']
        frame_out
        exact ih _ y j (by rw [← e]; exact h0) h1
      · rw [outsAt0_B m c ⟨n + 1, hn⟩ h h']
        frame_out
        exact ih _ y j (by rw [← e]; exact h0) h1

/-- One hidden block's part of the output projection. -/
def part (c : Dev nD) (j : S1024x2048.Idx) (s : Fin 11) : EReal :=
  ∑ k : Fin 512, hidR m c (ix2 (j 0) ⟨s.val * 512 + k.val, by omega⟩)
    * (show FVec Ideal S2x5632x2048 .f32 from m ((c : Thread nD τ).loc main_arg3)) (ix3 0 ⟨s.val * 512 + k.val, by omega⟩ (j 1))

/-- The accumulating payload over the normalised rows adds one hidden block's part. -/
theorem step (c : Dev nD) (t : Fin cfg0.N) (S : FVec Ideal S1024x2048 .bf16) (acc : FVec Ideal S1024x2048 .f32) (y : S1024x2048.Idx)
    (j : S1024x2048.Idx) (h0 : (j 0 : ℕ) = t.val / 11 * 1024 + y 0) (h1 : (j 1 : ℕ) = y 1)
    (hS : ∀ k, S (ix2 (y 0) k) = rowsR m c (ix2 (j 0) k)) :
    k0_pay3 S (iblk m c 1 t) (iblk m c 2 t) acc (iblk m c 3 t) y = acc y + part m c j ⟨t.val % 11, Nat.mod_lt _ (by decide)⟩ := by
  unfold part hidR
  pointwise [k0_pay3, HID]
  simp only [hS]
  simp only [Ideal.logistic]
  blk_point [iblk, V, idx t]

/-- The parts of the first `n` hidden blocks, added up. -/
def parts (c : Dev nD) (j : S1024x2048.Idx) (n : ℕ) : EReal :=
  ∑ s ∈ Finset.range n, if h : s < 11 then part m c j ⟨s, h⟩ else 0

theorem parts_zero (c : Dev nD) (j : S1024x2048.Idx) : parts m c j 0 = 0 := Finset.sum_range_zero _

theorem parts_succ (c : Dev nD) (j : S1024x2048.Idx) (n : ℕ) (h : n < 11) :
    parts m c j (n + 1) = parts m c j n + part m c j ⟨n, h⟩ := by
  unfold parts
  rw [Finset.sum_range_succ, dif_pos h]

/-- All parts together are the one product over every hidden column. -/
theorem parts_all (c : Dev nD) (j : S1024x2048.Idx) :
    parts m c j 11 = ∑ l : Fin 5632, hidR m c (ix2 (j 0) l)
      * (show FVec Ideal S2x5632x2048 .f32 from m ((c : Thread nD τ).loc main_arg3)) (ix3 0 l (j 1)) := by
  have e : parts m c j 11 = ∑ s : Fin 11, part m c j s := by
    unfold parts
    rw [Finset.sum_range]
    exact Finset.sum_congr rfl fun s _ => dif_pos s.isLt
  rw [e]
  unfold part
  exact Fin.sum_mul_add_congr fun s k hl => rfl

/-- Before a row block's last point the output block holds the parts so far. -/
theorem partial_sum (c : Dev nD) : ∀ (n : ℕ) (hn : n < cfg0.N) (hl : n % 11 < 10) (y : S1024x2048.Idx) (j : S1024x2048.Idx)
    (h0 : (j 0 : ℕ) = n / 11 * 1024 + y 0) (h1 : (j 1 : ℕ) = y 1), (outsAt0 m c n hn).1 y = parts m c j (n % 11 + 1) := by
  intro n
  induction n with
  | zero =>
    intro hn hl y j h0 h1
    rw [outsAt0_A m c ⟨0, hn⟩ (by rfl) (show ¬ (0 : ℕ) % 11 = 10 by decide)]
    frame_out
    rw [step m c ⟨0, hn⟩ _ _ y j h0 h1 (fun k => rows m c ⟨0, hn⟩ _ _ h0 rfl), parts_succ m c j 0 (by decide), parts_zero]
    pointwise [k0_pay2]
  | succ n ih =>
    intro hn hl y j h0 h1
    by_cases h : (n + 1) % 11 = 0
    · rw [outsAt0_A m c ⟨n + 1, hn⟩ h (show ¬ (n + 1) % 11 = 10 by omega)]
      frame_out
      rw [step m c ⟨n + 1, hn⟩ _ _ y j h0 h1 (fun k => rows m c ⟨n + 1, hn⟩ _ _ h0 rfl)]
      simp only [h]
      rw [parts_succ m c j 0 (by decide), parts_zero]
      pointwise [k0_pay2]
    · have e : (n + 1) / 11 = n / 11 := by omega
      have e' : (n + 1) % 11 = n % 11 + 1 := by omega
      have h0' : (j 0 : ℕ) = n / 11 * 1024 + y 0 := by rw [← e]; exact h0
      rw [outsAt0_B m c ⟨n + 1, hn⟩ h (show ¬ (n + 1) % 11 = 10 by omega)]
      frame_out
      refine (congrArg (fun S => k0_pay3 S (iblk m c 1 ⟨n + 1, hn⟩) (iblk m c 2 ⟨n + 1, hn⟩) (outsAt0 m c n (by omega)).1
        (iblk m c 3 ⟨n + 1, hn⟩) y) (Memref.IsWhole.read_unread _ _)).trans ?_
      change k0_pay3 (outsAt0 m c n (by omega)).2 _ _ _ _ y = _
      rw [step m c ⟨n + 1, hn⟩ _ _ y j h0 h1 (fun k => scratch m c n _ _ _ h0' rfl), parts_succ m c j _ (by omega)]
      refine congrArg₂ (· + ·) ?_ rfl
      rw [e']
      exact ih _ (by omega) y j h0' h1

/-- What a row block's last point leaves before the residual: all parts. -/
theorem full_sum (c : Dev nD) (t : Fin cfg0.N) (h : ¬ t.val % 11 = 0) (h' : t.val % 11 = 10) (y : S1024x2048.Idx) (j : S1024x2048.Idx)
    (h0 : (j 0 : ℕ) = t.val / 11 * 1024 + y 0) (h1 : (j 1 : ℕ) = y 1) :
    k0_pay3 (outsAt0 m c (t.val - 1) (by omega)).2 (iblk m c 1 t) (iblk m c 2 t) (outsAt0 m c (t.val - 1) (by omega)).1 (iblk m c 3 t) y
      = parts m c j 11 := by
  have e : t.val / 11 = (t.val - 1) / 11 := by omega
  have h0' : (j 0 : ℕ) = (t.val - 1) / 11 * 1024 + y 0 := by rw [← e]; exact h0
  rw [step m c t _ _ y j h0 h1 (fun k => scratch m c (t.val - 1) _ _ _ h0' rfl), parts_succ m c j 10 (by decide),
    partial_sum m c (t.val - 1) _ (by omega) y j h0' h1]
  have e1 : (t.val - 1) % 11 + 1 = 10 := by omega
  simp only [e1, h']

theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have h' : t.val % 11 = 10 := (flush0_6 t).mp hf
  have h : ¬ t.val % 11 = 0 := by omega
  blk_simp
  rw [after0_6, outsAt0_C m c t h h']
  frame_out
  have hn : t.val - 1 < cfg0.N := lt_of_le_of_lt (Nat.sub_le _ _) t.isLt
  obtain ⟨S, hS⟩ : ∃ S, S = k0_pay3 (outsAt0 m c (t.val - 1) hn).2 (iblk m c 1 t) (iblk m c 2 t) (outsAt0 m c (t.val - 1) hn).1
    (iblk m c 3 t) := ⟨_, rfl⟩
  refine (congrArg (fun S => k0_pay4 (iblk m c 5 t) S y) ((congrArg (fun S => k0_pay3 S (iblk m c 1 t) (iblk m c 2 t)
    (outsAt0 m c (t.val - 1) hn).1 (iblk m c 3 t)) (Memref.IsWhole.read_unread _ _)).trans hS.symm)).trans ?_
  have hs := fun y j h0 h1 => (congrFun hS y).trans ((full_sum m c t h h' y j h0 h1).trans (parts_all m c j))
  clear hS
  change _ = SUM (m ((c : Thread nD τ).loc main_arg0)) (hidR m c) (m ((c : Thread nD τ).loc main_arg3)) _
  generalize hidR m c = D at hs ⊢
  have hy : S y = _ := hs y (((cfg0.win 6).blk t).view.emb y) (by blk_simp [idx t]) (by blk_simp [idx t])
  pointwise [k0_pay4, SUM]
  rw [hy]
  blk_point [iblk, V, idx t]

end Cert.SampleHalfIdeal.Hand

end
-- ==== Proof.SampleGateValue.lean ====
/- What the projection leaves in its result array when its rows are the sample's and its columns the gate's. -/
module

public import proofs.«01_k».proof.Proof.Gen.SampleGateIdeal.Value
public import proofs.«01_k».proof.Proof.Gen.SampleGateReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleGateIdeal.Hand

open Cert.SampleGateIdeal Cert.SampleGateIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleGateReferenceIdeal.Gen.bcast_S1024x1_S1024x2048_0_1
    (Host.rsqrt (addf (Host.divf
      (broadcastInDim Cert.SampleGateReferenceIdeal.S1024x1 ![0] Cert.SampleGateReferenceIdeal.Gen.bcast_S1024_S1024x1_0
        (Host.reduceAdd (mulf X X) (constant Cert.SampleGateReferenceIdeal.S_ .f32 0x00000000#32)
          Cert.SampleGateReferenceIdeal.Gen.reducesTo_S1024x2048_S1024_d1 Cert.SampleGateReferenceIdeal.Gen.h_S_))
      (broadcastInDim Cert.SampleGateReferenceIdeal.S1024x1 ![] Cert.SampleGateReferenceIdeal.Gen.bcast_S_S1024x1
        (constant Cert.SampleGateReferenceIdeal.S_ .f32 0x45000000#32)))
      (broadcastInDim Cert.SampleGateReferenceIdeal.S1024x1 ![] Cert.SampleGateReferenceIdeal.Gen.bcast_S_S1024x1
        (constant Cert.SampleGateReferenceIdeal.S_ .f32 0x358637BD#32))))))
    (broadcastInDim S1024x2048 ![0, 1] Cert.SampleGateReferenceIdeal.Gen.bcast_S1x2048_S1024x2048_0_1
      (broadcastInDim S1x2048 ![1] Cert.SampleGateReferenceIdeal.Gen.bcast_S2048_S1x2048_1 G))

/-- The reference's result as a function of the three arguments. -/
abbrev REF (X : FVec Ideal S1024x2048 .f32) (G : FVec Ideal S2048 .f32) (W : FVec Ideal S1x2048x12352 .f32) :
    FVec Ideal S1024x4096 .f32 :=
  Host.dotGeneral Cert.SampleGateReferenceIdeal.dot_S1024x2048_S2048x4096_S1024x4096_1_0_0_1_n_n none (NORM X G)
    (shapeCast Cert.SampleGateReferenceIdeal.S2048x4096
      (extractStridedSlice Cert.SampleGateReferenceIdeal.S1x2048x4096 ![0, 0, 0] W
        Cert.SampleGateReferenceIdeal.Gen.slices_S1x2048x12352_S1x2048x4096_0_0_0)
      Cert.SampleGateReferenceIdeal.Gen.shapeCasts_S1x2048x4096_S2048x4096)

theorem idx : ∀ t : Fin cfg0.N, win0_0.index t = ![t.val / 8, 0] ∧ win0_1.index t = ![0, 0]
    ∧ win0_2.index t = ![0, 0, t.val % 8] ∧ win0_3.index t = ![t.val / 8, t.val % 8] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val / 8 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 8 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 8 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (X0_2 m c t) := by
  by_cases h : t.val % 8 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (X0_2 m c t)) (Memref.IsWhole.read_unread _ _)

/-- No block of the weights is cut: the staged block is the array's columns from the block's first on. -/
theorem staged (c : Dev nD) (t : Fin cfg0.N) (k : Fin 2048) (b : Fin 512) :
    (show FVec Ideal S1x2048x512 .f32 from X0_2 m c t) (ix3 0 k b)
      = (show FVec Ideal S1x2048x12352 .f32 from m ((c : Thread nD τ).loc main_arg2))
          (ix3 0 k ⟨t.val % 8 * 512 + b.val, by omega⟩) := by
  change X0_2 m c t (ix3 0 k b : S1x2048x512.Idx) = _
  unfold X0_2 Pipeline.Window.fill
  rw [dif_pos (moved0_2 t _)]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  refine congrArg (_ * ·) ((staged m c t k (y 1)).trans ?_)
  blk_point [iblk, V, idx t]

end Cert.SampleGateIdeal.Hand

end
-- ==== Proof.SampleStepValue.lean ====
/- What the projection leaves in its result array when its rows are the sample's and its columns the time steps', cut out
   of the weights before the call: one point. -/
module

public import proofs.«01_k».proof.Proof.Gen.SampleStepIdeal.Value
public import proofs.«01_k».proof.Proof.Gen.SampleStepReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleStepIdeal.Hand

open Cert.SampleStepIdeal Cert.SampleStepIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleStepReferenceIdeal.Gen.bcast_S1024x1_S1024x2048_0_1
    (Host.rsqrt (addf (Host.divf
      (broadcastInDim Cert.SampleStepReferenceIdeal.S1024x1 ![0] Cert.SampleStepReferenceIdeal.Gen.bcast_S1024_S1024x1_0
        (Host.reduceAdd (mulf X X) (constant Cert.SampleStepReferenceIdeal.S_ .f32 0x00000000#32)
          Cert.SampleStepReferenceIdeal.Gen.reducesTo_S1024x2048_S1024_d1 Cert.SampleStepReferenceIdeal.Gen.h_S_))
      (broadcastInDim Cert.SampleStepReferenceIdeal.S1024x1 ![] Cert.SampleStepReferenceIdeal.Gen.bcast_S_S1024x1
        (constant Cert.SampleStepReferenceIdeal.S_ .f32 0x45000000#32)))
      (broadcastInDim Cert.SampleStepReferenceIdeal.S1024x1 ![] Cert.SampleStepReferenceIdeal.Gen.bcast_S_S1024x1
        (constant Cert.SampleStepReferenceIdeal.S_ .f32 0x358637BD#32))))))
    (broadcastInDim S1024x2048 ![0, 1] Cert.SampleStepReferenceIdeal.Gen.bcast_S1x2048_S1024x2048_0_1
      (broadcastInDim S1x2048 ![1] Cert.SampleStepReferenceIdeal.Gen.bcast_S2048_S1x2048_1 G))

/-- The reference's result as a function of the three arguments. -/
abbrev REF (X : FVec Ideal S1024x2048 .f32) (G : FVec Ideal S2048 .f32) (W : FVec Ideal S1x2048x12352 .f32) :
    FVec Ideal S1024x64 .f32 :=
  Host.dotGeneral Cert.SampleStepReferenceIdeal.dot_S1024x2048_S2048x64_S1024x64_1_0_0_1_n_n none (NORM X G)
    (shapeCast Cert.SampleStepReferenceIdeal.S2048x64
      (extractStridedSlice Cert.SampleStepReferenceIdeal.S1x2048x64 ![0, 0, 10240] W
        Cert.SampleStepReferenceIdeal.Gen.slices_S1x2048x12352_S1x2048x64_0_0_10240)
      Cert.SampleStepReferenceIdeal.Gen.shapeCasts_S1x2048x64_S2048x64)

theorem idx : ∀ t : Fin cfg0.N, win0_0.index t = ![t.val, 0] ∧ win0_1.index t = ![0, 0]
    ∧ win0_2.index t = ![0, 0, 0] ∧ win0_3.index t = ![t.val, 0] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- What a point leaves in the output block is the product of its row block's normalised rows. -/
theorem product (c : Dev nD) (t : Fin cfg0.N) :
    outsAt0 m c t = k0_pay2 (k0_pay1 (iblk m c 0 t) (iblk m c 1 t)) (iblk m c 2 t) := by
  unfold outsAt0
  frame_out

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := rows m c t (ix2 (y 0) k) (ix2 (((cfg0.win 3).blk t).view.emb y 0) k) (by blk_simp [idx t]) rfl
  blk_simp at e ⊢
  rw [e]
  blk_point [iblk, V, idx t]

end Cert.SampleStepIdeal.Hand

end
-- ==== Proof.SampleSsdMemQueryValue.lean ====
/- What the projection leaves in its result array when its rows are the sample's and its columns the SSD layer's memory
   queries, cut out of the weights before the call. -/
module

public import proofs.«01_k».proof.Proof.Gen.SampleSsdMemQueryIdeal.Value
public import proofs.«01_k».proof.Proof.Gen.SampleSsdMemQueryReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleSsdMemQueryIdeal.Hand

open Cert.SampleSsdMemQueryIdeal Cert.SampleSsdMemQueryIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleSsdMemQueryReferenceIdeal.Gen.bcast_S1024x1_S1024x2048_0_1
    (Host.rsqrt (addf (Host.divf
      (broadcastInDim Cert.SampleSsdMemQueryReferenceIdeal.S1024x1 ![0] Cert.SampleSsdMemQueryReferenceIdeal.Gen.bcast_S1024_S1024x1_0
        (Host.reduceAdd (mulf X X) (constant Cert.SampleSsdMemQueryReferenceIdeal.S_ .f32 0x00000000#32)
          Cert.SampleSsdMemQueryReferenceIdeal.Gen.reducesTo_S1024x2048_S1024_d1 Cert.SampleSsdMemQueryReferenceIdeal.Gen.h_S_))
      (broadcastInDim Cert.SampleSsdMemQueryReferenceIdeal.S1024x1 ![] Cert.SampleSsdMemQueryReferenceIdeal.Gen.bcast_S_S1024x1
        (constant Cert.SampleSsdMemQueryReferenceIdeal.S_ .f32 0x45000000#32)))
      (broadcastInDim Cert.SampleSsdMemQueryReferenceIdeal.S1024x1 ![] Cert.SampleSsdMemQueryReferenceIdeal.Gen.bcast_S_S1024x1
        (constant Cert.SampleSsdMemQueryReferenceIdeal.S_ .f32 0x358637BD#32))))))
    (broadcastInDim S1024x2048 ![0, 1] Cert.SampleSsdMemQueryReferenceIdeal.Gen.bcast_S1x2048_S1024x2048_0_1
      (broadcastInDim S1x2048 ![1] Cert.SampleSsdMemQueryReferenceIdeal.Gen.bcast_S2048_S1x2048_1 G))

/-- The reference's result as a function of the three arguments. -/
abbrev REF (X : FVec Ideal S1024x2048 .f32) (G : FVec Ideal S2048 .f32) (W : FVec Ideal S1x2048x12352 .f32) :
    FVec Ideal S1024x2048 .bf16 :=
  truncf .bf16 (Host.dotGeneral Cert.SampleSsdMemQueryReferenceIdeal.dot_S1024x2048_S2048x2048_S1024x2048_1_0_0_1_n_n none (NORM X G)
    (shapeCast Cert.SampleSsdMemQueryReferenceIdeal.S2048x2048
      (extractStridedSlice Cert.SampleSsdMemQueryReferenceIdeal.S1x2048x2048 ![0, 0, 10304] W
        Cert.SampleSsdMemQueryReferenceIdeal.Gen.slices_S1x2048x12352_S1x2048x2048_0_0_10304)
      Cert.SampleSsdMemQueryReferenceIdeal.Gen.shapeCasts_S1x2048x2048_S2048x2048))
    Cert.SampleSsdMemQueryReferenceIdeal.Gen.bitsLt_bf16_f32

theorem idx : ∀ t : Fin cfg0.N, win0_0.index t = ![t.val / 4, 0] ∧ win0_1.index t = ![0, 0]
    ∧ win0_2.index t = ![0, 0, t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.SampleSsdMemQueryIdeal.Hand

end
-- ==== Proof.SampleQueryValue.lean ====
/- What the projection leaves in its result array when its rows are the sample's and its columns the queries'. -/
module

public import proofs.«01_k».proof.Proof.Gen.SampleQueryIdeal.Value
public import proofs.«01_k».proof.Proof.Gen.SampleQueryReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleQueryIdeal.Hand

open Cert.SampleQueryIdeal Cert.SampleQueryIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleQueryReferenceIdeal.Gen.bcast_S1024x1_S1024x2048_0_1
    (Host.rsqrt (addf (Host.divf
      (broadcastInDim Cert.SampleQueryReferenceIdeal.S1024x1 ![0] Cert.SampleQueryReferenceIdeal.Gen.bcast_S1024_S1024x1_0
        (Host.reduceAdd (mulf X X) (constant Cert.SampleQueryReferenceIdeal.S_ .f32 0x00000000#32)
          Cert.SampleQueryReferenceIdeal.Gen.reducesTo_S1024x2048_S1024_d1 Cert.SampleQueryReferenceIdeal.Gen.h_S_))
      (broadcastInDim Cert.SampleQueryReferenceIdeal.S1024x1 ![] Cert.SampleQueryReferenceIdeal.Gen.bcast_S_S1024x1
        (constant Cert.SampleQueryReferenceIdeal.S_ .f32 0x45000000#32)))
      (broadcastInDim Cert.SampleQueryReferenceIdeal.S1024x1 ![] Cert.SampleQueryReferenceIdeal.Gen.bcast_S_S1024x1
        (constant Cert.SampleQueryReferenceIdeal.S_ .f32 0x358637BD#32))))))
    (broadcastInDim S1024x2048 ![0, 1] Cert.SampleQueryReferenceIdeal.Gen.bcast_S1x2048_S1024x2048_0_1
      (broadcastInDim S1x2048 ![1] Cert.SampleQueryReferenceIdeal.Gen.bcast_S2048_S1x2048_1 G))

/-- The reference's result as a function of the three arguments. -/
abbrev REF (X : FVec Ideal S1024x2048 .f32) (G : FVec Ideal S2048 .f32) (W : FVec Ideal S1x2048x8192 .f32) :
    FVec Ideal S1024x2048 .bf16 :=
  truncf .bf16 (Host.dotGeneral Cert.SampleQueryReferenceIdeal.dot_S1024x2048_S2048x2048_S1024x2048_1_0_0_1_n_n none (NORM X G)
    (shapeCast Cert.SampleQueryReferenceIdeal.S2048x2048
      (extractStridedSlice Cert.SampleQueryReferenceIdeal.S1x2048x2048 ![0, 0, 0] W
        Cert.SampleQueryReferenceIdeal.Gen.slices_S1x2048x8192_S1x2048x2048_0_0_0)
      Cert.SampleQueryReferenceIdeal.Gen.shapeCasts_S1x2048x2048_S2048x2048))
    Cert.SampleQueryReferenceIdeal.Gen.bitsLt_bf16_f32

theorem idx : ∀ t : Fin cfg0.N, win0_0.index t = ![t.val / 4, 0] ∧ win0_1.index t = ![0, 0]
    ∧ win0_2.index t = ![0, 0, t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.SampleQueryIdeal.Hand

end
-- ==== Proof.SampleSbMemQueryValue.lean ====
/- What the projection leaves in its result array when its rows are the sample's and its columns the stick-breaking layer's
   memory queries. -/
module

public import proofs.«01_k».proof.Proof.Gen.SampleSbMemQueryIdeal.Value
public import proofs.«01_k».proof.Proof.Gen.SampleSbMemQueryReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleSbMemQueryIdeal.Hand

open Cert.SampleSbMemQueryIdeal Cert.SampleSbMemQueryIdeal.Gen

variable (m : (ℓ : Loc nD τ sig) → Buf (Elt Ideal) ℓ)

/-- The reference's normalised rows. -/
def NORM (X : FVec Ideal S1024x2048 .f32) (G : FVec Ideal S2048 .f32) : FVec Ideal S1024x2048 .f32 :=
  mulf (mulf X (broadcastInDim S1024x2048 ![0, 1] Cert.SampleSbMemQueryReferenceIdeal.Gen.bcast_S1024x1_S1024x2048_0_1
    (Host.rsqrt (addf (Host.divf
      (broadcastInDim Cert.SampleSbMemQueryReferenceIdeal.S1024x1 ![0] Cert.SampleSbMemQueryReferenceIdeal.Gen.bcast_S1024_S1024x1_0
        (Host.reduceAdd (mulf X X) (constant Cert.SampleSbMemQueryReferenceIdeal.S_ .f32 0x00000000#32)
          Cert.SampleSbMemQueryReferenceIdeal.Gen.reducesTo_S1024x2048_S1024_d1 Cert.SampleSbMemQueryReferenceIdeal.Gen.h_S_))
      (broadcastInDim Cert.SampleSbMemQueryReferenceIdeal.S1024x1 ![] Cert.SampleSbMemQueryReferenceIdeal.Gen.bcast_S_S1024x1
        (constant Cert.SampleSbMemQueryReferenceIdeal.S_ .f32 0x45000000#32)))
      (broadcastInDim Cert.SampleSbMemQueryReferenceIdeal.S1024x1 ![] Cert.SampleSbMemQueryReferenceIdeal.Gen.bcast_S_S1024x1
        (constant Cert.SampleSbMemQueryReferenceIdeal.S_ .f32 0x358637BD#32))))))
    (broadcastInDim S1024x2048 ![0, 1] Cert.SampleSbMemQueryReferenceIdeal.Gen.bcast_S1x2048_S1024x2048_0_1
      (broadcastInDim S1x2048 ![1] Cert.SampleSbMemQueryReferenceIdeal.Gen.bcast_S2048_S1x2048_1 G))

/-- The reference's result as a function of the three arguments. -/
abbrev REF (X : FVec Ideal S1024x2048 .f32) (G : FVec Ideal S2048 .f32) (W : FVec Ideal S1x2048x8192 .f32) :
    FVec Ideal S1024x2048 .bf16 :=
  truncf .bf16 (Host.dotGeneral Cert.SampleSbMemQueryReferenceIdeal.dot_S1024x2048_S2048x2048_S1024x2048_1_0_0_1_n_n none (NORM X G)
    (shapeCast Cert.SampleSbMemQueryReferenceIdeal.S2048x2048
      (extractStridedSlice Cert.SampleSbMemQueryReferenceIdeal.S1x2048x2048 ![0, 0, 6144] W
        Cert.SampleSbMemQueryReferenceIdeal.Gen.slices_S1x2048x8192_S1x2048x2048_0_0_6144)
      Cert.SampleSbMemQueryReferenceIdeal.Gen.shapeCasts_S1x2048x2048_S2048x2048))
    Cert.SampleSbMemQueryReferenceIdeal.Gen.bitsLt_bf16_f32

theorem idx : ∀ t : Fin cfg0.N, win0_0.index t = ![t.val / 4, 0] ∧ win0_1.index t = ![0, 0]
    ∧ win0_2.index t = ![0, 0, 12 + t.val % 4] ∧ win0_3.index t = ![t.val / 4, t.val % 4] :=
  (by decide +kernel : ∀ t : Fin grid0.N, _)

/-- A row block's normalised rows are the reference's. -/
theorem rows (c : Dev nD) (t : Fin cfg0.N) (y : S1024x2048.Idx) (j : S1024x2048.Idx)
    (h0 : (j 0 : ℕ) = t.val / 4 * 1024 + y 0) (h1 : (j 1 : ℕ) = y 1) :
    k0_pay1 (iblk m c 0 t) (iblk m c 1 t) y
      = NORM (m ((c : Thread nD τ).loc main_arg0)) (m ((c : Thread nD τ).loc main_arg1)) j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 4 * 1024 + y 0) (h1 : (j 1 : ℕ) = y 1),
    (outsAt0 m c n hn).2 y = NORM (m ((c : Thread nD τ).loc main_arg0)) (m ((c : Thread nD τ).loc main_arg1)) j := by
  intro n
  induction n with
  | zero =>
    intro hn y j h0 h1
    rw [outsAt0_A m c ⟨0, hn⟩ (by rfl)]
    frame_out
    exact rows m c ⟨0, hn⟩ y j h0 h1
  | succ n ih =>
    intro hn y j h0 h1
    by_cases h : (n + 1) % 4 = 0
    · rw [outsAt0_A m c ⟨n + 1, hn⟩ h]
      frame_out
      exact rows m c ⟨n + 1, hn⟩ y j h0 h1
    · rw [outsAt0_B m c ⟨n + 1, hn⟩ h]
      frame_out
      exact ih _ y j (by omega) h1

/-- What a point leaves in the output block is the product of what it leaves in the scratch. -/
theorem product (c : Dev nD) (t : Fin cfg0.N) :
    (outsAt0 m c t.val t.isLt).1 = k0_pay2 (outsAt0 m c t.val t.isLt).2 (iblk m c 2 t) := by
  by_cases h : t.val % 4 = 0
  · rw [outsAt0_A m c t h]
    frame_out
  · have e : (outsAt0 m c t.val t.isLt).2 = (outsAt0 m c (t.val - 1) (by omega)).2 := by
      rw [outsAt0_B m c t h]
      rfl
    rw [e, outsAt0_B m c t h]
    frame_out
    exact congrArg (k0_pay2 · (iblk m c 2 t)) (Memref.IsWhole.read_unread _ _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, product m c t]
  pointwise [k0_pay2, REF]
  refine Fin.sum_fin_congr fun k => ?_
  have e := scratch m c t.val t.isLt (ix2 (y 0) k) (ix2 (((cfg0.win 3).blk t).view.emb y 0) k) (by blk_simp [idx t]) rfl
  blk_simp at e ⊢
  rw [e]
  blk_point [iblk, V, idx t]

end Cert.SampleSbMemQueryIdeal.Hand

end
-- ==== Proof.HalfLastValue.lean ====
/- What the feed-forward block without the final normalisation leaves in its result array with the last layer's weights. -/
module

public import proofs.«01_k».proof.Proof.Gen.HalfLastIdeal.Value
public import proofs.«01_k».proof.Proof.Gen.HalfLastReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HalfLastIdeal.Hand

open Cert.HalfLastIdeal Cert.HalfLastIdeal.Gen

variable (m : (ℓ : Loc nD τ sig) → Buf (Elt Ideal) ℓ)

/-- The reference's normalisation of every row. -/
def NORM (X : FVec Ideal S8192x2048 .f32) (G : FVec Ideal S2048 .f32) : FVec Ideal S8192x2048 .f32 :=
  mulf (mulf X (broadcastInDim S8192x2048 ![0, 1] Cert.HalfLastReferenceIdeal.Gen.bcast_S8192x1_S8192x2048_0_1
    (Host.rsqrt (addf (Host.divf
      (broadcastInDim Cert.HalfLastReferenceIdeal.S8192x1 ![0] Cert.HalfLastReferenceIdeal.Gen.bcast_S8192_S8192x1_0
        (Host.reduceAdd (mulf X X) (constant Cert.HalfLastReferenceIdeal.S_ .f32 0x00000000#32)
          Cert.HalfLastReferenceIdeal.Gen.reducesTo_S8192x2048_S8192_d1 Cert.HalfLastReferenceIdeal.Gen.h_S_))
      (broadcastInDim Cert.HalfLastReferenceIdeal.S8192x1 ![] Cert.HalfLastReferenceIdeal.Gen.bcast_S_S8192x1
        (constant Cert.HalfLastReferenceIdeal.S_ .f32 0x45000000#32)))
      (broadcastInDim Cert.HalfLastReferenceIdeal.S8192x1 ![] Cert.HalfLastReferenceIdeal.Gen.bcast_S_S8192x1
        (constant Cert.HalfLastReferenceIdeal.S_ .f32 0x358637BD#32))))))
    (broadcastInDim S8192x2048 ![0, 1] Cert.HalfLastReferenceIdeal.Gen.bcast_S1x2048_S8192x2048_0_1
      (broadcastInDim S1x2048 ![1] Cert.HalfLastReferenceIdeal.Gen.bcast_S2048_S1x2048_1 G))

/-- Gate and up projection, side by side, of normalised rows `H`. -/
abbrev BOTH (H : FVec Ideal S8192x2048 .f32) (W : FVec Ideal S2x2048x11264 .f32) : FVec Ideal Cert.HalfLastReferenceIdeal.S8192x11264 .f32 :=
  Host.dotGeneral Cert.HalfLastReferenceIdeal.dot_S8192x2048_S2048x11264_S8192x11264_1_0_0_1_n_n none H
    (shapeCast Cert.HalfLastReferenceIdeal.S2048x11264
      (extractStridedSlice Cert.HalfLastReferenceIdeal.S1x2048x11264 ![1, 0, 0] W Cert.HalfLastReferenceIdeal.Gen.slices_S2x2048x11264_S1x2048x11264_1_0_0)
      Cert.HalfLastReferenceIdeal.Gen.shapeCasts_S1x2048x11264_S2048x11264)

/-- The hidden columns: the gate through the sigmoid-weighted unit, times the up projection. -/
def HID (H : FVec Ideal S8192x2048 .f32) (W : FVec Ideal S2x2048x11264 .f32) : FVec Ideal Cert.HalfLastReferenceIdeal.S8192x5632 .f32 :=
  mulf (mulf (extractStridedSlice Cert.HalfLastReferenceIdeal.S8192x5632 ![0, 0] (BOTH H W) Cert.HalfLastReferenceIdeal.Gen.slices_S8192x11264_S8192x5632_0_0)
      (Host.divf (broadcastInDim Cert.HalfLastReferenceIdeal.S8192x5632 ![] Cert.HalfLastReferenceIdeal.Gen.bcast_S_S8192x5632 (constant Cert.HalfLastReferenceIdeal.S_ .f32 0x3F800000#32))
        (addf (broadcastInDim Cert.HalfLastReferenceIdeal.S8192x5632 ![] Cert.HalfLastReferenceIdeal.Gen.bcast_S_S8192x5632 (constant Cert.HalfLastReferenceIdeal.S_ .f32 0x3F800000#32))
          (Host.exp (Host.negf (extractStridedSlice Cert.HalfLastReferenceIdeal.S8192x5632 ![0, 0] (BOTH H W) Cert.HalfLastReferenceIdeal.Gen.slices_S8192x11264_S8192x5632_0_0))))))
    (extractStridedSlice Cert.HalfLastReferenceIdeal.S8192x5632 ![0, 5632] (BOTH H W) Cert.HalfLastReferenceIdeal.Gen.slices_S8192x11264_S8192x5632_0_5632)

/-- The residual plus half the output projection of the hidden columns. -/
def SUM (X : FVec Ideal S8192x2048 .f32) (D : FVec Ideal Cert.HalfLastReferenceIdeal.S8192x5632 .f32) (O : FVec Ideal S2x5632x2048 .f32) :
    FVec Ideal S8192x2048 .f32 :=
  addf X (mulf (broadcastInDim S8192x2048 ![] Cert.HalfLastReferenceIdeal.Gen.bcast_S_S8192x2048 (constant Cert.HalfLastReferenceIdeal.S_ .f32 0x3F000000#32))
    (Host.dotGeneral Cert.HalfLastReferenceIdeal.dot_S8192x5632_S5632x2048_S8192x2048_1_0_0_1_n_n none D
      (shapeCast Cert.HalfLastReferenceIdeal.S5632x2048
        (extractStridedSlice Cert.HalfLastReferenceIdeal.S1x5632x2048 ![1, 0, 0] O Cert.HalfLastReferenceIdeal.Gen.slices_S2x5632x2048_S1x5632x2048_1_0_0)
        Cert.HalfLastReferenceIdeal.Gen.shapeCasts_S1x5632x2048_S5632x2048)))

/-- The reference's result as a function of the four arguments. -/
abbrev REF (X : FVec Ideal S8192x2048 .f32) (G : FVec Ideal S2048 .f32) (W : FVec Ideal S2x2048x11264 .f32)
    (O : FVec Ideal S2x5632x2048 .f32) : FVec Ideal S8192x2048 .f32 :=
  SUM X (HID (NORM X G) W) O

theorem idx : ∀ t : Fin cfg0.N, win0_0.index t = ![0, 0] ∧ win0_1.index t = ![1, 0, t.val % 11]
    ∧ win0_2.index t = ![1, 0, 11 + t.val % 11] ∧ win0_3.index t = ![1, t.val % 11, 0] ∧ win0_4.index t = ![0, 0]
    ∧ win0_5.index t = ![t.val / 11, 0] ∧ win0_6.index t = ![t.val / 11, 0] :=
  (by decide +kernel : ∀ t : Fin grid0.N, _)

/-- The reference's normalised rows of the arguments. -/
abbrev rowsR (c : Dev nD) : FVec Ideal S8192x2048 .f32 :=
  NORM (m ((c : Thread nD τ).loc main_arg0)) (m ((c : Thread nD τ).loc main_arg1))

/-- The reference's hidden columns of the arguments. -/
abbrev hidR (c : Dev nD) : FVec Ideal Cert.HalfLastReferenceIdeal.S8192x5632 .f32 :=
  HID (rowsR m c) (m ((c : Thread nD τ).loc main_arg2))

/-- A row block's normalised rows are the reference's. -/
theorem rows (c : Dev nD) (t : Fin cfg0.N) (y : S1024x2048.Idx) (j : S8192x2048.Idx)
    (h0 : (j 0 : ℕ) = t.val / 11 * 1024 + y 0) (h1 : (j 1 : ℕ) = y 1) :
    k0_pay1 (iblk m c 5 t) (iblk m c 0 t) y = rowsR m c j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S8192x2048.Idx)
    (h0 : (j 0 : ℕ) = n / 11 * 1024 + y 0) (h1 : (j 1 : ℕ) = y 1), (outsAt0 m c n hn).2 y = rowsR m c j := by
  intro n
  induction n with
  | zero =>
    intro hn y j h0 h1
    rw [outsAt0_A m c ⟨0, hn⟩ (by rfl) (show ¬ (0 : ℕ) % 11 = 10 by decide)]
    frame_out
    exact rows m c ⟨0, hn⟩ y j h0 h1
  | succ n ih =>
    intro hn y j h0 h1
    by_cases h : (n + 1) % 11 = 0
    · rw [outsAt0_A m c ⟨n + 1, hn⟩ h (show ¬ (n + 1) % 11 = 10 by omega)]
      frame_out
      exact rows m c ⟨n + 1, hn⟩ y j h0 h1
    · have e : (n + 1) / 11 = n / 11 := by omega
      by_cases h' : (n + 1) % 11 = 10
      · rw [outsAt0_C m c ⟨n + 1, hn⟩ h h']
        frame_out
        exact ih _ y j (by rw [← e]; exact h0) h1
      · rw [outsAt0_B m c ⟨n + 1, hn⟩ h h']
        frame_out
        exact ih _ y j (by rw [← e]; exact h0) h1

/-- One hidden block's part of the output projection. -/
def part (c : Dev nD) (j : S8192x2048.Idx) (s : Fin 11) : EReal :=
  ∑ k : Fin 512, hidR m c (ix2 (j 0) ⟨s.val * 512 + k.val, by omega⟩)
    * (show FVec Ideal S2x5632x2048 .f32 from m ((c : Thread nD τ).loc main_arg3)) (ix3 1 ⟨s.val * 512 + k.val, by omega⟩ (j 1))

/-- The accumulating payload over the normalised rows adds one hidden block's part. -/
theorem step (c : Dev nD) (t : Fin cfg0.N) (S : FVec Ideal S1024x2048 .bf16) (acc : FVec Ideal S1024x2048 .f32) (y : S1024x2048.Idx)
    (j : S8192x2048.Idx) (h0 : (j 0 : ℕ) = t.val / 11 * 1024 + y 0) (h1 : (j 1 : ℕ) = y 1)
    (hS : ∀ k, S (ix2 (y 0) k) = rowsR m c (ix2 (j 0) k)) :
    k0_pay3 S (iblk m c 1 t) (iblk m c 2 t) acc (iblk m c 3 t) y = acc y + part m c j ⟨t.val % 11, Nat.mod_lt _ (by decide)⟩ := by
  unfold part hidR
  pointwise [k0_pay3, HID]
  simp only [hS]
  simp only [Ideal.logistic]
  blk_point [iblk, V, idx t]

/-- The parts of the first `n` hidden blocks, added up. -/
def parts (c : Dev nD) (j : S8192x2048.Idx) (n : ℕ) : EReal :=
  ∑ s ∈ Finset.range n, if h : s < 11 then part m c j ⟨s, h⟩ else 0

theorem parts_zero (c : Dev nD) (j : S8192x2048.Idx) : parts m c j 0 = 0 := Finset.sum_range_zero _

theorem parts_succ (c : Dev nD) (j : S8192x2048.Idx) (n : ℕ) (h : n < 11) :
    parts m c j (n + 1) = parts m c j n + part m c j ⟨n, h⟩ := by
  unfold parts
  rw [Finset.sum_range_succ, dif_pos h]

/-- All parts together are the one product over every hidden column. -/
theorem parts_all (c : Dev nD) (j : S8192x2048.Idx) :
    parts m c j 11 = ∑ l : Fin 5632, hidR m c (ix2 (j 0) l)
      * (show FVec Ideal S2x5632x2048 .f32 from m ((c : Thread nD τ).loc main_arg3)) (ix3 1 l (j 1)) := by
  have e : parts m c j 11 = ∑ s : Fin 11, part m c j s := by
    unfold parts
    rw [Finset.sum_range]
    exact Finset.sum_congr rfl fun s _ => dif_pos s.isLt
  rw [e]
  unfold part
  exact Fin.sum_mul_add_congr fun s k hl => rfl

/-- Before a row block's last point the output block holds the parts so far. -/
theorem partial_sum (c : Dev nD) : ∀ (n : ℕ) (hn : n < cfg0.N) (hl : n % 11 < 10) (y : S1024x2048.Idx) (j : S8192x2048.Idx)
    (h0 : (j 0 : ℕ) = n / 11 * 1024 + y 0) (h1 : (j 1 : ℕ) = y 1), (outsAt0 m c n hn).1 y = parts m c j (n % 11 + 1) := by
  intro n
  induction n with
  | zero =>
    intro hn hl y j h0 h1
    rw [outsAt0_A m c ⟨0, hn⟩ (by rfl) (show ¬ (0 : ℕ) % 11 = 10 by decide)]
    frame_out
    rw [step m c ⟨0, hn⟩ _ _ y j h0 h1 (fun k => rows m c ⟨0, hn⟩ _ _ h0 rfl), parts_succ m c j 0 (by decide), parts_zero]
    pointwise [k0_pay2]
  | succ n ih =>
    intro hn hl y j h0 h1
    by_cases h : (n + 1) % 11 = 0
    · rw [outsAt0_A m c ⟨n + 1, hn⟩ h (show ¬ (n + 1) % 11 = 10 by omega)]
      frame_out
      rw [step m c ⟨n + 1, hn⟩ _ _ y j h0 h1 (fun k => rows m c ⟨n + 1, hn⟩ _ _ h0 rfl)]
      simp only [h]
      rw [parts_succ m c j 0 (by decide), parts_zero]
      pointwise [k0_pay2]
    · have e : (n + 1) / 11 = n / 11 := by omega
      have e' : (n + 1) % 11 = n % 11 + 1 := by omega
      have h0' : (j 0 : ℕ) = n / 11 * 1024 + y 0 := by rw [← e]; exact h0
      rw [outsAt0_B m c ⟨n + 1, hn⟩ h (show ¬ (n + 1) % 11 = 10 by omega)]
      frame_out
      refine (congrArg (fun S => k0_pay3 S (iblk m c 1 ⟨n + 1, hn⟩) (iblk m c 2 ⟨n + 1, hn⟩) (outsAt0 m c n (by omega)).1
        (iblk m c 3 ⟨n + 1, hn⟩) y) (Memref.IsWhole.read_unread _ _)).trans ?_
      change k0_pay3 (outsAt0 m c n (by omega)).2 _ _ _ _ y = _
      rw [step m c ⟨n + 1, hn⟩ _ _ y j h0 h1 (fun k => scratch m c n _ _ _ h0' rfl), parts_succ m c j _ (by omega)]
      refine congrArg₂ (· + ·) ?_ rfl
      rw [e']
      exact ih _ (by omega) y j h0' h1

/-- What a row block's last point leaves before the residual: all parts. -/
theorem full_sum (c : Dev nD) (t : Fin cfg0.N) (h : ¬ t.val % 11 = 0) (h' : t.val % 11 = 10) (y : S1024x2048.Idx) (j : S8192x2048.Idx)
    (h0 : (j 0 : ℕ) = t.val / 11 * 1024 + y 0) (h1 : (j 1 : ℕ) = y 1) :
    k0_pay3 (outsAt0 m c (t.val - 1) (by omega)).2 (iblk m c 1 t) (iblk m c 2 t) (outsAt0 m c (t.val - 1) (by omega)).1 (iblk m c 3 t) y
      = parts m c j 11 := by
  have e : t.val / 11 = (t.val - 1) / 11 := by omega
  have h0' : (j 0 : ℕ) = (t.val - 1) / 11 * 1024 + y 0 := by rw [← e]; exact h0
  rw [step m c t _ _ y j h0 h1 (fun k => scratch m c (t.val - 1) _ _ _ h0' rfl), parts_succ m c j 10 (by decide),
    partial_sum m c (t.val - 1) _ (by omega) y j h0' h1]
  have e1 : (t.val - 1) % 11 + 1 = 10 := by omega
  simp only [e1, h']

theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have h' : t.val % 11 = 10 := (flush0_6 t).mp hf
  have h : ¬ t.val % 11 = 0 := by omega
  blk_simp
  rw [after0_6, outsAt0_C m c t h h']
  frame_out
  have hn : t.val - 1 < cfg0.N := lt_of_le_of_lt (Nat.sub_le _ _) t.isLt
  obtain ⟨S, hS⟩ : ∃ S, S = k0_pay3 (outsAt0 m c (t.val - 1) hn).2 (iblk m c 1 t) (iblk m c 2 t) (outsAt0 m c (t.val - 1) hn).1
    (iblk m c 3 t) := ⟨_, rfl⟩
  refine (congrArg (fun S => k0_pay4 (iblk m c 5 t) S y) ((congrArg (fun S => k0_pay3 S (iblk m c 1 t) (iblk m c 2 t)
    (outsAt0 m c (t.val - 1) hn).1 (iblk m c 3 t)) (Memref.IsWhole.read_unread _ _)).trans hS.symm)).trans ?_
  have hs := fun y j h0 h1 => (congrFun hS y).trans ((full_sum m c t h h' y j h0 h1).trans (parts_all m c j))
  clear hS
  change _ = SUM (m ((c : Thread nD τ).loc main_arg0)) (hidR m c) (m ((c : Thread nD τ).loc main_arg3)) _
  generalize hidR m c = D at hs ⊢
  have hy : S y = _ := hs y (((cfg0.win 6).blk t).view.emb y) (by blk_simp [idx t]) (by blk_simp [idx t])
  pointwise [k0_pay4, SUM]
  rw [hy]
  blk_point [iblk, V, idx t]

end Cert.HalfLastIdeal.Hand

end
-- ==== Proof.SampleHalfLastValue.lean ====
/- What the feed-forward block without the final normalisation leaves in its result array when its rows are the sample's
   and its weights the last layer's. -/
module

public import proofs.«01_k».proof.Proof.Gen.SampleHalfLastIdeal.Value
public import proofs.«01_k».proof.Proof.Gen.SampleHalfLastReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SampleHalfLastIdeal.Hand

open Cert.SampleHalfLastIdeal Cert.SampleHalfLastIdeal.Gen

variable (m : (ℓ : Loc nD τ sig) → Buf (Elt Ideal) ℓ)

/-- The reference's normalisation of every row. -/
def NORM (X : FVec Ideal S1024x2048 .f32) (G : FVec Ideal S2048 .f32) : FVec Ideal S1024x2048 .f32 :=
  mulf (mulf X (broadcastInDim S1024x2048 ![0, 1] Cert.SampleHalfLastReferenceIdeal.Gen.bcast_S1024x1_S1024x2048_0_1
    (Host.rsqrt (addf (Host.divf
      (broadcastInDim Cert.SampleHalfLastReferenceIdeal.S1024x1 ![0] Cert.SampleHalfLastReferenceIdeal.Gen.bcast_S1024_S1024x1_0
        (Host.reduceAdd (mulf X X) (constant Cert.SampleHalfLastReferenceIdeal.S_ .f32 0x00000000#32)
          Cert.SampleHalfLastReferenceIdeal.Gen.reducesTo_S1024x2048_S1024_d1 Cert.SampleHalfLastReferenceIdeal.Gen.h_S_))
      (broadcastInDim Cert.SampleHalfLastReferenceIdeal.S1024x1 ![] Cert.SampleHalfLastReferenceIdeal.Gen.bcast_S_S1024x1
        (constant Cert.SampleHalfLastReferenceIdeal.S_ .f32 0x45000000#32)))
      (broadcastInDim Cert.SampleHalfLastReferenceIdeal.S1024x1 ![] Cert.SampleHalfLastReferenceIdeal.Gen.bcast_S_S1024x1
        (constant Cert.SampleHalfLastReferenceIdeal.S_ .f32 0x358637BD#32))))))
    (broadcastInDim S1024x2048 ![0, 1] Cert.SampleHalfLastReferenceIdeal.Gen.bcast_S1x2048_S1024x2048_0_1
      (broadcastInDim S1x2048 ![1] Cert.SampleHalfLastReferenceIdeal.Gen.bcast_S2048_S1x2048_1 G))

/-- Gate and up projection, side by side, of normalised rows `H`. -/
abbrev BOTH (H : FVec Ideal S1024x2048 .f32) (W : FVec Ideal S2x2048x11264 .f32) : FVec Ideal Cert.SampleHalfLastReferenceIdeal.S1024x11264 .f32 :=
  Host.dotGeneral Cert.SampleHalfLastReferenceIdeal.dot_S1024x2048_S2048x11264_S1024x11264_1_0_0_1_n_n none H
    (shapeCast Cert.SampleHalfLastReferenceIdeal.S2048x11264
      (extractStridedSlice Cert.SampleHalfLastReferenceIdeal.S1x2048x11264 ![1, 0, 0] W Cert.SampleHalfLastReferenceIdeal.Gen.slices_S2x2048x11264_S1x2048x11264_1_0_0)
      Cert.SampleHalfLastReferenceIdeal.Gen.shapeCasts_S1x2048x11264_S2048x11264)

/-- The hidden columns: the gate through the sigmoid-weighted unit, times the up projection. -/
def HID (H : FVec Ideal S1024x2048 .f32) (W : FVec Ideal S2x2048x11264 .f32) : FVec Ideal Cert.SampleHalfLastReferenceIdeal.S1024x5632 .f32 :=
  mulf (mulf (extractStridedSlice Cert.SampleHalfLastReferenceIdeal.S1024x5632 ![0, 0] (BOTH H W) Cert.SampleHalfLastReferenceIdeal.Gen.slices_S1024x11264_S1024x5632_0_0)
      (Host.divf (broadcastInDim Cert.SampleHalfLastReferenceIdeal.S1024x5632 ![] Cert.SampleHalfLastReferenceIdeal.Gen.bcast_S_S1024x5632 (constant Cert.SampleHalfLastReferenceIdeal.S_ .f32 0x3F800000#32))
        (addf (broadcastInDim Cert.SampleHalfLastReferenceIdeal.S1024x5632 ![] Cert.SampleHalfLastReferenceIdeal.Gen.bcast_S_S1024x5632 (constant Cert.SampleHalfLastReferenceIdeal.S_ .f32 0x3F800000#32))
          (Host.exp (Host.negf (extractStridedSlice Cert.SampleHalfLastReferenceIdeal.S1024x5632 ![0, 0] (BOTH H W) Cert.SampleHalfLastReferenceIdeal.Gen.slices_S1024x11264_S1024x5632_0_0))))))
    (extractStridedSlice Cert.SampleHalfLastReferenceIdeal.S1024x5632 ![0, 5632] (BOTH H W) Cert.SampleHalfLastReferenceIdeal.Gen.slices_S1024x11264_S1024x5632_0_5632)

/-- The residual plus half the output projection of the hidden columns. -/
def SUM (X : FVec Ideal S1024x2048 .f32) (D : FVec Ideal Cert.SampleHalfLastReferenceIdeal.S1024x5632 .f32) (O : FVec Ideal S2x5632x2048 .f32) :
    FVec Ideal S1024x2048 .f32 :=
  addf X (mulf (broadcastInDim S1024x2048 ![] Cert.SampleHalfLastReferenceIdeal.Gen.bcast_S_S1024x2048 (constant Cert.SampleHalfLastReferenceIdeal.S_ .f32 0x3F000000#32))
    (Host.dotGeneral Cert.SampleHalfLastReferenceIdeal.dot_S1024x5632_S5632x2048_S1024x2048_1_0_0_1_n_n none D
      (shapeCast Cert.SampleHalfLastReferenceIdeal.S5632x2048
        (extractStridedSlice Cert.SampleHalfLastReferenceIdeal.S1x5632x2048 ![1, 0, 0] O Cert.SampleHalfLastReferenceIdeal.Gen.slices_S2x5632x2048_S1x5632x2048_1_0_0)
        Cert.SampleHalfLastReferenceIdeal.Gen.shapeCasts_S1x5632x2048_S5632x2048)))

/-- The reference's result as a function of the four arguments. -/
abbrev REF (X : FVec Ideal S1024x2048 .f32) (G : FVec Ideal S2048 .f32) (W : FVec Ideal S2x2048x11264 .f32)
    (O : FVec Ideal S2x5632x2048 .f32) : FVec Ideal S1024x2048 .f32 :=
  SUM X (HID (NORM X G) W) O

theorem idx : ∀ t : Fin cfg0.N, win0_0.index t = ![0, 0] ∧ win0_1.index t = ![1, 0, t.val % 11]
    ∧ win0_2.index t = ![1, 0, 11 + t.val % 11] ∧ win0_3.index t = ![1, t.val % 11, 0] ∧ win0_4.index t = ![0, 0]
    ∧ win0_5.index t = ![t.val / 11, 0] ∧ win0_6.index t = ![t.val / 11, 0] :=
  (by decide +kernel : ∀ t : Fin grid0.N, _)

/-- The reference's normalised rows of the arguments. -/
abbrev rowsR (c : Dev nD) : FVec Ideal S1024x2048 .f32 :=
  NORM (m ((c : Thread nD τ).loc main_arg0)) (m ((c : Thread nD τ).loc main_arg1))

/-- The reference's hidden columns of the arguments. -/
abbrev hidR (c : Dev nD) : FVec Ideal Cert.SampleHalfLastReferenceIdeal.S1024x5632 .f32 :=
  HID (rowsR m c) (m ((c : Thread nD τ).loc main_arg2))

/-- A row block's normalised rows are the reference's. -/
theorem rows (c : Dev nD) (t : Fin cfg0.N) (y : S1024x2048.Idx) (j : S1024x2048.Idx)
    (h0 : (j 0 : ℕ) = t.val / 11 * 1024 + y 0) (h1 : (j 1 : ℕ) = y 1) :
    k0_pay1 (iblk m c 5 t) (iblk m c 0 t) y = rowsR m c j := by
  pointwise [k0_pay1, NORM]
  blk_point [iblk, V, idx t]

/-- The scratch holds the normalised rows of the row block, from the block's first point on. -/
theorem scratch (c : Dev nD) : ∀ (n : ℕ) (hn : n < cfg0.N) (y : S1024x2048.Idx) (j : S1024x2048.Idx)
    (h0 : (j 0 : ℕ) = n / 11 * 1024 + y 0) (h1 : (j 1 : ℕ) = y 1), (outsAt0 m c n hn).2 y = rowsR m c j := by
  intro n
  induction n with
  | zero =>
    intro hn y j h0 h1
    rw [outsAt0_A m c ⟨0, hn⟩ (by rfl) (show ¬ (0 : ℕ) % 11 = 10 by decide)]
    frame_out
    exact rows m c ⟨0, hn⟩ y j h0 h1
  | succ n ih =>
    intro hn y j h0 h1
    by_cases h : (n + 1) % 11 = 0
    · rw [outsAt0_A m c ⟨n + 1, hn⟩ h (show ¬ (n + 1) % 11 = 10 by omega)]
      frame_out
      exact rows m c ⟨n + 1, hn⟩ y j h0 h1
    · have e : (n + 1) / 11 = n / 11 := by omega
      by_cases h' : (n + 1) % 11 = 10
      · rw [outsAt0_C m c ⟨n + 1, hn⟩ h h']
        frame_out
        exact ih _ y j (by rw [← e]; exact h0) h1
      · rw [outsAt0_B m c ⟨n + 1, hn⟩ h h']
        frame_out
        exact ih _ y j (by rw [← e]; exact h0) h1

/-- One hidden block's part of the output projection. -/
def part (c : Dev nD) (j : S1024x2048.Idx) (s : Fin 11) : EReal :=
  ∑ k : Fin 512, hidR m c (ix2 (j 0) ⟨s.val * 512 + k.val, by omega⟩)
    * (show FVec Ideal S2x5632x2048 .f32 from m ((c : Thread nD τ).loc main_arg3)) (ix3 1 ⟨s.val * 512 + k.val, by omega⟩ (j 1))

/-- The accumulating payload over the normalised rows adds one hidden block's part. -/
theorem step (c : Dev nD) (t : Fin cfg0.N) (S : FVec Ideal S1024x2048 .bf16) (acc : FVec Ideal S1024x2048 .f32) (y : S1024x2048.Idx)
    (j : S1024x2048.Idx) (h0 : (j 0 : ℕ) = t.val / 11 * 1024 + y 0) (h1 : (j 1 : ℕ) = y 1)
    (hS : ∀ k, S (ix2 (y 0) k) = rowsR m c (ix2 (j 0) k)) :
    k0_pay3 S (iblk m c 1 t) (iblk m c 2 t) acc (iblk m c 3 t) y = acc y + part m c j ⟨t.val % 11, Nat.mod_lt _ (by decide)⟩ := by
  unfold part hidR
  pointwise [k0_pay3, HID]
  simp only [hS]
  simp only [Ideal.logistic]
  blk_point [iblk, V, idx t]

/-- The parts of the first `n` hidden blocks, added up. -/
def parts (c : Dev nD) (j : S1024x2048.Idx) (n : ℕ) : EReal :=
  ∑ s ∈ Finset.range n, if h : s < 11 then part m c j ⟨s, h⟩ else 0

theorem parts_zero (c : Dev nD) (j : S1024x2048.Idx) : parts m c j 0 = 0 := Finset.sum_range_zero _

theorem parts_succ (c : Dev nD) (j : S1024x2048.Idx) (n : ℕ) (h : n < 11) :
    parts m c j (n + 1) = parts m c j n + part m c j ⟨n, h⟩ := by
  unfold parts
  rw [Finset.sum_range_succ, dif_pos h]

/-- All parts together are the one product over every hidden column. -/
theorem parts_all (c : Dev nD) (j : S1024x2048.Idx) :
    parts m c j 11 = ∑ l : Fin 5632, hidR m c (ix2 (j 0) l)
      * (show FVec Ideal S2x5632x2048 .f32 from m ((c : Thread nD τ).loc main_arg3)) (ix3 1 l (j 1)) := by
  have e : parts m c j 11 = ∑ s : Fin 11, part m c j s := by
    unfold parts
    rw [Finset.sum_range]
    exact Finset.sum_congr rfl fun s _ => dif_pos s.isLt
  rw [e]
  unfold part
  exact Fin.sum_mul_add_congr fun s k hl => rfl

/-- Before a row block's last point the output block holds the parts so far. -/
theorem partial_sum (c : Dev nD) : ∀ (n : ℕ) (hn : n < cfg0.N) (hl : n % 11 < 10) (y : S1024x2048.Idx) (j : S1024x2048.Idx)
    (h0 : (j 0 : ℕ) = n / 11 * 1024 + y 0) (h1 : (j 1 : ℕ) = y 1), (outsAt0 m c n hn).1 y = parts m c j (n % 11 + 1) := by
  intro n
  induction n with
  | zero =>
    intro hn hl y j h0 h1
    rw [outsAt0_A m c ⟨0, hn⟩ (by rfl) (show ¬ (0 : ℕ) % 11 = 10 by decide)]
    frame_out
    rw [step m c ⟨0, hn⟩ _ _ y j h0 h1 (fun k => rows m c ⟨0, hn⟩ _ _ h0 rfl), parts_succ m c j 0 (by decide), parts_zero]
    pointwise [k0_pay2]
  | succ n ih =>
    intro hn hl y j h0 h1
    by_cases h : (n + 1) % 11 = 0
    · rw [outsAt0_A m c ⟨n + 1, hn⟩ h (show ¬ (n + 1) % 11 = 10 by omega)]
      frame_out
      rw [step m c ⟨n + 1, hn⟩ _ _ y j h0 h1 (fun k => rows m c ⟨n + 1, hn⟩ _ _ h0 rfl)]
      simp only [h]
      rw [parts_succ m c j 0 (by decide), parts_zero]
      pointwise [k0_pay2]
    · have e : (n + 1) / 11 = n / 11 := by omega
      have e' : (n + 1) % 11 = n % 11 + 1 := by omega
      have h0' : (j 0 : ℕ) = n / 11 * 1024 + y 0 := by rw [← e]; exact h0
      rw [outsAt0_B m c ⟨n + 1, hn⟩ h (show ¬ (n + 1) % 11 = 10 by omega)]
      frame_out
      refine (congrArg (fun S => k0_pay3 S (iblk m c 1 ⟨n + 1, hn⟩) (iblk m c 2 ⟨n + 1, hn⟩) (outsAt0 m c n (by omega)).1
        (iblk m c 3 ⟨n + 1, hn⟩) y) (Memref.IsWhole.read_unread _ _)).trans ?_
      change k0_pay3 (outsAt0 m c n (by omega)).2 _ _ _ _ y = _
      rw [step m c ⟨n + 1, hn⟩ _ _ y j h0 h1 (fun k => scratch m c n _ _ _ h0' rfl), parts_succ m c j _ (by omega)]
      refine congrArg₂ (· + ·) ?_ rfl
      rw [e']
      exact ih _ (by omega) y j h0' h1

/-- What a row block's last point leaves before the residual: all parts. -/
theorem full_sum (c : Dev nD) (t : Fin cfg0.N) (h : ¬ t.val % 11 = 0) (h' : t.val % 11 = 10) (y : S1024x2048.Idx) (j : S1024x2048.Idx)
    (h0 : (j 0 : ℕ) = t.val / 11 * 1024 + y 0) (h1 : (j 1 : ℕ) = y 1) :
    k0_pay3 (outsAt0 m c (t.val - 1) (by omega)).2 (iblk m c 1 t) (iblk m c 2 t) (outsAt0 m c (t.val - 1) (by omega)).1 (iblk m c 3 t) y
      = parts m c j 11 := by
  have e : t.val / 11 = (t.val - 1) / 11 := by omega
  have h0' : (j 0 : ℕ) = (t.val - 1) / 11 * 1024 + y 0 := by rw [← e]; exact h0
  rw [step m c t _ _ y j h0 h1 (fun k => scratch m c (t.val - 1) _ _ _ h0' rfl), parts_succ m c j 10 (by decide),
    partial_sum m c (t.val - 1) _ (by omega) y j h0' h1]
  have e1 : (t.val - 1) % 11 + 1 = 10 := by omega
  simp only [e1, h']

theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have h' : t.val % 11 = 10 := (flush0_6 t).mp hf
  have h : ¬ t.val % 11 = 0 := by omega
  blk_simp
  rw [after0_6, outsAt0_C m c t h h']
  frame_out
  have hn : t.val - 1 < cfg0.N := lt_of_le_of_lt (Nat.sub_le _ _) t.isLt
  obtain ⟨S, hS⟩ : ∃ S, S = k0_pay3 (outsAt0 m c (t.val - 1) hn).2 (iblk m c 1 t) (iblk m c 2 t) (outsAt0 m c (t.val - 1) hn).1
    (iblk m c 3 t) := ⟨_, rfl⟩
  refine (congrArg (fun S => k0_pay4 (iblk m c 5 t) S y) ((congrArg (fun S => k0_pay3 S (iblk m c 1 t) (iblk m c 2 t)
    (outsAt0 m c (t.val - 1) hn).1 (iblk m c 3 t)) (Memref.IsWhole.read_unread _ _)).trans hS.symm)).trans ?_
  have hs := fun y j h0 h1 => (congrFun hS y).trans ((full_sum m c t h h' y j h0 h1).trans (parts_all m c j))
  clear hS
  change _ = SUM (m ((c : Thread nD τ).loc main_arg0)) (hidR m c) (m ((c : Thread nD τ).loc main_arg3)) _
  generalize hidR m c = D at hs ⊢
  have hy : S y = _ := hs y (((cfg0.win 6).blk t).view.emb y) (by blk_simp [idx t]) (by blk_simp [idx t])
  pointwise [k0_pay4, SUM]
  rw [hy]
  blk_point [iblk, V, idx t]

end Cert.SampleHalfLastIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemReferenceIdeal
public import proofs.«01_k».proof.Proof.Gen.FfnIdeal.Value
public import proofs.«01_k».proof.Proof.Gen.ProjIdeal.Value
public import proofs.«01_k».proof.Proof.Gen.OutIdeal.Value
public import proofs.«01_k».proof.Proof.Gen.MemIdeal.Value
public import proofs.«01_k».proof.Proof.Gen.ReferenceIdeal.Run
public import proofs.«01_k».proof.Proof.Gen.Reference.Run
public import proofs.«01_k».proof.Proof.Gen.FfnReferenceIdeal.Run
public import proofs.«01_k».proof.Proof.Gen.ProjReferenceIdeal.Run
public import proofs.«01_k».proof.Proof.Gen.OutReferenceIdeal.Run
public import proofs.«01_k».proof.Proof.Gen.MemReferenceIdeal.Run
public import proofs.«01_k».proof.Proof.Gen.Val
public import proofs.«01_k».proof.Proof.Gen.Val.Skeleton
public import proofs.«01_k».proof.Proof.Gen.Val.Launch
public import proofs.«01_k».proof.Proof.Gen.Val.Points
public import proofs.«01_k».proof.Proof.Gen.Val.Frame
public import proofs.«01_k».proof.Proof.Gen.ValIdeal
public import proofs.«01_k».proof.Proof.Gen.ValIdeal.Skeleton
public import proofs.«01_k».proof.Proof.Gen.ValIdeal.Launch
public import proofs.«01_k».proof.Proof.Gen.ValIdeal.Points
public import proofs.«01_k».proof.Proof.Gen.ValIdeal.Frame
public import proofs.«01_k».proof.Proof.Gen.ValReferenceIdeal
public import proofs.«01_k».proof.Proof.Gen.ValIdeal.Value
public import proofs.«01_k».proof.Proof.Gen.ValReferenceIdeal.Run
public import proofs.«01_k».proof.Proof.Gen.MemKey
public import proofs.«01_k».proof.Proof.Gen.MemKey.Skeleton
public import proofs.«01_k».proof.Proof.Gen.MemKey.Launch
public import proofs.«01_k».proof.Proof.Gen.MemKey.Points
public import proofs.«01_k».proof.Proof.Gen.MemKey.Frame
public import proofs.«01_k».proof.Proof.Gen.MemKeyIdeal
public import proofs.«01_k».proof.Proof.Gen.MemKeyIdeal.Skeleton
public import proofs.«01_k».proof.Proof.Gen.MemKeyIdeal.Launch
public import proofs.«01_k».proof.Proof.Gen.MemKeyIdeal.Points
public import proofs.«01_k».proof.Proof.Gen.MemKeyIdeal.Frame
public import proofs.«01_k».proof.Proof.Gen.MemKeyReferenceIdeal
public import proofs.«01_k».proof.Proof.Gen.MemKeyIdeal.Value
public import proofs.«01_k».proof.Proof.Gen.MemKeyReferenceIdeal.Run
public import proofs.«01_k».proof.Proof.Gen.MemVal
public import proofs.«01_k».proof.Proof.Gen.MemVal.Skeleton
public import proofs.«01_k».proof.Proof.Gen.MemVal.Launch
public import proofs.«01_k».proof.Proof.Gen.MemVal.Points
public import proofs.«01_k».proof.Proof.Gen.MemVal.Frame
public import proofs.«01_k».proof.Proof.Gen.MemValIdeal
public import proofs.«01_k».proof.Proof.Gen.MemValIdeal.Skeleton
public import proofs.«01_k».proof.Proof.Gen.MemValIdeal.Launch
public import proofs.«01_k».proof.Proof.Gen.MemValIdeal.Points
public import proofs.«01_k».proof.Proof.Gen.MemValIdeal.Frame
public import proofs.«01_k».proof.Proof.Gen.MemValReferenceIdeal
public import proofs.«01_k».proof.Proof.Gen.MemValIdeal.Value
public import proofs.«01_k».proof.Proof.Gen.MemValReferenceIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvReferenceIdeal
public import proofs.«01_k».proof.Proof.Gen.ConvIdeal.Value
public import proofs.«01_k».proof.Proof.Gen.ConvReferenceIdeal.Run
public import proofs.«01_k».proof.Proof.Gen.SampleKey
public import proofs.«01_k».proof.Proof.Gen.SampleKey.Skeleton
public import proofs.«01_k».proof.Proof.Gen.SampleKey.Launch
public import proofs.«01_k».proof.Proof.Gen.SampleKey.Points
public import proofs.«01_k».proof.Proof.Gen.SampleKey.Frame
public import proofs.«01_k».proof.Proof.Gen.SampleKeyIdeal
public import proofs.«01_k».proof.Proof.Gen.SampleKeyIdeal.Skeleton
public import proofs.«01_k».proof.Proof.Gen.SampleKeyIdeal.Launch
public import proofs.«01_k».proof.Proof.Gen.SampleKeyIdeal.Points
public import proofs.«01_k».proof.Proof.Gen.SampleKeyIdeal.Frame
public import proofs.«01_k».proof.Proof.Gen.SampleKeyReferenceIdeal
public import proofs.«01_k».proof.Proof.Gen.SampleKeyIdeal.Value
public import proofs.«01_k».proof.Proof.Gen.SampleKeyReferenceIdeal.Run
public import proofs.«01_k».proof.Proof.Gen.SampleVal
public import proofs.«01_k».proof.Proof.Gen.SampleVal.Skeleton
public import proofs.«01_k».proof.Proof.Gen.SampleVal.Launch
public import proofs.«01_k».proof.Proof.Gen.SampleVal.Points
public import proofs.«01_k».proof.Proof.Gen.SampleVal.Frame
public import proofs.«01_k».proof.Proof.Gen.SampleValIdeal
public import proofs.«01_k».proof.Proof.Gen.SampleValIdeal.Skeleton
public import proofs.«01_k».proof.Proof.Gen.SampleValIdeal.Launch
public import proofs.«01_k».proof.Proof.Gen.SampleValIdeal.Points
public import proofs.«01_k».proof.Proof.Gen.SampleValIdeal.Frame
public import proofs.«01_k».proof.Proof.Gen.SampleValReferenceIdeal
public import proofs.«01_k».proof.Proof.Gen.SampleValIdeal.Value
public import proofs.«01_k».proof.Proof.Gen.SampleValReferenceIdeal.Run
public import proofs.«01_k».proof.Proof.Gen.SampleConv
public import proofs.«01_k».proof.Proof.Gen.SampleConv.Skeleton
public import proofs.«01_k».proof.Proof.Gen.SampleConv.Launch
public import proofs.«01_k».proof.Proof.Gen.SampleConv.Points
public import proofs.«01_k».proof.Proof.Gen.SampleConv.Frame
public import proofs.«01_k».proof.Proof.Gen.SampleConvIdeal
public import proofs.«01_k».proof.Proof.Gen.SampleConvIdeal.Skeleton
public import proofs.«01_k».proof.Proof.Gen.SampleConvIdeal.Launch
public import proofs.«01_k».proof.Proof.Gen.SampleConvIdeal.Points
public import proofs.«01_k».proof.Proof.Gen.SampleConvIdeal.Frame
public import proofs.«01_k».proof.Proof.Gen.SampleConvReferenceIdeal
public import proofs.«01_k».proof.Proof.Gen.SampleConvIdeal.Value
public import proofs.«01_k».proof.Proof.Gen.SampleConvReferenceIdeal.Run
public import proofs.«01_k».proof.Proof.Gen.SampleFfn
public import proofs.«01_k».proof.Proof.Gen.SampleFfn.Skeleton
public import proofs.«01_k».proof.Proof.Gen.SampleFfn.Launch
public import proofs.«01_k».proof.Proof.Gen.SampleFfn.Points
public import proofs.«01_k».proof.Proof.Gen.SampleFfn.Frame
public import proofs.«01_k».proof.Proof.Gen.SampleFfnIdeal
public import proofs.«01_k».proof.Proof.Gen.SampleFfnIdeal.Skeleton
public import proofs.«01_k».proof.Proof.Gen.SampleFfnIdeal.Launch
public import proofs.«01_k».proof.Proof.Gen.SampleFfnIdeal.Points
public import proofs.«01_k».proof.Proof.Gen.SampleFfnIdeal.Frame
public import proofs.«01_k».proof.Proof.Gen.SampleFfnReferenceIdeal
public import proofs.«01_k».proof.Proof.Gen.SampleFfnIdeal.Value
public import proofs.«01_k».proof.Proof.Gen.SampleFfnReferenceIdeal.Run
public import proofs.«01_k».proof.Proof.Gen.Half
public import proofs.«01_k».proof.Proof.Gen.Half.Skeleton
public import proofs.«01_k».proof.Proof.Gen.Half.Launch
public import proofs.«01_k».proof.Proof.Gen.Half.Points
public import proofs.«01_k».proof.Proof.Gen.Half.Frame
public import proofs.«01_k».proof.Proof.Gen.HalfIdeal
public import proofs.«01_k».proof.Proof.Gen.HalfIdeal.Skeleton
public import proofs.«01_k».proof.Proof.Gen.HalfIdeal.Launch
public import proofs.«01_k».proof.Proof.Gen.HalfIdeal.Points
public import proofs.«01_k».proof.Proof.Gen.HalfIdeal.Frame
public import proofs.«01_k».proof.Proof.Gen.HalfReferenceIdeal
public import proofs.«01_k».proof.Proof.Gen.HalfIdeal.Value
public import proofs.«01_k».proof.Proof.Gen.HalfReferenceIdeal.Run
public import proofs.«01_k».proof.Proof.Gen.SbOut
public import proofs.«01_k».proof.Proof.Gen.SbOut.Skeleton
public import proofs.«01_k».proof.Proof.Gen.SbOut.Launch
public import proofs.«01_k».proof.Proof.Gen.SbOut.Points
public import proofs.«01_k».proof.Proof.Gen.SbOut.Frame
public import proofs.«01_k».proof.Proof.Gen.SbOutIdeal
public import proofs.«01_k».proof.Proof.Gen.SbOutIdeal.Skeleton
public import proofs.«01_k».proof.Proof.Gen.SbOutIdeal.Launch
public import proofs.«01_k».proof.Proof.Gen.SbOutIdeal.Points
public import proofs.«01_k».proof.Proof.Gen.SbOutIdeal.Frame
public import proofs.«01_k».proof.Proof.Gen.SbOutReferenceIdeal
public import proofs.«01_k».proof.Proof.Gen.SbOutIdeal.Value
public import proofs.«01_k».proof.Proof.Gen.SbOutReferenceIdeal.Run
public import proofs.«01_k».proof.Proof.Gen.MemKeyLast
public import proofs.«01_k».proof.Proof.Gen.MemKeyLast.Skeleton
public import proofs.«01_k».proof.Proof.Gen.MemKeyLast.Launch
public import proofs.«01_k».proof.Proof.Gen.MemKeyLast.Points
public import proofs.«01_k».proof.Proof.Gen.MemKeyLast.Frame
public import proofs.«01_k».proof.Proof.Gen.MemKeyLastIdeal
public import proofs.«01_k».proof.Proof.Gen.MemKeyLastIdeal.Skeleton
public import proofs.«01_k».proof.Proof.Gen.MemKeyLastIdeal.Launch
public import proofs.«01_k».proof.Proof.Gen.MemKeyLastIdeal.Points
public import proofs.«01_k».proof.Proof.Gen.MemKeyLastIdeal.Frame
public import proofs.«01_k».proof.Proof.Gen.MemKeyLastReferenceIdeal
public import proofs.«01_k».proof.Proof.Gen.MemKeyLastIdeal.Value
public import proofs.«01_k».proof.Proof.Gen.MemKeyLastReferenceIdeal.Run
public import proofs.«01_k».proof.Proof.Gen.MemValLast
public import proofs.«01_k».proof.Proof.Gen.MemValLast.Skeleton
public import proofs.«01_k».proof.Proof.Gen.MemValLast.Launch
public import proofs.«01_k».proof.Proof.Gen.MemValLast.Points
public import proofs.«01_k».proof.Proof.Gen.MemValLast.Frame
public import proofs.«01_k».proof.Proof.Gen.MemValLastIdeal
public import proofs.«01_k».proof.Proof.Gen.MemValLastIdeal.Skeleton
public import proofs.«01_k».proof.Proof.Gen.MemValLastIdeal.Launch
public import proofs.«01_k».proof.Proof.Gen.MemValLastIdeal.Points
public import proofs.«01_k».proof.Proof.Gen.MemValLastIdeal.Frame
public import proofs.«01_k».proof.Proof.Gen.MemValLastReferenceIdeal
public import proofs.«01_k».proof.Proof.Gen.MemValLastIdeal.Value
public import proofs.«01_k».proof.Proof.Gen.MemValLastReferenceIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateReferenceIdeal
public import proofs.«01_k».proof.Proof.Gen.GateIdeal.Value
public import proofs.«01_k».proof.Proof.Gen.GateReferenceIdeal.Run
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepReferenceIdeal
public import proofs.«01_k».proof.Proof.Gen.StepIdeal.Value
public import proofs.«01_k».proof.Proof.Gen.StepReferenceIdeal.Run
public import proofs.«01_k».proof.Proof.Gen.SsdMemQuery
public import proofs.«01_k».proof.Proof.Gen.SsdMemQuery.Skeleton
public import proofs.«01_k».proof.Proof.Gen.SsdMemQuery.Launch
public import proofs.«01_k».proof.Proof.Gen.SsdMemQuery.Points
public import proofs.«01_k».proof.Proof.Gen.SsdMemQuery.Frame
public import proofs.«01_k».proof.Proof.Gen.SsdMemQueryIdeal
public import proofs.«01_k».proof.Proof.Gen.SsdMemQueryIdeal.Skeleton
public import proofs.«01_k».proof.Proof.Gen.SsdMemQueryIdeal.Launch
public import proofs.«01_k».proof.Proof.Gen.SsdMemQueryIdeal.Points
public import proofs.«01_k».proof.Proof.Gen.SsdMemQueryIdeal.Frame
public import proofs.«01_k».proof.Proof.Gen.SsdMemQueryReferenceIdeal
public import proofs.«01_k».proof.Proof.Gen.SsdMemQueryIdeal.Value
public import proofs.«01_k».proof.Proof.Gen.SsdMemQueryReferenceIdeal.Run
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryReferenceIdeal
public import proofs.«01_k».proof.Proof.Gen.QueryIdeal.Value
public import proofs.«01_k».proof.Proof.Gen.QueryReferenceIdeal.Run
public import proofs.«01_k».proof.Proof.Gen.SbMemQuery
public import proofs.«01_k».proof.Proof.Gen.SbMemQuery.Skeleton
public import proofs.«01_k».proof.Proof.Gen.SbMemQuery.Launch
public import proofs.«01_k».proof.Proof.Gen.SbMemQuery.Points
public import proofs.«01_k».proof.Proof.Gen.SbMemQuery.Frame
public import proofs.«01_k».proof.Proof.Gen.SbMemQueryIdeal
public import proofs.«01_k».proof.Proof.Gen.SbMemQueryIdeal.Skeleton
public import proofs.«01_k».proof.Proof.Gen.SbMemQueryIdeal.Launch
public import proofs.«01_k».proof.Proof.Gen.SbMemQueryIdeal.Points
public import proofs.«01_k».proof.Proof.Gen.SbMemQueryIdeal.Frame
public import proofs.«01_k».proof.Proof.Gen.SbMemQueryReferenceIdeal
public import proofs.«01_k».proof.Proof.Gen.SbMemQueryIdeal.Value
public import proofs.«01_k».proof.Proof.Gen.SbMemQueryReferenceIdeal.Run
public import Idealize.ShloMosaic.Adequacy
public import Idealize.ShloMosaic.Init
public import proofs.«01_k».proof.Proof.OutValue
public import proofs.«01_k».proof.Proof.ProjValue
public import proofs.«01_k».proof.Proof.FfnValue
public import proofs.«01_k».proof.Proof.MemValue
public import proofs.«01_k».proof.Proof.ValValue
public import proofs.«01_k».proof.Proof.MemKeyValue
public import proofs.«01_k».proof.Proof.MemValValue
public import proofs.«01_k».proof.Proof.ConvValue
public import proofs.«01_k».proof.Proof.SampleKeyValue
public import proofs.«01_k».proof.Proof.SampleValValue
public import proofs.«01_k».proof.Proof.SampleConvValue
public import proofs.«01_k».proof.Proof.SampleFfnValue
public import proofs.«01_k».proof.Proof.HalfValue
public import proofs.«01_k».proof.Proof.SbOutValue
public import proofs.«01_k».proof.Proof.MemKeyLastValue
public import proofs.«01_k».proof.Proof.MemValLastValue
public import proofs.«01_k».proof.Proof.GateValue
public import proofs.«01_k».proof.Proof.StepValue
public import proofs.«01_k».proof.Proof.SsdMemQueryValue
public import proofs.«01_k».proof.Proof.QueryValue
public import proofs.«01_k».proof.Proof.SbMemQueryValue
public import proofs.«01_k».proof.Proof.KernelFrame
public import proofs.«01_k».proof.Proof.KernelIdealFrame
public import proofs.«01_k».proof.Proof.SbValue
public import proofs.«01_k».proof.Proof.Gen.SampleOut
public import proofs.«01_k».proof.Proof.Gen.SampleOut.Skeleton
public import proofs.«01_k».proof.Proof.Gen.SampleOut.Launch
public import proofs.«01_k».proof.Proof.Gen.SampleOut.Points
public import proofs.«01_k».proof.Proof.Gen.SampleOut.Frame
public import proofs.«01_k».proof.Proof.Gen.SampleOutIdeal
public import proofs.«01_k».proof.Proof.Gen.SampleOutIdeal.Skeleton
public import proofs.«01_k».proof.Proof.Gen.SampleOutIdeal.Launch
public import proofs.«01_k».proof.Proof.Gen.SampleOutIdeal.Points
public import proofs.«01_k».proof.Proof.Gen.SampleOutIdeal.Frame
public import proofs.«01_k».proof.Proof.Gen.SampleOutReferenceIdeal
public import proofs.«01_k».proof.Proof.Gen.SampleOutIdeal.Value
public import proofs.«01_k».proof.Proof.Gen.SampleOutReferenceIdeal.Run
public import proofs.«01_k».proof.Proof.Gen.SampleSbOut
public import proofs.«01_k».proof.Proof.Gen.SampleSbOut.Skeleton
public import proofs.«01_k».proof.Proof.Gen.SampleSbOut.Launch
public import proofs.«01_k».proof.Proof.Gen.SampleSbOut.Points
public import proofs.«01_k».proof.Proof.Gen.SampleSbOut.Frame
public import proofs.«01_k».proof.Proof.Gen.SampleSbOutIdeal
public import proofs.«01_k».proof.Proof.Gen.SampleSbOutIdeal.Skeleton
public import proofs.«01_k».proof.Proof.Gen.SampleSbOutIdeal.Launch
public import proofs.«01_k».proof.Proof.Gen.SampleSbOutIdeal.Points
public import proofs.«01_k».proof.Proof.Gen.SampleSbOutIdeal.Frame
public import proofs.«01_k».proof.Proof.Gen.SampleSbOutReferenceIdeal
public import proofs.«01_k».proof.Proof.Gen.SampleSbOutIdeal.Value
public import proofs.«01_k».proof.Proof.Gen.SampleSbOutReferenceIdeal.Run
public import proofs.«01_k».proof.Proof.Gen.SampleHalf
public import proofs.«01_k».proof.Proof.Gen.SampleHalf.Skeleton
public import proofs.«01_k».proof.Proof.Gen.SampleHalf.Launch
public import proofs.«01_k».proof.Proof.Gen.SampleHalf.Points
public import proofs.«01_k».proof.Proof.Gen.SampleHalf.Frame
public import proofs.«01_k».proof.Proof.Gen.SampleHalfIdeal
public import proofs.«01_k».proof.Proof.Gen.SampleHalfIdeal.Skeleton
public import proofs.«01_k».proof.Proof.Gen.SampleHalfIdeal.Launch
public import proofs.«01_k».proof.Proof.Gen.SampleHalfIdeal.Points
public import proofs.«01_k».proof.Proof.Gen.SampleHalfIdeal.Frame
public import proofs.«01_k».proof.Proof.Gen.SampleHalfReferenceIdeal
public import proofs.«01_k».proof.Proof.Gen.SampleHalfIdeal.Value
public import proofs.«01_k».proof.Proof.Gen.SampleHalfReferenceIdeal.Run
public import proofs.«01_k».proof.Proof.Gen.SampleGate
public import proofs.«01_k».proof.Proof.Gen.SampleGate.Skeleton
public import proofs.«01_k».proof.Proof.Gen.SampleGate.Launch
public import proofs.«01_k».proof.Proof.Gen.SampleGate.Points
public import proofs.«01_k».proof.Proof.Gen.SampleGate.Frame
public import proofs.«01_k».proof.Proof.Gen.SampleGateIdeal
public import proofs.«01_k».proof.Proof.Gen.SampleGateIdeal.Skeleton
public import proofs.«01_k».proof.Proof.Gen.SampleGateIdeal.Launch
public import proofs.«01_k».proof.Proof.Gen.SampleGateIdeal.Points
public import proofs.«01_k».proof.Proof.Gen.SampleGateIdeal.Frame
public import proofs.«01_k».proof.Proof.Gen.SampleGateReferenceIdeal
public import proofs.«01_k».proof.Proof.Gen.SampleGateIdeal.Value
public import proofs.«01_k».proof.Proof.Gen.SampleGateReferenceIdeal.Run
public import proofs.«01_k».proof.Proof.Gen.SampleStep
public import proofs.«01_k».proof.Proof.Gen.SampleStep.Skeleton
public import proofs.«01_k».proof.Proof.Gen.SampleStep.Launch
public import proofs.«01_k».proof.Proof.Gen.SampleStep.Points
public import proofs.«01_k».proof.Proof.Gen.SampleStep.Frame
public import proofs.«01_k».proof.Proof.Gen.SampleStepIdeal
public import proofs.«01_k».proof.Proof.Gen.SampleStepIdeal.Skeleton
public import proofs.«01_k».proof.Proof.Gen.SampleStepIdeal.Launch
public import proofs.«01_k».proof.Proof.Gen.SampleStepIdeal.Points
public import proofs.«01_k».proof.Proof.Gen.SampleStepIdeal.Frame
public import proofs.«01_k».proof.Proof.Gen.SampleStepReferenceIdeal
public import proofs.«01_k».proof.Proof.Gen.SampleStepIdeal.Value
public import proofs.«01_k».proof.Proof.Gen.SampleStepReferenceIdeal.Run
public import proofs.«01_k».proof.Proof.Gen.SampleSsdMemQuery
public import proofs.«01_k».proof.Proof.Gen.SampleSsdMemQuery.Skeleton
public import proofs.«01_k».proof.Proof.Gen.SampleSsdMemQuery.Launch
public import proofs.«01_k».proof.Proof.Gen.SampleSsdMemQuery.Points
public import proofs.«01_k».proof.Proof.Gen.SampleSsdMemQuery.Frame
public import proofs.«01_k».proof.Proof.Gen.SampleSsdMemQueryIdeal
public import proofs.«01_k».proof.Proof.Gen.SampleSsdMemQueryIdeal.Skeleton
public import proofs.«01_k».proof.Proof.Gen.SampleSsdMemQueryIdeal.Launch
public import proofs.«01_k».proof.Proof.Gen.SampleSsdMemQueryIdeal.Points
public import proofs.«01_k».proof.Proof.Gen.SampleSsdMemQueryIdeal.Frame
public import proofs.«01_k».proof.Proof.Gen.SampleSsdMemQueryReferenceIdeal
public import proofs.«01_k».proof.Proof.Gen.SampleSsdMemQueryIdeal.Value
public import proofs.«01_k».proof.Proof.Gen.SampleSsdMemQueryReferenceIdeal.Run
public import proofs.«01_k».proof.Proof.Gen.SampleQuery
public import proofs.«01_k».proof.Proof.Gen.SampleQuery.Skeleton
public import proofs.«01_k».proof.Proof.Gen.SampleQuery.Launch
public import proofs.«01_k».proof.Proof.Gen.SampleQuery.Points
public import proofs.«01_k».proof.Proof.Gen.SampleQuery.Frame
public import proofs.«01_k».proof.Proof.Gen.SampleQueryIdeal
public import proofs.«01_k».proof.Proof.Gen.SampleQueryIdeal.Skeleton
public import proofs.«01_k».proof.Proof.Gen.SampleQueryIdeal.Launch
public import proofs.«01_k».proof.Proof.Gen.SampleQueryIdeal.Points
public import proofs.«01_k».proof.Proof.Gen.SampleQueryIdeal.Frame
public import proofs.«01_k».proof.Proof.Gen.SampleQueryReferenceIdeal
public import proofs.«01_k».proof.Proof.Gen.SampleQueryIdeal.Value
public import proofs.«01_k».proof.Proof.Gen.SampleQueryReferenceIdeal.Run
public import proofs.«01_k».proof.Proof.Gen.SampleSbMemQuery
public import proofs.«01_k».proof.Proof.Gen.SampleSbMemQuery.Skeleton
public import proofs.«01_k».proof.Proof.Gen.SampleSbMemQuery.Launch
public import proofs.«01_k».proof.Proof.Gen.SampleSbMemQuery.Points
public import proofs.«01_k».proof.Proof.Gen.SampleSbMemQuery.Frame
public import proofs.«01_k».proof.Proof.Gen.SampleSbMemQueryIdeal
public import proofs.«01_k».proof.Proof.Gen.SampleSbMemQueryIdeal.Skeleton
public import proofs.«01_k».proof.Proof.Gen.SampleSbMemQueryIdeal.Launch
public import proofs.«01_k».proof.Proof.Gen.SampleSbMemQueryIdeal.Points
public import proofs.«01_k».proof.Proof.Gen.SampleSbMemQueryIdeal.Frame
public import proofs.«01_k».proof.Proof.Gen.SampleSbMemQueryReferenceIdeal
public import proofs.«01_k».proof.Proof.Gen.SampleSbMemQueryIdeal.Value
public import proofs.«01_k».proof.Proof.Gen.SampleSbMemQueryReferenceIdeal.Run
public import proofs.«01_k».proof.Proof.Gen.HalfLast
public import proofs.«01_k».proof.Proof.Gen.HalfLast.Skeleton
public import proofs.«01_k».proof.Proof.Gen.HalfLast.Launch
public import proofs.«01_k».proof.Proof.Gen.HalfLast.Points
public import proofs.«01_k».proof.Proof.Gen.HalfLast.Frame
public import proofs.«01_k».proof.Proof.Gen.HalfLastIdeal
public import proofs.«01_k».proof.Proof.Gen.HalfLastIdeal.Skeleton
public import proofs.«01_k».proof.Proof.Gen.HalfLastIdeal.Launch
public import proofs.«01_k».proof.Proof.Gen.HalfLastIdeal.Points
public import proofs.«01_k».proof.Proof.Gen.HalfLastIdeal.Frame
public import proofs.«01_k».proof.Proof.Gen.HalfLastReferenceIdeal
public import proofs.«01_k».proof.Proof.Gen.HalfLastIdeal.Value
public import proofs.«01_k».proof.Proof.Gen.HalfLastReferenceIdeal.Run
public import proofs.«01_k».proof.Proof.Gen.SampleHalfLast
public import proofs.«01_k».proof.Proof.Gen.SampleHalfLast.Skeleton
public import proofs.«01_k».proof.Proof.Gen.SampleHalfLast.Launch
public import proofs.«01_k».proof.Proof.Gen.SampleHalfLast.Points
public import proofs.«01_k».proof.Proof.Gen.SampleHalfLast.Frame
public import proofs.«01_k».proof.Proof.Gen.SampleHalfLastIdeal
public import proofs.«01_k».proof.Proof.Gen.SampleHalfLastIdeal.Skeleton
public import proofs.«01_k».proof.Proof.Gen.SampleHalfLastIdeal.Launch
public import proofs.«01_k».proof.Proof.Gen.SampleHalfLastIdeal.Points
public import proofs.«01_k».proof.Proof.Gen.SampleHalfLastIdeal.Frame
public import proofs.«01_k».proof.Proof.Gen.SampleHalfLastReferenceIdeal
public import proofs.«01_k».proof.Proof.Gen.SampleHalfLastIdeal.Value
public import proofs.«01_k».proof.Proof.Gen.SampleHalfLastReferenceIdeal.Run
public import proofs.«01_k».proof.Proof.SampleOutValue
public import proofs.«01_k».proof.Proof.SampleSbOutValue
public import proofs.«01_k».proof.Proof.SampleHalfValue
public import proofs.«01_k».proof.Proof.SampleGateValue
public import proofs.«01_k».proof.Proof.SampleStepValue
public import proofs.«01_k».proof.Proof.SampleSsdMemQueryValue
public import proofs.«01_k».proof.Proof.SampleQueryValue
public import proofs.«01_k».proof.Proof.SampleSbMemQueryValue
public import proofs.«01_k».proof.Proof.HalfLastValue
public import proofs.«01_k».proof.Proof.SampleHalfLastValue

@[expose] public section

set_option maxRecDepth 16384

noncomputable section

namespace Cert.Proof

open Idealize.ShloMosaic Idealize.SL.Sem Cert.Kernel

/-- The precondition's own shape facts. -/
theorem facts_finite : Cert.Pre_finite.Facts where
  bcast_S_S2x4096x2048 := by decide
  bcast_S_S16 := by decide

instance : Cert.Pre_finite.Facts := facts_finite

theorem frame_ReferenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_Reference : Cert.quiescent_Reference := fun m ρ _ =>
  (θ_run Cert.Reference.defs _ _).mono (fun r h => ⟨fun c => (h c).2, sem_eq_zero_of_no_sems (by decide) r.2⟩) (Cert.Reference.Value.run m ρ)

theorem frame_FfnReferenceIdeal : Cert.quiescent_FfnReferenceIdeal := fun m ρ _ =>
  (θ_run Cert.FfnReferenceIdeal.defs _ _).mono (fun r h => ⟨fun c => (h c).2, sem_eq_zero_of_no_sems (by decide) r.2⟩) (Cert.FfnReferenceIdeal.Value.run m ρ)

theorem frame_ProjReferenceIdeal : Cert.quiescent_ProjReferenceIdeal := fun m ρ _ =>
  (θ_run Cert.ProjReferenceIdeal.defs _ _).mono (fun r h => ⟨fun c => (h c).2, sem_eq_zero_of_no_sems (by decide) r.2⟩) (Cert.ProjReferenceIdeal.Value.run m ρ)

theorem frame_OutReferenceIdeal : Cert.quiescent_OutReferenceIdeal := fun m ρ _ =>
  (θ_run Cert.OutReferenceIdeal.defs _ _).mono (fun r h => ⟨fun c => (h c).2, sem_eq_zero_of_no_sems (by decide) r.2⟩) (Cert.OutReferenceIdeal.Value.run m ρ)

theorem frame_MemReferenceIdeal : Cert.quiescent_MemReferenceIdeal := fun m ρ _ =>
  (θ_run Cert.MemReferenceIdeal.defs _ _).mono (fun r h => ⟨fun c => (h c).2, sem_eq_zero_of_no_sems (by decide) r.2⟩) (Cert.MemReferenceIdeal.Value.run m ρ)

theorem frame_ValReferenceIdeal : Cert.quiescent_ValReferenceIdeal := fun m ρ _ =>
  (θ_run Cert.ValReferenceIdeal.defs _ _).mono (fun r h => ⟨fun c => (h c).2, sem_eq_zero_of_no_sems (by decide) r.2⟩) (Cert.ValReferenceIdeal.Value.run m ρ)

theorem frame_MemKeyReferenceIdeal : Cert.quiescent_MemKeyReferenceIdeal := fun m ρ _ =>
  (θ_run Cert.MemKeyReferenceIdeal.defs _ _).mono (fun r h => ⟨fun c => (h c).2, sem_eq_zero_of_no_sems (by decide) r.2⟩) (Cert.MemKeyReferenceIdeal.Value.run m ρ)

theorem frame_MemValReferenceIdeal : Cert.quiescent_MemValReferenceIdeal := fun m ρ _ =>
  (θ_run Cert.MemValReferenceIdeal.defs _ _).mono (fun r h => ⟨fun c => (h c).2, sem_eq_zero_of_no_sems (by decide) r.2⟩) (Cert.MemValReferenceIdeal.Value.run m ρ)

theorem frame_ConvReferenceIdeal : Cert.quiescent_ConvReferenceIdeal := fun m ρ _ =>
  (θ_run Cert.ConvReferenceIdeal.defs _ _).mono (fun r h => ⟨fun c => (h c).2, sem_eq_zero_of_no_sems (by decide) r.2⟩) (Cert.ConvReferenceIdeal.Value.run m ρ)

theorem frame_SampleKeyReferenceIdeal : Cert.quiescent_SampleKeyReferenceIdeal := fun m ρ _ =>
  (θ_run Cert.SampleKeyReferenceIdeal.defs _ _).mono (fun r h => ⟨fun c => (h c).2, sem_eq_zero_of_no_sems (by decide) r.2⟩) (Cert.SampleKeyReferenceIdeal.Value.run m ρ)

theorem frame_SampleValReferenceIdeal : Cert.quiescent_SampleValReferenceIdeal := fun m ρ _ =>
  (θ_run Cert.SampleValReferenceIdeal.defs _ _).mono (fun r h => ⟨fun c => (h c).2, sem_eq_zero_of_no_sems (by decide) r.2⟩) (Cert.SampleValReferenceIdeal.Value.run m ρ)

theorem frame_SampleConvReferenceIdeal : Cert.quiescent_SampleConvReferenceIdeal := fun m ρ _ =>
  (θ_run Cert.SampleConvReferenceIdeal.defs _ _).mono (fun r h => ⟨fun c => (h c).2, sem_eq_zero_of_no_sems (by decide) r.2⟩) (Cert.SampleConvReferenceIdeal.Value.run m ρ)

theorem frame_SampleFfnReferenceIdeal : Cert.quiescent_SampleFfnReferenceIdeal := fun m ρ _ =>
  (θ_run Cert.SampleFfnReferenceIdeal.defs _ _).mono (fun r h => ⟨fun c => (h c).2, sem_eq_zero_of_no_sems (by decide) r.2⟩) (Cert.SampleFfnReferenceIdeal.Value.run m ρ)

theorem frame_HalfReferenceIdeal : Cert.quiescent_HalfReferenceIdeal := fun m ρ _ =>
  (θ_run Cert.HalfReferenceIdeal.defs _ _).mono (fun r h => ⟨fun c => (h c).2, sem_eq_zero_of_no_sems (by decide) r.2⟩) (Cert.HalfReferenceIdeal.Value.run m ρ)

theorem frame_SbOutReferenceIdeal : Cert.quiescent_SbOutReferenceIdeal := fun m ρ _ =>
  (θ_run Cert.SbOutReferenceIdeal.defs _ _).mono (fun r h => ⟨fun c => (h c).2, sem_eq_zero_of_no_sems (by decide) r.2⟩) (Cert.SbOutReferenceIdeal.Value.run m ρ)

theorem frame_MemKeyLastReferenceIdeal : Cert.quiescent_MemKeyLastReferenceIdeal := fun m ρ _ =>
  (θ_run Cert.MemKeyLastReferenceIdeal.defs _ _).mono (fun r h => ⟨fun c => (h c).2, sem_eq_zero_of_no_sems (by decide) r.2⟩) (Cert.MemKeyLastReferenceIdeal.Value.run m ρ)

theorem frame_MemValLastReferenceIdeal : Cert.quiescent_MemValLastReferenceIdeal := fun m ρ _ =>
  (θ_run Cert.MemValLastReferenceIdeal.defs _ _).mono (fun r h => ⟨fun c => (h c).2, sem_eq_zero_of_no_sems (by decide) r.2⟩) (Cert.MemValLastReferenceIdeal.Value.run m ρ)

theorem frame_GateReferenceIdeal : Cert.quiescent_GateReferenceIdeal := fun m ρ _ =>
  (θ_run Cert.GateReferenceIdeal.defs _ _).mono (fun r h => ⟨fun c => (h c).2, sem_eq_zero_of_no_sems (by decide) r.2⟩) (Cert.GateReferenceIdeal.Value.run m ρ)

theorem frame_StepReferenceIdeal : Cert.quiescent_StepReferenceIdeal := fun m ρ _ =>
  (θ_run Cert.StepReferenceIdeal.defs _ _).mono (fun r h => ⟨fun c => (h c).2, sem_eq_zero_of_no_sems (by decide) r.2⟩) (Cert.StepReferenceIdeal.Value.run m ρ)

theorem frame_SsdMemQueryReferenceIdeal : Cert.quiescent_SsdMemQueryReferenceIdeal := fun m ρ _ =>
  (θ_run Cert.SsdMemQueryReferenceIdeal.defs _ _).mono (fun r h => ⟨fun c => (h c).2, sem_eq_zero_of_no_sems (by decide) r.2⟩) (Cert.SsdMemQueryReferenceIdeal.Value.run m ρ)

theorem frame_QueryReferenceIdeal : Cert.quiescent_QueryReferenceIdeal := fun m ρ _ =>
  (θ_run Cert.QueryReferenceIdeal.defs _ _).mono (fun r h => ⟨fun c => (h c).2, sem_eq_zero_of_no_sems (by decide) r.2⟩) (Cert.QueryReferenceIdeal.Value.run m ρ)

theorem frame_SbMemQueryReferenceIdeal : Cert.quiescent_SbMemQueryReferenceIdeal := fun m ρ _ =>
  (θ_run Cert.SbMemQueryReferenceIdeal.defs _ _).mono (fun r h => ⟨fun c => (h c).2, sem_eq_zero_of_no_sems (by decide) r.2⟩) (Cert.SbMemQueryReferenceIdeal.Value.run m ρ)

theorem frame_SampleOutReferenceIdeal : Cert.quiescent_SampleOutReferenceIdeal := fun m ρ _ =>
  (θ_run Cert.SampleOutReferenceIdeal.defs _ _).mono (fun r h => ⟨fun c => (h c).2, sem_eq_zero_of_no_sems (by decide) r.2⟩) (Cert.SampleOutReferenceIdeal.Value.run m ρ)

theorem frame_SampleSbOutReferenceIdeal : Cert.quiescent_SampleSbOutReferenceIdeal := fun m ρ _ =>
  (θ_run Cert.SampleSbOutReferenceIdeal.defs _ _).mono (fun r h => ⟨fun c => (h c).2, sem_eq_zero_of_no_sems (by decide) r.2⟩) (Cert.SampleSbOutReferenceIdeal.Value.run m ρ)

theorem frame_SampleHalfReferenceIdeal : Cert.quiescent_SampleHalfReferenceIdeal := fun m ρ _ =>
  (θ_run Cert.SampleHalfReferenceIdeal.defs _ _).mono (fun r h => ⟨fun c => (h c).2, sem_eq_zero_of_no_sems (by decide) r.2⟩) (Cert.SampleHalfReferenceIdeal.Value.run m ρ)

theorem frame_SampleGateReferenceIdeal : Cert.quiescent_SampleGateReferenceIdeal := fun m ρ _ =>
  (θ_run Cert.SampleGateReferenceIdeal.defs _ _).mono (fun r h => ⟨fun c => (h c).2, sem_eq_zero_of_no_sems (by decide) r.2⟩) (Cert.SampleGateReferenceIdeal.Value.run m ρ)

theorem frame_SampleStepReferenceIdeal : Cert.quiescent_SampleStepReferenceIdeal := fun m ρ _ =>
  (θ_run Cert.SampleStepReferenceIdeal.defs _ _).mono (fun r h => ⟨fun c => (h c).2, sem_eq_zero_of_no_sems (by decide) r.2⟩) (Cert.SampleStepReferenceIdeal.Value.run m ρ)

theorem frame_SampleSsdMemQueryReferenceIdeal : Cert.quiescent_SampleSsdMemQueryReferenceIdeal := fun m ρ _ =>
  (θ_run Cert.SampleSsdMemQueryReferenceIdeal.defs _ _).mono (fun r h => ⟨fun c => (h c).2, sem_eq_zero_of_no_sems (by decide) r.2⟩) (Cert.SampleSsdMemQueryReferenceIdeal.Value.run m ρ)

theorem frame_SampleQueryReferenceIdeal : Cert.quiescent_SampleQueryReferenceIdeal := fun m ρ _ =>
  (θ_run Cert.SampleQueryReferenceIdeal.defs _ _).mono (fun r h => ⟨fun c => (h c).2, sem_eq_zero_of_no_sems (by decide) r.2⟩) (Cert.SampleQueryReferenceIdeal.Value.run m ρ)

theorem frame_SampleSbMemQueryReferenceIdeal : Cert.quiescent_SampleSbMemQueryReferenceIdeal := fun m ρ _ =>
  (θ_run Cert.SampleSbMemQueryReferenceIdeal.defs _ _).mono (fun r h => ⟨fun c => (h c).2, sem_eq_zero_of_no_sems (by decide) r.2⟩) (Cert.SampleSbMemQueryReferenceIdeal.Value.run m ρ)

theorem frame_HalfLastReferenceIdeal : Cert.quiescent_HalfLastReferenceIdeal := fun m ρ _ =>
  (θ_run Cert.HalfLastReferenceIdeal.defs _ _).mono (fun r h => ⟨fun c => (h c).2, sem_eq_zero_of_no_sems (by decide) r.2⟩) (Cert.HalfLastReferenceIdeal.Value.run m ρ)

theorem frame_SampleHalfLastReferenceIdeal : Cert.quiescent_SampleHalfLastReferenceIdeal := fun m ρ _ =>
  (θ_run Cert.SampleHalfLastReferenceIdeal.defs _ _).mono (fun r h => ⟨fun c => (h c).2, sem_eq_zero_of_no_sems (by decide) r.2⟩) (Cert.SampleHalfLastReferenceIdeal.Value.run m ρ)

theorem frame_ReferenceIdeal_finite : Cert.quiescent_ReferenceIdeal_pre_finite := fun m ρ _ => frame_ReferenceIdeal m ρ trivial

/-- The two named constants of the stick-breaking kernel have the values their table gives them. -/
theorem preserves_Kernel : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "sb_scale2" .f32 0x3E0293EE#32 (((11863283 / 134217728) * (Real.log 2)⁻¹ : ℝ) : EReal) rfl⟩

theorem algebraic_Ffn : Cert.algebraic_FfnIdeal_FfnReferenceIdeal := by
  pair_intro
  · run_from Cert.FfnIdeal.Gen.run_main m g
  · hlo_run
    exact (Cert.FfnIdeal.Hand.final m c).symm

theorem algebraic_Proj : Cert.algebraic_ProjIdeal_ProjReferenceIdeal := by
  pair_intro
  · run_from Cert.ProjIdeal.Gen.run_main m g
  · hlo_run
    exact (Cert.ProjIdeal.Hand.final m c).symm

theorem algebraic_Out : Cert.algebraic_OutIdeal_OutReferenceIdeal := by
  pair_intro
  · run_from Cert.OutIdeal.Gen.run_main m g
  · hlo_run
    have h := Cert.OutIdeal.Hand.final m c
    rw [← (hagree c).2.1, ← (hagree c).2.2.1] at h
    exact h.symm

theorem algebraic_Mem : Cert.algebraic_MemIdeal_MemReferenceIdeal := by
  pair_intro
  · run_from Cert.MemIdeal.Gen.run_main m g
  · hlo_run
    exact (Cert.MemIdeal.Hand.final m c).symm

theorem algebraic_Val : Cert.algebraic_ValIdeal_ValReferenceIdeal := by
  pair_intro
  · run_from Cert.ValIdeal.Gen.run_main m g
  · hlo_run
    exact (Cert.ValIdeal.Hand.final m c).symm

theorem algebraic_MemKey : Cert.algebraic_MemKeyIdeal_MemKeyReferenceIdeal := by
  pair_intro
  · run_from Cert.MemKeyIdeal.Gen.run_main m g
  · hlo_run
    exact (Cert.MemKeyIdeal.Hand.final m c).symm

theorem algebraic_MemVal : Cert.algebraic_MemValIdeal_MemValReferenceIdeal := by
  pair_intro
  · run_from Cert.MemValIdeal.Gen.run_main m g
  · hlo_run
    exact (Cert.MemValIdeal.Hand.final m c).symm

theorem algebraic_Conv : Cert.algebraic_ConvIdeal_ConvReferenceIdeal := by
  pair_intro
  · run_from Cert.ConvIdeal.Gen.run_main m g
  · hlo_run
    exact (Cert.ConvIdeal.Hand.final m c).symm

theorem algebraic_SampleKey : Cert.algebraic_SampleKeyIdeal_SampleKeyReferenceIdeal := by
  pair_intro
  · run_from Cert.SampleKeyIdeal.Gen.run_main m g
  · hlo_run
    exact (Cert.SampleKeyIdeal.Hand.final m c).symm

theorem algebraic_SampleVal : Cert.algebraic_SampleValIdeal_SampleValReferenceIdeal := by
  pair_intro
  · run_from Cert.SampleValIdeal.Gen.run_main m g
  · hlo_run
    exact (Cert.SampleValIdeal.Hand.final m c).symm

theorem algebraic_SampleConv : Cert.algebraic_SampleConvIdeal_SampleConvReferenceIdeal := by
  pair_intro
  · run_from Cert.SampleConvIdeal.Gen.run_main m g
  · hlo_run
    exact (Cert.SampleConvIdeal.Hand.final m c).symm

theorem algebraic_SampleFfn : Cert.algebraic_SampleFfnIdeal_SampleFfnReferenceIdeal := by
  pair_intro
  · run_from Cert.SampleFfnIdeal.Gen.run_main m g
  · hlo_run
    exact (Cert.SampleFfnIdeal.Hand.final m c).symm

theorem algebraic_Half : Cert.algebraic_HalfIdeal_HalfReferenceIdeal := by
  pair_intro
  · run_from Cert.HalfIdeal.Gen.run_main m g
  · hlo_run
    exact (Cert.HalfIdeal.Hand.final m c).symm

theorem algebraic_SbOut : Cert.algebraic_SbOutIdeal_SbOutReferenceIdeal := by
  pair_intro
  · run_from Cert.SbOutIdeal.Gen.run_main m g
  · hlo_run
    have h := Cert.SbOutIdeal.Hand.final m c
    rw [← (hagree c).2.1, ← (hagree c).2.2.1] at h
    exact h.symm

theorem algebraic_MemKeyLast : Cert.algebraic_MemKeyLastIdeal_MemKeyLastReferenceIdeal := by
  pair_intro
  · run_from Cert.MemKeyLastIdeal.Gen.run_main m g
  · hlo_run
    exact (Cert.MemKeyLastIdeal.Hand.final m c).symm

theorem algebraic_MemValLast : Cert.algebraic_MemValLastIdeal_MemValLastReferenceIdeal := by
  pair_intro
  · run_from Cert.MemValLastIdeal.Gen.run_main m g
  · hlo_run
    exact (Cert.MemValLastIdeal.Hand.final m c).symm

theorem algebraic_Gate : Cert.algebraic_GateIdeal_GateReferenceIdeal := by
  pair_intro
  · run_from Cert.GateIdeal.Gen.run_main m g
  · hlo_run
    exact (Cert.GateIdeal.Hand.final m c).symm

theorem algebraic_Step : Cert.algebraic_StepIdeal_StepReferenceIdeal := by
  pair_intro
  · run_from Cert.StepIdeal.Gen.run_main m g
  · hlo_run
    exact (Cert.StepIdeal.Hand.final m c).symm

theorem algebraic_SsdMemQuery : Cert.algebraic_SsdMemQueryIdeal_SsdMemQueryReferenceIdeal := by
  pair_intro
  · run_from Cert.SsdMemQueryIdeal.Gen.run_main m g
  · hlo_run
    exact (Cert.SsdMemQueryIdeal.Hand.final m c).symm

theorem algebraic_Query : Cert.algebraic_QueryIdeal_QueryReferenceIdeal := by
  pair_intro
  · run_from Cert.QueryIdeal.Gen.run_main m g
  · hlo_run
    exact (Cert.QueryIdeal.Hand.final m c).symm

theorem algebraic_SbMemQuery : Cert.algebraic_SbMemQueryIdeal_SbMemQueryReferenceIdeal := by
  pair_intro
  · run_from Cert.SbMemQueryIdeal.Gen.run_main m g
  · hlo_run
    exact (Cert.SbMemQueryIdeal.Hand.final m c).symm

theorem algebraic_SampleOut : Cert.algebraic_SampleOutIdeal_SampleOutReferenceIdeal := by
  pair_intro
  · run_from Cert.SampleOutIdeal.Gen.run_main m g
  · hlo_run
    have h := Cert.SampleOutIdeal.Hand.final m c
    rw [← (hagree c).2.1, ← (hagree c).2.2.1] at h
    exact h.symm

theorem algebraic_SampleSbOut : Cert.algebraic_SampleSbOutIdeal_SampleSbOutReferenceIdeal := by
  pair_intro
  · run_from Cert.SampleSbOutIdeal.Gen.run_main m g
  · hlo_run
    have h := Cert.SampleSbOutIdeal.Hand.final m c
    rw [← (hagree c).2.1, ← (hagree c).2.2.1] at h
    exact h.symm

theorem algebraic_SampleHalf : Cert.algebraic_SampleHalfIdeal_SampleHalfReferenceIdeal := by
  pair_intro
  · run_from Cert.SampleHalfIdeal.Gen.run_main m g
  · hlo_run
    exact (Cert.SampleHalfIdeal.Hand.final m c).symm

theorem algebraic_SampleGate : Cert.algebraic_SampleGateIdeal_SampleGateReferenceIdeal := by
  pair_intro
  · run_from Cert.SampleGateIdeal.Gen.run_main m g
  · hlo_run
    exact (Cert.SampleGateIdeal.Hand.final m c).symm

theorem algebraic_SampleStep : Cert.algebraic_SampleStepIdeal_SampleStepReferenceIdeal := by
  pair_intro
  · run_from Cert.SampleStepIdeal.Gen.run_main m g
  · hlo_run
    exact (Cert.SampleStepIdeal.Hand.final m c).symm

theorem algebraic_SampleSsdMemQuery : Cert.algebraic_SampleSsdMemQueryIdeal_SampleSsdMemQueryReferenceIdeal := by
  pair_intro
  · run_from Cert.SampleSsdMemQueryIdeal.Gen.run_main m g
  · hlo_run
    exact (Cert.SampleSsdMemQueryIdeal.Hand.final m c).symm

theorem algebraic_SampleQuery : Cert.algebraic_SampleQueryIdeal_SampleQueryReferenceIdeal := by
  pair_intro
  · run_from Cert.SampleQueryIdeal.Gen.run_main m g
  · hlo_run
    exact (Cert.SampleQueryIdeal.Hand.final m c).symm

theorem algebraic_SampleSbMemQuery : Cert.algebraic_SampleSbMemQueryIdeal_SampleSbMemQueryReferenceIdeal := by
  pair_intro
  · run_from Cert.SampleSbMemQueryIdeal.Gen.run_main m g
  · hlo_run
    exact (Cert.SampleSbMemQueryIdeal.Hand.final m c).symm

theorem algebraic_HalfLast : Cert.algebraic_HalfLastIdeal_HalfLastReferenceIdeal := by
  pair_intro
  · run_from Cert.HalfLastIdeal.Gen.run_main m g
  · hlo_run
    exact (Cert.HalfLastIdeal.Hand.final m c).symm

theorem algebraic_SampleHalfLast : Cert.algebraic_SampleHalfLastIdeal_SampleHalfLastReferenceIdeal := by
  pair_intro
  · run_from Cert.SampleHalfLastIdeal.Gen.run_main m g
  · hlo_run
    exact (Cert.SampleHalfLastIdeal.Hand.final m c).symm

theorem algebraic_Sb : Cert.algebraic_KernelIdeal_ReferenceIdeal_pre_finite := by
  pair_intro
  · run_from Cert.KernelIdeal.Hand.run_main m g
  · hlo_run
    exact (Cert.KernelIdeal.Hand.final m hpre c).symm

theorem claim : Cert.Claim := ⟨Cert.Kernel.Gen.facts, Cert.KernelIdeal.Gen.facts, Cert.ReferenceIdeal.Gen.facts, Cert.Reference.Gen.facts, Cert.Ffn.Gen.facts, Cert.FfnIdeal.Gen.facts, Cert.FfnReferenceIdeal.Gen.facts, Cert.Proj.Gen.facts, Cert.ProjIdeal.Gen.facts, Cert.ProjReferenceIdeal.Gen.facts, Cert.Out.Gen.facts, Cert.OutIdeal.Gen.facts, Cert.OutReferenceIdeal.Gen.facts, Cert.Mem.Gen.facts, Cert.MemIdeal.Gen.facts, Cert.MemReferenceIdeal.Gen.facts, Cert.Val.Gen.facts, Cert.ValIdeal.Gen.facts, Cert.ValReferenceIdeal.Gen.facts, Cert.MemKey.Gen.facts, Cert.MemKeyIdeal.Gen.facts, Cert.MemKeyReferenceIdeal.Gen.facts, Cert.MemVal.Gen.facts, Cert.MemValIdeal.Gen.facts, Cert.MemValReferenceIdeal.Gen.facts, Cert.Conv.Gen.facts, Cert.ConvIdeal.Gen.facts, Cert.ConvReferenceIdeal.Gen.facts, Cert.SampleKey.Gen.facts, Cert.SampleKeyIdeal.Gen.facts, Cert.SampleKeyReferenceIdeal.Gen.facts, Cert.SampleVal.Gen.facts, Cert.SampleValIdeal.Gen.facts, Cert.SampleValReferenceIdeal.Gen.facts, Cert.SampleConv.Gen.facts, Cert.SampleConvIdeal.Gen.facts, Cert.SampleConvReferenceIdeal.Gen.facts, Cert.SampleFfn.Gen.facts, Cert.SampleFfnIdeal.Gen.facts, Cert.SampleFfnReferenceIdeal.Gen.facts, Cert.Half.Gen.facts, Cert.HalfIdeal.Gen.facts, Cert.HalfReferenceIdeal.Gen.facts, Cert.SbOut.Gen.facts, Cert.SbOutIdeal.Gen.facts, Cert.SbOutReferenceIdeal.Gen.facts, Cert.MemKeyLast.Gen.facts, Cert.MemKeyLastIdeal.Gen.facts, Cert.MemKeyLastReferenceIdeal.Gen.facts, Cert.MemValLast.Gen.facts, Cert.MemValLastIdeal.Gen.facts, Cert.MemValLastReferenceIdeal.Gen.facts, Cert.Gate.Gen.facts, Cert.GateIdeal.Gen.facts, Cert.GateReferenceIdeal.Gen.facts, Cert.Step.Gen.facts, Cert.StepIdeal.Gen.facts, Cert.StepReferenceIdeal.Gen.facts, Cert.SsdMemQuery.Gen.facts, Cert.SsdMemQueryIdeal.Gen.facts, Cert.SsdMemQueryReferenceIdeal.Gen.facts, Cert.Query.Gen.facts, Cert.QueryIdeal.Gen.facts, Cert.QueryReferenceIdeal.Gen.facts, Cert.SbMemQuery.Gen.facts, Cert.SbMemQueryIdeal.Gen.facts, Cert.SbMemQueryReferenceIdeal.Gen.facts, Cert.SampleOut.Gen.facts, Cert.SampleOutIdeal.Gen.facts, Cert.SampleOutReferenceIdeal.Gen.facts, Cert.SampleSbOut.Gen.facts, Cert.SampleSbOutIdeal.Gen.facts, Cert.SampleSbOutReferenceIdeal.Gen.facts, Cert.SampleHalf.Gen.facts, Cert.SampleHalfIdeal.Gen.facts, Cert.SampleHalfReferenceIdeal.Gen.facts, Cert.SampleGate.Gen.facts, Cert.SampleGateIdeal.Gen.facts, Cert.SampleGateReferenceIdeal.Gen.facts, Cert.SampleStep.Gen.facts, Cert.SampleStepIdeal.Gen.facts, Cert.SampleStepReferenceIdeal.Gen.facts, Cert.SampleSsdMemQuery.Gen.facts, Cert.SampleSsdMemQueryIdeal.Gen.facts, Cert.SampleSsdMemQueryReferenceIdeal.Gen.facts, Cert.SampleQuery.Gen.facts, Cert.SampleQueryIdeal.Gen.facts, Cert.SampleQueryReferenceIdeal.Gen.facts, Cert.SampleSbMemQuery.Gen.facts, Cert.SampleSbMemQueryIdeal.Gen.facts, Cert.SampleSbMemQueryReferenceIdeal.Gen.facts, Cert.HalfLast.Gen.facts, Cert.HalfLastIdeal.Gen.facts, Cert.HalfLastReferenceIdeal.Gen.facts, Cert.SampleHalfLast.Gen.facts, Cert.SampleHalfLastIdeal.Gen.facts, Cert.SampleHalfLastReferenceIdeal.Gen.facts, facts_finite,
  fun m ρ _ => Cert.Kernel.Hand.frame m ρ,
  fun m ρ _ => Cert.KernelIdeal.Hand.frame m ρ,
  fun m ρ _ => Cert.KernelIdeal.Hand.frame m ρ,
  frame_ReferenceIdeal,
  frame_ReferenceIdeal_finite,
  frame_Reference,
  fun m ρ _ => Cert.Ffn.Gen.frame m ρ,
  fun m ρ _ => Cert.FfnIdeal.Gen.frame m ρ,
  frame_FfnReferenceIdeal,
  fun m ρ _ => Cert.Proj.Gen.frame m ρ,
  fun m ρ _ => Cert.ProjIdeal.Gen.frame m ρ,
  frame_ProjReferenceIdeal,
  fun m ρ _ => Cert.Out.Gen.frame m ρ,
  fun m ρ _ => Cert.OutIdeal.Gen.frame m ρ,
  frame_OutReferenceIdeal,
  fun m ρ _ => Cert.Mem.Gen.frame m ρ,
  fun m ρ _ => Cert.MemIdeal.Gen.frame m ρ,
  frame_MemReferenceIdeal,
  fun m ρ _ => Cert.Val.Gen.frame m ρ,
  fun m ρ _ => Cert.ValIdeal.Gen.frame m ρ,
  frame_ValReferenceIdeal,
  fun m ρ _ => Cert.MemKey.Gen.frame m ρ,
  fun m ρ _ => Cert.MemKeyIdeal.Gen.frame m ρ,
  frame_MemKeyReferenceIdeal,
  fun m ρ _ => Cert.MemVal.Gen.frame m ρ,
  fun m ρ _ => Cert.MemValIdeal.Gen.frame m ρ,
  frame_MemValReferenceIdeal,
  fun m ρ _ => Cert.Conv.Gen.frame m ρ,
  fun m ρ _ => Cert.ConvIdeal.Gen.frame m ρ,
  frame_ConvReferenceIdeal,
  fun m ρ _ => Cert.SampleKey.Gen.frame m ρ,
  fun m ρ _ => Cert.SampleKeyIdeal.Gen.frame m ρ,
  frame_SampleKeyReferenceIdeal,
  fun m ρ _ => Cert.SampleVal.Gen.frame m ρ,
  fun m ρ _ => Cert.SampleValIdeal.Gen.frame m ρ,
  frame_SampleValReferenceIdeal,
  fun m ρ _ => Cert.SampleConv.Gen.frame m ρ,
  fun m ρ _ => Cert.SampleConvIdeal.Gen.frame m ρ,
  frame_SampleConvReferenceIdeal,
  fun m ρ _ => Cert.SampleFfn.Gen.frame m ρ,
  fun m ρ _ => Cert.SampleFfnIdeal.Gen.frame m ρ,
  frame_SampleFfnReferenceIdeal,
  fun m ρ _ => Cert.Half.Gen.frame m ρ,
  fun m ρ _ => Cert.HalfIdeal.Gen.frame m ρ,
  frame_HalfReferenceIdeal,
  fun m ρ _ => Cert.SbOut.Gen.frame m ρ,
  fun m ρ _ => Cert.SbOutIdeal.Gen.frame m ρ,
  frame_SbOutReferenceIdeal,
  fun m ρ _ => Cert.MemKeyLast.Gen.frame m ρ,
  fun m ρ _ => Cert.MemKeyLastIdeal.Gen.frame m ρ,
  frame_MemKeyLastReferenceIdeal,
  fun m ρ _ => Cert.MemValLast.Gen.frame m ρ,
  fun m ρ _ => Cert.MemValLastIdeal.Gen.frame m ρ,
  frame_MemValLastReferenceIdeal,
  fun m ρ _ => Cert.Gate.Gen.frame m ρ,
  fun m ρ _ => Cert.GateIdeal.Gen.frame m ρ,
  frame_GateReferenceIdeal,
  fun m ρ _ => Cert.Step.Gen.frame m ρ,
  fun m ρ _ => Cert.StepIdeal.Gen.frame m ρ,
  frame_StepReferenceIdeal,
  fun m ρ _ => Cert.SsdMemQuery.Gen.frame m ρ,
  fun m ρ _ => Cert.SsdMemQueryIdeal.Gen.frame m ρ,
  frame_SsdMemQueryReferenceIdeal,
  fun m ρ _ => Cert.Query.Gen.frame m ρ,
  fun m ρ _ => Cert.QueryIdeal.Gen.frame m ρ,
  frame_QueryReferenceIdeal,
  fun m ρ _ => Cert.SbMemQuery.Gen.frame m ρ,
  fun m ρ _ => Cert.SbMemQueryIdeal.Gen.frame m ρ,
  frame_SbMemQueryReferenceIdeal,
  fun m ρ _ => Cert.SampleOut.Gen.frame m ρ,
  fun m ρ _ => Cert.SampleOutIdeal.Gen.frame m ρ,
  frame_SampleOutReferenceIdeal,
  fun m ρ _ => Cert.SampleSbOut.Gen.frame m ρ,
  fun m ρ _ => Cert.SampleSbOutIdeal.Gen.frame m ρ,
  frame_SampleSbOutReferenceIdeal,
  fun m ρ _ => Cert.SampleHalf.Gen.frame m ρ,
  fun m ρ _ => Cert.SampleHalfIdeal.Gen.frame m ρ,
  frame_SampleHalfReferenceIdeal,
  fun m ρ _ => Cert.SampleGate.Gen.frame m ρ,
  fun m ρ _ => Cert.SampleGateIdeal.Gen.frame m ρ,
  frame_SampleGateReferenceIdeal,
  fun m ρ _ => Cert.SampleStep.Gen.frame m ρ,
  fun m ρ _ => Cert.SampleStepIdeal.Gen.frame m ρ,
  frame_SampleStepReferenceIdeal,
  fun m ρ _ => Cert.SampleSsdMemQuery.Gen.frame m ρ,
  fun m ρ _ => Cert.SampleSsdMemQueryIdeal.Gen.frame m ρ,
  frame_SampleSsdMemQueryReferenceIdeal,
  fun m ρ _ => Cert.SampleQuery.Gen.frame m ρ,
  fun m ρ _ => Cert.SampleQueryIdeal.Gen.frame m ρ,
  frame_SampleQueryReferenceIdeal,
  fun m ρ _ => Cert.SampleSbMemQuery.Gen.frame m ρ,
  fun m ρ _ => Cert.SampleSbMemQueryIdeal.Gen.frame m ρ,
  frame_SampleSbMemQueryReferenceIdeal,
  fun m ρ _ => Cert.HalfLast.Gen.frame m ρ,
  fun m ρ _ => Cert.HalfLastIdeal.Gen.frame m ρ,
  frame_HalfLastReferenceIdeal,
  fun m ρ _ => Cert.SampleHalfLast.Gen.frame m ρ,
  fun m ρ _ => Cert.SampleHalfLastIdeal.Gen.frame m ρ,
  frame_SampleHalfLastReferenceIdeal,
  preserves_Kernel,
  trivial,
  algebraic_Sb,
  trivial,
  algebraic_Ffn,
  trivial,
  algebraic_Proj,
  trivial,
  algebraic_Out,
  trivial,
  algebraic_Mem,
  trivial,
  algebraic_Val,
  trivial,
  algebraic_MemKey,
  trivial,
  algebraic_MemVal,
  trivial,
  algebraic_Conv,
  trivial,
  algebraic_SampleKey,
  trivial,
  algebraic_SampleVal,
  trivial,
  algebraic_SampleConv,
  trivial,
  algebraic_SampleFfn,
  trivial,
  algebraic_Half,
  trivial,
  algebraic_SbOut,
  trivial,
  algebraic_MemKeyLast,
  trivial,
  algebraic_MemValLast,
  trivial,
  algebraic_Gate,
  trivial,
  algebraic_Step,
  trivial,
  algebraic_SsdMemQuery,
  trivial,
  algebraic_Query,
  trivial,
  algebraic_SbMemQuery,
  trivial,
  algebraic_SampleOut,
  trivial,
  algebraic_SampleSbOut,
  trivial,
  algebraic_SampleHalf,
  trivial,
  algebraic_SampleGate,
  trivial,
  algebraic_SampleStep,
  trivial,
  algebraic_SampleSsdMemQuery,
  trivial,
  algebraic_SampleQuery,
  trivial,
  algebraic_SampleSbMemQuery,
  trivial,
  algebraic_HalfLast,
  trivial,
  algebraic_SampleHalfLast⟩

end Cert.Proof

end
